-- ==== Defs.lean ====
def Pre_RetKernel (m : (ℓ : Loc Cert.RetKernel.nD Cert.RetKernel.τ Cert.RetKernel.sig) → Buf (Elt Bits) ℓ) : Prop :=
  True

def Pre_RetKernelIdeal (m : (ℓ : Loc Cert.RetKernelIdeal.nD Cert.RetKernelIdeal.τ Cert.RetKernelIdeal.sig) → Buf (Elt Ideal) ℓ) : Prop :=
  True

def Pre_RetReferenceIdeal (m : (ℓ : Loc Cert.RetReferenceIdeal.nD Cert.RetReferenceIdeal.τ Cert.RetReferenceIdeal.sig) → Buf (Elt Ideal) ℓ) : Prop :=
  True

def Pre_MlpKernel (m : (ℓ : Loc Cert.MlpKernel.nD Cert.MlpKernel.τ Cert.MlpKernel.sig) → Buf (Elt Bits) ℓ) : Prop :=
  True

def Pre_MlpKernelIdeal (m : (ℓ : Loc Cert.MlpKernelIdeal.nD Cert.MlpKernelIdeal.τ Cert.MlpKernelIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_EmbKernel (m : (ℓ : Loc Cert.EmbKernel.nD Cert.EmbKernel.τ Cert.EmbKernel.sig) → Buf (Elt Bits) ℓ) : Prop :=
  True

def Pre_EmbKernelIdeal (m : (ℓ : Loc Cert.EmbKernelIdeal.nD Cert.EmbKernelIdeal.τ Cert.EmbKernelIdeal.sig) → Buf (Elt Ideal) ℓ) : Prop :=
  True

def Pre_EmbReferenceIdeal (m : (ℓ : Loc Cert.EmbReferenceIdeal.nD Cert.EmbReferenceIdeal.τ Cert.EmbReferenceIdeal.sig) → Buf (Elt Ideal) ℓ) : Prop :=
  True

def Pre_MidKernel (m : (ℓ : Loc Cert.MidKernel.nD Cert.MidKernel.τ Cert.MidKernel.sig) → Buf (Elt Bits) ℓ) : Prop :=
  True

def Pre_MidKernelIdeal (m : (ℓ : Loc Cert.MidKernelIdeal.nD Cert.MidKernelIdeal.τ Cert.MidKernelIdeal.sig) → Buf (Elt Ideal) ℓ) : Prop :=
  True

def Pre_MidReferenceIdeal (m : (ℓ : Loc Cert.MidReferenceIdeal.nD Cert.MidReferenceIdeal.τ Cert.MidReferenceIdeal.sig) → Buf (Elt Ideal) ℓ) : Prop :=
  True

def quiescent_RetKernel [hRetKernel : Cert.RetKernel.Facts] : Prop :=
  ∀ (m : (ℓ : Loc Cert.RetKernel.nD Cert.RetKernel.τ Cert.RetKernel.sig) → Buf (Elt Bits) ℓ) (g : Dev Cert.RetKernel.nD → PrngReg), Pre_RetKernel m →
    θ_run (Cert.RetKernel.defs (F := Bits)) (onTc (τ := Cert.RetKernel.τ) (Cert.RetKernel.main (F := Bits))) ⟨m, fun _ => 0, g⟩ (fun r => (∀ c : Dev Cert.RetKernel.nD,
      r.2.mem ((c.tc : Thread Cert.RetKernel.nD Cert.RetKernel.τ).loc Cert.RetKernel.main_arg0) = m ((c.tc : Thread Cert.RetKernel.nD Cert.RetKernel.τ).loc Cert.RetKernel.main_arg0)
      ∧ r.2.mem ((c.tc : Thread Cert.RetKernel.nD Cert.RetKernel.τ).loc Cert.RetKernel.main_arg1) = m ((c.tc : Thread Cert.RetKernel.nD Cert.RetKernel.τ).loc Cert.RetKernel.main_arg1)
      ∧ r.2.mem ((c.tc : Thread Cert.RetKernel.nD Cert.RetKernel.τ).loc Cert.RetKernel.main_arg2) = m ((c.tc : Thread Cert.RetKernel.nD Cert.RetKernel.τ).loc Cert.RetKernel.main_arg2)
      ∧ r.2.mem ((c.tc : Thread Cert.RetKernel.nD Cert.RetKernel.τ).loc Cert.RetKernel.main_arg3) = m ((c.tc : Thread Cert.RetKernel.nD Cert.RetKernel.τ).loc Cert.RetKernel.main_arg3))
      ∧ r.2.sem = fun _ => 0)

def quiescent_RetKernelIdeal [hRetKernelIdeal : Cert.RetKernelIdeal.Facts] : Prop :=
  ∀ (m : (ℓ : Loc Cert.RetKernelIdeal.nD Cert.RetKernelIdeal.τ Cert.RetKernelIdeal.sig) → Buf (Elt Ideal) ℓ) (g : Dev Cert.RetKernelIdeal.nD → PrngReg), Pre_RetKernelIdeal m →
    θ_run (Cert.RetKernelIdeal.defs (F := Ideal)) (onTc (τ := Cert.RetKernelIdeal.τ) (Cert.RetKernelIdeal.main (F := Ideal))) ⟨m, fun _ => 0, g⟩ (fun r => (∀ c : Dev Cert.RetKernelIdeal.nD,
      r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
      ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1)
      ∧ r.2.mem ((c.tc : Thread Cert.RetKernelIdeal.nD Cert.RetKernelIdeal.τ).loc Cert.RetKernelIdeal.main_arg2) = m ((c.tc : Thread Cert.RetKernelIdeal.nD Cert.RetKernelIdeal.τ).loc Cert.RetKernelIdeal.main_arg2)
      ∧ r.2.mem ((c.tc : Thread Cert.RetKernelIdeal.nD Cert.RetKernelIdeal.τ).loc Cert.RetKernelIdeal.main_arg3) = m ((c.tc : Thread Cert.RetKernelIdeal.nD Cert.RetKernelIdeal.τ).loc Cert.RetKernelIdeal.main_arg3))
      ∧ r.2.sem = fun _ => 0)

def quiescent_RetReferenceIdeal [hRetReferenceIdeal : Cert.RetReferenceIdeal.Facts] : Prop :=
  ∀ (m : (ℓ : Loc Cert.RetReferenceIdeal.nD Cert.RetReferenceIdeal.τ Cert.RetReferenceIdeal.sig) → Buf (Elt Ideal) ℓ) (g : Dev Cert.RetReferenceIdeal.nD → PrngReg), Pre_RetReferenceIdeal m →
    θ_run (Cert.RetReferenceIdeal.defs (F := Ideal)) (onTc (τ := Cert.RetReferenceIdeal.τ) (Cert.RetReferenceIdeal.main (F := Ideal))) ⟨m, fun _ => 0, g⟩ (fun r => (∀ c : Dev Cert.RetReferenceIdeal.nD,
      r.2.mem ((c.tc : Thread Cert.RetReferenceIdeal.nD Cert.RetReferenceIdeal.τ).loc Cert.RetReferenceIdeal.main_arg0) = m ((c.tc : Thread Cert.RetReferenceIdeal.nD Cert.RetReferenceIdeal.τ).loc Cert.RetReferenceIdeal.main_arg0)
      ∧ r.2.mem ((c.tc : Thread Cert.RetReferenceIdeal.nD Cert.RetReferenceIdeal.τ).loc Cert.RetReferenceIdeal.main_arg1) = m ((c.tc : Thread Cert.RetReferenceIdeal.nD Cert.RetReferenceIdeal.τ).loc Cert.RetReferenceIdeal.main_arg1)
      ∧ r.2.mem ((c.tc : Thread Cert.RetReferenceIdeal.nD Cert.RetReferenceIdeal.τ).loc Cert.RetReferenceIdeal.main_arg2) = m ((c.tc : Thread Cert.RetReferenceIdeal.nD Cert.RetReferenceIdeal.τ).loc Cert.RetReferenceIdeal.main_arg2)
      ∧ r.2.mem ((c.tc : Thread Cert.RetReferenceIdeal.nD Cert.RetReferenceIdeal.τ).loc Cert.RetReferenceIdeal.main_arg3) = m ((c.tc : Thread Cert.RetReferenceIdeal.nD Cert.RetReferenceIdeal.τ).loc Cert.RetReferenceIdeal.main_arg3))
      ∧ r.2.sem = fun _ => 0)

def quiescent_MlpKernel [hMlpKernel : Cert.MlpKernel.Facts] : Prop :=
  ∀ (m : (ℓ : Loc Cert.MlpKernel.nD Cert.MlpKernel.τ Cert.MlpKernel.sig) → Buf (Elt Bits) ℓ) (g : Dev Cert.MlpKernel.nD → PrngReg), Pre_MlpKernel m →
    θ_run (Cert.MlpKernel.defs (F := Bits)) (onTc (τ := Cert.MlpKernel.τ) (Cert.MlpKernel.main (F := Bits))) ⟨m, fun _ => 0, g⟩ (fun r => (∀ c : Dev Cert.MlpKernel.nD,
      r.2.mem ((c.tc : Thread Cert.MlpKernel.nD Cert.MlpKernel.τ).loc Cert.MlpKernel.main_arg0) = m ((c.tc : Thread Cert.MlpKernel.nD Cert.MlpKernel.τ).loc Cert.MlpKernel.main_arg0)
      ∧ r.2.mem ((c.tc : Thread Cert.MlpKernel.nD Cert.MlpKernel.τ).loc Cert.MlpKernel.main_arg1) = m ((c.tc : Thread Cert.MlpKernel.nD Cert.MlpKernel.τ).loc Cert.MlpKernel.main_arg1)
      ∧ r.2.mem ((c.tc : Thread Cert.MlpKernel.nD Cert.MlpKernel.τ).loc Cert.MlpKernel.main_arg2) = m ((c.tc : Thread Cert.MlpKernel.nD Cert.MlpKernel.τ).loc Cert.MlpKernel.main_arg2)
      ∧ r.2.mem ((c.tc : Thread Cert.MlpKernel.nD Cert.MlpKernel.τ).loc Cert.MlpKernel.main_arg3) = m ((c.tc : Thread Cert.MlpKernel.nD Cert.MlpKernel.τ).loc Cert.MlpKernel.main_arg3)
      ∧ r.2.mem ((c.tc : Thread Cert.MlpKernel.nD Cert.MlpKernel.τ).loc Cert.MlpKernel.main_arg4) = m ((c.tc : Thread Cert.MlpKernel.nD Cert.MlpKernel.τ).loc Cert.MlpKernel.main_arg4))
      ∧ r.2.sem = fun _ => 0)

def quiescent_MlpKernelIdeal [hMlpKernelIdeal : Cert.MlpKernelIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
      ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4)
      ∧ r.2.mem ((c.tc : Thread Cert.ProjKernel.nD Cert.ProjKernel.τ).loc Cert.ProjKernel.main_arg5) = m ((c.tc : Thread Cert.ProjKernel.nD Cert.ProjKernel.τ).loc Cert.ProjKernel.main_arg5))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
      ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5))
      ∧ r.2.sem = fun _ => 0)

def quiescent_EmbKernel [hEmbKernel : Cert.EmbKernel.Facts] : Prop :=
  ∀ (m : (ℓ : Loc Cert.EmbKernel.nD Cert.EmbKernel.τ Cert.EmbKernel.sig) → Buf (Elt Bits) ℓ) (g : Dev Cert.EmbKernel.nD → PrngReg), Pre_EmbKernel m →
    θ_run (Cert.EmbKernel.defs (F := Bits)) (onTc (τ := Cert.EmbKernel.τ) (Cert.EmbKernel.main (F := Bits))) ⟨m, fun _ => 0, g⟩ (fun r => (∀ c : Dev Cert.EmbKernel.nD,
      r.2.mem ((c.tc : Thread Cert.EmbKernel.nD Cert.EmbKernel.τ).loc Cert.EmbKernel.main_arg0) = m ((c.tc : Thread Cert.EmbKernel.nD Cert.EmbKernel.τ).loc Cert.EmbKernel.main_arg0)
      ∧ r.2.mem ((c.tc : Thread Cert.EmbKernel.nD Cert.EmbKernel.τ).loc Cert.EmbKernel.main_arg1) = m ((c.tc : Thread Cert.EmbKernel.nD Cert.EmbKernel.τ).loc Cert.EmbKernel.main_arg1)
      ∧ r.2.mem ((c.tc : Thread Cert.EmbKernel.nD Cert.EmbKernel.τ).loc Cert.EmbKernel.main_arg2) = m ((c.tc : Thread Cert.EmbKernel.nD Cert.EmbKernel.τ).loc Cert.EmbKernel.main_arg2)
      ∧ r.2.mem ((c.tc : Thread Cert.EmbKernel.nD Cert.EmbKernel.τ).loc Cert.EmbKernel.main_arg3) = m ((c.tc : Thread Cert.EmbKernel.nD Cert.EmbKernel.τ).loc Cert.EmbKernel.main_arg3))
      ∧ r.2.sem = fun _ => 0)

def quiescent_EmbKernelIdeal [hEmbKernelIdeal : Cert.EmbKernelIdeal.Facts] : Prop :=
  ∀ (m : (ℓ : Loc Cert.EmbKernelIdeal.nD Cert.EmbKernelIdeal.τ Cert.EmbKernelIdeal.sig) → Buf (Elt Ideal) ℓ) (g : Dev Cert.EmbKernelIdeal.nD → PrngReg), Pre_EmbKernelIdeal m →
    θ_run (Cert.EmbKernelIdeal.defs (F := Ideal)) (onTc (τ := Cert.EmbKernelIdeal.τ) (Cert.EmbKernelIdeal.main (F := Ideal))) ⟨m, fun _ => 0, g⟩ (fun r => (∀ c : Dev Cert.EmbKernelIdeal.nD,
      r.2.mem ((c.tc : Thread Cert.EmbKernelIdeal.nD Cert.EmbKernelIdeal.τ).loc Cert.EmbKernelIdeal.main_arg0) = m ((c.tc : Thread Cert.EmbKernelIdeal.nD Cert.EmbKernelIdeal.τ).loc Cert.EmbKernelIdeal.main_arg0)
      ∧ r.2.mem ((c.tc : Thread Cert.EmbKernelIdeal.nD Cert.EmbKernelIdeal.τ).loc Cert.EmbKernelIdeal.main_arg1) = m ((c.tc : Thread Cert.EmbKernelIdeal.nD Cert.EmbKernelIdeal.τ).loc Cert.EmbKernelIdeal.main_arg1)
      ∧ r.2.mem ((c.tc : Thread Cert.EmbKernelIdeal.nD Cert.EmbKernelIdeal.τ).loc Cert.EmbKernelIdeal.main_arg2) = m ((c.tc : Thread Cert.EmbKernelIdeal.nD Cert.EmbKernelIdeal.τ).loc Cert.EmbKernelIdeal.main_arg2)
      ∧ r.2.mem ((c.tc : Thread Cert.EmbKernelIdeal.nD Cert.EmbKernelIdeal.τ).loc Cert.EmbKernelIdeal.main_arg3) = m ((c.tc : Thread Cert.EmbKernelIdeal.nD Cert.EmbKernelIdeal.τ).loc Cert.EmbKernelIdeal.main_arg3))
      ∧ r.2.sem = fun _ => 0)

def quiescent_EmbReferenceIdeal [hEmbReferenceIdeal : Cert.EmbReferenceIdeal.Facts] : Prop :=
  ∀ (m : (ℓ : Loc Cert.EmbReferenceIdeal.nD Cert.EmbReferenceIdeal.τ Cert.EmbReferenceIdeal.sig) → Buf (Elt Ideal) ℓ) (g : Dev Cert.EmbReferenceIdeal.nD → PrngReg), Pre_EmbReferenceIdeal m →
    θ_run (Cert.EmbReferenceIdeal.defs (F := Ideal)) (onTc (τ := Cert.EmbReferenceIdeal.τ) (Cert.EmbReferenceIdeal.main (F := Ideal))) ⟨m, fun _ => 0, g⟩ (fun r => (∀ c : Dev Cert.EmbReferenceIdeal.nD,
      r.2.mem ((c.tc : Thread Cert.EmbReferenceIdeal.nD Cert.EmbReferenceIdeal.τ).loc Cert.EmbReferenceIdeal.main_arg0) = m ((c.tc : Thread Cert.EmbReferenceIdeal.nD Cert.EmbReferenceIdeal.τ).loc Cert.EmbReferenceIdeal.main_arg0)
      ∧ r.2.mem ((c.tc : Thread Cert.EmbReferenceIdeal.nD Cert.EmbReferenceIdeal.τ).loc Cert.EmbReferenceIdeal.main_arg1) = m ((c.tc : Thread Cert.EmbReferenceIdeal.nD Cert.EmbReferenceIdeal.τ).loc Cert.EmbReferenceIdeal.main_arg1)
      ∧ r.2.mem ((c.tc : Thread Cert.EmbReferenceIdeal.nD Cert.EmbReferenceIdeal.τ).loc Cert.EmbReferenceIdeal.main_arg2) = m ((c.tc : Thread Cert.EmbReferenceIdeal.nD Cert.EmbReferenceIdeal.τ).loc Cert.EmbReferenceIdeal.main_arg2)
      ∧ r.2.mem ((c.tc : Thread Cert.EmbReferenceIdeal.nD Cert.EmbReferenceIdeal.τ).loc Cert.EmbReferenceIdeal.main_arg3) = m ((c.tc : Thread Cert.EmbReferenceIdeal.nD Cert.EmbReferenceIdeal.τ).loc Cert.EmbReferenceIdeal.main_arg3))
      ∧ r.2.sem = fun _ => 0)

def quiescent_MidKernel [hMidKernel : Cert.MidKernel.Facts] : Prop :=
  ∀ (m : (ℓ : Loc Cert.MidKernel.nD Cert.MidKernel.τ Cert.MidKernel.sig) → Buf (Elt Bits) ℓ) (g : Dev Cert.MidKernel.nD → PrngReg), Pre_MidKernel m →
    θ_run (Cert.MidKernel.defs (F := Bits)) (onTc (τ := Cert.MidKernel.τ) (Cert.MidKernel.main (F := Bits))) ⟨m, fun _ => 0, g⟩ (fun r => (∀ c : Dev Cert.MidKernel.nD,
      r.2.mem ((c.tc : Thread Cert.MidKernel.nD Cert.MidKernel.τ).loc Cert.MidKernel.main_arg0) = m ((c.tc : Thread Cert.MidKernel.nD Cert.MidKernel.τ).loc Cert.MidKernel.main_arg0)
      ∧ r.2.mem ((c.tc : Thread Cert.MidKernel.nD Cert.MidKernel.τ).loc Cert.MidKernel.main_arg1) = m ((c.tc : Thread Cert.MidKernel.nD Cert.MidKernel.τ).loc Cert.MidKernel.main_arg1)
      ∧ r.2.mem ((c.tc : Thread Cert.MidKernel.nD Cert.MidKernel.τ).loc Cert.MidKernel.main_arg2) = m ((c.tc : Thread Cert.MidKernel.nD Cert.MidKernel.τ).loc Cert.MidKernel.main_arg2)
      ∧ r.2.mem ((c.tc : Thread Cert.MidKernel.nD Cert.MidKernel.τ).loc Cert.MidKernel.main_arg3) = m ((c.tc : Thread Cert.MidKernel.nD Cert.MidKernel.τ).loc Cert.MidKernel.main_arg3)
      ∧ r.2.mem ((c.tc : Thread Cert.MidKernel.nD Cert.MidKernel.τ).loc Cert.MidKernel.main_arg4) = m ((c.tc : Thread Cert.MidKernel.nD Cert.MidKernel.τ).loc Cert.MidKernel.main_arg4))
      ∧ r.2.sem = fun _ => 0)

def quiescent_MidKernelIdeal [hMidKernelIdeal : Cert.MidKernelIdeal.Facts] : Prop :=
  ∀ (m : (ℓ : Loc Cert.MidKernelIdeal.nD Cert.MidKernelIdeal.τ Cert.MidKernelIdeal.sig) → Buf (Elt Ideal) ℓ) (g : Dev Cert.MidKernelIdeal.nD → PrngReg), Pre_MidKernelIdeal m →
    θ_run (Cert.MidKernelIdeal.defs (F := Ideal)) (onTc (τ := Cert.MidKernelIdeal.τ) (Cert.MidKernelIdeal.main (F := Ideal))) ⟨m, fun _ => 0, g⟩ (fun r => (∀ c : Dev Cert.MidKernelIdeal.nD,
      r.2.mem ((c.tc : Thread Cert.MidKernelIdeal.nD Cert.MidKernelIdeal.τ).loc Cert.MidKernelIdeal.main_arg0) = m ((c.tc : Thread Cert.MidKernelIdeal.nD Cert.MidKernelIdeal.τ).loc Cert.MidKernelIdeal.main_arg0)
      ∧ r.2.mem ((c.tc : Thread Cert.MidKernelIdeal.nD Cert.MidKernelIdeal.τ).loc Cert.MidKernelIdeal.main_arg1) = m ((c.tc : Thread Cert.MidKernelIdeal.nD Cert.MidKernelIdeal.τ).loc Cert.MidKernelIdeal.main_arg1)
      ∧ r.2.mem ((c.tc : Thread Cert.MidKernelIdeal.nD Cert.MidKernelIdeal.τ).loc Cert.MidKernelIdeal.main_arg2) = m ((c.tc : Thread Cert.MidKernelIdeal.nD Cert.MidKernelIdeal.τ).loc Cert.MidKernelIdeal.main_arg2)
      ∧ r.2.mem ((c.tc : Thread Cert.MidKernelIdeal.nD Cert.MidKernelIdeal.τ).loc Cert.MidKernelIdeal.main_arg3) = m ((c.tc : Thread Cert.MidKernelIdeal.nD Cert.MidKernelIdeal.τ).loc Cert.MidKernelIdeal.main_arg3)
      ∧ r.2.mem ((c.tc : Thread Cert.MidKernelIdeal.nD Cert.MidKernelIdeal.τ).loc Cert.MidKernelIdeal.main_arg4) = m ((c.tc : Thread Cert.MidKernelIdeal.nD Cert.MidKernelIdeal.τ).loc Cert.MidKernelIdeal.main_arg4))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4))
      ∧ r.2.sem = fun _ => 0)

def preserves_RetKernel_RetKernelIdeal : Prop :=
  True

def algebraic_RetKernelIdeal_RetReferenceIdeal [hRetKernelIdeal : Cert.RetKernelIdeal.Facts] [hRetReferenceIdeal : Cert.RetReferenceIdeal.Facts] : Prop :=
  ∀ (m : (ℓ : Loc Cert.RetKernelIdeal.nD Cert.RetKernelIdeal.τ Cert.RetKernelIdeal.sig) → Buf (Elt Ideal) ℓ) (g : Dev Cert.RetKernelIdeal.nD → PrngReg)
    (m' : (ℓ : Loc Cert.RetReferenceIdeal.nD Cert.RetReferenceIdeal.τ Cert.RetReferenceIdeal.sig) → Buf (Elt Ideal) ℓ) (g' : Dev Cert.RetReferenceIdeal.nD → PrngReg), Pre_RetKernelIdeal m →
    (∀ c : Dev Cert.RetKernelIdeal.nD,
      m' ((c.tc : Thread Cert.RetReferenceIdeal.nD Cert.RetReferenceIdeal.τ).loc Cert.RetReferenceIdeal.main_arg0) = m ((c.tc : Thread Cert.RetKernelIdeal.nD Cert.RetKernelIdeal.τ).loc Cert.RetKernelIdeal.main_arg0)
      ∧ m' ((c.tc : Thread Cert.RetReferenceIdeal.nD Cert.RetReferenceIdeal.τ).loc Cert.RetReferenceIdeal.main_arg1) = m ((c.tc : Thread Cert.RetKernelIdeal.nD Cert.RetKernelIdeal.τ).loc Cert.RetKernelIdeal.main_arg1)
      ∧ m' ((c.tc : Thread Cert.RetReferenceIdeal.nD Cert.RetReferenceIdeal.τ).loc Cert.RetReferenceIdeal.main_arg2) = m ((c.tc : Thread Cert.RetKernelIdeal.nD Cert.RetKernelIdeal.τ).loc Cert.RetKernelIdeal.main_arg2)
      ∧ m' ((c.tc : Thread Cert.RetReferenceIdeal.nD Cert.RetReferenceIdeal.τ).loc Cert.RetReferenceIdeal.main_arg3) = m ((c.tc : Thread Cert.RetKernelIdeal.nD Cert.RetKernelIdeal.τ).loc Cert.RetKernelIdeal.main_arg3)) →
    ∃ (v0 : (c : Dev Cert.RetKernelIdeal.nD) → Buf (Elt Ideal) ((c.tc : Thread Cert.RetKernelIdeal.nD Cert.RetKernelIdeal.τ).loc Cert.RetKernelIdeal.main_v49)),
      θ_run (Cert.RetKernelIdeal.defs (F := Ideal)) (onTc (τ := Cert.RetKernelIdeal.τ) (Cert.RetKernelIdeal.main (F := Ideal))) ⟨m, fun _ => 0, g⟩ (fun r => ∀ c : Dev Cert.RetKernelIdeal.nD,
          r.2.mem ((c.tc : Thread Cert.RetKernelIdeal.nD Cert.RetKernelIdeal.τ).loc Cert.RetKernelIdeal.main_v49) = v0 c
          ∧ r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
          ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1)
          ∧ r.2.mem ((c.tc : Thread Cert.RetKernelIdeal.nD Cert.RetKernelIdeal.τ).loc Cert.RetKernelIdeal.main_arg2) = m ((c.tc : Thread Cert.RetKernelIdeal.nD Cert.RetKernelIdeal.τ).loc Cert.RetKernelIdeal.main_arg2)
          ∧ r.2.mem ((c.tc : Thread Cert.RetKernelIdeal.nD Cert.RetKernelIdeal.τ).loc Cert.RetKernelIdeal.main_arg3) = m ((c.tc : Thread Cert.RetKernelIdeal.nD Cert.RetKernelIdeal.τ).loc Cert.RetKernelIdeal.main_arg3))
      ∧ θ_run (Cert.RetReferenceIdeal.defs (F := Ideal)) (onTc (τ := Cert.RetReferenceIdeal.τ) (Cert.RetReferenceIdeal.main (F := Ideal))) ⟨m', fun _ => 0, g'⟩ (fun r => ∀ c : Dev Cert.RetReferenceIdeal.nD,
          r.2.mem ((c.tc : Thread Cert.RetReferenceIdeal.nD Cert.RetReferenceIdeal.τ).loc Cert.RetReferenceIdeal.main_v82) = v0 c
          ∧ r.2.mem ((c.tc : Thread Cert.RetReferenceIdeal.nD Cert.RetReferenceIdeal.τ).loc Cert.RetReferenceIdeal.main_arg0) = m' ((c.tc : Thread Cert.RetReferenceIdeal.nD Cert.RetReferenceIdeal.τ).loc Cert.RetReferenceIdeal.main_arg0)
          ∧ r.2.mem ((c.tc : Thread Cert.RetReferenceIdeal.nD Cert.RetReferenceIdeal.τ).loc Cert.RetReferenceIdeal.main_arg1) = m' ((c.tc : Thread Cert.RetReferenceIdeal.nD Cert.RetReferenceIdeal.τ).loc Cert.RetReferenceIdeal.main_arg1)
          ∧ r.2.mem ((c.tc : Thread Cert.RetReferenceIdeal.nD Cert.RetReferenceIdeal.τ).loc Cert.RetReferenceIdeal.main_arg2) = m' ((c.tc : Thread Cert.RetReferenceIdeal.nD Cert.RetReferenceIdeal.τ).loc Cert.RetReferenceIdeal.main_arg2)
          ∧ r.2.mem ((c.tc : Thread Cert.RetReferenceIdeal.nD Cert.RetReferenceIdeal.τ).loc Cert.RetReferenceIdeal.main_arg3) = m' ((c.tc : Thread Cert.RetReferenceIdeal.nD Cert.RetReferenceIdeal.τ).loc Cert.RetReferenceIdeal.main_arg3))

def preserves_MlpKernel_MlpKernelIdeal : Prop :=
  True

def algebraic_MlpKernelIdeal_MlpReferenceIdeal [hMlpKernelIdeal : Cert.MlpKernelIdeal.Facts] [hMlpReferenceIdeal : Cert.MlpReferenceIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpKernelIdeal m →
    (∀ c : Dev Cert.MlpKernelIdeal.nD,
      m' ((c.tc : Thread Cert.MlpReferenceIdeal.nD Cert.MlpReferenceIdeal.τ).loc Cert.MlpReferenceIdeal.main_arg0) = m ((c.tc : Thread Cert.MlpKernelIdeal.nD Cert.MlpKernelIdeal.τ).loc Cert.MlpKernelIdeal.main_arg0)
      ∧ m' ((c.tc : Thread Cert.MlpReferenceIdeal.nD Cert.MlpReferenceIdeal.τ).loc Cert.MlpReferenceIdeal.main_arg1) = m ((c.tc : Thread Cert.MlpKernelIdeal.nD Cert.MlpKernelIdeal.τ).loc Cert.MlpKernelIdeal.main_arg1)
      ∧ m' ((c.tc : Thread Cert.MlpReferenceIdeal.nD Cert.MlpReferenceIdeal.τ).loc Cert.MlpReferenceIdeal.main_arg2) = m ((c.tc : Thread Cert.MlpKernelIdeal.nD Cert.MlpKernelIdeal.τ).loc Cert.MlpKernelIdeal.main_arg2)
      ∧ m' ((c.tc : Thread Cert.MlpReferenceIdeal.nD Cert.MlpReferenceIdeal.τ).loc Cert.MlpReferenceIdeal.main_arg3) = m ((c.tc : Thread Cert.MlpKernelIdeal.nD Cert.MlpKernelIdeal.τ).loc Cert.MlpKernelIdeal.main_arg3)
      ∧ m' ((c.tc : Thread Cert.MlpReferenceIdeal.nD Cert.MlpReferenceIdeal.τ).loc Cert.MlpReferenceIdeal.main_arg4) = m ((c.tc : Thread Cert.MlpKernelIdeal.nD Cert.MlpKernelIdeal.τ).loc Cert.MlpKernelIdeal.main_arg4)) →
    ∃ (v0 : (c : Dev Cert.MlpKernelIdeal.nD) → Buf (Elt Ideal) ((c.tc : Thread Cert.MlpKernelIdeal.nD Cert.MlpKernelIdeal.τ).loc Cert.MlpKernelIdeal.main_v8)),
      θ_run (Cert.MlpKernelIdeal.defs (F := Ideal)) (onTc (τ := Cert.MlpKernelIdeal.τ) (Cert.MlpKernelIdeal.main (F := Ideal))) ⟨m, fun _ => 0, g⟩ (fun r => ∀ c : Dev Cert.MlpKernelIdeal.nD,
          r.2.mem ((c.tc : Thread Cert.MlpKernelIdeal.nD Cert.MlpKernelIdeal.τ).loc Cert.MlpKernelIdeal.main_v8) = v0 c
          ∧ r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
          ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
          ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
          ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
          ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v39) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)) →
    ∃ (v0 : (c : Dev Cert.OutKernelIdeal.nD) → Buf (Elt Ideal) ((c.tc : Thread Cert.OutKernelIdeal.nD Cert.OutKernelIdeal.τ).loc Cert.OutKernelIdeal.main_v7)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v7) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v36) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)
      ∧ m' ((c.tc : Thread Cert.ProjReferenceIdeal.nD Cert.ProjReferenceIdeal.τ).loc Cert.ProjReferenceIdeal.main_arg5) = m ((c.tc : Thread Cert.ProjKernelIdeal.nD Cert.ProjKernelIdeal.τ).loc Cert.ProjKernelIdeal.main_arg5)) →
    ∃ (v0 : (c : Dev Cert.ProjKernelIdeal.nD) → Buf (Elt Ideal) ((c.tc : Thread Cert.ProjKernelIdeal.nD Cert.ProjKernelIdeal.τ).loc Cert.ProjKernelIdeal.main_v81_0)) (v1 : (c : Dev Cert.ProjKernelIdeal.nD) → Buf (Elt Ideal) ((c.tc : Thread Cert.ProjKernelIdeal.nD Cert.ProjKernelIdeal.τ).loc Cert.ProjKernelIdeal.main_v81_1)) (v2 : (c : Dev Cert.ProjKernelIdeal.nD) → Buf (Elt Ideal) ((c.tc : Thread Cert.ProjKernelIdeal.nD Cert.ProjKernelIdeal.τ).loc Cert.ProjKernelIdeal.main_v81_2)) (v3 : (c : Dev Cert.ProjKernelIdeal.nD) → Buf (Elt Ideal) ((c.tc : Thread Cert.ProjKernelIdeal.nD Cert.ProjKernelIdeal.τ).loc Cert.ProjKernelIdeal.main_v81_3)) (v4 : (c : Dev Cert.ProjKernelIdeal.nD) → Buf (Elt Ideal) ((c.tc : Thread Cert.ProjKernelIdeal.nD Cert.ProjKernelIdeal.τ).loc Cert.ProjKernelIdeal.main_v81_4)) (v5 : (c : Dev Cert.ProjKernelIdeal.nD) → Buf (Elt Ideal) ((c.tc : Thread Cert.ProjKernelIdeal.nD Cert.ProjKernelIdeal.τ).loc Cert.ProjKernelIdeal.main_v81_5)) (v6 : (c : Dev Cert.ProjKernelIdeal.nD) → Buf (Elt Ideal) ((c.tc : Thread Cert.ProjKernelIdeal.nD Cert.ProjKernelIdeal.τ).loc Cert.ProjKernelIdeal.main_v81_6)) (v7 : (c : Dev Cert.ProjKernelIdeal.nD) → Buf (Elt Ideal) ((c.tc : Thread Cert.ProjKernelIdeal.nD Cert.ProjKernelIdeal.τ).loc Cert.ProjKernelIdeal.main_v81_7)) (v8 : (c : Dev Cert.ProjKernelIdeal.nD) → Buf (Elt Ideal) ((c.tc : Thread Cert.ProjKernelIdeal.nD Cert.ProjKernelIdeal.τ).loc Cert.ProjKernelIdeal.main_v81_8)) (v9 : (c : Dev Cert.ProjKernelIdeal.nD) → Buf (Elt Ideal) ((c.tc : Thread Cert.ProjKernelIdeal.nD Cert.ProjKernelIdeal.τ).loc Cert.ProjKernelIdeal.main_v81_9)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v81_0) = v0 c
          ∧ r.2.mem ((c.tc : Thread Cert.ProjKernelIdeal.nD Cert.ProjKernelIdeal.τ).loc Cert.ProjKernelIdeal.main_v81_1) = v1 c
          ∧ r.2.mem ((c.tc : Thread Cert.ProjKernelIdeal.nD Cert.ProjKernelIdeal.τ).loc Cert.ProjKernelIdeal.main_v81_2) = v2 c
          ∧ r.2.mem ((c.tc : Thread Cert.ProjKernelIdeal.nD Cert.ProjKernelIdeal.τ).loc Cert.ProjKernelIdeal.main_v81_3) = v3 c
          ∧ r.2.mem ((c.tc : Thread Cert.ProjKernelIdeal.nD Cert.ProjKernelIdeal.τ).loc Cert.ProjKernelIdeal.main_v81_4) = v4 c
          ∧ r.2.mem ((c.tc : Thread Cert.ProjKernelIdeal.nD Cert.ProjKernelIdeal.τ).loc Cert.ProjKernelIdeal.main_v81_5) = v5 c
          ∧ r.2.mem ((c.tc : Thread Cert.ProjKernelIdeal.nD Cert.ProjKernelIdeal.τ).loc Cert.ProjKernelIdeal.main_v81_6) = v6 c
          ∧ r.2.mem ((c.tc : Thread Cert.ProjKernelIdeal.nD Cert.ProjKernelIdeal.τ).loc Cert.ProjKernelIdeal.main_v81_7) = v7 c
          ∧ r.2.mem ((c.tc : Thread Cert.ProjKernelIdeal.nD Cert.ProjKernelIdeal.τ).loc Cert.ProjKernelIdeal.main_v81_8) = v8 c
          ∧ r.2.mem ((c.tc : Thread Cert.ProjKernelIdeal.nD Cert.ProjKernelIdeal.τ).loc Cert.ProjKernelIdeal.main_v81_9) = v9 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
          ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v212) = v0 c
          ∧ r.2.mem ((c.tc : Thread Cert.ProjReferenceIdeal.nD Cert.ProjReferenceIdeal.τ).loc Cert.ProjReferenceIdeal.main_v213) = v1 c
          ∧ r.2.mem ((c.tc : Thread Cert.ProjReferenceIdeal.nD Cert.ProjReferenceIdeal.τ).loc Cert.ProjReferenceIdeal.main_v214) = v2 c
          ∧ r.2.mem ((c.tc : Thread Cert.ProjReferenceIdeal.nD Cert.ProjReferenceIdeal.τ).loc Cert.ProjReferenceIdeal.main_v216) = v3 c
          ∧ r.2.mem ((c.tc : Thread Cert.ProjReferenceIdeal.nD Cert.ProjReferenceIdeal.τ).loc Cert.ProjReferenceIdeal.main_v218) = v4 c
          ∧ r.2.mem ((c.tc : Thread Cert.ProjReferenceIdeal.nD Cert.ProjReferenceIdeal.τ).loc Cert.ProjReferenceIdeal.main_v220) = v5 c
          ∧ r.2.mem ((c.tc : Thread Cert.ProjReferenceIdeal.nD Cert.ProjReferenceIdeal.τ).loc Cert.ProjReferenceIdeal.main_v222) = v6 c
          ∧ r.2.mem ((c.tc : Thread Cert.ProjReferenceIdeal.nD Cert.ProjReferenceIdeal.τ).loc Cert.ProjReferenceIdeal.main_v224) = v7 c
          ∧ r.2.mem ((c.tc : Thread Cert.ProjReferenceIdeal.nD Cert.ProjReferenceIdeal.τ).loc Cert.ProjReferenceIdeal.main_v225) = v8 c
          ∧ r.2.mem ((c.tc : Thread Cert.ProjReferenceIdeal.nD Cert.ProjReferenceIdeal.τ).loc Cert.ProjReferenceIdeal.main_v226) = v9 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5))

def preserves_EmbKernel_EmbKernelIdeal : Prop :=
  True

def algebraic_EmbKernelIdeal_EmbReferenceIdeal [hEmbKernelIdeal : Cert.EmbKernelIdeal.Facts] [hEmbReferenceIdeal : Cert.EmbReferenceIdeal.Facts] : Prop :=
  ∀ (m : (ℓ : Loc Cert.EmbKernelIdeal.nD Cert.EmbKernelIdeal.τ Cert.EmbKernelIdeal.sig) → Buf (Elt Ideal) ℓ) (g : Dev Cert.EmbKernelIdeal.nD → PrngReg)
    (m' : (ℓ : Loc Cert.EmbReferenceIdeal.nD Cert.EmbReferenceIdeal.τ Cert.EmbReferenceIdeal.sig) → Buf (Elt Ideal) ℓ) (g' : Dev Cert.EmbReferenceIdeal.nD → PrngReg), Pre_EmbKernelIdeal m →
    (∀ c : Dev Cert.EmbKernelIdeal.nD,
      m' ((c.tc : Thread Cert.EmbReferenceIdeal.nD Cert.EmbReferenceIdeal.τ).loc Cert.EmbReferenceIdeal.main_arg0) = m ((c.tc : Thread Cert.EmbKernelIdeal.nD Cert.EmbKernelIdeal.τ).loc Cert.EmbKernelIdeal.main_arg0)
      ∧ m' ((c.tc : Thread Cert.EmbReferenceIdeal.nD Cert.EmbReferenceIdeal.τ).loc Cert.EmbReferenceIdeal.main_arg1) = m ((c.tc : Thread Cert.EmbKernelIdeal.nD Cert.EmbKernelIdeal.τ).loc Cert.EmbKernelIdeal.main_arg1)
      ∧ m' ((c.tc : Thread Cert.EmbReferenceIdeal.nD Cert.EmbReferenceIdeal.τ).loc Cert.EmbReferenceIdeal.main_arg2) = m ((c.tc : Thread Cert.EmbKernelIdeal.nD Cert.EmbKernelIdeal.τ).loc Cert.EmbKernelIdeal.main_arg2)
      ∧ m' ((c.tc : Thread Cert.EmbReferenceIdeal.nD Cert.EmbReferenceIdeal.τ).loc Cert.EmbReferenceIdeal.main_arg3) = m ((c.tc : Thread Cert.EmbKernelIdeal.nD Cert.EmbKernelIdeal.τ).loc Cert.EmbKernelIdeal.main_arg3)) →
    ∃ (v0 : (c : Dev Cert.EmbKernelIdeal.nD) → Buf (Elt Ideal) ((c.tc : Thread Cert.EmbKernelIdeal.nD Cert.EmbKernelIdeal.τ).loc Cert.EmbKernelIdeal.main_v2)),
      θ_run (Cert.EmbKernelIdeal.defs (F := Ideal)) (onTc (τ := Cert.EmbKernelIdeal.τ) (Cert.EmbKernelIdeal.main (F := Ideal))) ⟨m, fun _ => 0, g⟩ (fun r => ∀ c : Dev Cert.EmbKernelIdeal.nD,
          r.2.mem ((c.tc : Thread Cert.EmbKernelIdeal.nD Cert.EmbKernelIdeal.τ).loc Cert.EmbKernelIdeal.main_v2) = v0 c
          ∧ r.2.mem ((c.tc : Thread Cert.EmbKernelIdeal.nD Cert.EmbKernelIdeal.τ).loc Cert.EmbKernelIdeal.main_arg0) = m ((c.tc : Thread Cert.EmbKernelIdeal.nD Cert.EmbKernelIdeal.τ).loc Cert.EmbKernelIdeal.main_arg0)
          ∧ r.2.mem ((c.tc : Thread Cert.EmbKernelIdeal.nD Cert.EmbKernelIdeal.τ).loc Cert.EmbKernelIdeal.main_arg1) = m ((c.tc : Thread Cert.EmbKernelIdeal.nD Cert.EmbKernelIdeal.τ).loc Cert.EmbKernelIdeal.main_arg1)
          ∧ r.2.mem ((c.tc : Thread Cert.EmbKernelIdeal.nD Cert.EmbKernelIdeal.τ).loc Cert.EmbKernelIdeal.main_arg2) = m ((c.tc : Thread Cert.EmbKernelIdeal.nD Cert.EmbKernelIdeal.τ).loc Cert.EmbKernelIdeal.main_arg2)
          ∧ r.2.mem ((c.tc : Thread Cert.EmbKernelIdeal.nD Cert.EmbKernelIdeal.τ).loc Cert.EmbKernelIdeal.main_arg3) = m ((c.tc : Thread Cert.EmbKernelIdeal.nD Cert.EmbKernelIdeal.τ).loc Cert.EmbKernelIdeal.main_arg3))
      ∧ θ_run (Cert.EmbReferenceIdeal.defs (F := Ideal)) (onTc (τ := Cert.EmbReferenceIdeal.τ) (Cert.EmbReferenceIdeal.main (F := Ideal))) ⟨m', fun _ => 0, g'⟩ (fun r => ∀ c : Dev Cert.EmbReferenceIdeal.nD,
          r.2.mem ((c.tc : Thread Cert.EmbReferenceIdeal.nD Cert.EmbReferenceIdeal.τ).loc Cert.EmbReferenceIdeal.main_v27) = v0 c
          ∧ r.2.mem ((c.tc : Thread Cert.EmbReferenceIdeal.nD Cert.EmbReferenceIdeal.τ).loc Cert.EmbReferenceIdeal.main_arg0) = m' ((c.tc : Thread Cert.EmbReferenceIdeal.nD Cert.EmbReferenceIdeal.τ).loc Cert.EmbReferenceIdeal.main_arg0)
          ∧ r.2.mem ((c.tc : Thread Cert.EmbReferenceIdeal.nD Cert.EmbReferenceIdeal.τ).loc Cert.EmbReferenceIdeal.main_arg1) = m' ((c.tc : Thread Cert.EmbReferenceIdeal.nD Cert.EmbReferenceIdeal.τ).loc Cert.EmbReferenceIdeal.main_arg1)
          ∧ r.2.mem ((c.tc : Thread Cert.EmbReferenceIdeal.nD Cert.EmbReferenceIdeal.τ).loc Cert.EmbReferenceIdeal.main_arg2) = m' ((c.tc : Thread Cert.EmbReferenceIdeal.nD Cert.EmbReferenceIdeal.τ).loc Cert.EmbReferenceIdeal.main_arg2)
          ∧ r.2.mem ((c.tc : Thread Cert.EmbReferenceIdeal.nD Cert.EmbReferenceIdeal.τ).loc Cert.EmbReferenceIdeal.main_arg3) = m' ((c.tc : Thread Cert.EmbReferenceIdeal.nD Cert.EmbReferenceIdeal.τ).loc Cert.EmbReferenceIdeal.main_arg3))

def preserves_MidKernel_MidKernelIdeal : Prop :=
  True

def algebraic_MidKernelIdeal_MidReferenceIdeal [hMidKernelIdeal : Cert.MidKernelIdeal.Facts] [hMidReferenceIdeal : Cert.MidReferenceIdeal.Facts] : Prop :=
  ∀ (m : (ℓ : Loc Cert.MidKernelIdeal.nD Cert.MidKernelIdeal.τ Cert.MidKernelIdeal.sig) → Buf (Elt Ideal) ℓ) (g : Dev Cert.MidKernelIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidKernelIdeal m →
    (∀ c : Dev Cert.MidKernelIdeal.nD,
      m' ((c.tc : Thread Cert.MidReferenceIdeal.nD Cert.MidReferenceIdeal.τ).loc Cert.MidReferenceIdeal.main_arg0) = m ((c.tc : Thread Cert.MidKernelIdeal.nD Cert.MidKernelIdeal.τ).loc Cert.MidKernelIdeal.main_arg0)
      ∧ m' ((c.tc : Thread Cert.MidReferenceIdeal.nD Cert.MidReferenceIdeal.τ).loc Cert.MidReferenceIdeal.main_arg1) = m ((c.tc : Thread Cert.MidKernelIdeal.nD Cert.MidKernelIdeal.τ).loc Cert.MidKernelIdeal.main_arg1)
      ∧ m' ((c.tc : Thread Cert.MidReferenceIdeal.nD Cert.MidReferenceIdeal.τ).loc Cert.MidReferenceIdeal.main_arg2) = m ((c.tc : Thread Cert.MidKernelIdeal.nD Cert.MidKernelIdeal.τ).loc Cert.MidKernelIdeal.main_arg2)
      ∧ m' ((c.tc : Thread Cert.MidReferenceIdeal.nD Cert.MidReferenceIdeal.τ).loc Cert.MidReferenceIdeal.main_arg3) = m ((c.tc : Thread Cert.MidKernelIdeal.nD Cert.MidKernelIdeal.τ).loc Cert.MidKernelIdeal.main_arg3)
      ∧ m' ((c.tc : Thread Cert.MidReferenceIdeal.nD Cert.MidReferenceIdeal.τ).loc Cert.MidReferenceIdeal.main_arg4) = m ((c.tc : Thread Cert.MidKernelIdeal.nD Cert.MidKernelIdeal.τ).loc Cert.MidKernelIdeal.main_arg4)) →
    ∃ (v0 : (c : Dev Cert.MidKernelIdeal.nD) → Buf (Elt Ideal) ((c.tc : Thread Cert.MidKernelIdeal.nD Cert.MidKernelIdeal.τ).loc Cert.MidKernelIdeal.main_v8)),
      θ_run (Cert.MidKernelIdeal.defs (F := Ideal)) (onTc (τ := Cert.MidKernelIdeal.τ) (Cert.MidKernelIdeal.main (F := Ideal))) ⟨m, fun _ => 0, g⟩ (fun r => ∀ c : Dev Cert.MidKernelIdeal.nD,
          r.2.mem ((c.tc : Thread Cert.MidKernelIdeal.nD Cert.MidKernelIdeal.τ).loc Cert.MidKernelIdeal.main_v8) = v0 c
          ∧ r.2.mem ((c.tc : Thread Cert.MidKernelIdeal.nD Cert.MidKernelIdeal.τ).loc Cert.MidKernelIdeal.main_arg0) = m ((c.tc : Thread Cert.MidKernelIdeal.nD Cert.MidKernelIdeal.τ).loc Cert.MidKernelIdeal.main_arg0)
          ∧ r.2.mem ((c.tc : Thread Cert.MidKernelIdeal.nD Cert.MidKernelIdeal.τ).loc Cert.MidKernelIdeal.main_arg1) = m ((c.tc : Thread Cert.MidKernelIdeal.nD Cert.MidKernelIdeal.τ).loc Cert.MidKernelIdeal.main_arg1)
          ∧ r.2.mem ((c.tc : Thread Cert.MidKernelIdeal.nD Cert.MidKernelIdeal.τ).loc Cert.MidKernelIdeal.main_arg2) = m ((c.tc : Thread Cert.MidKernelIdeal.nD Cert.MidKernelIdeal.τ).loc Cert.MidKernelIdeal.main_arg2)
          ∧ r.2.mem ((c.tc : Thread Cert.MidKernelIdeal.nD Cert.MidKernelIdeal.τ).loc Cert.MidKernelIdeal.main_arg3) = m ((c.tc : Thread Cert.MidKernelIdeal.nD Cert.MidKernelIdeal.τ).loc Cert.MidKernelIdeal.main_arg3)
          ∧ r.2.mem ((c.tc : Thread Cert.MidKernelIdeal.nD Cert.MidKernelIdeal.τ).loc Cert.MidKernelIdeal.main_arg4) = m ((c.tc : Thread Cert.MidKernelIdeal.nD Cert.MidKernelIdeal.τ).loc Cert.MidKernelIdeal.main_arg4))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v38) = v0 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3)
          ∧ r.2.mem ((c.tc : Thread Cert.MidReferenceIdeal.nD Cert.MidReferenceIdeal.τ).loc Cert.MidReferenceIdeal.main_arg4) = m' ((c.tc : Thread Cert.MidReferenceIdeal.nD Cert.MidReferenceIdeal.τ).loc Cert.MidReferenceIdeal.main_arg4))

def Claim : Prop :=
  ∃ (hRetKernel : Cert.RetKernel.Facts) (hRetKernelIdeal : Cert.RetKernelIdeal.Facts) (hRetReferenceIdeal : Cert.RetReferenceIdeal.Facts) (hMlpKernel : Cert.MlpKernel.Facts) (hMlpKernelIdeal : Cert.MlpKernelIdeal.Facts) (hMlpReferenceIdeal : Cert.MlpReferenceIdeal.Facts) (hOutKernel : Cert.OutKernel.Facts) (hOutKernelIdeal : Cert.OutKernelIdeal.Facts) (hOutReferenceIdeal : Cert.OutReferenceIdeal.Facts) (hProjKernel : Cert.ProjKernel.Facts) (hProjKernelIdeal : Cert.ProjKernelIdeal.Facts) (hProjReferenceIdeal : Cert.ProjReferenceIdeal.Facts) (hEmbKernel : Cert.EmbKernel.Facts) (hEmbKernelIdeal : Cert.EmbKernelIdeal.Facts) (hEmbReferenceIdeal : Cert.EmbReferenceIdeal.Facts) (hMidKernel : Cert.MidKernel.Facts) (hMidKernelIdeal : Cert.MidKernelIdeal.Facts) (hMidReferenceIdeal : Cert.MidReferenceIdeal.Facts),
    quiescent_RetKernel (hRetKernel := hRetKernel)
    ∧ quiescent_RetKernelIdeal (hRetKernelIdeal := hRetKernelIdeal)
    ∧ quiescent_RetReferenceIdeal (hRetReferenceIdeal := hRetReferenceIdeal)
    ∧ quiescent_MlpKernel (hMlpKernel := hMlpKernel)
    ∧ quiescent_MlpKernelIdeal (hMlpKernelIdeal := hMlpKernelIdeal)
    ∧ quiescent_MlpReferenceIdeal (hMlpReferenceIdeal := hMlpReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_EmbKernel (hEmbKernel := hEmbKernel)
    ∧ quiescent_EmbKernelIdeal (hEmbKernelIdeal := hEmbKernelIdeal)
    ∧ quiescent_EmbReferenceIdeal (hEmbReferenceIdeal := hEmbReferenceIdeal)
    ∧ quiescent_MidKernel (hMidKernel := hMidKernel)
    ∧ quiescent_MidKernelIdeal (hMidKernelIdeal := hMidKernelIdeal)
    ∧ quiescent_MidReferenceIdeal (hMidReferenceIdeal := hMidReferenceIdeal)
    ∧ preserves_RetKernel_RetKernelIdeal
    ∧ algebraic_RetKernelIdeal_RetReferenceIdeal (hRetKernelIdeal := hRetKernelIdeal) (hRetReferenceIdeal := hRetReferenceIdeal)
    ∧ preserves_MlpKernel_MlpKernelIdeal
    ∧ algebraic_MlpKernelIdeal_MlpReferenceIdeal (hMlpKernelIdeal := hMlpKernelIdeal) (hMlpReferenceIdeal := hMlpReferenceIdeal)
    ∧ preserves_OutKernel_OutKernelIdeal
    ∧ algebraic_OutKernelIdeal_OutReferenceIdeal (hOutKernelIdeal := hOutKernelIdeal) (hOutReferenceIdeal := hOutReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_EmbKernel_EmbKernelIdeal
    ∧ algebraic_EmbKernelIdeal_EmbReferenceIdeal (hEmbKernelIdeal := hEmbKernelIdeal) (hEmbReferenceIdeal := hEmbReferenceIdeal)
    ∧ preserves_MidKernel_MidKernelIdeal
    ∧ algebraic_MidKernelIdeal_MidReferenceIdeal (hMidKernelIdeal := hMidKernelIdeal) (hMidReferenceIdeal := hMidReferenceIdeal)
-- ==== RetKernel.lean ====
abbrev S8x4224x256 : Shape := ⟨3, ![8, 4224, 256]⟩
abbrev S8x4224x512 : Shape := ⟨3, ![8, 4224, 512]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S_ : Shape := ⟨0, ![]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x1x128x128 : Shape := ⟨4, ![4, 1, 128, 128]⟩
abbrev S4x4x128x128 : Shape := ⟨4, ![4, 4, 128, 128]⟩
abbrev S1x4224x128 : Shape := ⟨3, ![1, 4224, 128]⟩
abbrev S1x4224x256 : Shape := ⟨3, ![1, 4224, 256]⟩
abbrev S2x4x128x128 : Shape := ⟨4, ![2, 4, 128, 128]⟩
abbrev S128x256 : Shape := ⟨2, ![128, 256]⟩
abbrev S1x1x128x128 : Shape := ⟨4, ![1, 1, 128, 128]⟩
abbrev S256x128 : Shape := ⟨2, ![256, 128]⟩
abbrev S1x128x256 : Shape := ⟨3, ![1, 128, 256]⟩
abbrev S256x256 : Shape := ⟨2, ![256, 256]⟩

abbrev nBuf : Space → Nat
  | .hbm => 64
  | .vmem => 12
  | .smem => 0
  | _ => 0

abbrev bufTy : (tb : Table) → Fin (tcTables nBuf tb) → BufTy
  | .hbm, ⟨0, _⟩ => ⟨S8x4224x256, .bf16⟩
  | .hbm, ⟨1, _⟩ => ⟨S8x4224x256, .bf16⟩
  | .hbm, ⟨2, _⟩ => ⟨S8x4224x512, .bf16⟩
  | .hbm, ⟨3, _⟩ => ⟨S8x4224x512, .bf16⟩
  | .hbm, ⟨4, _⟩ => ⟨S4, .f32⟩
  | .hbm, ⟨5, _⟩ => ⟨S4, .f32⟩
  | .hbm, ⟨6, _⟩ => ⟨S128, .f32⟩
  | .hbm, ⟨7, _⟩ => ⟨S128x1, .f32⟩
  | .hbm, ⟨8, _⟩ => ⟨S1x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S1x128x128, .f32⟩
  | .hbm, ⟨13, _⟩ => ⟨S_, .f32⟩
  | .hbm, ⟨14, _⟩ => ⟨S1x128x128, .f32⟩
  | .hbm, ⟨15, _⟩ => ⟨S1x128x128, .i1⟩
  | .hbm, ⟨16, _⟩ => ⟨S_, .f32⟩
  | .hbm, ⟨17, _⟩ => ⟨S128x128, .f32⟩
  | .hbm, ⟨18, _⟩ => ⟨S128x128, .f32⟩
  | .hbm, ⟨19, _⟩ => ⟨S1x128x128, .f32⟩
  | .hbm, ⟨20, _⟩ => ⟨S4x1x1, .f32⟩
  | .hbm, ⟨21, _⟩ => ⟨S4x128x128, .f32⟩
  | .hbm, ⟨22, _⟩ => ⟨S4x128x128, .f32⟩
  | .hbm, ⟨23, _⟩ => ⟨S4x128x128, .f32⟩
  | .hbm, ⟨24, _⟩ => ⟨S4x128x128, .f32⟩
  | .hbm, ⟨25, _⟩ => ⟨S_, .f32⟩
  | .hbm, ⟨26, _⟩ => ⟨S_, .f32⟩
  | .hbm, ⟨27, _⟩ => ⟨S4x128x128, .i1⟩
  | .hbm, ⟨28, _⟩ => ⟨S4x128x128, .f32⟩
  | .hbm, ⟨29, _⟩ => ⟨S4x128x128, .f32⟩
  | .hbm, ⟨30, _⟩ => ⟨S1x128, .f32⟩
  | .hbm, ⟨31, _⟩ => ⟨S_, .f32⟩
  | .hbm, ⟨32, _⟩ => ⟨S1x128, .f32⟩
  | .hbm, ⟨33, _⟩ => ⟨S1x128, .f32⟩
  | .hbm, ⟨34, _⟩ => ⟨S4x1, .f32⟩
  | .hbm, ⟨35, _⟩ => ⟨S4x128, .f32⟩
  | .hbm, ⟨36, _⟩ => ⟨S4x128, .f32⟩
  | .hbm, ⟨37, _⟩ => ⟨S4x128, .f32⟩
  | .hbm, ⟨38, _⟩ => ⟨S4x128, .f32⟩
  | .hbm, ⟨39, _⟩ => ⟨S1x128, .f32⟩
  | .hbm, ⟨40, _⟩ => ⟨S_, .f32⟩
  | .hbm, ⟨41, _⟩ => ⟨S1x128, .f32⟩
  | .hbm, ⟨42, _⟩ => ⟨S1x128, .f32⟩
  | .hbm, ⟨43, _⟩ => ⟨S4x1, .f32⟩
  | .hbm, ⟨44, _⟩ => ⟨S4x128, .f32⟩
  | .hbm, ⟨45, _⟩ => ⟨S4x128, .f32⟩
  | .hbm, ⟨46, _⟩ => ⟨S4x128, .f32⟩
  | .hbm, ⟨47, _⟩ => ⟨S4x128, .f32⟩
  | .hbm, ⟨48, _⟩ => ⟨S_, .f32⟩
  | .hbm, ⟨49, _⟩ => ⟨S4, .f32⟩
  | .hbm, ⟨50, _⟩ => ⟨S4, .f32⟩
  | .hbm, ⟨51, _⟩ => ⟨S4, .f32⟩
  | .hbm, ⟨52, _⟩ => ⟨S4x1x1, .f32⟩
  | .hbm, ⟨53, _⟩ => ⟨S4x128x128, .f32⟩
  | .hbm, ⟨54, _⟩ => ⟨S4x128x1, .f32⟩
  | .hbm, ⟨55, _⟩ => ⟨S4x128x128, .f32⟩
  | .hbm, ⟨56, _⟩ => ⟨S4x128x1, .f32⟩
  | .hbm, ⟨57, _⟩ => ⟨S4x128x128, .f32⟩
  | .hbm, ⟨58, _⟩ => ⟨S4x1x128x128, .f32⟩
  | .hbm, ⟨59, _⟩ => ⟨S4x1x128x128, .f32⟩
  | .hbm, ⟨60, _⟩ => ⟨S4x1x128x128, .f32⟩
  | .hbm, ⟨61, _⟩ => ⟨S4x1x128x128, .f32⟩
  | .hbm, ⟨62, _⟩ => ⟨S4x4x128x128, .f32⟩
  | .hbm, ⟨63, _⟩ => ⟨S8x4224x512, .bf16⟩
  | .local _ .vmem, ⟨0, _⟩ => ⟨S1x4224x128, .bf16⟩
  | .local _ .vmem, ⟨1, _⟩ => ⟨S1x4224x128, .bf16⟩
  | .local _ .vmem, ⟨2, _⟩ => ⟨S1x4224x128, .bf16⟩
  | .local _ .vmem, ⟨3, _⟩ => ⟨S1x4224x128, .bf16⟩
  | .local _ .vmem, ⟨4, _⟩ => ⟨S1x4224x256, .bf16⟩
  | .local _ .vmem, ⟨5, _⟩ => ⟨S1x4224x256, .bf16⟩
  | .local _ .vmem, ⟨6, _⟩ => ⟨S1x4224x256, .bf16⟩
  | .local _ .vmem, ⟨7, _⟩ => ⟨S1x4224x256, .bf16⟩
  | .local _ .vmem, ⟨8, _⟩ => ⟨S2x4x128x128, .f32⟩
  | .local _ .vmem, ⟨9, _⟩ => ⟨S2x4x128x128, .f32⟩
  | .local _ .vmem, ⟨10, _⟩ => ⟨S1x4224x256, .bf16⟩
  | .local _ .vmem, ⟨11, _⟩ => ⟨S1x4224x256, .bf16⟩
  | _, _ => ⟨S8x4224x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32 : BitVec 32 := 0#32
  let c3_i32 : BitVec 32 := 3#32
  let v36 : BitVec 32 := Scalar.addi c0_i32 c3_i32
  let c1_i32 : BitVec 32 := 1#32
  ⟨c0_i32, v36, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c11_i32 : BitVec 32 := 11#32
  let v38 : BitVec 32 := Scalar.muli arg8 c11_i32
  let c0_i32_33 : BitVec 32 := 0#32
  let v39 : BitVec 32 := Scalar.addi v38 c0_i32_33
  let c128_i32_34 : BitVec 32 := 128#32
  let v40 : BitVec 32 := Scalar.muli v39 c128_i32_34
  v40
def k0_off1 (k0_t1 : Fin k0_t1_loop.trips) (c0_i32_33 : BitVec 32) : Fin 3 → Nat :=
  let c0_35 : Index := 0#32
  let c0_i32 : BitVec 32 := 0#32
  let c1_i32 : BitVec 32 := 1#32
  let arg8 : BitVec 32 := Scf.iv c0_i32 c1_i32 k0_t1
  let c11_i32 : BitVec 32 := 11#32
  let v38 : BitVec 32 := Scalar.muli arg8 c11_i32
  let v39 : BitVec 32 := Scalar.addi v38 c0_i32_33
  let c128_i32_34 : BitVec 32 := 128#32
  let v40 : BitVec 32 := Scalar.muli v39 c128_i32_34
  let v41 : BitVec 32 := v40
  let v42 : Index := Scalar.indexCast v41
  let c0_36 : Index := 0#32
  ![0, v42.toNat, 0]
def k0_off2 (k0_t1 : Fin k0_t1_loop.trips) (c0_i32_33 : BitVec 32) : Fin 3 → Nat :=
  let c0_39 : Index := 0#32
  let c0_i32 : BitVec 32 := 0#32
  let c1_i32 : BitVec 32 := 1#32
  let arg8 : BitVec 32 := Scf.iv c0_i32 c1_i32 k0_t1
  let c11_i32 : BitVec 32 := 11#32
  let v38 : BitVec 32 := Scalar.muli arg8 c11_i32
  let v39 : BitVec 32 := Scalar.addi v38 c0_i32_33
  let c128_i32_34 : BitVec 32 := 128#32
  let v40 : BitVec 32 := Scalar.muli v39 c128_i32_34
  let v41 : BitVec 32 := v40
  let v48 : Index := Scalar.indexCast v41
  let c0_40 : Index := 0#32
  ![0, v48.toNat, 0]
def k0_off3 (k0_t1 : Fin k0_t1_loop.trips) (c0_i32_33 : BitVec 32) : Fin 3 → Nat :=
  let c0_54 : Index := 0#32
  let c0_i32 : BitVec 32 := 0#32
  let c1_i32 : BitVec 32 := 1#32
  let arg8 : BitVec 32 := Scf.iv c0_i32 c1_i32 k0_t1
  let c11_i32 : BitVec 32 := 11#32
  let v38 : BitVec 32 := Scalar.muli arg8 c11_i32
  let v39 : BitVec 32 := Scalar.addi v38 c0_i32_33
  let c128_i32_34 : BitVec 32 := 128#32
  let v40 : BitVec 32 := Scalar.muli v39 c128_i32_34
  let v41 : BitVec 32 := v40
  let v100 : Index := Scalar.indexCast v41
  let c0_55 : Index := 0#32
  ![0, v100.toNat, 0]
def k0_off4 (k0_t1 : Fin k0_t1_loop.trips) (c0_i32_33 : BitVec 32) : Fin 3 → Nat :=
  let c0_63 : Index := 0#32
  let c0_i32 : BitVec 32 := 0#32
  let c1_i32 : BitVec 32 := 1#32
  let arg8 : BitVec 32 := Scf.iv c0_i32 c1_i32 k0_t1
  let c11_i32 : BitVec 32 := 11#32
  let v38 : BitVec 32 := Scalar.muli arg8 c11_i32
  let v39 : BitVec 32 := Scalar.addi v38 c0_i32_33
  let c128_i32_34 : BitVec 32 := 128#32
  let v40 : BitVec 32 := Scalar.muli v39 c128_i32_34
  let v41 : BitVec 32 := v40
  let v129 : Index := Scalar.indexCast v41
  let c128 : Index := 128#32
  ![0, v129.toNat, 128]
def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c11_i32_66 : BitVec 32 := 11#32
  let v141 : BitVec 32 := Scalar.muli arg8 c11_i32_66
  let c1_i32_67 : BitVec 32 := 1#32
  let v142 : BitVec 32 := Scalar.addi v141 c1_i32_67
  let c128_i32_68 : BitVec 32 := 128#32
  let v143 : BitVec 32 := Scalar.muli v142 c128_i32_68
  v143
def k0_mult3 (k0_t1 : Fin k0_t1_loop.trips) : BitVec 32 :=
  let c0_i32 : BitVec 32 := 0#32
  let c1_i32 : BitVec 32 := 1#32
  let arg8 : BitVec 32 := Scf.iv c0_i32 c1_i32 k0_t1
  let c11_i32_101 : BitVec 32 := 11#32
  let v244 : BitVec 32 := Scalar.muli arg8 c11_i32_101
  let c2_i32 : BitVec 32 := 2#32
  let v245 : BitVec 32 := Scalar.addi v244 c2_i32
  let c128_i32_102 : BitVec 32 := 128#32
  let v246 : BitVec 32 := Scalar.muli v245 c128_i32_102
  v246
def k0_mult4 (k0_t1 : Fin k0_t1_loop.trips) : BitVec 32 :=
  let c0_i32 : BitVec 32 := 0#32
  let c1_i32 : BitVec 32 := 1#32
  let arg8 : BitVec 32 := Scf.iv c0_i32 c1_i32 k0_t1
  let c11_i32_135 : BitVec 32 := 11#32
  let v347 : BitVec 32 := Scalar.muli arg8 c11_i32_135
  let c3_i32_136 : BitVec 32 := 3#32
  let v348 : BitVec 32 := Scalar.addi v347 c3_i32_136
  let c128_i32_137 : BitVec 32 := 128#32
  let v349 : BitVec 32 := Scalar.muli v348 c128_i32_137
  v349
def k0_mult5 (k0_t1 : Fin k0_t1_loop.trips) : BitVec 32 :=
  let c0_i32 : BitVec 32 := 0#32
  let c1_i32 : BitVec 32 := 1#32
  let arg8 : BitVec 32 := Scf.iv c0_i32 c1_i32 k0_t1
  let c11_i32_170 : BitVec 32 := 11#32
  let v450 : BitVec 32 := Scalar.muli arg8 c11_i32_170
  let c4_i32 : BitVec 32 := 4#32
  let v451 : BitVec 32 := Scalar.addi v450 c4_i32
  let c128_i32_171 : BitVec 32 := 128#32
  let v452 : BitVec 32 := Scalar.muli v451 c128_i32_171
  v452
def k0_mult6 (k0_t1 : Fin k0_t1_loop.trips) : BitVec 32 :=
  let c0_i32 : BitVec 32 := 0#32
  let c1_i32 : BitVec 32 := 1#32
  let arg8 : BitVec 32 := Scf.iv c0_i32 c1_i32 k0_t1
  let c11_i32_204 : BitVec 32 := 11#32
  let v553 : BitVec 32 := Scalar.muli arg8 c11_i32_204
  let c5_i32 : BitVec 32 := 5#32
  let v554 : BitVec 32 := Scalar.addi v553 c5_i32
  let c128_i32_205 : BitVec 32 := 128#32
  let v555 : BitVec 32 := Scalar.muli v554 c128_i32_205
  v555
def k0_mult7 (k0_t1 : Fin k0_t1_loop.trips) : BitVec 32 :=
  let c0_i32 : BitVec 32 := 0#32
  let c1_i32 : BitVec 32 := 1#32
  let arg8 : BitVec 32 := Scf.iv c0_i32 c1_i32 k0_t1
  let c11_i32_238 : BitVec 32 := 11#32
  let v656 : BitVec 32 := Scalar.muli arg8 c11_i32_238
  let c6_i32 : BitVec 32 := 6#32
  let v657 : BitVec 32 := Scalar.addi v656 c6_i32
  let c128_i32_239 : BitVec 32 := 128#32
  let v658 : BitVec 32 := Scalar.muli v657 c128_i32_239
  v658
def k0_mult8 (k0_t1 : Fin k0_t1_loop.trips) : BitVec 32 :=
  let c0_i32 : BitVec 32 := 0#32
  let c1_i32 : BitVec 32 := 1#32
  let arg8 : BitVec 32 := Scf.iv c0_i32 c1_i32 k0_t1
  let c11_i32_272 : BitVec 32 := 11#32
  let v759 : BitVec 32 := Scalar.muli arg8 c11_i32_272
  let c7_i32 : BitVec 32 := 7#32
  let v760 : BitVec 32 := Scalar.addi v759 c7_i32
  let c128_i32_273 : BitVec 32 := 128#32
  let v761 : BitVec 32 := Scalar.muli v760 c128_i32_273
  v761
def k0_mult9 (k0_t1 : Fin k0_t1_loop.trips) : BitVec 32 :=
  let c0_i32 : BitVec 32 := 0#32
  let c1_i32 : BitVec 32 := 1#32
  let arg8 : BitVec 32 := Scf.iv c0_i32 c1_i32 k0_t1
  let c11_i32_306 : BitVec 32 := 11#32
  let v862 : BitVec 32 := Scalar.muli arg8 c11_i32_306
  let c8_i32 : BitVec 32 := 8#32
  let v863 : BitVec 32 := Scalar.addi v862 c8_i32
  let c128_i32_307 : BitVec 32 := 128#32
  let v864 : BitVec 32 := Scalar.muli v863 c128_i32_307
  v864
def k0_mult10 (k0_t1 : Fin k0_t1_loop.trips) : BitVec 32 :=
  let c0_i32 : BitVec 32 := 0#32
  let c1_i32 : BitVec 32 := 1#32
  let arg8 : BitVec 32 := Scf.iv c0_i32 c1_i32 k0_t1
  let c11_i32_340 : BitVec 32 := 11#32
  let v965 : BitVec 32 := Scalar.muli arg8 c11_i32_340
  let c9_i32 : BitVec 32 := 9#32
  let v966 : BitVec 32 := Scalar.addi v965 c9_i32
  let c128_i32_341 : BitVec 32 := 128#32
  let v967 : BitVec 32 := Scalar.muli v966 c128_i32_341
  v967
def k0_mult11 (k0_t1 : Fin k0_t1_loop.trips) : BitVec 32 :=
  let c0_i32 : BitVec 32 := 0#32
  let c1_i32 : BitVec 32 := 1#32
  let arg8 : BitVec 32 := Scf.iv c0_i32 c1_i32 k0_t1
  let c11_i32_374 : BitVec 32 := 11#32
  let v1068 : BitVec 32 := Scalar.muli arg8 c11_i32_374
  let c10_i32 : BitVec 32 := 10#32
  let v1069 : BitVec 32 := Scalar.addi v1068 c10_i32
  let c128_i32_375 : BitVec 32 := 128#32
  let v1070 : BitVec 32 := Scalar.muli v1069 c128_i32_375
  v1070
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4224x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4224x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4224x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4224x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x4224x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RetReferenceIdeal.lean ====
abbrev S8x4224x256 : Shape := ⟨3, ![8, 4224, 256]⟩
abbrev S8x4224x512 : Shape := ⟨3, ![8, 4224, 512]⟩
abbrev S8x4224x4x64 : Shape := ⟨4, ![8, 4224, 4, 64]⟩
abbrev S8x4224x4x128 : Shape := ⟨4, ![8, 4224, 4, 128]⟩
abbrev S_ : Shape := ⟨0, ![]⟩
abbrev S1 : Shape := ⟨1, ![1]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x4 : Shape := ⟨2, ![1, 4]⟩
abbrev S128x4 : Shape := ⟨2, ![128, 4]⟩
abbrev S8x4x64x128 : Shape := ⟨4, ![8, 4, 64, 128]⟩
abbrev S8x33x128x4x64 : Shape := ⟨5, ![8, 33, 128, 4, 64]⟩
abbrev S33x8x128x4x64 : Shape := ⟨5, ![33, 8, 128, 4, 64]⟩
abbrev S8x33x128x4x128 : Shape := ⟨5, ![8, 33, 128, 4, 128]⟩
abbrev S33x8x128x4x128 : Shape := ⟨5, ![33, 8, 128, 4, 128]⟩
abbrev S1x8x128x4x64 : Shape := ⟨5, ![1, 8, 128, 4, 64]⟩
abbrev S8x128x4x64 : Shape := ⟨4, ![8, 128, 4, 64]⟩
abbrev S1x8x128x4x128 : Shape := ⟨5, ![1, 8, 128, 4, 128]⟩
abbrev S8x128x4x128 : Shape := ⟨4, ![8, 128, 4, 128]⟩
abbrev S8x4x128x128 : Shape := ⟨4, ![8, 4, 128, 128]⟩
abbrev S1x4x128x128 : Shape := ⟨4, ![1, 4, 128, 128]⟩
abbrev S1x128x4x1 : Shape := ⟨4, ![1, 128, 4, 1]⟩
abbrev S1x4x1x1 : Shape := ⟨4, ![1, 4, 1, 1]⟩
abbrev S8x4224x4 : Shape := ⟨3, ![8, 4224, 4]⟩
abbrev S8x4224x4x1 : Shape := ⟨4, ![8, 4224, 4, 1]⟩

abbrev nBuf : Space → Nat
  | .hbm => 173
  | .vmem => 0
  | .smem => 0
  | _ => 0

abbrev hbmTy0_0 (i : Nat) : BufTy := match i % 128 with
  | 0 => ⟨S8x4224x256, .bf16⟩
  | 1 => ⟨S8x4224x256, .bf16⟩
  | 2 => ⟨S8x4224x512, .bf16⟩
  | 3 => ⟨S8x4224x512, .bf16⟩
  | 4 => ⟨S8x4224x256, .f32⟩
  | 5 => ⟨S8x4224x4x64, .f32⟩
  | 6 => ⟨S8x4224x256, .f32⟩
  | 7 => ⟨S8x4224x4x64, .f32⟩
  | 8 => ⟨S8x4224x512, .f32⟩
  | 9 => ⟨S8x4224x4x128, .f32⟩
  | 10 => ⟨S_, .f32⟩
  | 11 => ⟨S_, .f32⟩
  | 12 => ⟨S_, .f32⟩
  | 13 => ⟨S_, .f32⟩
  | 14 => ⟨S1, .f32⟩
  | 15 => ⟨S1, .f32⟩
  | 16 => ⟨S1, .f32⟩
  | 17 => ⟨S1, .f32⟩
  | 18 => ⟨S4, .f32⟩
  | 19 => ⟨S4, .f32⟩
  | 20 => ⟨S128, .f32⟩
  | 21 => ⟨S128x1, .f32⟩
  | 22 => ⟨S1x128, .f32⟩
  | 23 => ⟨S128x128, .f32⟩
  | 24 => ⟨S128x128, .f32⟩
  | 25 => ⟨S128x128, .f32⟩
  | 26 => ⟨S1x128x128, .f32⟩
  | 27 => ⟨S_, .f32⟩
  | 28 => ⟨S1x128x128, .f32⟩
  | 29 => ⟨S1x128x128, .i1⟩
  | 30 => ⟨S_, .f32⟩
  | 31 => ⟨S128x128, .f32⟩
  | 32 => ⟨S128x128, .f32⟩
  | 33 => ⟨S1x128x128, .f32⟩
  | 34 => ⟨S4x1x1, .f32⟩
  | 35 => ⟨S4x128x128, .f32⟩
  | 36 => ⟨S4x128x128, .f32⟩
  | 37 => ⟨S4x128x128, .f32⟩
  | 38 => ⟨S4x128x128, .f32⟩
  | 39 => ⟨S_, .f32⟩
  | 40 => ⟨S_, .f32⟩
  | 41 => ⟨S4x128x128, .i1⟩
  | 42 => ⟨S4x128x128, .f32⟩
  | 43 => ⟨S4x128x128, .f32⟩
  | 44 => ⟨S128x1, .f32⟩
  | 45 => ⟨S_, .f32⟩
  | 46 => ⟨S128x1, .f32⟩
  | 47 => ⟨S128x1, .f32⟩
  | 48 => ⟨S1x4, .f32⟩
  | 49 => ⟨S128x4, .f32⟩
  | 50 => ⟨S128x4, .f32⟩
  | 51 => ⟨S128x4, .f32⟩
  | 52 => ⟨S128x4, .f32⟩
  | 53 => ⟨S128x1, .f32⟩
  | 54 => ⟨S_, .f32⟩
  | 55 => ⟨S128x1, .f32⟩
  | 56 => ⟨S128x1, .f32⟩
  | 57 => ⟨S1x4, .f32⟩
  | 58 => ⟨S128x4, .f32⟩
  | 59 => ⟨S128x4, .f32⟩
  | 60 => ⟨S128x4, .f32⟩
  | 61 => ⟨S128x4, .f32⟩
  | 62 => ⟨S_, .f32⟩
  | 63 => ⟨S4, .f32⟩
  | 64 => ⟨S4, .f32⟩
  | 65 => ⟨S4, .f32⟩
  | 66 => ⟨S_, .f32⟩
  | 67 => ⟨S8x4x64x128, .f32⟩
  | 68 => ⟨S8x33x128x4x64, .f32⟩
  | 69 => ⟨S33x8x128x4x64, .f32⟩
  | 70 => ⟨S8x33x128x4x64, .f32⟩
  | 71 => ⟨S33x8x128x4x64, .f32⟩
  | 72 => ⟨S8x33x128x4x128, .f32⟩
  | 73 => ⟨S33x8x128x4x128, .f32⟩
  | 74 => ⟨S_, .f32⟩
  | 75 => ⟨S33x8x128x4x128, .f32⟩
  | 76 => ⟨S_, .i32⟩
  | 77 => ⟨S33x8x128x4x64, .f32⟩
  | 78 => ⟨S33x8x128x4x64, .f32⟩
  | 79 => ⟨S33x8x128x4x128, .f32⟩
  | 80 => ⟨S4x128x128, .f32⟩
  | 81 => ⟨S128x4, .f32⟩
  | 82 => ⟨S4, .f32⟩
  | 83 => ⟨S128x4, .f32⟩
  | 84 => ⟨S_, .i32⟩
  | 85 => ⟨S8x4x64x128, .f32⟩
  | 86 => ⟨S33x8x128x4x128, .f32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S1x8x128x4x64, .f32⟩
  | 94 => ⟨S8x128x4x64, .f32⟩
  | 95 => ⟨S_, .i32⟩
  | 96 => ⟨S_, .i32⟩
  | 97 => ⟨S_, .i32⟩
  | 98 => ⟨S_, .i32⟩
  | 99 => ⟨S1x8x128x4x64, .f32⟩
  | 100 => ⟨S8x128x4x64, .f32⟩
  | 101 => ⟨S_, .i32⟩
  | 102 => ⟨S_, .i32⟩
  | 103 => ⟨S_, .i32⟩
  | 104 => ⟨S_, .i32⟩
  | 105 => ⟨S1x8x128x4x128, .f32⟩
  | 106 => ⟨S8x128x4x128, .f32⟩
  | 107 => ⟨S8x4x128x128, .f32⟩
  | 108 => ⟨S1x4x128x128, .f32⟩
  | 109 => ⟨S8x4x128x128, .f32⟩
  | 110 => ⟨S8x4x128x128, .f32⟩
  | 111 => ⟨S8x4x128x128, .f32⟩
  | 112 => ⟨S8x128x4x128, .f32⟩
  | 113 => ⟨S8x4x128x128, .f32⟩
  | 114 => ⟨S8x128x4x128, .f32⟩
  | 115 => ⟨S1x128x4x1, .f32⟩
  | 116 => ⟨S8x128x4x128, .f32⟩
  | 117 => ⟨S8x128x4x128, .f32⟩
  | 118 => ⟨S8x128x4x128, .f32⟩
  | 119 => ⟨S1x4x1x1, .f32⟩
  | 120 => ⟨S8x4x64x128, .f32⟩
  | 121 => ⟨S8x4x64x128, .f32⟩
  | 122 => ⟨S1x128x4x1, .f32⟩
  | 123 => ⟨S8x128x4x64, .f32⟩
  | 124 => ⟨S8x128x4x64, .f32⟩
  | 125 => ⟨S8x4x64x128, .f32⟩
  | 126 => ⟨S8x4x64x128, .f32⟩
  | 127 => ⟨S1x8x128x4x128, .f32⟩
  | _ => ⟨S8x4224x256, .bf16⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S33x8x128x4x128, .f32⟩
  | 5 => ⟨S_, .i32⟩
  | 6 => ⟨S_, .i32⟩
  | 7 => ⟨S8x33x128x4x128, .f32⟩
  | 8 => ⟨S8x4224x4x128, .f32⟩
  | 9 => ⟨S_, .f32⟩
  | 10 => ⟨S8x4224x4, .f32⟩
  | 11 => ⟨S8x4224x4x1, .f32⟩
  | 12 => ⟨S_, .f32⟩
  | 13 => ⟨S8x4224x4x1, .f32⟩
  | 14 => ⟨S8x4224x4x1, .f32⟩
  | 15 => ⟨S8x4224x4x128, .f32⟩
  | 16 => ⟨S8x4224x4x128, .f32⟩
  | 17 => ⟨S8x4224x4x128, .f32⟩
  | 18 => ⟨S_, .f32⟩
  | 19 => ⟨S8x4224x4, .f32⟩
  | 20 => ⟨S8x4224x4x1, .f32⟩
  | 21 => ⟨S_, .f32⟩
  | 22 => ⟨S8x4224x4x1, .f32⟩
  | 23 => ⟨S8x4224x4x1, .f32⟩
  | 24 => ⟨S8x4224x4x128, .f32⟩
  | 25 => ⟨S8x4224x4x128, .f32⟩
  | 26 => ⟨S_, .f32⟩
  | 27 => ⟨S8x4224x4x1, .f32⟩
  | 28 => ⟨S8x4224x4x1, .f32⟩
  | 29 => ⟨S8x4224x4x1, .f32⟩
  | 30 => ⟨S8x4224x4x128, .f32⟩
  | 31 => ⟨S8x4224x4x128, .f32⟩
  | 32 => ⟨S8x4224x512, .f32⟩
  | 33 => ⟨S8x4224x512, .f32⟩
  | 34 => ⟨S8x4224x512, .f32⟩
  | 35 => ⟨S8x4224x512, .f32⟩
  | 36 => ⟨S_, .f32⟩
  | 37 => ⟨S8x4224x512, .f32⟩
  | 38 => ⟨S8x4224x512, .f32⟩
  | 39 => ⟨S_, .f32⟩
  | 40 => ⟨S8x4224x512, .f32⟩
  | 41 => ⟨S8x4224x512, .f32⟩
  | 42 => ⟨S8x4224x512, .f32⟩
  | 43 => ⟨S8x4224x512, .f32⟩
  | 44 => ⟨S8x4224x512, .bf16⟩
  | _ => ⟨S8x4224x256, .bf16⟩

abbrev hbmTy (i : Nat) : BufTy := match i / 128 with
  | 0 => hbmTy0_0 i
  | 1 => hbmTy0_1 i
  | _ => ⟨S8x4224x256, .bf16⟩

abbrev bufTy : (tb : Table) → Fin (tcTables nBuf tb) → BufTy
  | .hbm, ⟨i, _⟩ => hbmTy i
  | _, _ => ⟨S8x4224x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_cst_0 : Ref sig .tc := ⟨.hbm, 11, rfl⟩
abbrev main_cst_1 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_c : Ref sig .tc := ⟨.hbm, 76, rfl⟩
abbrev main_v57_0 : Ref sig .tc := ⟨.hbm, 77, rfl⟩
abbrev main_v57_1 : Ref sig .tc := ⟨.hbm, 78, rfl⟩
abbrev main_v57_2 : Ref sig .tc := ⟨.hbm, 79, rfl⟩
abbrev main_v57_3 : Ref sig .tc := ⟨.hbm, 80, rfl⟩
abbrev main_v57_4 : Ref sig .tc := ⟨.hbm, 81, rfl⟩
abbrev main_v57_5 : Ref sig .tc := ⟨.hbm, 82, rfl⟩
abbrev main_v57_6 : Ref sig .tc := ⟨.hbm, 83, rfl⟩
abbrev main_v57_7 : Ref sig .tc := ⟨.hbm, 84, rfl⟩
abbrev main_v57_8 : Ref sig .tc := ⟨.hbm, 85, rfl⟩
abbrev main_v57_9 : Ref sig .tc := ⟨.hbm, 86, rfl⟩
abbrev main_while0c_c_25 : Ref sig .tc := ⟨.hbm, 87, rfl⟩
abbrev main_while0c_v83 : Ref sig .tc := ⟨.hbm, 88, rfl⟩
abbrev main_while0b_call1_c : Ref sig .tc := ⟨.hbm, 89, rfl⟩
abbrev main_while0b_call1_c_0 : Ref sig .tc := ⟨.hbm, 90, rfl⟩
abbrev main_while0b_call1_c_1 : Ref sig .tc := ⟨.hbm, 91, rfl⟩
abbrev main_while0b_call1_c_2 : Ref sig .tc := ⟨.hbm, 92, rfl⟩
abbrev main_while0b_call1_v0 : Ref sig .tc := ⟨.hbm, 93, rfl⟩
abbrev main_while0b_v83 : Ref sig .tc := ⟨.hbm, 94, rfl⟩
abbrev main_while0b_call2_c : Ref sig .tc := ⟨.hbm, 95, rfl⟩
abbrev main_while0b_call2_c_0 : Ref sig .tc := ⟨.hbm, 96, rfl⟩
abbrev main_while0b_call2_c_1 : Ref sig .tc := ⟨.hbm, 97, rfl⟩
abbrev main_while0b_call2_c_2 : Ref sig .tc := ⟨.hbm, 98, rfl⟩
abbrev main_while0b_call2_v0 : Ref sig .tc := ⟨.hbm, 99, rfl⟩
abbrev main_while0b_v84 : Ref sig .tc := ⟨.hbm, 100, rfl⟩
abbrev main_while0b_call3_c : Ref sig .tc := ⟨.hbm, 101, rfl⟩
abbrev main_while0b_call3_c_0 : Ref sig .tc := ⟨.hbm, 102, rfl⟩
abbrev main_while0b_call3_c_1 : Ref sig .tc := ⟨.hbm, 103, rfl⟩
abbrev main_while0b_call3_c_2 : Ref sig .tc := ⟨.hbm, 104, rfl⟩
abbrev main_while0b_call3_v0 : Ref sig .tc := ⟨.hbm, 105, rfl⟩
abbrev main_while0b_v85 : Ref sig .tc := ⟨.hbm, 106, rfl⟩
abbrev main_while0b_v86 : Ref sig .tc := ⟨.hbm, 107, rfl⟩
abbrev main_while0b_v87 : Ref sig .tc := ⟨.hbm, 108, rfl⟩
abbrev main_while0b_v88 : Ref sig .tc := ⟨.hbm, 109, rfl⟩
abbrev main_while0b_v89 : Ref sig .tc := ⟨.hbm, 110, rfl⟩
abbrev main_while0b_v90 : Ref sig .tc := ⟨.hbm, 111, rfl⟩
abbrev main_while0b_v91 : Ref sig .tc := ⟨.hbm, 112, rfl⟩
abbrev main_while0b_v92 : Ref sig .tc := ⟨.hbm, 113, rfl⟩
abbrev main_while0b_v93 : Ref sig .tc := ⟨.hbm, 114, rfl⟩
abbrev main_while0b_v94 : Ref sig .tc := ⟨.hbm, 115, rfl⟩
abbrev main_while0b_v95 : Ref sig .tc := ⟨.hbm, 116, rfl⟩
abbrev main_while0b_v96 : Ref sig .tc := ⟨.hbm, 117, rfl⟩
abbrev main_while0b_v97 : Ref sig .tc := ⟨.hbm, 118, rfl⟩
abbrev main_while0b_v98 : Ref sig .tc := ⟨.hbm, 119, rfl⟩
abbrev main_while0b_v99 : Ref sig .tc := ⟨.hbm, 120, rfl⟩
abbrev main_while0b_v100 : Ref sig .tc := ⟨.hbm, 121, rfl⟩
abbrev main_while0b_v101 : Ref sig .tc := ⟨.hbm, 122, rfl⟩
abbrev main_while0b_v102 : Ref sig .tc := ⟨.hbm, 123, rfl⟩
abbrev main_while0b_v103 : Ref sig .tc := ⟨.hbm, 124, rfl⟩
abbrev main_while0b_v104 : Ref sig .tc := ⟨.hbm, 125, rfl⟩
abbrev main_while0b_v105 : Ref sig .tc := ⟨.hbm, 126, rfl⟩
abbrev main_while0b_call4_v0 : Ref sig .tc := ⟨.hbm, 127, rfl⟩
abbrev main_while0b_call4_c : Ref sig .tc := ⟨.hbm, 128, rfl⟩
abbrev main_while0b_call4_c_0 : Ref sig .tc := ⟨.hbm, 129, rfl⟩
abbrev main_while0b_call4_c_1 : Ref sig .tc := ⟨.hbm, 130, rfl⟩
abbrev main_while0b_call4_c_2 : Ref sig .tc := ⟨.hbm, 131, rfl⟩
abbrev main_while0b_v106 : Ref sig .tc := ⟨.hbm, 132, rfl⟩
abbrev main_while0b_c_25 : Ref sig .tc := ⟨.hbm, 133, rfl⟩
abbrev main_while0b_v107 : Ref sig .tc := ⟨.hbm, 134, rfl⟩
abbrev main_v58 : Ref sig .tc := ⟨.hbm, 135, rfl⟩
abbrev main_v59 : Ref sig .tc := ⟨.hbm, 136, rfl⟩
abbrev main_cst_11 : Ref sig .tc := ⟨.hbm, 137, rfl⟩
abbrev main_v60 : Ref sig .tc := ⟨.hbm, 138, rfl⟩
abbrev main_v61 : Ref sig .tc := ⟨.hbm, 139, rfl⟩
abbrev main_cst_12 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_cst_13 : Ref sig .tc := ⟨.hbm, 146, rfl⟩
abbrev main_v67 : Ref sig .tc := ⟨.hbm, 147, rfl⟩
abbrev main_v68 : Ref sig .tc := ⟨.hbm, 148, rfl⟩
abbrev main_cst_14 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_cst_15 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_call5_v0 : Ref sig .tc := ⟨.hbm, 162, rfl⟩
abbrev main_call5_v1 : Ref sig .tc := ⟨.hbm, 163, rfl⟩
abbrev main_call5_cst : Ref sig .tc := ⟨.hbm, 164, rfl⟩
abbrev main_call5_v2 : Ref sig .tc := ⟨.hbm, 165, rfl⟩
abbrev main_call5_v3 : Ref sig .tc := ⟨.hbm, 166, rfl⟩
abbrev main_call5_cst_0 : Ref sig .tc := ⟨.hbm, 167, rfl⟩
abbrev main_call5_v4 : Ref sig .tc := ⟨.hbm, 168, rfl⟩
abbrev main_call5_v5 : Ref sig .tc := ⟨.hbm, 169, rfl⟩
abbrev main_v80 : Ref sig .tc := ⟨.hbm, 170, rfl⟩
abbrev main_v81 : Ref sig .tc := ⟨.hbm, 171, rfl⟩
abbrev main_v82 : Ref sig .tc := ⟨.hbm, 172, rfl⟩

abbrev nD : Nat := 1
abbrev τ : Topo := Topo.v7x

variable {F : FTy → Type} [FloatOps F]

abbrev main_while0_count : Scf.Loop 32 := ⟨0#32, 33#32, 1#32⟩
-- ==== MlpKernel.lean ====
abbrev S8x4224x1024 : Shape := ⟨3, ![8, 4224, 1024]⟩
abbrev S4x1024x4096 : Shape := ⟨3, ![4, 1024, 4096]⟩
abbrev S4x4096x1024 : Shape := ⟨3, ![4, 4096, 1024]⟩
abbrev S4x1024 : Shape := ⟨2, ![4, 1024]⟩
abbrev S1x1024 : Shape := ⟨2, ![1, 1024]⟩
abbrev S1024 : Shape := ⟨1, ![1024]⟩
abbrev S8x4096x1024 : Shape := ⟨3, ![8, 4096, 1024]⟩
abbrev S1x512x1024 : Shape := ⟨3, ![1, 512, 1024]⟩
abbrev S1x1024x4096 : Shape := ⟨3, ![1, 1024, 4096]⟩
abbrev S1x4096x1024 : Shape := ⟨3, ![1, 4096, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 14
  | .vmem => 8
  | .smem => 0
  | _ => 0

abbrev bufTy : (tb : Table) → Fin (tcTables nBuf tb) → BufTy
  | .hbm, ⟨0, _⟩ => ⟨S8x4224x1024, .f32⟩
  | .hbm, ⟨1, _⟩ => ⟨S4x1024x4096, .f32⟩
  | .hbm, ⟨2, _⟩ => ⟨S4x4096x1024, .f32⟩
  | .hbm, ⟨3, _⟩ => ⟨S4x1024, .f32⟩
  | .hbm, ⟨4, _⟩ => ⟨S4x1024, .f32⟩
  | .hbm, ⟨5, _⟩ => ⟨S4x1024x4096, .bf16⟩
  | .hbm, ⟨6, _⟩ => ⟨S4x4096x1024, .bf16⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x4096, .bf16⟩
  | .local _ .vmem, ⟨3, _⟩ => ⟨S1x4096x1024, .bf16⟩
  | .local _ .vmem, ⟨4, _⟩ => ⟨S1x1024, .f32⟩
  | .local _ .vmem, ⟨5, _⟩ => ⟨S1x1024, .f32⟩
  | .local _ .vmem, ⟨6, _⟩ => ⟨S1x512x1024, .f32⟩
  | .local _ .vmem, ⟨7, _⟩ => ⟨S1x512x1024, .f32⟩
  | _, _ => ⟨S8x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c128_i32 : BitVec 32 := 128#32
  let arg1 : BitVec 32 := BitVec.ofNat 32 (i 1).val
  let c512_i32 : BitVec 32 := 512#32
  let v0 : BitVec 32 := Scalar.muli arg1 c512_i32
  let v1 : BitVec 32 := Scalar.addi c128_i32 v0
  v1
def cc0_transform_0 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c128_i32 : BitVec 32 := 128#32
  let v1 : BitVec 32 := Scalar.addi c128_i32 v0
  let v2 : BitVec 32 := v1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MlpReferenceIdeal.lean ====
abbrev S8x4224x1024 : Shape := ⟨3, ![8, 4224, 1024]⟩
abbrev S4x1024x4096 : Shape := ⟨3, ![4, 1024, 4096]⟩
abbrev S4x4096x1024 : Shape := ⟨3, ![4, 4096, 1024]⟩
abbrev S4x1024 : Shape := ⟨2, ![4, 1024]⟩
abbrev S_ : Shape := ⟨0, ![]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x4224x4096 : Shape := ⟨3, ![8, 4224, 4096]⟩
abbrev S1x1024 : Shape := ⟨2, ![1, 1024]⟩
abbrev S1024 : Shape := ⟨1, ![1024]⟩
abbrev S8x4224 : Shape := ⟨2, ![8, 4224]⟩
abbrev S8x4224x1 : Shape := ⟨3, ![8, 4224, 1]⟩
abbrev S1x1x1024 : Shape := ⟨3, ![1, 1, 1024]⟩
abbrev S8x4096x1024 : Shape := ⟨3, ![8, 4096, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x4224x1024, .f32⟩
  | .hbm, ⟨1, _⟩ => ⟨S4x1024x4096, .f32⟩
  | .hbm, ⟨2, _⟩ => ⟨S4x4096x1024, .f32⟩
  | .hbm, ⟨3, _⟩ => ⟨S4x1024, .f32⟩
  | .hbm, ⟨4, _⟩ => ⟨S4x1024, .f32⟩
  | .hbm, ⟨5, _⟩ => ⟨S_, .f32⟩
  | .hbm, ⟨6, _⟩ => ⟨S8x4224x1024, .f32⟩
  | .hbm, ⟨7, _⟩ => ⟨S8x4224x1024, .f32⟩
  | .hbm, ⟨8, _⟩ => ⟨S1x1024x4096, .f32⟩
  | .hbm, ⟨9, _⟩ => ⟨S1024x4096, .f32⟩
  | .hbm, ⟨10, _⟩ => ⟨S1x4096x1024, .f32⟩
  | .hbm, ⟨11, _⟩ => ⟨S4096x1024, .f32⟩
  | .hbm, ⟨12, _⟩ => ⟨S8x4224x4096, .f32⟩
  | .hbm, ⟨13, _⟩ => ⟨S_, .f32⟩
  | .hbm, ⟨14, _⟩ => ⟨S8x4224x4096, .f32⟩
  | .hbm, ⟨15, _⟩ => ⟨S8x4224x4096, .f32⟩
  | .hbm, ⟨16, _⟩ => ⟨S8x4224x4096, .f32⟩
  | .hbm, ⟨17, _⟩ => ⟨S8x4224x1024, .f32⟩
  | .hbm, ⟨18, _⟩ => ⟨S8x4224x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S_, .f32⟩
  | .hbm, ⟨24, _⟩ => ⟨S8x4224, .f32⟩
  | .hbm, ⟨25, _⟩ => ⟨S8x4224x1, .f32⟩
  | .hbm, ⟨26, _⟩ => ⟨S_, .f32⟩
  | .hbm, ⟨27, _⟩ => ⟨S8x4224x1, .f32⟩
  | .hbm, ⟨28, _⟩ => ⟨S8x4224x1, .f32⟩
  | .hbm, ⟨29, _⟩ => ⟨S8x4224x1024, .f32⟩
  | .hbm, ⟨30, _⟩ => ⟨S8x4224x1024, .f32⟩
  | .hbm, ⟨31, _⟩ => ⟨S8x4224x1024, .f32⟩
  | .hbm, ⟨32, _⟩ => ⟨S_, .f32⟩
  | .hbm, ⟨33, _⟩ => ⟨S8x4224, .f32⟩
  | .hbm, ⟨34, _⟩ => ⟨S8x4224x1, .f32⟩
  | .hbm, ⟨35, _⟩ => ⟨S_, .f32⟩
  | .hbm, ⟨36, _⟩ => ⟨S8x4224x1, .f32⟩
  | .hbm, ⟨37, _⟩ => ⟨S8x4224x1, .f32⟩
  | .hbm, ⟨38, _⟩ => ⟨S8x4224x1024, .f32⟩
  | .hbm, ⟨39, _⟩ => ⟨S8x4224x1024, .f32⟩
  | .hbm, ⟨40, _⟩ => ⟨S_, .f32⟩
  | .hbm, ⟨41, _⟩ => ⟨S8x4224x1, .f32⟩
  | .hbm, ⟨42, _⟩ => ⟨S8x4224x1, .f32⟩
  | .hbm, ⟨43, _⟩ => ⟨S8x4224x1, .f32⟩
  | .hbm, ⟨44, _⟩ => ⟨S8x4224x1024, .f32⟩
  | .hbm, ⟨45, _⟩ => ⟨S8x4224x1024, .f32⟩
  | .hbm, ⟨46, _⟩ => ⟨S1x1x1024, .f32⟩
  | .hbm, ⟨47, _⟩ => ⟨S8x4224x1024, .f32⟩
  | .hbm, ⟨48, _⟩ => ⟨S8x4224x1024, .f32⟩
  | .hbm, ⟨49, _⟩ => ⟨S1x1x1024, .f32⟩
  | .hbm, ⟨50, _⟩ => ⟨S8x4224x1024, .f32⟩
  | .hbm, ⟨51, _⟩ => ⟨S8x4224x1024, .f32⟩
  | .hbm, ⟨52, _⟩ => ⟨S8x4096x1024, .f32⟩
  | _, _ => ⟨S8x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_cst : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== OutKernel.lean ====
abbrev S8x4224x512 : Shape := ⟨3, ![8, 4224, 512]⟩
abbrev S8x4224x1024 : Shape := ⟨3, ![8, 4224, 1024]⟩
abbrev S4x1536x1024 : Shape := ⟨3, ![4, 1536, 1024]⟩
abbrev S4x1024 : Shape := ⟨2, ![4, 1024]⟩
abbrev S1x1024 : Shape := ⟨2, ![1, 1024]⟩
abbrev S1024 : Shape := ⟨1, ![1024]⟩
abbrev S1x704x512 : Shape := ⟨3, ![1, 704, 512]⟩
abbrev S1x704x1024 : Shape := ⟨3, ![1, 704, 1024]⟩
abbrev S1x1536x1024 : Shape := ⟨3, ![1, 1536, 1024]⟩
abbrev S1x352x512 : Shape := ⟨3, ![1, 352, 512]⟩
abbrev S352x512 : Shape := ⟨2, ![352, 512]⟩
abbrev S1x512x1024 : Shape := ⟨3, ![1, 512, 1024]⟩
abbrev S512x1024 : Shape := ⟨2, ![512, 1024]⟩
abbrev S352x1024 : Shape := ⟨2, ![352, 1024]⟩
abbrev S1x352x1024 : Shape := ⟨3, ![1, 352, 1024]⟩
abbrev S352 : Shape := ⟨1, ![352]⟩
abbrev S352x1 : Shape := ⟨2, ![352, 1]⟩

abbrev nBuf : Space → Nat
  | .hbm => 15
  | .vmem => 13
  | .smem => 0
  | _ => 0

abbrev bufTy : (tb : Table) → Fin (tcTables nBuf tb) → BufTy
  | .hbm, ⟨0, _⟩ => ⟨S8x4224x512, .f32⟩
  | .hbm, ⟨1, _⟩ => ⟨S8x4224x512, .bf16⟩
  | .hbm, ⟨2, _⟩ => ⟨S8x4224x512, .bf16⟩
  | .hbm, ⟨3, _⟩ => ⟨S8x4224x1024, .f32⟩
  | .hbm, ⟨4, _⟩ => ⟨S4x1536x1024, .f32⟩
  | .hbm, ⟨5, _⟩ => ⟨S4x1024, .f32⟩
  | .hbm, ⟨6, _⟩ => ⟨S4x1024, .f32⟩
  | .hbm, ⟨7, _⟩ => ⟨S4x1536x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S8x4224x1024, .f32⟩
  | .local _ .vmem, ⟨0, _⟩ => ⟨S1x704x512, .f32⟩
  | .local _ .vmem, ⟨1, _⟩ => ⟨S1x704x512, .f32⟩
  | .local _ .vmem, ⟨2, _⟩ => ⟨S1x704x512, .bf16⟩
  | .local _ .vmem, ⟨3, _⟩ => ⟨S1x704x512, .bf16⟩
  | .local _ .vmem, ⟨4, _⟩ => ⟨S1x704x512, .bf16⟩
  | .local _ .vmem, ⟨5, _⟩ => ⟨S1x704x512, .bf16⟩
  | .local _ .vmem, ⟨6, _⟩ => ⟨S1x704x1024, .f32⟩
  | .local _ .vmem, ⟨7, _⟩ => ⟨S1x704x1024, .f32⟩
  | .local _ .vmem, ⟨8, _⟩ => ⟨S1x1536x1024, .bf16⟩
  | .local _ .vmem, ⟨9, _⟩ => ⟨S1x1024, .f32⟩
  | .local _ .vmem, ⟨10, _⟩ => ⟨S1x1024, .f32⟩
  | .local _ .vmem, ⟨11, _⟩ => ⟨S1x704x1024, .f32⟩
  | .local _ .vmem, ⟨12, _⟩ => ⟨S1x704x1024, .f32⟩
  | _, _ => ⟨S8x4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x704x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x704x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutReferenceIdeal.lean ====
abbrev S8x4224x512 : Shape := ⟨3, ![8, 4224, 512]⟩
abbrev S8x4224x1024 : Shape := ⟨3, ![8, 4224, 1024]⟩
abbrev S4x1536x1024 : Shape := ⟨3, ![4, 1536, 1024]⟩
abbrev S4x1024 : Shape := ⟨2, ![4, 1024]⟩
abbrev S8x4224x1536 : Shape := ⟨3, ![8, 4224, 1536]⟩
abbrev S_ : Shape := ⟨0, ![]⟩
abbrev S1x1536x1024 : Shape := ⟨3, ![1, 1536, 1024]⟩
abbrev S1536x1024 : Shape := ⟨2, ![1536, 1024]⟩
abbrev S1x1024 : Shape := ⟨2, ![1, 1024]⟩
abbrev S1024 : Shape := ⟨1, ![1024]⟩
abbrev S8x4224 : Shape := ⟨2, ![8, 4224]⟩
abbrev S8x4224x1 : Shape := ⟨3, ![8, 4224, 1]⟩
abbrev S1x1x1024 : Shape := ⟨3, ![1, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x4224x512, .f32⟩
  | .hbm, ⟨1, _⟩ => ⟨S8x4224x512, .bf16⟩
  | .hbm, ⟨2, _⟩ => ⟨S8x4224x512, .bf16⟩
  | .hbm, ⟨3, _⟩ => ⟨S8x4224x1024, .f32⟩
  | .hbm, ⟨4, _⟩ => ⟨S4x1536x1024, .f32⟩
  | .hbm, ⟨5, _⟩ => ⟨S4x1024, .f32⟩
  | .hbm, ⟨6, _⟩ => ⟨S4x1024, .f32⟩
  | .hbm, ⟨7, _⟩ => ⟨S8x4224x512, .f32⟩
  | .hbm, ⟨8, _⟩ => ⟨S8x4224x512, .f32⟩
  | .hbm, ⟨9, _⟩ => ⟨S8x4224x1536, .f32⟩
  | .hbm, ⟨10, _⟩ => ⟨S_, .f32⟩
  | .hbm, ⟨11, _⟩ => ⟨S8x4224x1024, .f32⟩
  | .hbm, ⟨12, _⟩ => ⟨S8x4224x1024, .f32⟩
  | .hbm, ⟨13, _⟩ => ⟨S1x1536x1024, .f32⟩
  | .hbm, ⟨14, _⟩ => ⟨S1536x1024, .f32⟩
  | .hbm, ⟨15, _⟩ => ⟨S8x4224x1024, .f32⟩
  | .hbm, ⟨16, _⟩ => ⟨S8x4224x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S_, .f32⟩
  | .hbm, ⟨22, _⟩ => ⟨S8x4224, .f32⟩
  | .hbm, ⟨23, _⟩ => ⟨S8x4224x1, .f32⟩
  | .hbm, ⟨24, _⟩ => ⟨S_, .f32⟩
  | .hbm, ⟨25, _⟩ => ⟨S8x4224x1, .f32⟩
  | .hbm, ⟨26, _⟩ => ⟨S8x4224x1, .f32⟩
  | .hbm, ⟨27, _⟩ => ⟨S8x4224x1024, .f32⟩
  | .hbm, ⟨28, _⟩ => ⟨S8x4224x1024, .f32⟩
  | .hbm, ⟨29, _⟩ => ⟨S8x4224x1024, .f32⟩
  | .hbm, ⟨30, _⟩ => ⟨S_, .f32⟩
  | .hbm, ⟨31, _⟩ => ⟨S8x4224, .f32⟩
  | .hbm, ⟨32, _⟩ => ⟨S8x4224x1, .f32⟩
  | .hbm, ⟨33, _⟩ => ⟨S_, .f32⟩
  | .hbm, ⟨34, _⟩ => ⟨S8x4224x1, .f32⟩
  | .hbm, ⟨35, _⟩ => ⟨S8x4224x1, .f32⟩
  | .hbm, ⟨36, _⟩ => ⟨S8x4224x1024, .f32⟩
  | .hbm, ⟨37, _⟩ => ⟨S8x4224x1024, .f32⟩
  | .hbm, ⟨38, _⟩ => ⟨S_, .f32⟩
  | .hbm, ⟨39, _⟩ => ⟨S8x4224x1, .f32⟩
  | .hbm, ⟨40, _⟩ => ⟨S8x4224x1, .f32⟩
  | .hbm, ⟨41, _⟩ => ⟨S8x4224x1, .f32⟩
  | .hbm, ⟨42, _⟩ => ⟨S8x4224x1024, .f32⟩
  | .hbm, ⟨43, _⟩ => ⟨S8x4224x1024, .f32⟩
  | .hbm, ⟨44, _⟩ => ⟨S1x1x1024, .f32⟩
  | .hbm, ⟨45, _⟩ => ⟨S8x4224x1024, .f32⟩
  | .hbm, ⟨46, _⟩ => ⟨S8x4224x1024, .f32⟩
  | .hbm, ⟨47, _⟩ => ⟨S1x1x1024, .f32⟩
  | .hbm, ⟨48, _⟩ => ⟨S8x4224x1024, .f32⟩
  | .hbm, ⟨49, _⟩ => ⟨S8x4224x1024, .f32⟩
  | _, _ => ⟨S8x4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== ProjKernel.lean ====
abbrev S8x4224x1024 : Shape := ⟨3, ![8, 4224, 1024]⟩
abbrev S4x1024x3744 : Shape := ⟨3, ![4, 1024, 3744]⟩
abbrev S4x384 : Shape := ⟨2, ![4, 384]⟩
abbrev S4x256 : Shape := ⟨2, ![4, 256]⟩
abbrev S4x384x768 : Shape := ⟨3, ![4, 384, 768]⟩
abbrev S4x256x1024 : Shape := ⟨3, ![4, 256, 1024]⟩
abbrev S4x1024x2176 : Shape := ⟨3, ![4, 1024, 2176]⟩
abbrev S_ : Shape := ⟨0, ![]⟩
abbrev S4x1024x64 : Shape := ⟨3, ![4, 1024, 64]⟩
abbrev S4x1024x32 : Shape := ⟨3, ![4, 1024, 32]⟩
abbrev S4x1024x1536 : Shape := ⟨3, ![4, 1024, 1536]⟩
abbrev S4x1024x3840 : Shape := ⟨3, ![4, 1024, 3840]⟩
abbrev S4x384x8x96 : Shape := ⟨4, ![4, 384, 8, 96]⟩
abbrev S4x384x8x128 : Shape := ⟨4, ![4, 384, 8, 128]⟩
abbrev S4x384x1024 : Shape := ⟨3, ![4, 384, 1024]⟩
abbrev S4x256x8x128 : Shape := ⟨4, ![4, 256, 8, 128]⟩
abbrev S4x256x8x64 : Shape := ⟨4, ![4, 256, 8, 64]⟩
abbrev S4x256x512 : Shape := ⟨3, ![4, 256, 512]⟩
abbrev S4224 : Shape := ⟨1, ![4224]⟩
abbrev S16 : Shape := ⟨1, ![16]⟩
abbrev S4224x1 : Shape := ⟨2, ![4224, 1]⟩
abbrev S1x16 : Shape := ⟨2, ![1, 16]⟩
abbrev S4224x16 : Shape := ⟨2, ![4224, 16]⟩
abbrev S4224x64 : Shape := ⟨2, ![4224, 64]⟩
abbrev S4224x32 : Shape := ⟨2, ![4224, 32]⟩
abbrev S4224x128 : Shape := ⟨2, ![4224, 128]⟩
abbrev S1x4224x128 : Shape := ⟨3, ![1, 4224, 128]⟩
abbrev S3x4224x128 : Shape := ⟨3, ![3, 4224, 128]⟩
abbrev S32 : Shape := ⟨1, ![32]⟩
abbrev S1x32 : Shape := ⟨2, ![1, 32]⟩
abbrev S1x384 : Shape := ⟨2, ![1, 384]⟩
abbrev S384 : Shape := ⟨1, ![384]⟩
abbrev S1x256 : Shape := ⟨2, ![1, 256]⟩
abbrev S256 : Shape := ⟨1, ![256]⟩
abbrev S8x4224x512 : Shape := ⟨3, ![8, 4224, 512]⟩
abbrev S8x4224x256 : Shape := ⟨3, ![8, 4224, 256]⟩
abbrev S1x704x1024 : Shape := ⟨3, ![1, 704, 1024]⟩
abbrev S1x1024x3840 : Shape := ⟨3, ![1, 1024, 3840]⟩
abbrev S1x384x1024 : Shape := ⟨3, ![1, 384, 1024]⟩
abbrev S1x256x1024 : Shape := ⟨3, ![1, 256, 1024]⟩
abbrev S1x256x512 : Shape := ⟨3, ![1, 256, 512]⟩
abbrev S3x704x128 : Shape := ⟨3, ![3, 704, 128]⟩
abbrev S1x704x512 : Shape := ⟨3, ![1, 704, 512]⟩
abbrev S1x704x256 : Shape := ⟨3, ![1, 704, 256]⟩
abbrev S704x1024 : Shape := ⟨2, ![704, 1024]⟩
abbrev S1x1024x1536 : Shape := ⟨3, ![1, 1024, 1536]⟩
abbrev S1024x1536 : Shape := ⟨2, ![1024, 1536]⟩
abbrev S704x1536 : Shape := ⟨2, ![704, 1536]⟩
abbrev S704x512 : Shape := ⟨2, ![704, 512]⟩
abbrev S1x1024x768 : Shape := ⟨3, ![1, 1024, 768]⟩
abbrev S1024x768 : Shape := ⟨2, ![1024, 768]⟩
abbrev S704x768 : Shape := ⟨2, ![704, 768]⟩
abbrev S704x384 : Shape := ⟨2, ![704, 384]⟩
abbrev S704 : Shape := ⟨1, ![704]⟩
abbrev S704x1 : Shape := ⟨2, ![704, 1]⟩
abbrev S384x1024 : Shape := ⟨2, ![384, 1024]⟩
abbrev S704x128 : Shape := ⟨2, ![704, 128]⟩
abbrev S1x704x128 : Shape := ⟨3, ![1, 704, 128]⟩
abbrev S704x256 : Shape := ⟨2, ![704, 256]⟩
abbrev S256x1024 : Shape := ⟨2, ![256, 1024]⟩
abbrev S256x512 : Shape := ⟨2, ![256, 512]⟩

abbrev nBuf : Space → Nat
  | .hbm => 118
  | .vmem => 32
  | .smem => 0
  | _ => 0

abbrev bufTy : (tb : Table) → Fin (tcTables nBuf tb) → BufTy
  | .hbm, ⟨0, _⟩ => ⟨S8x4224x1024, .f32⟩
  | .hbm, ⟨1, _⟩ => ⟨S4x1024x3744, .f32⟩
  | .hbm, ⟨2, _⟩ => ⟨S4x384, .f32⟩
  | .hbm, ⟨3, _⟩ => ⟨S4x256, .f32⟩
  | .hbm, ⟨4, _⟩ => ⟨S4x384x768, .f32⟩
  | .hbm, ⟨5, _⟩ => ⟨S4x256x1024, .f32⟩
  | .hbm, ⟨6, _⟩ => ⟨S4x1024x2176, .f32⟩
  | .hbm, ⟨7, _⟩ => ⟨S_, .f32⟩
  | .hbm, ⟨8, _⟩ => ⟨S4x1024x64, .f32⟩
  | .hbm, ⟨9, _⟩ => ⟨S4x1024x32, .f32⟩
  | .hbm, ⟨10, _⟩ => ⟨S_, .f32⟩
  | .hbm, ⟨11, _⟩ => ⟨S4x1024x32, .f32⟩
  | .hbm, ⟨12, _⟩ => ⟨S4x1024x1536, .f32⟩
  | .hbm, ⟨13, _⟩ => ⟨S4x1024x3840, .f32⟩
  | .hbm, ⟨14, _⟩ => ⟨S4x1024x3840, .bf16⟩
  | .hbm, ⟨15, _⟩ => ⟨S4x384x8x96, .f32⟩
  | .hbm, ⟨16, _⟩ => ⟨S_, .i32⟩
  | .hbm, ⟨17, _⟩ => ⟨S_, .f32⟩
  | .hbm, ⟨18, _⟩ => ⟨S4x384x8x128, .f32⟩
  | .hbm, ⟨19, _⟩ => ⟨S4x384x1024, .f32⟩
  | .hbm, ⟨20, _⟩ => ⟨S4x384x1024, .bf16⟩
  | .hbm, ⟨21, _⟩ => ⟨S4x256x8x128, .f32⟩
  | .hbm, ⟨22, _⟩ => ⟨S4x256x8x64, .f32⟩
  | .hbm, ⟨23, _⟩ => ⟨S_, .i32⟩
  | .hbm, ⟨24, _⟩ => ⟨S_, .f32⟩
  | .hbm, ⟨25, _⟩ => ⟨S4x256x8x128, .f32⟩
  | .hbm, ⟨26, _⟩ => ⟨S4x256x1024, .f32⟩
  | .hbm, ⟨27, _⟩ => ⟨S4x256x1024, .bf16⟩
  | .hbm, ⟨28, _⟩ => ⟨S4x256x8x64, .f32⟩
  | .hbm, ⟨29, _⟩ => ⟨S4x256x512, .f32⟩
  | .hbm, ⟨30, _⟩ => ⟨S4x256x512, .bf16⟩
  | .hbm, ⟨31, _⟩ => ⟨S4224, .i32⟩
  | .hbm, ⟨32, _⟩ => ⟨S_, .i32⟩
  | .hbm, ⟨33, _⟩ => ⟨S4224, .i32⟩
  | .hbm, ⟨34, _⟩ => ⟨S4224, .i32⟩
  | .hbm, ⟨35, _⟩ => ⟨S4224, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S4224x1, .f32⟩
  | .hbm, ⟨45, _⟩ => ⟨S1x16, .f32⟩
  | .hbm, ⟨46, _⟩ => ⟨S4224x16, .f32⟩
  | .hbm, ⟨47, _⟩ => ⟨S4224x16, .f32⟩
  | .hbm, ⟨48, _⟩ => ⟨S4224x16, .f32⟩
  | .hbm, ⟨49, _⟩ => ⟨S4224x16, .f32⟩
  | .hbm, ⟨50, _⟩ => ⟨S4224x16, .f32⟩
  | .hbm, ⟨51, _⟩ => ⟨S_, .f32⟩
  | .hbm, ⟨52, _⟩ => ⟨S4224x64, .f32⟩
  | .hbm, ⟨53, _⟩ => ⟨S_, .f32⟩
  | .hbm, ⟨54, _⟩ => ⟨S4224x32, .f32⟩
  | .hbm, ⟨55, _⟩ => ⟨S4224x128, .f32⟩
  | .hbm, ⟨56, _⟩ => ⟨S_, .f32⟩
  | .hbm, ⟨57, _⟩ => ⟨S4224x64, .f32⟩
  | .hbm, ⟨58, _⟩ => ⟨S4224x16, .f32⟩
  | .hbm, ⟨59, _⟩ => ⟨S_, .f32⟩
  | .hbm, ⟨60, _⟩ => ⟨S4224x16, .f32⟩
  | .hbm, ⟨61, _⟩ => ⟨S_, .f32⟩
  | .hbm, ⟨62, _⟩ => ⟨S4224x32, .f32⟩
  | .hbm, ⟨63, _⟩ => ⟨S4224x128, .f32⟩
  | .hbm, ⟨64, _⟩ => ⟨S_, .f32⟩
  | .hbm, ⟨65, _⟩ => ⟨S4224x64, .f32⟩
  | .hbm, ⟨66, _⟩ => ⟨S_, .f32⟩
  | .hbm, ⟨67, _⟩ => ⟨S4224x16, .f32⟩
  | .hbm, ⟨68, _⟩ => ⟨S_, .f32⟩
  | .hbm, ⟨69, _⟩ => ⟨S4224x32, .f32⟩
  | .hbm, ⟨70, _⟩ => ⟨S4224x128, .f32⟩
  | .hbm, ⟨71, _⟩ => ⟨S1x4224x128, .f32⟩
  | .hbm, ⟨72, _⟩ => ⟨S1x4224x128, .f32⟩
  | .hbm, ⟨73, _⟩ => ⟨S1x4224x128, .f32⟩
  | .hbm, ⟨74, _⟩ => ⟨S3x4224x128, .f32⟩
  | .hbm, ⟨75, _⟩ => ⟨S32, .f32⟩
  | .hbm, ⟨76, _⟩ => ⟨S32, .f32⟩
  | .hbm, ⟨77, _⟩ => ⟨S_, .f32⟩
  | .hbm, ⟨78, _⟩ => ⟨S32, .f32⟩
  | .hbm, ⟨79, _⟩ => ⟨S32, .f32⟩
  | .hbm, ⟨80, _⟩ => ⟨S_, .f32⟩
  | .hbm, ⟨81, _⟩ => ⟨S32, .f32⟩
  | .hbm, ⟨82, _⟩ => ⟨S32, .f32⟩
  | .hbm, ⟨83, _⟩ => ⟨S4224x1, .f32⟩
  | .hbm, ⟨84, _⟩ => ⟨S1x32, .f32⟩
  | .hbm, ⟨85, _⟩ => ⟨S4224x32, .f32⟩
  | .hbm, ⟨86, _⟩ => ⟨S4224x32, .f32⟩
  | .hbm, ⟨87, _⟩ => ⟨S4224x32, .f32⟩
  | .hbm, ⟨88, _⟩ => ⟨S4224x32, .f32⟩
  | .hbm, ⟨89, _⟩ => ⟨S4224x32, .f32⟩
  | .hbm, ⟨90, _⟩ => ⟨S4224x128, .f32⟩
  | .hbm, ⟨91, _⟩ => ⟨S4224x32, .f32⟩
  | .hbm, ⟨92, _⟩ => ⟨S_, .f32⟩
  | .hbm, ⟨93, _⟩ => ⟨S4224x32, .f32⟩
  | .hbm, ⟨94, _⟩ => ⟨S4224x128, .f32⟩
  | .hbm, ⟨95, _⟩ => ⟨S_, .f32⟩
  | .hbm, ⟨96, _⟩ => ⟨S4224x32, .f32⟩
  | .hbm, ⟨97, _⟩ => ⟨S4224x128, .f32⟩
  | .hbm, ⟨98, _⟩ => ⟨S1x4224x128, .f32⟩
  | .hbm, ⟨99, _⟩ => ⟨S1x4224x128, .f32⟩
  | .hbm, ⟨100, _⟩ => ⟨S1x4224x128, .f32⟩
  | .hbm, ⟨101, _⟩ => ⟨S3x4224x128, .f32⟩
  | .hbm, ⟨102, _⟩ => ⟨S1x384, .f32⟩
  | .hbm, ⟨103, _⟩ => ⟨S384, .f32⟩
  | .hbm, ⟨104, _⟩ => ⟨S1x384, .f32⟩
  | .hbm, ⟨105, _⟩ => ⟨S1x256, .f32⟩
  | .hbm, ⟨106, _⟩ => ⟨S256, .f32⟩
  | .hbm, ⟨107, _⟩ => ⟨S1x256, .f32⟩
  | .hbm, ⟨108, _⟩ => ⟨S8x4224x512, .bf16⟩
  | .hbm, ⟨109, _⟩ => ⟨S8x4224x512, .bf16⟩
  | .hbm, ⟨110, _⟩ => ⟨S8x4224x512, .bf16⟩
  | .hbm, ⟨111, _⟩ => ⟨S8x4224x1024, .bf16⟩
  | .hbm, ⟨112, _⟩ => ⟨S8x4224x1024, .bf16⟩
  | .hbm, ⟨113, _⟩ => ⟨S8x4224x1024, .bf16⟩
  | .hbm, ⟨114, _⟩ => ⟨S8x4224x256, .bf16⟩
  | .hbm, ⟨115, _⟩ => ⟨S8x4224x256, .bf16⟩
  | .hbm, ⟨116, _⟩ => ⟨S8x4224x512, .bf16⟩
  | .hbm, ⟨117, _⟩ => ⟨S8x4224x512, .bf16⟩
  | .local _ .vmem, ⟨0, _⟩ => ⟨S1x704x1024, .f32⟩
  | .local _ .vmem, ⟨1, _⟩ => ⟨S1x704x1024, .f32⟩
  | .local _ .vmem, ⟨2, _⟩ => ⟨S1x1024x3840, .bf16⟩
  | .local _ .vmem, ⟨3, _⟩ => ⟨S1x384, .f32⟩
  | .local _ .vmem, ⟨4, _⟩ => ⟨S1x256, .f32⟩
  | .local _ .vmem, ⟨5, _⟩ => ⟨S1x384x1024, .bf16⟩
  | .local _ .vmem, ⟨6, _⟩ => ⟨S1x256x1024, .bf16⟩
  | .local _ .vmem, ⟨7, _⟩ => ⟨S1x256x512, .bf16⟩
  | .local _ .vmem, ⟨8, _⟩ => ⟨S3x704x128, .f32⟩
  | .local _ .vmem, ⟨9, _⟩ => ⟨S3x704x128, .f32⟩
  | .local _ .vmem, ⟨10, _⟩ => ⟨S3x704x128, .f32⟩
  | .local _ .vmem, ⟨11, _⟩ => ⟨S3x704x128, .f32⟩
  | .local _ .vmem, ⟨12, _⟩ => ⟨S1x704x512, .bf16⟩
  | .local _ .vmem, ⟨13, _⟩ => ⟨S1x704x512, .bf16⟩
  | .local _ .vmem, ⟨14, _⟩ => ⟨S1x704x512, .bf16⟩
  | .local _ .vmem, ⟨15, _⟩ => ⟨S1x704x512, .bf16⟩
  | .local _ .vmem, ⟨16, _⟩ => ⟨S1x704x512, .bf16⟩
  | .local _ .vmem, ⟨17, _⟩ => ⟨S1x704x512, .bf16⟩
  | .local _ .vmem, ⟨18, _⟩ => ⟨S1x704x1024, .bf16⟩
  | .local _ .vmem, ⟨19, _⟩ => ⟨S1x704x1024, .bf16⟩
  | .local _ .vmem, ⟨20, _⟩ => ⟨S1x704x1024, .bf16⟩
  | .local _ .vmem, ⟨21, _⟩ => ⟨S1x704x1024, .bf16⟩
  | .local _ .vmem, ⟨22, _⟩ => ⟨S1x704x1024, .bf16⟩
  | .local _ .vmem, ⟨23, _⟩ => ⟨S1x704x1024, .bf16⟩
  | .local _ .vmem, ⟨24, _⟩ => ⟨S1x704x256, .bf16⟩
  | .local _ .vmem, ⟨25, _⟩ => ⟨S1x704x256, .bf16⟩
  | .local _ .vmem, ⟨26, _⟩ => ⟨S1x704x256, .bf16⟩
  | .local _ .vmem, ⟨27, _⟩ => ⟨S1x704x256, .bf16⟩
  | .local _ .vmem, ⟨28, _⟩ => ⟨S1x704x512, .bf16⟩
  | .local _ .vmem, ⟨29, _⟩ => ⟨S1x704x512, .bf16⟩
  | .local _ .vmem, ⟨30, _⟩ => ⟨S1x704x512, .bf16⟩
  | .local _ .vmem, ⟨31, _⟩ => ⟨S1x704x512, .bf16⟩
  | _, _ => ⟨S8x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_call1_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_cst_12 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_13 : Ref sig .tc := ⟨.hbm, 77, rfl⟩
abbrev main_v54 : Ref sig .tc := ⟨.hbm, 78, rfl⟩
abbrev main_v55 : Ref sig .tc := ⟨.hbm, 79, rfl⟩
abbrev main_cst_14 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_15 : Ref sig .tc := ⟨.hbm, 92, rfl⟩
abbrev main_v67 : Ref sig .tc := ⟨.hbm, 93, rfl⟩
abbrev main_v68 : Ref sig .tc := ⟨.hbm, 94, rfl⟩
abbrev main_cst_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81_0 : Ref sig .tc := ⟨.hbm, 108, rfl⟩
abbrev main_v81_1 : Ref sig .tc := ⟨.hbm, 109, rfl⟩
abbrev main_v81_2 : Ref sig .tc := ⟨.hbm, 110, rfl⟩
abbrev main_v81_3 : Ref sig .tc := ⟨.hbm, 111, rfl⟩
abbrev main_v81_4 : Ref sig .tc := ⟨.hbm, 112, rfl⟩
abbrev main_v81_5 : Ref sig .tc := ⟨.hbm, 113, rfl⟩
abbrev main_v81_6 : Ref sig .tc := ⟨.hbm, 114, rfl⟩
abbrev main_v81_7 : Ref sig .tc := ⟨.hbm, 115, rfl⟩
abbrev main_v81_8 : Ref sig .tc := ⟨.hbm, 116, rfl⟩
abbrev main_v81_9 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨2, ![8, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x704x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x3840 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S3x704x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S3x704x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x704x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x704x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x704x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x704x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x704x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x704x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x704x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x704x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x704x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x704x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== ProjReferenceIdeal.lean ====
abbrev S8x4224x1024 : Shape := ⟨3, ![8, 4224, 1024]⟩
abbrev S4x1024x3744 : Shape := ⟨3, ![4, 1024, 3744]⟩
abbrev S4x384 : Shape := ⟨2, ![4, 384]⟩
abbrev S4x256 : Shape := ⟨2, ![4, 256]⟩
abbrev S4x384x768 : Shape := ⟨3, ![4, 384, 768]⟩
abbrev S4x256x1024 : Shape := ⟨3, ![4, 256, 1024]⟩
abbrev S4224 : Shape := ⟨1, ![4224]⟩
abbrev S_ : Shape := ⟨0, ![]⟩
abbrev S1x1024x3744 : Shape := ⟨3, ![1, 1024, 3744]⟩
abbrev S1024x3744 : Shape := ⟨2, ![1024, 3744]⟩
abbrev S8x4224x3744 : Shape := ⟨3, ![8, 4224, 3744]⟩
abbrev S8x4224x512 : Shape := ⟨3, ![8, 4224, 512]⟩
abbrev S8x4224x384 : Shape := ⟨3, ![8, 4224, 384]⟩
abbrev S8x4224x256 : Shape := ⟨3, ![8, 4224, 256]⟩
abbrev S8x4224x32 : Shape := ⟨3, ![8, 4224, 32]⟩
abbrev S1x384 : Shape := ⟨2, ![1, 384]⟩
abbrev S384 : Shape := ⟨1, ![384]⟩
abbrev S8x4224 : Shape := ⟨2, ![8, 4224]⟩
abbrev S8x4224x1 : Shape := ⟨3, ![8, 4224, 1]⟩
abbrev S1x1x384 : Shape := ⟨3, ![1, 1, 384]⟩
abbrev S1x384x768 : Shape := ⟨3, ![1, 384, 768]⟩
abbrev S384x768 : Shape := ⟨2, ![384, 768]⟩
abbrev S8x4224x768 : Shape := ⟨3, ![8, 4224, 768]⟩
abbrev S8x4224x8x96 : Shape := ⟨4, ![8, 4224, 8, 96]⟩
abbrev S8x4224x8x64 : Shape := ⟨4, ![8, 4224, 8, 64]⟩
abbrev S8x4224x8x32 : Shape := ⟨4, ![8, 4224, 8, 32]⟩
abbrev S16 : Shape := ⟨1, ![16]⟩
abbrev S4224x1 : Shape := ⟨2, ![4224, 1]⟩
abbrev S1x16 : Shape := ⟨2, ![1, 16]⟩
abbrev S4224x16 : Shape := ⟨2, ![4224, 16]⟩
abbrev S4224x1x16 : Shape := ⟨3, ![4224, 1, 16]⟩
abbrev S8x4224x8x16 : Shape := ⟨4, ![8, 4224, 8, 16]⟩
abbrev S1x4224x1x16 : Shape := ⟨4, ![1, 4224, 1, 16]⟩
abbrev S1x256 : Shape := ⟨2, ![1, 256]⟩
abbrev S256 : Shape := ⟨1, ![256]⟩
abbrev S1x1x256 : Shape := ⟨3, ![1, 1, 256]⟩
abbrev S1x256x1024 : Shape := ⟨3, ![1, 256, 1024]⟩
abbrev S256x1024 : Shape := ⟨2, ![256, 1024]⟩
abbrev S8x4224x8x128 : Shape := ⟨4, ![8, 4224, 8, 128]⟩
abbrev S8x4224x1x32 : Shape := ⟨4, ![8, 4224, 1, 32]⟩
abbrev S8x4224x1x16 : Shape := ⟨4, ![8, 4224, 1, 16]⟩
abbrev S8x4224x4x64 : Shape := ⟨4, ![8, 4224, 4, 64]⟩
abbrev S32 : Shape := ⟨1, ![32]⟩
abbrev S1x32 : Shape := ⟨2, ![1, 32]⟩
abbrev S4224x32 : Shape := ⟨2, ![4224, 32]⟩
abbrev S4224x1x32 : Shape := ⟨3, ![4224, 1, 32]⟩
abbrev S8x4224x4x32 : Shape := ⟨4, ![8, 4224, 4, 32]⟩
abbrev S1x4224x1x32 : Shape := ⟨4, ![1, 4224, 1, 32]⟩
abbrev S1x4224x1x1 : Shape := ⟨4, ![1, 4224, 1, 1]⟩
abbrev S8x4224x4x2x64 : Shape := ⟨5, ![8, 4224, 4, 2, 64]⟩
abbrev S8x4224x4x1x64 : Shape := ⟨5, ![8, 4224, 4, 1, 64]⟩
abbrev S8x4224x4x256 : Shape := ⟨4, ![8, 4224, 4, 256]⟩

abbrev nBuf : Space → Nat
  | .hbm => 256
  | .vmem => 0
  | .smem => 0
  | _ => 0

abbrev hbmTy0_0 (i : Nat) : BufTy := match i % 128 with
  | 0 => ⟨S8x4224x1024, .f32⟩
  | 1 => ⟨S4x1024x3744, .f32⟩
  | 2 => ⟨S4x384, .f32⟩
  | 3 => ⟨S4x256, .f32⟩
  | 4 => ⟨S4x384x768, .f32⟩
  | 5 => ⟨S4x256x1024, .f32⟩
  | 6 => ⟨S4224, .i32⟩
  | 7 => ⟨S_, .i32⟩
  | 8 => ⟨S4224, .i32⟩
  | 9 => ⟨S4224, .i32⟩
  | 10 => ⟨S_, .i32⟩
  | 11 => ⟨S4224, .i32⟩
  | 12 => ⟨S4224, .i1⟩
  | 13 => ⟨S4224, .f32⟩
  | 14 => ⟨S1x1024x3744, .f32⟩
  | 15 => ⟨S1024x3744, .f32⟩
  | 16 => ⟨S8x4224x3744, .f32⟩
  | 17 => ⟨S8x4224x512, .f32⟩
  | 18 => ⟨S8x4224x512, .f32⟩
  | 19 => ⟨S8x4224x512, .f32⟩
  | 20 => ⟨S8x4224x384, .f32⟩
  | 21 => ⟨S8x4224x256, .f32⟩
  | 22 => ⟨S8x4224x32, .f32⟩
  | 23 => ⟨S8x4224x256, .f32⟩
  | 24 => ⟨S8x4224x256, .f32⟩
  | 25 => ⟨S8x4224x512, .f32⟩
  | 26 => ⟨S8x4224x512, .f32⟩
  | 27 => ⟨S1x384, .f32⟩
  | 28 => ⟨S384, .f32⟩
  | 29 => ⟨S8x4224x384, .f32⟩
  | 30 => ⟨S_, .f32⟩
  | 31 => ⟨S8x4224, .f32⟩
  | 32 => ⟨S8x4224x1, .f32⟩
  | 33 => ⟨S_, .f32⟩
  | 34 => ⟨S8x4224x1, .f32⟩
  | 35 => ⟨S8x4224x1, .f32⟩
  | 36 => ⟨S_, .f32⟩
  | 37 => ⟨S8x4224x1, .f32⟩
  | 38 => ⟨S8x4224x1, .f32⟩
  | 39 => ⟨S8x4224x1, .f32⟩
  | 40 => ⟨S8x4224x384, .f32⟩
  | 41 => ⟨S8x4224x384, .f32⟩
  | 42 => ⟨S1x1x384, .f32⟩
  | 43 => ⟨S8x4224x384, .f32⟩
  | 44 => ⟨S8x4224x384, .f32⟩
  | 45 => ⟨S1x384x768, .f32⟩
  | 46 => ⟨S384x768, .f32⟩
  | 47 => ⟨S8x4224x768, .f32⟩
  | 48 => ⟨S8x4224x8x96, .f32⟩
  | 49 => ⟨S8x4224x8x64, .f32⟩
  | 50 => ⟨S8x4224x8x32, .f32⟩
  | 51 => ⟨S16, .f32⟩
  | 52 => ⟨S16, .f32⟩
  | 53 => ⟨S_, .f32⟩
  | 54 => ⟨S16, .f32⟩
  | 55 => ⟨S16, .f32⟩
  | 56 => ⟨S_, .f32⟩
  | 57 => ⟨S16, .f32⟩
  | 58 => ⟨S16, .f32⟩
  | 59 => ⟨S4224x1, .f32⟩
  | 60 => ⟨S1x16, .f32⟩
  | 61 => ⟨S4224x16, .f32⟩
  | 62 => ⟨S4224x16, .f32⟩
  | 63 => ⟨S4224x16, .f32⟩
  | 64 => ⟨S4224x16, .f32⟩
  | 65 => ⟨S4224x1x16, .f32⟩
  | 66 => ⟨S4224x16, .f32⟩
  | 67 => ⟨S4224x1x16, .f32⟩
  | 68 => ⟨S8x4224x8x16, .f32⟩
  | 69 => ⟨S8x4224x8x16, .f32⟩
  | 70 => ⟨S1x4224x1x16, .f32⟩
  | 71 => ⟨S8x4224x8x16, .f32⟩
  | 72 => ⟨S8x4224x8x16, .f32⟩
  | 73 => ⟨S1x4224x1x16, .f32⟩
  | 74 => ⟨S8x4224x8x16, .f32⟩
  | 75 => ⟨S8x4224x8x16, .f32⟩
  | 76 => ⟨S8x4224x8x16, .f32⟩
  | 77 => ⟨S1x4224x1x16, .f32⟩
  | 78 => ⟨S8x4224x8x16, .f32⟩
  | 79 => ⟨S8x4224x8x16, .f32⟩
  | 80 => ⟨S1x4224x1x16, .f32⟩
  | 81 => ⟨S8x4224x8x16, .f32⟩
  | 82 => ⟨S8x4224x8x16, .f32⟩
  | 83 => ⟨S8x4224x8x16, .f32⟩
  | 84 => ⟨S8x4224x8x32, .f32⟩
  | 85 => ⟨S1x256, .f32⟩
  | 86 => ⟨S256, .f32⟩
  | 87 => ⟨S8x4224x256, .f32⟩
  | 88 => ⟨S_, .f32⟩
  | 89 => ⟨S8x4224, .f32⟩
  | 90 => ⟨S8x4224x1, .f32⟩
  | 91 => ⟨S_, .f32⟩
  | 92 => ⟨S8x4224x1, .f32⟩
  | 93 => ⟨S8x4224x1, .f32⟩
  | 94 => ⟨S_, .f32⟩
  | 95 => ⟨S8x4224x1, .f32⟩
  | 96 => ⟨S8x4224x1, .f32⟩
  | 97 => ⟨S8x4224x1, .f32⟩
  | 98 => ⟨S8x4224x256, .f32⟩
  | 99 => ⟨S8x4224x256, .f32⟩
  | 100 => ⟨S1x1x256, .f32⟩
  | 101 => ⟨S8x4224x256, .f32⟩
  | 102 => ⟨S8x4224x256, .f32⟩
  | 103 => ⟨S1x256x1024, .f32⟩
  | 104 => ⟨S256x1024, .f32⟩
  | 105 => ⟨S8x4224x1024, .f32⟩
  | 106 => ⟨S8x4224x8x128, .f32⟩
  | 107 => ⟨S8x4224x8x64, .f32⟩
  | 108 => ⟨S8x4224x8x64, .f32⟩
  | 109 => ⟨S8x4224x1x32, .f32⟩
  | 110 => ⟨S16, .f32⟩
  | 111 => ⟨S16, .f32⟩
  | 112 => ⟨S_, .f32⟩
  | 113 => ⟨S16, .f32⟩
  | 114 => ⟨S16, .f32⟩
  | 115 => ⟨S_, .f32⟩
  | 116 => ⟨S16, .f32⟩
  | 117 => ⟨S16, .f32⟩
  | 118 => ⟨S4224x1, .f32⟩
  | 119 => ⟨S1x16, .f32⟩
  | 120 => ⟨S4224x16, .f32⟩
  | 121 => ⟨S4224x16, .f32⟩
  | 122 => ⟨S4224x16, .f32⟩
  | 123 => ⟨S4224x16, .f32⟩
  | 124 => ⟨S4224x1x16, .f32⟩
  | 125 => ⟨S4224x16, .f32⟩
  | 126 => ⟨S4224x1x16, .f32⟩
  | 127 => ⟨S8x4224x1x16, .f32⟩
  | _ => ⟨S8x4224x1024, .f32⟩

abbrev hbmTy0_1 (i : Nat) : BufTy := match i % 128 with
  | 0 => ⟨S8x4224x1x16, .f32⟩
  | 1 => ⟨S1x4224x1x16, .f32⟩
  | 2 => ⟨S8x4224x1x16, .f32⟩
  | 3 => ⟨S8x4224x1x16, .f32⟩
  | 4 => ⟨S1x4224x1x16, .f32⟩
  | 5 => ⟨S8x4224x1x16, .f32⟩
  | 6 => ⟨S8x4224x1x16, .f32⟩
  | 7 => ⟨S8x4224x1x16, .f32⟩
  | 8 => ⟨S1x4224x1x16, .f32⟩
  | 9 => ⟨S8x4224x1x16, .f32⟩
  | 10 => ⟨S8x4224x1x16, .f32⟩
  | 11 => ⟨S1x4224x1x16, .f32⟩
  | 12 => ⟨S8x4224x1x16, .f32⟩
  | 13 => ⟨S8x4224x1x16, .f32⟩
  | 14 => ⟨S8x4224x1x16, .f32⟩
  | 15 => ⟨S8x4224x1x32, .f32⟩
  | 16 => ⟨S8x4224x4x64, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S4224x1, .f32⟩
  | 26 => ⟨S1x32, .f32⟩
  | 27 => ⟨S4224x32, .f32⟩
  | 28 => ⟨S4224x32, .f32⟩
  | 29 => ⟨S4224x32, .f32⟩
  | 30 => ⟨S4224x32, .f32⟩
  | 31 => ⟨S4224x1x32, .f32⟩
  | 32 => ⟨S4224x32, .f32⟩
  | 33 => ⟨S4224x1x32, .f32⟩
  | 34 => ⟨S8x4224x4x32, .f32⟩
  | 35 => ⟨S8x4224x4x32, .f32⟩
  | 36 => ⟨S1x4224x1x32, .f32⟩
  | 37 => ⟨S8x4224x4x32, .f32⟩
  | 38 => ⟨S8x4224x4x32, .f32⟩
  | 39 => ⟨S1x4224x1x32, .f32⟩
  | 40 => ⟨S8x4224x4x32, .f32⟩
  | 41 => ⟨S8x4224x4x32, .f32⟩
  | 42 => ⟨S8x4224x4x32, .f32⟩
  | 43 => ⟨S1x4224x1x32, .f32⟩
  | 44 => ⟨S8x4224x4x32, .f32⟩
  | 45 => ⟨S8x4224x4x32, .f32⟩
  | 46 => ⟨S1x4224x1x32, .f32⟩
  | 47 => ⟨S8x4224x4x32, .f32⟩
  | 48 => ⟨S8x4224x4x32, .f32⟩
  | 49 => ⟨S8x4224x4x32, .f32⟩
  | 50 => ⟨S8x4224x4x64, .f32⟩
  | 51 => ⟨S8x4224x4x64, .f32⟩
  | 52 => ⟨S32, .f32⟩
  | 53 => ⟨S32, .f32⟩
  | 54 => ⟨S_, .f32⟩
  | 55 => ⟨S32, .f32⟩
  | 56 => ⟨S32, .f32⟩
  | 57 => ⟨S_, .f32⟩
  | 58 => ⟨S32, .f32⟩
  | 59 => ⟨S32, .f32⟩
  | 60 => ⟨S4224x1, .f32⟩
  | 61 => ⟨S1x32, .f32⟩
  | 62 => ⟨S4224x32, .f32⟩
  | 63 => ⟨S4224x32, .f32⟩
  | 64 => ⟨S4224x32, .f32⟩
  | 65 => ⟨S4224x32, .f32⟩
  | 66 => ⟨S4224x1x32, .f32⟩
  | 67 => ⟨S4224x32, .f32⟩
  | 68 => ⟨S4224x1x32, .f32⟩
  | 69 => ⟨S8x4224x4x32, .f32⟩
  | 70 => ⟨S8x4224x4x32, .f32⟩
  | 71 => ⟨S1x4224x1x32, .f32⟩
  | 72 => ⟨S8x4224x4x32, .f32⟩
  | 73 => ⟨S8x4224x4x32, .f32⟩
  | 74 => ⟨S1x4224x1x32, .f32⟩
  | 75 => ⟨S8x4224x4x32, .f32⟩
  | 76 => ⟨S8x4224x4x32, .f32⟩
  | 77 => ⟨S8x4224x4x32, .f32⟩
  | 78 => ⟨S1x4224x1x32, .f32⟩
  | 79 => ⟨S8x4224x4x32, .f32⟩
  | 80 => ⟨S8x4224x4x32, .f32⟩
  | 81 => ⟨S1x4224x1x32, .f32⟩
  | 82 => ⟨S8x4224x4x32, .f32⟩
  | 83 => ⟨S8x4224x4x32, .f32⟩
  | 84 => ⟨S8x4224x4x32, .f32⟩
  | 85 => ⟨S8x4224x4x64, .f32⟩
  | 86 => ⟨S_, .f32⟩
  | 87 => ⟨S8x4224x4x64, .f32⟩
  | 88 => ⟨S8x4224x4x64, .f32⟩
  | 89 => ⟨S1x4224x1x1, .i1⟩
  | 90 => ⟨S_, .f32⟩
  | 91 => ⟨S8x4224x4x64, .f32⟩
  | 92 => ⟨S8x4224x4x64, .i1⟩
  | 93 => ⟨S8x4224x4x64, .f32⟩
  | 94 => ⟨S_, .f32⟩
  | 95 => ⟨S8x4224x8x32, .f32⟩
  | 96 => ⟨S8x4224x8x128, .f32⟩
  | 97 => ⟨S_, .f32⟩
  | 98 => ⟨S8x4224x8x128, .f32⟩
  | 99 => ⟨S8x4224x8x128, .f32⟩
  | 100 => ⟨S8x4224x8x32, .f32⟩
  | 101 => ⟨S8x4224x8x128, .f32⟩
  | 102 => ⟨S8x4224x4x2x64, .f32⟩
  | 103 => ⟨S_, .f32⟩
  | 104 => ⟨S8x4224x4x64, .f32⟩
  | 105 => ⟨S8x4224x4x1x64, .f32⟩
  | 106 => ⟨S8x4224x4x64, .f32⟩
  | 107 => ⟨S8x4224x4x1x64, .f32⟩
  | 108 => ⟨S8x4224x4x64, .f32⟩
  | 109 => ⟨S8x4224x4x256, .f32⟩
  | 110 => ⟨S_, .f32⟩
  | 111 => ⟨S8x4224x512, .f32⟩
  | 112 => ⟨S8x4224x512, .f32⟩
  | 113 => ⟨S8x4224x512, .bf16⟩
  | 114 => ⟨S8x4224x512, .bf16⟩
  | 115 => ⟨S8x4224x512, .bf16⟩
  | 116 => ⟨S8x4224x1024, .f32⟩
  | 117 => ⟨S8x4224x1024, .bf16⟩
  | 118 => ⟨S8x4224x1024, .f32⟩
  | 119 => ⟨S8x4224x1024, .bf16⟩
  | 120 => ⟨S8x4224x1024, .f32⟩
  | 121 => ⟨S8x4224x1024, .bf16⟩
  | 122 => ⟨S8x4224x256, .f32⟩
  | 123 => ⟨S8x4224x256, .bf16⟩
  | 124 => ⟨S8x4224x256, .f32⟩
  | 125 => ⟨S8x4224x256, .bf16⟩
  | 126 => ⟨S8x4224x512, .bf16⟩
  | 127 => ⟨S8x4224x512, .bf16⟩
  | _ => ⟨S8x4224x1024, .f32⟩

abbrev hbmTy (i : Nat) : BufTy := match i / 128 with
  | 0 => hbmTy0_0 i
  | 1 => hbmTy0_1 i
  | _ => ⟨S8x4224x1024, .f32⟩

abbrev bufTy : (tb : Table) → Fin (tcTables nBuf tb) → BufTy
  | .hbm, ⟨i, _⟩ => hbmTy i
  | _, _ => ⟨S8x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_3 : Ref sig .tc := ⟨.hbm, 53, rfl⟩
abbrev main_v42 : Ref sig .tc := ⟨.hbm, 54, rfl⟩
abbrev main_v43 : Ref sig .tc := ⟨.hbm, 55, rfl⟩
abbrev main_cst_4 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst_5 : Ref sig .tc := ⟨.hbm, 88, rfl⟩
abbrev main_v75 : Ref sig .tc := ⟨.hbm, 89, rfl⟩
abbrev main_v76 : Ref sig .tc := ⟨.hbm, 90, rfl⟩
abbrev main_cst_6 : Ref sig .tc := ⟨.hbm, 91, rfl⟩
abbrev main_v77 : Ref sig .tc := ⟨.hbm, 92, rfl⟩
abbrev main_v78 : Ref sig .tc := ⟨.hbm, 93, rfl⟩
abbrev main_cst_7 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_cst_8 : Ref sig .tc := ⟨.hbm, 112, rfl⟩
abbrev main_v96 : Ref sig .tc := ⟨.hbm, 113, rfl⟩
abbrev main_v97 : Ref sig .tc := ⟨.hbm, 114, rfl⟩
abbrev main_cst_9 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_cst_10 : Ref sig .tc := ⟨.hbm, 147, rfl⟩
abbrev main_v129 : Ref sig .tc := ⟨.hbm, 148, rfl⟩
abbrev main_v130 : Ref sig .tc := ⟨.hbm, 149, rfl⟩
abbrev main_cst_11 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_cst_12 : Ref sig .tc := ⟨.hbm, 182, rfl⟩
abbrev main_v162 : Ref sig .tc := ⟨.hbm, 183, rfl⟩
abbrev main_v163 : Ref sig .tc := ⟨.hbm, 184, rfl⟩
abbrev main_cst_13 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_cst_14 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_cst_15 : Ref sig .tc := ⟨.hbm, 218, rfl⟩
abbrev main_v195 : Ref sig .tc := ⟨.hbm, 219, rfl⟩
abbrev main_call0_v0 : Ref sig .tc := ⟨.hbm, 220, rfl⟩
abbrev main_v196 : Ref sig .tc := ⟨.hbm, 221, rfl⟩
abbrev main_cst_16 : Ref sig .tc := ⟨.hbm, 222, rfl⟩
abbrev main_v197 : Ref sig .tc := ⟨.hbm, 223, rfl⟩
abbrev main_v198 : Ref sig .tc := ⟨.hbm, 224, rfl⟩
abbrev main_cst_17 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_cst_18 : Ref sig .tc := ⟨.hbm, 231, rfl⟩
abbrev main_v204 : Ref sig .tc := ⟨.hbm, 232, rfl⟩
abbrev main_v205 : Ref sig .tc := ⟨.hbm, 233, rfl⟩
abbrev main_v206 : Ref sig .tc := ⟨.hbm, 234, rfl⟩
abbrev main_v207 : Ref sig .tc := ⟨.hbm, 235, rfl⟩
abbrev main_v208 : Ref sig .tc := ⟨.hbm, 236, rfl⟩
abbrev main_v209 : Ref sig .tc := ⟨.hbm, 237, rfl⟩
abbrev main_cst_19 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_v222 : Ref sig .tc := ⟨.hbm, 251, rfl⟩
abbrev main_v223 : Ref sig .tc := ⟨.hbm, 252, rfl⟩
abbrev main_v224 : Ref sig .tc := ⟨.hbm, 253, rfl⟩
abbrev main_v225 : Ref sig .tc := ⟨.hbm, 254, rfl⟩
abbrev main_v226 : Ref sig .tc := ⟨.hbm, 255, rfl⟩

abbrev nD : Nat := 1
abbrev τ : Topo := Topo.v7x

variable {F : FTy → Type} [FloatOps F]
-- ==== EmbKernel.lean ====
abbrev S8x4096x1024 : Shape := ⟨3, ![8, 4096, 1024]⟩
abbrev S16x1024 : Shape := ⟨2, ![16, 1024]⟩
abbrev S1024 : Shape := ⟨1, ![1024]⟩
abbrev S1x1024 : Shape := ⟨2, ![1, 1024]⟩
abbrev S8x4224x1024 : Shape := ⟨3, ![8, 4224, 1024]⟩
abbrev S1x1408x1024 : Shape := ⟨3, ![1, 1408, 1024]⟩
abbrev S112x1024 : Shape := ⟨2, ![112, 1024]⟩
abbrev S128x1024 : Shape := ⟨2, ![128, 1024]⟩
abbrev S1x1280x1024 : Shape := ⟨3, ![1, 1280, 1024]⟩
abbrev S1280x1024 : Shape := ⟨2, ![1280, 1024]⟩
abbrev S1408x1024 : Shape := ⟨2, ![1408, 1024]⟩
abbrev S1408 : Shape := ⟨1, ![1408]⟩
abbrev S1408x1 : Shape := ⟨2, ![1408, 1]⟩

abbrev nBuf : Space → Nat
  | .hbm => 7
  | .vmem => 7
  | .smem => 0
  | _ => 0

abbrev bufTy : (tb : Table) → Fin (tcTables nBuf tb) → BufTy
  | .hbm, ⟨0, _⟩ => ⟨S8x4096x1024, .f32⟩
  | .hbm, ⟨1, _⟩ => ⟨S16x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S8x4224x1024, .f32⟩
  | .local _ .vmem, ⟨0, _⟩ => ⟨S1x1408x1024, .f32⟩
  | .local _ .vmem, ⟨1, _⟩ => ⟨S1x1408x1024, .f32⟩
  | .local _ .vmem, ⟨2, _⟩ => ⟨S16x1024, .f32⟩
  | .local _ .vmem, ⟨3, _⟩ => ⟨S1x1024, .f32⟩
  | .local _ .vmem, ⟨4, _⟩ => ⟨S1x1024, .f32⟩
  | .local _ .vmem, ⟨5, _⟩ => ⟨S1x1408x1024, .f32⟩
  | .local _ .vmem, ⟨6, _⟩ => ⟨S1x1408x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 3], ![false, false]⟩

def k0_mult1 (i : grid0.Coords) : BitVec 32 :=
  let arg1 : BitVec 32 := BitVec.ofNat 32 (i 1).val
  let c1408_i32 : BitVec 32 := 1408#32
  let v0 : BitVec 32 := Scalar.muli arg1 c1408_i32
  let c128_i32 : BitVec 32 := 128#32
  let v1 : BitVec 32 := Scalar.subi v0 c128_i32
  let c0_i32 : BitVec 32 := 0#32
  let v2 : BitVec 32 := Scalar.maxsi v1 c0_i32
  v2
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let c1408_i32 : BitVec 32 := 1408#32
  let v0 : BitVec 32 := Scalar.muli arg1 c1408_i32
  let c128_i32 : BitVec 32 := 128#32
  let v1 : BitVec 32 := Scalar.subi v0 c128_i32
  let c0_i32 : BitVec 32 := 0#32
  let v2 : BitVec 32 := Scalar.maxsi v1 c0_i32
  let v3 : BitVec 32 := v2
  let c0_i32_0 : BitVec 32 := 0#32
  let c0_i32_1 : BitVec 32 := 0#32
  ![arg0.toNat, v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1408x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== EmbReferenceIdeal.lean ====
abbrev S8x4096x1024 : Shape := ⟨3, ![8, 4096, 1024]⟩
abbrev S16x1024 : Shape := ⟨2, ![16, 1024]⟩
abbrev S1024 : Shape := ⟨1, ![1024]⟩
abbrev S1x16x1024 : Shape := ⟨3, ![1, 16, 1024]⟩
abbrev S8x16x1024 : Shape := ⟨3, ![8, 16, 1024]⟩
abbrev S_ : Shape := ⟨0, ![]⟩
abbrev S8x112x1024 : Shape := ⟨3, ![8, 112, 1024]⟩
abbrev S8x4224x1024 : Shape := ⟨3, ![8, 4224, 1024]⟩
abbrev S8x4224 : Shape := ⟨2, ![8, 4224]⟩
abbrev S8x4224x1 : Shape := ⟨3, ![8, 4224, 1]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S16x1024, .f32⟩
  | .hbm, ⟨2, _⟩ => ⟨S1024, .f32⟩
  | .hbm, ⟨3, _⟩ => ⟨S1024, .f32⟩
  | .hbm, ⟨4, _⟩ => ⟨S1x16x1024, .f32⟩
  | .hbm, ⟨5, _⟩ => ⟨S8x16x1024, .f32⟩
  | .hbm, ⟨6, _⟩ => ⟨S_, .f32⟩
  | .hbm, ⟨7, _⟩ => ⟨S8x112x1024, .f32⟩
  | .hbm, ⟨8, _⟩ => ⟨S8x4224x1024, .f32⟩
  | .hbm, ⟨9, _⟩ => ⟨S_, .f32⟩
  | .hbm, ⟨10, _⟩ => ⟨S8x4224, .f32⟩
  | .hbm, ⟨11, _⟩ => ⟨S8x4224x1, .f32⟩
  | .hbm, ⟨12, _⟩ => ⟨S_, .f32⟩
  | .hbm, ⟨13, _⟩ => ⟨S8x4224x1, .f32⟩
  | .hbm, ⟨14, _⟩ => ⟨S8x4224x1, .f32⟩
  | .hbm, ⟨15, _⟩ => ⟨S8x4224x1024, .f32⟩
  | .hbm, ⟨16, _⟩ => ⟨S8x4224x1024, .f32⟩
  | .hbm, ⟨17, _⟩ => ⟨S8x4224x1024, .f32⟩
  | .hbm, ⟨18, _⟩ => ⟨S_, .f32⟩
  | .hbm, ⟨19, _⟩ => ⟨S8x4224, .f32⟩
  | .hbm, ⟨20, _⟩ => ⟨S8x4224x1, .f32⟩
  | .hbm, ⟨21, _⟩ => ⟨S_, .f32⟩
  | .hbm, ⟨22, _⟩ => ⟨S8x4224x1, .f32⟩
  | .hbm, ⟨23, _⟩ => ⟨S8x4224x1, .f32⟩
  | .hbm, ⟨24, _⟩ => ⟨S8x4224x1024, .f32⟩
  | .hbm, ⟨25, _⟩ => ⟨S8x4224x1024, .f32⟩
  | .hbm, ⟨26, _⟩ => ⟨S_, .f32⟩
  | .hbm, ⟨27, _⟩ => ⟨S8x4224x1, .f32⟩
  | .hbm, ⟨28, _⟩ => ⟨S8x4224x1, .f32⟩
  | .hbm, ⟨29, _⟩ => ⟨S8x4224x1, .f32⟩
  | .hbm, ⟨30, _⟩ => ⟨S8x4224x1024, .f32⟩
  | .hbm, ⟨31, _⟩ => ⟨S8x4224x1024, .f32⟩
  | .hbm, ⟨32, _⟩ => ⟨S1x1x1024, .f32⟩
  | .hbm, ⟨33, _⟩ => ⟨S8x4224x1024, .f32⟩
  | .hbm, ⟨34, _⟩ => ⟨S8x4224x1024, .f32⟩
  | .hbm, ⟨35, _⟩ => ⟨S1x1x1024, .f32⟩
  | .hbm, ⟨36, _⟩ => ⟨S8x4224x1024, .f32⟩
  | .hbm, ⟨37, _⟩ => ⟨S8x4224x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== MidKernel.lean ====
abbrev S8x4224x1024 : Shape := ⟨3, ![8, 4224, 1024]⟩
abbrev S4x1024x4096 : Shape := ⟨3, ![4, 1024, 4096]⟩
abbrev S4x4096x1024 : Shape := ⟨3, ![4, 4096, 1024]⟩
abbrev S4x1024 : Shape := ⟨2, ![4, 1024]⟩
abbrev S1x1024 : Shape := ⟨2, ![1, 1024]⟩
abbrev S1024 : Shape := ⟨1, ![1024]⟩
abbrev S1x704x1024 : Shape := ⟨3, ![1, 704, 1024]⟩
abbrev S1x1024x4096 : Shape := ⟨3, ![1, 1024, 4096]⟩
abbrev S1x4096x1024 : Shape := ⟨3, ![1, 4096, 1024]⟩
abbrev S704x1024 : Shape := ⟨2, ![704, 1024]⟩
abbrev S1x1024x1024 : Shape := ⟨3, ![1, 1024, 1024]⟩
abbrev S1024x1024 : Shape := ⟨2, ![1024, 1024]⟩
abbrev S704 : Shape := ⟨1, ![704]⟩
abbrev S704x1 : Shape := ⟨2, ![704, 1]⟩

abbrev nBuf : Space → Nat
  | .hbm => 14
  | .vmem => 8
  | .smem => 0
  | _ => 0

abbrev bufTy : (tb : Table) → Fin (tcTables nBuf tb) → BufTy
  | .hbm, ⟨0, _⟩ => ⟨S8x4224x1024, .f32⟩
  | .hbm, ⟨1, _⟩ => ⟨S4x1024x4096, .f32⟩
  | .hbm, ⟨2, _⟩ => ⟨S4x4096x1024, .f32⟩
  | .hbm, ⟨3, _⟩ => ⟨S4x1024, .f32⟩
  | .hbm, ⟨4, _⟩ => ⟨S4x1024, .f32⟩
  | .hbm, ⟨5, _⟩ => ⟨S4x1024x4096, .bf16⟩
  | .hbm, ⟨6, _⟩ => ⟨S4x4096x1024, .bf16⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S8x4224x1024, .f32⟩
  | .local _ .vmem, ⟨0, _⟩ => ⟨S1x704x1024, .f32⟩
  | .local _ .vmem, ⟨1, _⟩ => ⟨S1x704x1024, .f32⟩
  | .local _ .vmem, ⟨2, _⟩ => ⟨S1x1024x4096, .bf16⟩
  | .local _ .vmem, ⟨3, _⟩ => ⟨S1x4096x1024, .bf16⟩
  | .local _ .vmem, ⟨4, _⟩ => ⟨S1x1024, .f32⟩
  | .local _ .vmem, ⟨5, _⟩ => ⟨S1x1024, .f32⟩
  | .local _ .vmem, ⟨6, _⟩ => ⟨S1x704x1024, .f32⟩
  | .local _ .vmem, ⟨7, _⟩ => ⟨S1x704x1024, .f32⟩
  | _, _ => ⟨S8x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x704x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MidReferenceIdeal.lean ====
abbrev S8x4224x1024 : Shape := ⟨3, ![8, 4224, 1024]⟩
abbrev S4x1024x4096 : Shape := ⟨3, ![4, 1024, 4096]⟩
abbrev S4x4096x1024 : Shape := ⟨3, ![4, 4096, 1024]⟩
abbrev S4x1024 : Shape := ⟨2, ![4, 1024]⟩
abbrev S_ : Shape := ⟨0, ![]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x4224x4096 : Shape := ⟨3, ![8, 4224, 4096]⟩
abbrev S1x1024 : Shape := ⟨2, ![1, 1024]⟩
abbrev S1024 : Shape := ⟨1, ![1024]⟩
abbrev S8x4224 : Shape := ⟨2, ![8, 4224]⟩
abbrev S8x4224x1 : Shape := ⟨3, ![8, 4224, 1]⟩
abbrev S1x1x1024 : Shape := ⟨3, ![1, 1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8x4224x1024, .f32⟩
  | .hbm, ⟨1, _⟩ => ⟨S4x1024x4096, .f32⟩
  | .hbm, ⟨2, _⟩ => ⟨S4x4096x1024, .f32⟩
  | .hbm, ⟨3, _⟩ => ⟨S4x1024, .f32⟩
  | .hbm, ⟨4, _⟩ => ⟨S4x1024, .f32⟩
  | .hbm, ⟨5, _⟩ => ⟨S_, .f32⟩
  | .hbm, ⟨6, _⟩ => ⟨S8x4224x1024, .f32⟩
  | .hbm, ⟨7, _⟩ => ⟨S8x4224x1024, .f32⟩
  | .hbm, ⟨8, _⟩ => ⟨S1x1024x4096, .f32⟩
  | .hbm, ⟨9, _⟩ => ⟨S1024x4096, .f32⟩
  | .hbm, ⟨10, _⟩ => ⟨S1x4096x1024, .f32⟩
  | .hbm, ⟨11, _⟩ => ⟨S4096x1024, .f32⟩
  | .hbm, ⟨12, _⟩ => ⟨S8x4224x4096, .f32⟩
  | .hbm, ⟨13, _⟩ => ⟨S_, .f32⟩
  | .hbm, ⟨14, _⟩ => ⟨S8x4224x4096, .f32⟩
  | .hbm, ⟨15, _⟩ => ⟨S8x4224x4096, .f32⟩
  | .hbm, ⟨16, _⟩ => ⟨S8x4224x4096, .f32⟩
  | .hbm, ⟨17, _⟩ => ⟨S8x4224x1024, .f32⟩
  | .hbm, ⟨18, _⟩ => ⟨S8x4224x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S_, .f32⟩
  | .hbm, ⟨24, _⟩ => ⟨S8x4224, .f32⟩
  | .hbm, ⟨25, _⟩ => ⟨S8x4224x1, .f32⟩
  | .hbm, ⟨26, _⟩ => ⟨S_, .f32⟩
  | .hbm, ⟨27, _⟩ => ⟨S8x4224x1, .f32⟩
  | .hbm, ⟨28, _⟩ => ⟨S8x4224x1, .f32⟩
  | .hbm, ⟨29, _⟩ => ⟨S8x4224x1024, .f32⟩
  | .hbm, ⟨30, _⟩ => ⟨S8x4224x1024, .f32⟩
  | .hbm, ⟨31, _⟩ => ⟨S8x4224x1024, .f32⟩
  | .hbm, ⟨32, _⟩ => ⟨S_, .f32⟩
  | .hbm, ⟨33, _⟩ => ⟨S8x4224, .f32⟩
  | .hbm, ⟨34, _⟩ => ⟨S8x4224x1, .f32⟩
  | .hbm, ⟨35, _⟩ => ⟨S_, .f32⟩
  | .hbm, ⟨36, _⟩ => ⟨S8x4224x1, .f32⟩
  | .hbm, ⟨37, _⟩ => ⟨S8x4224x1, .f32⟩
  | .hbm, ⟨38, _⟩ => ⟨S8x4224x1024, .f32⟩
  | .hbm, ⟨39, _⟩ => ⟨S8x4224x1024, .f32⟩
  | .hbm, ⟨40, _⟩ => ⟨S_, .f32⟩
  | .hbm, ⟨41, _⟩ => ⟨S8x4224x1, .f32⟩
  | .hbm, ⟨42, _⟩ => ⟨S8x4224x1, .f32⟩
  | .hbm, ⟨43, _⟩ => ⟨S8x4224x1, .f32⟩
  | .hbm, ⟨44, _⟩ => ⟨S8x4224x1024, .f32⟩
  | .hbm, ⟨45, _⟩ => ⟨S8x4224x1024, .f32⟩
  | .hbm, ⟨46, _⟩ => ⟨S1x1x1024, .f32⟩
  | .hbm, ⟨47, _⟩ => ⟨S8x4224x1024, .f32⟩
  | .hbm, ⟨48, _⟩ => ⟨S8x4224x1024, .f32⟩
  | .hbm, ⟨49, _⟩ => ⟨S1x1x1024, .f32⟩
  | .hbm, ⟨50, _⟩ => ⟨S8x4224x1024, .f32⟩
  | .hbm, ⟨51, _⟩ => ⟨S8x4224x1024, .f32⟩
  | _, _ => ⟨S8x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_cst : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proof.RetRun.lean ====
/- The reference of the retention call: what its loop leaves, as one step of the generated state iterated from the state the
   loop starts from. -/
module
public import proofs.«01_k».proof.Proof.Gen.RetReferenceIdeal.Run
public import proofs.«01_k».proof.Proof.Gen.RetReferenceIdeal.Step
public import Idealize.ShloMosaic.Lib.Pointwise
public import Idealize.ShloMosaic.Lib.Pipeline.ValueKit
@[expose] public section

noncomputable section

open Idealize.ShloMosaic Idealize.ShloMosaic.TcCoe Idealize.SL.Sem Idealize.ShloMosaic.StableHlo

namespace Cert.RetReferenceIdeal.Iter

open Cert.RetReferenceIdeal Cert.RetReferenceIdeal.Gen Cert.RetReferenceIdeal.Value
open Cert.RetReferenceIdeal.Step (State step init)

/-- The memory holds a state of the loop at trip `j`: the carried arrays, the decays and the trip's number. -/
structure At (V : Valuation τ sig (Elt Ideal)) (s : State Ideal) (j : ℕ) : Prop where
  state : V (Proc.devRef .tc main_v57_8) = s.main_v57_8
  outs : V (Proc.devRef .tc main_v57_9) = s.main_v57_9
  qs : V (Proc.devRef .tc main_v57_0) = s.main_v57_0
  ks : V (Proc.devRef .tc main_v57_1) = s.main_v57_1
  vs : V (Proc.devRef .tc main_v57_2) = s.main_v57_2
  num : V (Proc.devRef .tc main_v57_7) = constantI S_ 32 (BitVec.ofNat 32 j)
  inner : V (Proc.devRef .tc main_v57_3) = Step.K_main_v29 (F := Ideal)
  qdec : V (Proc.devRef .tc main_v57_4) = Step.K_main_v37 (F := Ideal)
  cdec : V (Proc.devRef .tc main_v57_5) = Step.K_main_v48 (F := Ideal)
  kdec : V (Proc.devRef .tc main_v57_6) = Step.K_main_v45 (F := Ideal)

variable {V : Valuation τ sig (Elt Ideal)} {s : State Ideal} {j : ℕ}

set_option maxRecDepth 16384 in
theorem next_state (h : At V s j) : step_main_v57_8 V = (step j s).main_v57_8 := by
  unfold step_main_v57_8 res_main_while0b_v84 res_main_while0b_v85
  rw [h.state, h.cdec, h.kdec, h.ks, h.vs, h.num]
  rfl

set_option maxRecDepth 16384 in
theorem next_outs (h : At V s j) : step_main_v57_9 V = (step j s).main_v57_9 := by
  unfold step_main_v57_9 res_main_while0b_v83 res_main_while0b_v84 res_main_while0b_v85
  rw [h.outs, h.state, h.qdec, h.inner, h.qs, h.ks, h.vs, h.num]
  rfl

theorem next_num (h : At V s j) : step_main_v57_7 V = constantI S_ 32 (BitVec.ofNat 32 (j + 1)) := by
  unfold step_main_v57_7
  rw [h.num]
  funext i
  exact BitVec.ofNat_add j 1 |>.symm

/-- One trip leads from a state to the next. -/
theorem at_next (h : At V s j) : At (STEP V) (step j s) (j + 1) where
  state := (STEP_main_v57_8 V).trans (next_state h)
  outs := (STEP_main_v57_9 V).trans (next_outs h)
  num := (STEP_main_v57_7 V).trans (next_num h)
  inner := (STEP_main_v57_3 V).trans h.inner
  qdec := (STEP_main_v57_4 V).trans h.qdec
  cdec := (STEP_main_v57_5 V).trans h.cdec
  kdec := (STEP_main_v57_6 V).trans h.kdec
  qs := (STEP_main_v57_0 V).trans h.qs
  ks := (STEP_main_v57_1 V).trans h.ks
  vs := (STEP_main_v57_2 V).trans h.vs

variable (m : (ℓ : Loc nD τ sig) → Buf (Elt Ideal) ℓ) (c : Dev nD)

/-- The state the loop starts from, of the arguments. -/
abbrev start : State Ideal :=
  init (m ((c.tc : Thread nD τ).loc main_arg0)) (m ((c.tc : Thread nD τ).loc main_arg1)) (m ((c.tc : Thread nD τ).loc main_arg2))

/-- The state after `n` trips. -/
def after : ℕ → State Ideal
  | 0 => start m c
  | n + 1 => step n (after n)

set_option maxRecDepth 65536 in
set_option maxHeartbeats 500000 in
theorem at_start : At (entryContents preI m c) (start m c) 0 := by
  constructor <;> (simp only [entryContents, afterL_cons, afterL_nil]; after_reads_simp) <;> rfl

theorem at_after : ∀ n, At (STEP^[n] (entryContents preI m c)) (after m c n) n
  | 0 => at_start m c
  | n + 1 => by
    rw [Function.iterate_succ_apply']
    exact at_next (at_after n)

theorem result_at {x : (⟨S8x4224x512, .bf16⟩ : BufTy).Contents (Elt Ideal)} (h : At V s j)
    (hx : V (Proc.devRef .tc main_arg3) = x) : out_main_v82 V = Step.R_main_v82 s x := by
  unfold out_main_v82 Step.R_main_v82
  rw [h.outs, hx]
  rfl

/-- What the reference leaves: its result from the state after all 33 trips, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v82) = Step.R_main_v82 (after m c 33) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans (result_at (at_after m c 33) (iter_main_arg3 m c 33)), (h c).2⟩) (Value.run m ρ)

end Cert.RetReferenceIdeal.Iter

end
-- ==== Proof.RetTrip.lean ====
/- The retention call: one trip of its loop is eleven steps of one chunk each, and what it stores are the gated, normalised
   rows of each chunk. -/
module
public import proofs.«01_k».proof.Proof.Gen.RetKernelIdeal.Frame
public import Idealize.ShloMosaic.Lib.Pointwise
public import Idealize.ShloMosaic.Lib.Pipeline.ValueKit
public import Idealize.ShloMosaic.Lib.WholeRead
@[expose] public section

set_option maxRecDepth 16384

noncomputable section

open Idealize.ShloMosaic Idealize.ShloMosaic.TcCoe Idealize.SL.Sem

namespace Cert.RetKernelIdeal.Pure

open Cert.RetKernelIdeal Cert.RetKernelIdeal.Gen

/-- The values the body reads or computes once, before its loop. -/
structure Fixed where
  v0 : IVec S128x128 32
  v1 : IVec S128x256 32
  v2 : IVec S128x256 32
  v3 : FVec Ideal S128x128 .bf16
  v4 : FVec Ideal S128x256 .bf16
  v9 : FVec Ideal S256x128 .f32
  v14 : FVec Ideal S128x256 .f32
  v21 : FVec Ideal S128x128 .f32
  v23 : FVec Ideal S128x128 .f32
  v24 : Vec Ideal S1x1x128x128 .f32

/-- The state after a chunk, of the state before it and the chunk's keys and values. -/
def stepS (w : Fixed) (acc : FVec Ideal S128x256 .f32) (kb : Vec Ideal S1x128x128 .bf16) (vb : Vec Ideal S1x128x256 .bf16) :
    FVec Ideal S128x256 .f32 :=
  k0_pay10 (k0_pay2 w.v1 w.v2) (k0_pay6 vb) (k0_pay8 w.v21 kb) (k0_pay9 (k0_pay1 w.v23 w.v24) acc)
    (constant S128x256 .f32 0x00000000#32)

/-- A chunk's rows before normalisation, of the state before it and the chunk's queries, keys and values. -/
def rowsY (w : Fixed) (acc : FVec Ideal S128x256 .f32) (qb kb : Vec Ideal S1x128x128 .bf16) (vb : Vec Ideal S1x128x256 .bf16) :
    FVec Ideal S128x256 .f32 :=
  k0_pay7 w.v0 w.v1 w.v3 w.v4 w.v9 w.v14 acc qb kb vb

/-- The first head's normalised and gated rows. -/
def outL (y : FVec Ideal S128x256 .f32) (g : Vec Ideal S1x128x128 .bf16) : FVec Ideal S1x128x128 .bf16 := k0_pay11 y g

/-- The second head's normalised and gated rows. -/
def outR (y : FVec Ideal S128x256 .f32) (g : Vec Ideal S1x128x128 .bf16) : FVec Ideal S1x128x128 .bf16 :=
  k0_pay15 (k0_pay12 y) (k0_pay13 y) k0_pay14 g

/-- The state after `n` chunks of a family. -/
def chain (w : Fixed) (acc : FVec Ideal S128x256 .f32) (K : ℕ → Vec Ideal S1x128x128 .bf16) (V : ℕ → Vec Ideal S1x128x256 .bf16) :
    ℕ → FVec Ideal S128x256 .f32
  | 0 => acc
  | n + 1 => stepS w (chain w acc K V n) (K n) (V n)

section Trip

variable (𝒱 : Variants) (c : Dev nD) (bd : Option 𝒱.V) (i : grid0.Coords)
  (arg2 : Memref sig .tc .vmem S1x4224x128 .bf16) (harg2 : arg2.IsWhole) (arg3 : Memref sig .tc .vmem S1x4224x128 .bf16) (harg3 : arg3.IsWhole)
  (arg4 : Memref sig .tc .vmem S1x4224x256 .bf16) (harg4 : arg4.IsWhole) (arg5 : Memref sig .tc .vmem S1x4224x256 .bf16) (harg5 : arg5.IsWhole)
  (arg6 : Memref sig .tc .vmem S2x4x128x128 .f32) (harg6 : arg6.IsWhole) (arg7 : Memref sig .tc .vmem S1x4224x256 .bf16) (harg7 : arg7.IsWhole)
  (w : Fixed) (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)
  (k : Fin k0_t1_loop.trips) (acc : FVec Ideal S128x256 .f32)

/-- Chunk `u` of trip `k`, as the body loads it: queries or keys, -/
def ldK (arg : Memref sig .tc .vmem S1x4224x128 .bf16) (X : BufTy.Contents (Elt Ideal) arg.view.ty) (k : Fin k0_t1_loop.trips) (u : Fin 11) :
    Vec Ideal S1x128x128 .bf16 :=
  View.readAt (Elt Ideal) arg.view (Rect.unit (s := S1x4224x128) (k0_off1 k (BitVec.ofNat 32 u.val)) S1x128x128.size (k0_off1_inb k u)).toLoadRect X
/-- values, -/
def ldV (arg : Memref sig .tc .vmem S1x4224x256 .bf16) (X : BufTy.Contents (Elt Ideal) arg.view.ty) (k : Fin k0_t1_loop.trips) (u : Fin 11) :
    Vec Ideal S1x128x256 .bf16 :=
  View.readAt (Elt Ideal) arg.view (Rect.unit (s := S1x4224x256) (k0_off2 k (BitVec.ofNat 32 u.val)) S1x128x256.size (k0_off2_inb k u)).toLoadRect X
/-- the first head's gates -/
def ldG (arg : Memref sig .tc .vmem S1x4224x256 .bf16) (X : BufTy.Contents (Elt Ideal) arg.view.ty) (k : Fin k0_t1_loop.trips) (u : Fin 11) :
    Vec Ideal S1x128x128 .bf16 :=
  View.readAt (Elt Ideal) arg.view (Rect.unit (s := S1x4224x256) (k0_off3 k (BitVec.ofNat 32 u.val)) S1x128x128.size (k0_off3_inb k u)).toLoadRect X
/-- and the second's. -/
def ldH (arg : Memref sig .tc .vmem S1x4224x256 .bf16) (X : BufTy.Contents (Elt Ideal) arg.view.ty) (k : Fin k0_t1_loop.trips) (u : Fin 11) :
    Vec Ideal S1x128x128 .bf16 :=
  View.readAt (Elt Ideal) arg.view (Rect.unit (s := S1x4224x256) (k0_off4 k (BitVec.ofNat 32 u.val)) S1x128x128.size (k0_off4_inb k u)).toLoadRect X

/-- A number below eleven. -/
def m11 (n : ℕ) : Fin 11 := ⟨n % 11, Nat.mod_lt _ (by decide)⟩

/-- The state after `n` chunks of trip `k`. -/
abbrev chainAt (n : ℕ) : FVec Ideal S128x256 .f32 :=
  chain w acc (fun u => ldK arg3 X3 k (m11 u)) (fun u => ldV arg4 X4 k (m11 u)) n

/-- Chunk `u`'s rows in trip `k`. -/
abbrev yAt (u : ℕ) : FVec Ideal S128x256 .f32 :=
  rowsY w (chainAt arg3 arg4 w X3 X4 k acc u) (ldK arg2 X2 k (m11 u)) (ldK arg3 X3 k (m11 u)) (ldV arg4 X4 k (m11 u))

theorem tripR_eq : tripR_k0_t1 (F := Ideal) 𝒱 c bd i arg2 harg2 arg3 harg3 arg4 harg4 arg5 harg5 arg6 harg6 arg7 harg7 w.v0 w.v1 w.v2 w.v3 w.v4 w.v9 w.v14 w.v21 w.v23 w.v24 X2 X3 X4 X5 k acc
    = chainAt arg3 arg4 w X3 X4 k acc 11 := by
  unfold tripR_k0_t1 trip_k0_t1
  dsimp only
  rfl

/-- What the body stores of chunk `u`: the first head's rows, -/
def pieceL (u : Fin 11) : View.Piece (Elt Ideal) S1x4224x256 .bf16 :=
  ⟨Rect.unit (s := S1x4224x256) (k0_off3 k (BitVec.ofNat 32 u.val)) S1x128x128.size (k0_off3_inb k u),
    outL (yAt arg2 arg3 arg4 w X2 X3 X4 k acc u.val) (ldG arg5 X5 k u)⟩
/-- and the second's. -/
def pieceR (u : Fin 11) : View.Piece (Elt Ideal) S1x4224x256 .bf16 :=
  ⟨Rect.unit (s := S1x4224x256) (k0_off4 k (BitVec.ofNat 32 u.val)) S1x128x128.size (k0_off4_inb k u),
    outR (yAt arg2 arg3 arg4 w X2 X3 X4 k acc u.val) (ldH arg5 X5 k u)⟩

theorem tripL_mem (p : View.Piece (Elt Ideal) S1x4224x256 .bf16) (hp : p ∈ tripL_k0_t1 (F := Ideal) 𝒱 c bd i arg2 harg2 arg3 harg3 arg4 harg4 arg5 harg5 arg6 harg6 arg7 harg7 w.v0 w.v1 w.v2 w.v3 w.v4 w.v9 w.v14 w.v21 w.v23 w.v24 X2 X3 X4 X5 k acc) :
    ∃ u : Fin 11, p = pieceL arg2 arg3 arg4 arg5 w X2 X3 X4 X5 k acc u ∨ p = pieceR arg2 arg3 arg4 arg5 w X2 X3 X4 X5 k acc u := by
  unfold tripL_k0_t1 trip_k0_t1 at hp
  dsimp only at hp
  replace hp : p ∈ (([10, 9, 8, 7, 6, 5, 4, 3, 2, 1, 0] : List (Fin 11)).flatMap fun u =>
    [pieceR arg2 arg3 arg4 arg5 w X2 X3 X4 X5 k acc u, pieceL arg2 arg3 arg4 arg5 w X2 X3 X4 X5 k acc u]) := hp
  obtain ⟨u, _, hu⟩ := List.mem_flatMap.mp hp
  refine ⟨u, ?_⟩
  rcases List.mem_cons.mp hu with h | h
  · exact Or.inr h
  · exact Or.inl (List.mem_singleton.mp h)

end Trip

/-! ### The whole loop -/

/-- Chunk `n`'s rows of a block 128 wide, -/
def chunkA (x : Vec Ideal S1x4224x128 .bf16) (n : ℕ) : Vec Ideal S1x128x128 .bf16 :=
  fun i => x (ix3 0 ⟨(128 * n + (i 1).val) % 4224, Nat.mod_lt _ (by decide)⟩ (i 2))
/-- of a block 256 wide, -/
def chunkB (x : Vec Ideal S1x4224x256 .bf16) (n : ℕ) : Vec Ideal S1x128x256 .bf16 :=
  fun i => x (ix3 0 ⟨(128 * n + (i 1).val) % 4224, Nat.mod_lt _ (by decide)⟩ (i 2))
/-- its first 128 columns -/
def chunkL (x : Vec Ideal S1x4224x256 .bf16) (n : ℕ) : Vec Ideal S1x128x128 .bf16 :=
  fun i => x (ix3 0 ⟨(128 * n + (i 1).val) % 4224, Nat.mod_lt _ (by decide)⟩ ⟨(i 2).val, lt_trans (i 2).isLt (by decide)⟩)
/-- and its last 128 columns. -/
def chunkR (x : Vec Ideal S1x4224x256 .bf16) (n : ℕ) : Vec Ideal S1x128x128 .bf16 :=
  fun i => x (ix3 0 ⟨(128 * n + (i 1).val) % 4224, Nat.mod_lt _ (by decide)⟩
    ⟨128 + (i 2).val, Nat.add_lt_add_left (i 2).isLt 128⟩)

/-- The three axes of a placement, from its offsets. -/
theorem off_row (k : Fin k0_t1_loop.trips) (u : Fin 11) (r : ℕ) (hr : r < 128) :
    1408 * k.val + 128 * u.val + r = (128 * (11 * k.val + u.val) + r) % 4224 := by
  have hk : k.val < 3 := k.isLt
  have hu := u.isLt
  omega

theorem ldK_eq {arg : Memref sig .tc .vmem S1x4224x128 .bf16} (h : arg.IsWhole) (x : Vec Ideal S1x4224x128 .bf16)
    (k : Fin k0_t1_loop.trips) (u : Fin 11) : ldK arg (h.unread x) k u = chunkA x (11 * k.val + u.val) := by
  funext i
  refine (h.readAt_unread x (Rect.unit (s := S1x4224x128) (k0_off1 k (BitVec.ofNat 32 u.val)) S1x128x128.size (k0_off1_inb k u)).toLoadRect i).trans (congrArg x ?_)
  have e := k0_off1_eq k u
  funext a; apply Fin.ext; fin_cases a
  · show k0_off1 k (BitVec.ofNat 32 u.val) 0 + 1 * (i 0).val = 0
    rw [e]; have := (i 0).isLt; show 0 + 1 * (i 0).val = 0; have : (i 0).val < 1 := (i 0).isLt; omega
  · show k0_off1 k (BitVec.ofNat 32 u.val) 1 + 1 * (i 1).val = (128 * (11 * k.val + u.val) + (i 1).val) % 4224
    rw [e, ← off_row k u _ (i 1).isLt]; show 1408 * k.val + 128 * u.val + 1 * (i 1).val = _; omega
  · show k0_off1 k (BitVec.ofNat 32 u.val) 2 + 1 * (i 2).val = (i 2).val
    rw [e]; show 0 + 1 * (i 2).val = _; omega

theorem ldV_eq {arg : Memref sig .tc .vmem S1x4224x256 .bf16} (h : arg.IsWhole) (x : Vec Ideal S1x4224x256 .bf16)
    (k : Fin k0_t1_loop.trips) (u : Fin 11) : ldV arg (h.unread x) k u = chunkB x (11 * k.val + u.val) := by
  funext i
  refine (h.readAt_unread x (Rect.unit (s := S1x4224x256) (k0_off2 k (BitVec.ofNat 32 u.val)) S1x128x256.size (k0_off2_inb k u)).toLoadRect i).trans (congrArg x ?_)
  have e := k0_off2_eq k u
  funext a; apply Fin.ext; fin_cases a
  · show k0_off2 k (BitVec.ofNat 32 u.val) 0 + 1 * (i 0).val = 0
    rw [e]; show 0 + 1 * (i 0).val = 0; have : (i 0).val < 1 := (i 0).isLt; omega
  · show k0_off2 k (BitVec.ofNat 32 u.val) 1 + 1 * (i 1).val = (128 * (11 * k.val + u.val) + (i 1).val) % 4224
    rw [e, ← off_row k u _ (i 1).isLt]; show 1408 * k.val + 128 * u.val + 1 * (i 1).val = _; omega
  · show k0_off2 k (BitVec.ofNat 32 u.val) 2 + 1 * (i 2).val = (i 2).val
    rw [e]; show 0 + 1 * (i 2).val = _; omega

theorem ldG_eq {arg : Memref sig .tc .vmem S1x4224x256 .bf16} (h : arg.IsWhole) (x : Vec Ideal S1x4224x256 .bf16)
    (k : Fin k0_t1_loop.trips) (u : Fin 11) : ldG arg (h.unread x) k u = chunkL x (11 * k.val + u.val) := by
  funext i
  refine (h.readAt_unread x (Rect.unit (s := S1x4224x256) (k0_off3 k (BitVec.ofNat 32 u.val)) S1x128x128.size (k0_off3_inb k u)).toLoadRect i).trans (congrArg x ?_)
  have e := k0_off3_eq k u
  funext a; apply Fin.ext; fin_cases a
  · show k0_off3 k (BitVec.ofNat 32 u.val) 0 + 1 * (i 0).val = 0
    rw [e]; show 0 + 1 * (i 0).val = 0; have : (i 0).val < 1 := (i 0).isLt; omega
  · show k0_off3 k (BitVec.ofNat 32 u.val) 1 + 1 * (i 1).val = (128 * (11 * k.val + u.val) + (i 1).val) % 4224
    rw [e, ← off_row k u _ (i 1).isLt]; show 1408 * k.val + 128 * u.val + 1 * (i 1).val = _; omega
  · show k0_off3 k (BitVec.ofNat 32 u.val) 2 + 1 * (i 2).val = (i 2).val
    rw [e]; show 0 + 1 * (i 2).val = _; omega

theorem ldH_eq {arg : Memref sig .tc .vmem S1x4224x256 .bf16} (h : arg.IsWhole) (x : Vec Ideal S1x4224x256 .bf16)
    (k : Fin k0_t1_loop.trips) (u : Fin 11) : ldH arg (h.unread x) k u = chunkR x (11 * k.val + u.val) := by
  funext i
  refine (h.readAt_unread x (Rect.unit (s := S1x4224x256) (k0_off4 k (BitVec.ofNat 32 u.val)) S1x128x128.size (k0_off4_inb k u)).toLoadRect i).trans (congrArg x ?_)
  have e := k0_off4_eq k u
  funext a; apply Fin.ext; fin_cases a
  · show k0_off4 k (BitVec.ofNat 32 u.val) 0 + 1 * (i 0).val = 0
    rw [e]; show 0 + 1 * (i 0).val = 0; have : (i 0).val < 1 := (i 0).isLt; omega
  · show k0_off4 k (BitVec.ofNat 32 u.val) 1 + 1 * (i 1).val = (128 * (11 * k.val + u.val) + (i 1).val) % 4224
    rw [e, ← off_row k u _ (i 1).isLt]; show 1408 * k.val + 128 * u.val + 1 * (i 1).val = _; omega
  · show k0_off4 k (BitVec.ofNat 32 u.val) 2 + 1 * (i 2).val = 128 + (i 2).val
    rw [e]; show 128 + 1 * (i 2).val = _; omega

/-- The state after `n` chunks of the sequence. -/
abbrev stateAt (w : Fixed) (x3 : Vec Ideal S1x4224x128 .bf16) (x4 : Vec Ideal S1x4224x256 .bf16) (n : ℕ) : FVec Ideal S128x256 .f32 :=
  chain w k0_pay3 (chunkA x3) (chunkB x4) n

/-- Chunk `n`'s rows before normalisation. -/
abbrev rowsAt (w : Fixed) (x2 x3 : Vec Ideal S1x4224x128 .bf16) (x4 : Vec Ideal S1x4224x256 .bf16) (n : ℕ) : FVec Ideal S128x256 .f32 :=
  rowsY w (stateAt w x3 x4 n) (chunkA x2 n) (chunkA x3 n) (chunkB x4 n)

/-- The block the body leaves, at a row and a column. -/
def blockOut (w : Fixed) (x2 x3 : Vec Ideal S1x4224x128 .bf16) (x4 x5 : Vec Ideal S1x4224x256 .bf16) (y : S1x4224x256.Idx) : Elt Ideal .bf16 :=
  if h : (y 2).val < 128 then
    outL (rowsAt w x2 x3 x4 ((y 1).val / 128)) (chunkL x5 ((y 1).val / 128)) (ix3 0 ⟨(y 1).val % 128, Nat.mod_lt _ (by decide)⟩ ⟨(y 2).val, h⟩)
  else
    outR (rowsAt w x2 x3 x4 ((y 1).val / 128)) (chunkR x5 ((y 1).val / 128))
      (ix3 0 ⟨(y 1).val % 128, Nat.mod_lt _ (by decide)⟩ ⟨(y 2).val - 128, by have : (y 2).val < 256 := (y 2).isLt; omega⟩)

section Loop

variable (𝒱 : Variants) (c : Dev nD) (bd : Option 𝒱.V) (i : grid0.Coords)
  (arg2 : Memref sig .tc .vmem S1x4224x128 .bf16) (harg2 : arg2.IsWhole) (arg3 : Memref sig .tc .vmem S1x4224x128 .bf16) (harg3 : arg3.IsWhole)
  (arg4 : Memref sig .tc .vmem S1x4224x256 .bf16) (harg4 : arg4.IsWhole) (arg5 : Memref sig .tc .vmem S1x4224x256 .bf16) (harg5 : arg5.IsWhole)
  (arg6 : Memref sig .tc .vmem S2x4x128x128 .f32) (harg6 : arg6.IsWhole) (arg7 : Memref sig .tc .vmem S1x4224x256 .bf16) (harg7 : arg7.IsWhole)
  (w : Fixed) (x2 x3 : Vec Ideal S1x4224x128 .bf16) (x4 x5 : Vec Ideal S1x4224x256 .bf16)

theorem chainAt_eq (k : Fin k0_t1_loop.trips) : ∀ n, n ≤ 11 →
    chainAt arg3 arg4 w (harg3.unread x3) (harg4.unread x4) k (stateAt w x3 x4 (11 * k.val)) n = stateAt w x3 x4 (11 * k.val + n)
  | 0, _ => rfl
  | n + 1, h => by
    have hm : (m11 n).val = n := Nat.mod_eq_of_lt (by omega)
    show stepS w (chainAt arg3 arg4 w (harg3.unread x3) (harg4.unread x4) k (stateAt w x3 x4 (11 * k.val)) n) _ _
      = stepS w (stateAt w x3 x4 (11 * k.val + n)) _ _
    rw [chainAt_eq k n (by omega)]
    refine congrArg₂ (stepS w _) ((ldK_eq harg3 x3 k (m11 n)).trans ?_) ((ldV_eq harg4 x4 k (m11 n)).trans ?_) <;> rw [hm] <;> rfl

theorem yAt_eq (k : Fin k0_t1_loop.trips) (u : Fin 11) :
    yAt arg2 arg3 arg4 w (harg2.unread x2) (harg3.unread x3) (harg4.unread x4) k (stateAt w x3 x4 (11 * k.val)) u.val
      = rowsAt w x2 x3 x4 (11 * k.val + u.val) := by
  have hm : (m11 u.val).val = u.val := Nat.mod_eq_of_lt u.isLt
  show rowsY w (chainAt arg3 arg4 w (harg3.unread x3) (harg4.unread x4) k (stateAt w x3 x4 (11 * k.val)) u.val) _ _ _ = rowsY w _ _ _ _
  rw [chainAt_eq arg3 harg3 arg4 harg4 w x3 x4 k u.val (by have := u.isLt; omega), ldK_eq, ldK_eq, ldV_eq, hm]

/-- A stored piece agrees with the block: the first head's, -/
theorem pieceL_eq (k : Fin k0_t1_loop.trips) (u : Fin 11)
    (x : (pieceL arg2 arg3 arg4 arg5 w (harg2.unread x2) (harg3.unread x3) (harg4.unread x4) (harg5.unread x5) k (stateAt w x3 x4 (11 * k.val)) u).1.shape.Idx) :
    (pieceL arg2 arg3 arg4 arg5 w (harg2.unread x2) (harg3.unread x3) (harg4.unread x4) (harg5.unread x5) k (stateAt w x3 x4 (11 * k.val)) u).2 x
      = blockOut w x2 x3 x4 x5 ((pieceL arg2 arg3 arg4 arg5 w (harg2.unread x2) (harg3.unread x3) (harg4.unread x4) (harg5.unread x5) k (stateAt w x3 x4 (11 * k.val)) u).1.emb x) := by
  have e := k0_off3_eq k u
  have hr : (x 1).val < 128 := (x 1).isLt
  have hd : (x 2).val < 128 := (x 2).isLt
  have h1 : ((Rect.unit (s := S1x4224x256) (k0_off3 k (BitVec.ofNat 32 u.val)) S1x128x128.size (k0_off3_inb k u)).emb x 1).val = 128 * (11 * k.val + u.val) + (x 1).val := by
    show k0_off3 k (BitVec.ofNat 32 u.val) 1 + 1 * (x 1).val = _
    rw [e]; show 1408 * k.val + 128 * u.val + 1 * (x 1).val = _; omega
  have h2 : ((Rect.unit (s := S1x4224x256) (k0_off3 k (BitVec.ofNat 32 u.val)) S1x128x128.size (k0_off3_inb k u)).emb x 2).val = (x 2).val := by
    show k0_off3 k (BitVec.ofNat 32 u.val) 2 + 1 * (x 2).val = _
    rw [e]; show 0 + 1 * (x 2).val = _; omega
  have hx : x = ix3 0 ⟨(x 1).val, hr⟩ ⟨(x 2).val, hd⟩ := by
    funext a; apply Fin.ext; fin_cases a
    · have : (x 0).val < 1 := (x 0).isLt
      show (x 0).val = 0; omega
    · rfl
    · rfl
  change outL (yAt arg2 arg3 arg4 w (harg2.unread x2) (harg3.unread x3) (harg4.unread x4) k (stateAt w x3 x4 (11 * k.val)) u.val) (ldG arg5 (harg5.unread x5) k u) x = blockOut w x2 x3 x4 x5 ((Rect.unit (s := S1x4224x256) (k0_off3 k (BitVec.ofNat 32 u.val)) S1x128x128.size (k0_off3_inb k u)).emb x)
  generalize (Rect.unit (s := S1x4224x256) (k0_off3 k (BitVec.ofNat 32 u.val)) S1x128x128.size (k0_off3_inb k u)).emb x = y at h1 h2
  rw [yAt_eq, ldG_eq]
  unfold blockOut
  rw [dif_pos (by omega)]
  have hq : (y 1).val / 128 = 11 * k.val + u.val := by omega
  simp only [hq]
  refine congrArg _ (hx.trans ?_)
  congr 1 <;> apply Fin.ext
  · show (x 1).val = (y 1).val % 128; omega
  · exact h2.symm

/-- and the second's. -/
theorem pieceR_eq (k : Fin k0_t1_loop.trips) (u : Fin 11)
    (x : (pieceR arg2 arg3 arg4 arg5 w (harg2.unread x2) (harg3.unread x3) (harg4.unread x4) (harg5.unread x5) k (stateAt w x3 x4 (11 * k.val)) u).1.shape.Idx) :
    (pieceR arg2 arg3 arg4 arg5 w (harg2.unread x2) (harg3.unread x3) (harg4.unread x4) (harg5.unread x5) k (stateAt w x3 x4 (11 * k.val)) u).2 x
      = blockOut w x2 x3 x4 x5 ((pieceR arg2 arg3 arg4 arg5 w (harg2.unread x2) (harg3.unread x3) (harg4.unread x4) (harg5.unread x5) k (stateAt w x3 x4 (11 * k.val)) u).1.emb x) := by
  have e := k0_off4_eq k u
  have hr : (x 1).val < 128 := (x 1).isLt
  have hd : (x 2).val < 128 := (x 2).isLt
  have h1 : ((Rect.unit (s := S1x4224x256) (k0_off4 k (BitVec.ofNat 32 u.val)) S1x128x128.size (k0_off4_inb k u)).emb x 1).val = 128 * (11 * k.val + u.val) + (x 1).val := by
    show k0_off4 k (BitVec.ofNat 32 u.val) 1 + 1 * (x 1).val = _
    rw [e]; show 1408 * k.val + 128 * u.val + 1 * (x 1).val = _; omega
  have h2 : ((Rect.unit (s := S1x4224x256) (k0_off4 k (BitVec.ofNat 32 u.val)) S1x128x128.size (k0_off4_inb k u)).emb x 2).val = 128 + (x 2).val := by
    show k0_off4 k (BitVec.ofNat 32 u.val) 2 + 1 * (x 2).val = _
    rw [e]; show 128 + 1 * (x 2).val = _; omega
  have hx : x = ix3 0 ⟨(x 1).val, hr⟩ ⟨(x 2).val, hd⟩ := by
    funext a; apply Fin.ext; fin_cases a
    · have : (x 0).val < 1 := (x 0).isLt
      show (x 0).val = 0; omega
    · rfl
    · rfl
  change outR (yAt arg2 arg3 arg4 w (harg2.unread x2) (harg3.unread x3) (harg4.unread x4) k (stateAt w x3 x4 (11 * k.val)) u.val) (ldH arg5 (harg5.unread x5) k u) x = blockOut w x2 x3 x4 x5 ((Rect.unit (s := S1x4224x256) (k0_off4 k (BitVec.ofNat 32 u.val)) S1x128x128.size (k0_off4_inb k u)).emb x)
  generalize (Rect.unit (s := S1x4224x256) (k0_off4 k (BitVec.ofNat 32 u.val)) S1x128x128.size (k0_off4_inb k u)).emb x = y at h1 h2
  rw [yAt_eq, ldH_eq]
  unfold blockOut
  rw [dif_neg (by omega)]
  have hq : (y 1).val / 128 = 11 * k.val + u.val := by omega
  simp only [hq]
  refine congrArg _ (hx.trans ?_)
  congr 1 <;> apply Fin.ext
  · show (x 1).val = (y 1).val % 128; omega
  · show (x 2).val = (y 2).val - 128; omega

abbrev loopSt (n : ℕ) := st_k0_t1 (F := Ideal) 𝒱 c bd i arg2 harg2 arg3 harg3 arg4 harg4 arg5 harg5 arg6 harg6 arg7 harg7 w.v0 w.v1 w.v2 w.v3 w.v4 w.v9 w.v14 w.v21 w.v23 w.v24
  (harg2.unread x2) (harg3.unread x3) (harg4.unread x4) (harg5.unread x5) k0_pay3 n

/-- Before trip `n` the loop carries the state after `11 n` chunks, and each piece stored agrees with the block. -/
theorem loop_inv : ∀ n, n ≤ 3 →
    (loopSt 𝒱 c bd i arg2 harg2 arg3 harg3 arg4 harg4 arg5 harg5 arg6 harg6 arg7 harg7 w x2 x3 x4 x5 n).1 = stateAt w x3 x4 (11 * n)
    ∧ ∀ p ∈ (loopSt 𝒱 c bd i arg2 harg2 arg3 harg3 arg4 harg4 arg5 harg5 arg6 harg6 arg7 harg7 w x2 x3 x4 x5 n).2,
      ∀ x : p.1.shape.Idx, p.2 x = blockOut w x2 x3 x4 x5 (p.1.emb x)
  | 0, _ => ⟨rfl, fun p hp => absurd hp (by rw [show (loopSt 𝒱 c bd i arg2 harg2 arg3 harg3 arg4 harg4 arg5 harg5 arg6 harg6 arg7 harg7 w x2 x3 x4 x5 0).2 = [] from rfl]; exact List.not_mem_nil)⟩
  | n + 1, h => by
    obtain ⟨h1, h2⟩ := loop_inv n (by omega)
    have hs := st_k0_t1_succ (F := Ideal) 𝒱 c bd i arg2 harg2 arg3 harg3 arg4 harg4 arg5 harg5 arg6 harg6 arg7 harg7 w.v0 w.v1 w.v2 w.v3 w.v4 w.v9 w.v14 w.v21 w.v23 w.v24
      (harg2.unread x2) (harg3.unread x3) (harg4.unread x4) (harg5.unread x5) k0_pay3 (⟨n, by show n < 3; omega⟩ : Fin k0_t1_loop.trips)
    dsimp only at hs
    unfold loopSt at h1 h2 ⊢
    rw [h1] at hs
    constructor
    · rw [hs]
      refine (tripR_eq 𝒱 c bd i arg2 harg2 arg3 harg3 arg4 harg4 arg5 harg5 arg6 harg6 arg7 harg7 w _ _ _ _ _ _).trans ?_
      exact chainAt_eq arg3 harg3 arg4 harg4 w x3 x4 ⟨n, by show n < 3; omega⟩ 11 (by omega)
    · rw [hs]
      intro p hp
      rcases List.mem_append.mp hp with hp | hp
      · obtain ⟨u, rfl | rfl⟩ := tripL_mem 𝒱 c bd i arg2 harg2 arg3 harg3 arg4 harg4 arg5 harg5 arg6 harg6 arg7 harg7 w _ _ _ _ _ _ p hp
        · exact pieceL_eq arg2 harg2 arg3 harg3 arg4 harg4 arg5 harg5 w x2 x3 x4 x5 ⟨n, _⟩ u
        · exact pieceR_eq arg2 harg2 arg3 harg3 arg4 harg4 arg5 harg5 w x2 x3 x4 x5 ⟨n, _⟩ u
      · exact h2 p hp

end Loop

end Cert.RetKernelIdeal.Pure

end
-- ==== Proof.RetSpec.lean ====
/- Chunked retention of one head, as numbers: the state carried over the chunks, a chunk's rows, and the normalisation and
   gate of a row. -/
module

public import Idealize.ShloMosaic.Lib.Pointwise

@[expose] public section

noncomputable section

open Idealize.ShloMosaic

namespace Cert.RetSpec

/-- The state of a head before chunk `n`: each chunk decays it by `dc` and adds the decayed keys' outer products with the
    values. -/
def state (dc : EReal) (dk : Fin 128 → EReal) (K : ℕ → Fin 128 → Fin 64 → EReal) (V : ℕ → Fin 128 → Fin 128 → EReal) :
    ℕ → Fin 64 → Fin 128 → EReal
  | 0 => fun _ _ => 0
  | n + 1 => fun f d => state dc dk K V n f d * dc + ∑ r, K n r f * dk r * V n r d

/-- A chunk's row `r` of a head: the decayed scores inside the chunk times its values, and the queries on the state. -/
def row (D : Fin 128 → Fin 128 → EReal) (dq : Fin 128 → EReal) (Q K : Fin 128 → Fin 64 → EReal) (V : Fin 128 → Fin 128 → EReal)
    (S : Fin 64 → Fin 128 → EReal) (r d : Fin 128) : EReal :=
  (∑ j, (∑ f, Q r f * K j f) * D r j * V j d) + (∑ f, Q r f * S f d) * dq r

/-- The mean of a head's row. -/
def mean (y : Fin 128 → EReal) : EReal := Ideal.div (∑ k, y k) (Ideal.ofBits .f32 0x43000000#32)

/-- A head's row, centred and scaled by the reciprocal root of its variance plus 1e-5. -/
def norm (y : Fin 128 → EReal) (d : Fin 128) : EReal :=
  (y d - mean y) * Ideal.rsqrt (mean (fun k => (y k - mean y) * (y k - mean y)) + Ideal.ofBits .f32 0x3727C5AC#32)

/-- The gate of a normalised number. -/
def gate (g y : EReal) : EReal := g * Ideal.logistic g * y

end Cert.RetSpec

end
-- ==== Proof.RetPure.lean ====
/- The retention call: a chunk's step and rows, read at an index, are the retention of each of a block's two heads. -/
module
public import proofs.«01_k».proof.Proof.RetTrip
public import proofs.«01_k».proof.Proof.RetSpec
@[expose] public section
set_option maxRecDepth 16384
noncomputable section
open Idealize.ShloMosaic Idealize.ShloMosaic.TcCoe Idealize.SL.Sem
namespace Cert.RetKernelIdeal.Pure
open Cert.RetKernelIdeal Cert.RetKernelIdeal.Gen

/-- Feature `f` of head `h` among a block's 128 query or key columns. -/
def lane (h : Fin 2) (f : Fin 64) : Fin 128 := ⟨64 * h.val + f.val, by have := h.isLt; have := f.isLt; omega⟩
/-- Feature `d` of head `h` among a block's 256 value columns. -/
def col (h : Fin 2) (d : Fin 128) : Fin 256 := ⟨128 * h.val + d.val, by have := h.isLt; have := d.isLt; omega⟩
/-- Row `r` of head `h` in a stack of both heads' rows. -/
def stacked (h : Fin 2) (r : Fin 128) : Fin 256 := ⟨128 * h.val + r.val, by have := h.isLt; have := r.isLt; omega⟩

theorem lane_lt (f : Fin 128) : IntOp.cmpi .slt (BitVec.ofNat 32 f.val) 64#32 = if f.val < 64 then 1#1 else 0#1 := by
  revert f; decide +kernel
theorem col_lt (l : Fin 256) : IntOp.cmpi .slt (BitVec.ofNat 32 l.val) 128#32 = if l.val < 128 then 1#1 else 0#1 := by
  revert l; decide +kernel

/-- The columns' numbers, 128 and 256 wide, and the rows' numbers. -/
abbrev lanes : IVec S128x128 32 := iota .tc S128x128 32 [1] iota_S128x128_d1_w32
abbrev cols : IVec S128x256 32 := iota .tc S128x256 32 [1] iota_S128x256_d1_w32
abbrev rows : IVec S128x256 32 := iota .tc S128x256 32 [0] iota_S128x256_d0_w32

theorem mask_apply (f : Fin 128) (l : Fin 256) :
    k0_pay2 (F := Ideal) cols rows (ix2 f l) = if (f.val < 64 ↔ l.val < 128) then 1 else 0 := by
  pointwise [k0_pay2]
  rw [lane_lt, col_lt]
  have e1 : (FloatOps.sitofp (F := Ideal) FTy.f32 (1#32) : EReal) = 1 := by
    show (((1#32 : BitVec 32).toInt : ℝ) : EReal) = 1
    norm_num
  have e0 : (FloatOps.sitofp (F := Ideal) FTy.f32 (0#32) : EReal) = 0 := by
    show (((0#32 : BitVec 32).toInt : ℝ) : EReal) = 0
    norm_num
  by_cases hf : f.val < 64 <;> by_cases hl : l.val < 128 <;> simp only [hf, hl, if_true, if_false, iff_true, true_iff, iff_self, iff_false, false_iff, not_true_eq_false, not_false_eq_true]
  · exact e1
  · exact e0
  · exact e0
  · exact e1

/-- What is asked of the values read before the loop: the columns' numbers, zero fillers, and each head's decays. -/
structure Decays (w : Fixed) (D : Fin 2 → Fin 128 → Fin 128 → EReal) (dq dk : Fin 2 → Fin 128 → EReal) (dc : Fin 2 → EReal) : Prop where
  v0 : w.v0 = lanes
  v1 : w.v1 = cols
  v2 : w.v2 = rows
  v3 : w.v3 = k0_pay112
  v4 : w.v4 = k0_pay113
  inner : ∀ h r j, w.v9 (ix2 (stacked h r) j) = D h r j
  query : ∀ h r d, w.v14 (ix2 r (col h d)) = dq h r
  key : ∀ h r f, w.v21 (ix2 r (lane h f)) = dk h r
  first : ∀ f d, w.v23 (ix2 f d) = dc 0
  second : ∀ f d, w.v24 (ix4 0 0 f d) = dc 1

theorem sum_halves (g : Fin 128 → EReal) : ∑ x, g x = ∑ f, g (lane 0 f) + ∑ f, g (lane 1 f) := by
  refine (Fin.sum_univ_add (a := 64) (b := 64) g).trans (congrArg₂ _ ?_ ?_)
  · exact Finset.sum_congr rfl fun f _ => congrArg g (Fin.ext (by show f.val = 64 * 0 + f.val; omega))
  · exact Finset.sum_congr rfl fun f _ => congrArg g (Fin.ext (by show 64 + f.val = 64 * 1 + f.val; omega))

theorem sum_first (g : Fin 128 → EReal) : (∑ f : Fin 128, if f.val < 64 then g f else 0) = ∑ f, g (lane 0 f) := by
  rw [sum_halves]
  refine (congrArg₂ _ (Finset.sum_congr rfl fun f _ => if_pos ?_) (Finset.sum_eq_zero fun f _ => if_neg ?_)).trans (add_zero _)
  · show 64 * 0 + f.val < 64; have := f.isLt; omega
  · show ¬ 64 * 1 + f.val < 64; omega

theorem sum_second (g : Fin 128 → EReal) : (∑ f : Fin 128, if f.val < 64 then 0 else g f) = ∑ f, g (lane 1 f) := by
  rw [sum_halves]
  refine (congrArg₂ _ (Finset.sum_eq_zero fun f _ => if_pos ?_) (Finset.sum_congr rfl fun f _ => if_neg ?_)).trans (zero_add _)
  · show 64 * 0 + f.val < 64; have := f.isLt; omega
  · show ¬ 64 * 1 + f.val < 64; omega

variable {w : Fixed} {D : Fin 2 → Fin 128 → Fin 128 → EReal} {dq dk : Fin 2 → Fin 128 → EReal} {dc : Fin 2 → EReal}

theorem step_at (acc : FVec Ideal S128x256 .f32) (kb : Vec Ideal S1x128x128 .bf16) (vb : Vec Ideal S1x128x256 .bf16) (f : Fin 128) (l : Fin 256) :
    stepS w acc kb vb (ix2 f l)
      = (acc (ix2 f l) * if h : l.val < 128 then w.v23 (ix2 f ⟨l.val, h⟩) else w.v24 (ix4 0 0 f ⟨l.val - 128, by have := l.isLt; omega⟩))
        + (∑ x, kb (ix3 0 x f) * w.v21 (ix2 x f) * vb (ix3 0 x l)) * k0_pay2 w.v1 w.v2 (ix2 f l) := by
  pointwise [stepS, k0_pay10, k0_pay6, k0_pay8, k0_pay9, k0_pay1, k0_pay5]

/-- A step on a head's own part of the state, -/
theorem step_same (hw : Decays w D dq dk dc) (acc : FVec Ideal S128x256 .f32) (kb : Vec Ideal S1x128x128 .bf16) (vb : Vec Ideal S1x128x256 .bf16)
    (h : Fin 2) (f : Fin 64) (d : Fin 128) :
    stepS w acc kb vb (ix2 (lane h f) (col h d))
      = acc (ix2 (lane h f) (col h d)) * dc h + ∑ x, kb (ix3 0 x (lane h f)) * dk h x * vb (ix3 0 x (col h d)) := by
  rw [step_at, hw.v1, hw.v2, mask_apply]
  have hf := f.isLt
  have hd := d.isLt
  have e : ((lane h f).val < 64 ↔ (col h d).val < 128) := by
    show 64 * h.val + f.val < 64 ↔ 128 * h.val + d.val < 128
    omega
  rw [if_pos e, mul_one]
  refine congrArg₂ _ (congrArg _ ?_) (Finset.sum_congr rfl fun x _ => by rw [hw.key])
  match h with
  | 0 => rw [dif_pos (show (col 0 d).val < 128 from by show 128 * 0 + d.val < 128; omega)]; exact hw.first _ _
  | 1 => rw [dif_neg (show ¬ (col 1 d).val < 128 from by show ¬ 128 * 1 + d.val < 128; omega)]; exact hw.second _ _

/-- and on the part of two different heads, which stays zero. -/
theorem step_other (hw : Decays w D dq dk dc) (acc : FVec Ideal S128x256 .f32) (kb : Vec Ideal S1x128x128 .bf16) (vb : Vec Ideal S1x128x256 .bf16)
    (h h' : Fin 2) (hh : h ≠ h') (f : Fin 64) (d : Fin 128) (h0 : acc (ix2 (lane h f) (col h' d)) = 0) :
    stepS w acc kb vb (ix2 (lane h f) (col h' d)) = 0 := by
  rw [step_at, hw.v1, hw.v2, mask_apply, h0]
  have hf := f.isLt
  have hd := d.isLt
  have hn : h.val ≠ h'.val := fun e => hh (Fin.ext e)
  have e : ¬ ((lane h f).val < 64 ↔ (col h' d).val < 128) := by
    show ¬ (64 * h.val + f.val < 64 ↔ 128 * h'.val + d.val < 128)
    have := h.isLt; have := h'.isLt
    omega
  rw [if_neg e, mul_zero, zero_mul, add_zero]

/-- The state after `n` chunks: each head's own state, and zero between different heads. -/
theorem state_at (hw : Decays w D dq dk dc) (x3 : Vec Ideal S1x4224x128 .bf16) (x4 : Vec Ideal S1x4224x256 .bf16) : ∀ n,
    (∀ h f d, stateAt w x3 x4 n (ix2 (lane h f) (col h d))
      = Cert.RetSpec.state (dc h) (dk h) (fun n r f => chunkA x3 n (ix3 0 r (lane h f))) (fun n r d => chunkB x4 n (ix3 0 r (col h d))) n f d)
    ∧ (∀ h h', h ≠ h' → ∀ f d, stateAt w x3 x4 n (ix2 (lane h f) (col h' d)) = 0)
  | 0 => by
    have h0 : ∀ i, (k0_pay3 (F := Ideal)) i = 0 := fun i => by pointwise [k0_pay3]
    exact ⟨fun h f d => h0 _, fun h h' hh f d => h0 _⟩
  | n + 1 => by
    obtain ⟨a, b⟩ := state_at hw x3 x4 n
    refine ⟨fun h f d => (step_same hw _ _ _ h f d).trans ?_, fun h h' hh f d => step_other hw _ _ _ h h' hh f d (b h h' hh f d)⟩
    exact congrArg (· * dc h + _) (a h f d)

theorem select_zero_left (b : Prop) [Decidable b] (x : EReal) : Scalar.select (if b then 1#1 else 0#1) x 0 = if b then x else 0 := by
  by_cases h : b <;> simp only [h, if_true, if_false] <;> rfl
theorem select_zero_right (b : Prop) [Decidable b] (x : EReal) : Scalar.select (if b then 1#1 else 0#1) 0 x = if b then 0 else x := by
  by_cases h : b <;> simp only [h, if_true, if_false] <;> rfl

theorem y_at (hw : Decays w D dq dk dc) (acc : FVec Ideal S128x256 .f32) (qb kb : Vec Ideal S1x128x128 .bf16) (vb : Vec Ideal S1x128x256 .bf16)
    (r : Fin 128) (l : Fin 256) : rowsY w acc qb kb vb (ix2 r l)
      = ((∑ x, if l.val < 128 then (∑ f : Fin 128, if f.val < 64 then qb (ix3 0 r f) * kb (ix3 0 x f) else 0) * w.v9 (ix2 ⟨r.val, by have := r.isLt; omega⟩ x) * vb (ix3 0 x l) else 0)
        + (∑ x, if l.val < 128 then 0 else (∑ f : Fin 128, if f.val < 64 then 0 else qb (ix3 0 r f) * kb (ix3 0 x f)) * w.v9 (ix2 ⟨128 + r.val, by have := r.isLt; omega⟩ x) * vb (ix3 0 x l)))
        + (∑ f, qb (ix3 0 r f) * acc (ix2 f l)) * w.v14 (ix2 r l) := by
  obtain ⟨v0, v1, v2, v3, v4, v9, v14, v21, v23, v24⟩ := w
  obtain ⟨h0, h1, h2, h3, h4, -, -, -, -, -⟩ := hw
  dsimp only at h0 h1 h2 h3 h4 ⊢
  subst h0 h1 h2 h3 h4
  generalize hX : ((_ + _) + _ * v14 (ix2 r l) : EReal) = X
  pointwise [rowsY, k0_pay7, k0_pay6, k0_pay5, k0_pay112, k0_pay113]
  simp only [lane_lt, col_lt, select_zero_left, select_zero_right]
  exact hX

/-- A chunk's row of a head, of a state whose part between different heads is zero. -/
theorem y_head (hw : Decays w D dq dk dc) (acc : FVec Ideal S128x256 .f32) (qb kb : Vec Ideal S1x128x128 .bf16) (vb : Vec Ideal S1x128x256 .bf16)
    (h0 : ∀ h h', h ≠ h' → ∀ f d, acc (ix2 (lane h f) (col h' d)) = 0) (h : Fin 2) (r d : Fin 128) :
    rowsY w acc qb kb vb (ix2 r (col h d))
      = Cert.RetSpec.row (D h) (dq h) (fun r f => qb (ix3 0 r (lane h f))) (fun r f => kb (ix3 0 r (lane h f)))
          (fun r d => vb (ix3 0 r (col h d))) (fun f d => acc (ix2 (lane h f) (col h d))) r d := by
  have hd := d.isLt
  have z' : (∑ f : Fin 128, (0 : EReal)) = 0 := Finset.sum_const_zero
  rw [y_at hw, hw.query]
  unfold Cert.RetSpec.row
  match h with
  | 0 =>
    have c : (col 0 d).val < 128 := by show 128 * 0 + d.val < 128; omega
    simp only [c, if_true, z', add_zero, sum_first]
    refine congrArg₂ _ (Finset.sum_congr rfl fun j _ => ?_) (congrArg (· * _) ?_)
    · rw [← hw.inner 0 r j]
      exact congrArg (fun t => _ * w.v9 (ix2 t j) * _) (Fin.ext (by show r.val = 128 * 0 + r.val; omega))
    · rw [sum_halves]
      refine (congrArg _ (Finset.sum_eq_zero fun f _ => ?_)).trans (add_zero _)
      rw [h0 1 0 (by decide), mul_zero]
  | 1 =>
    have c : ¬ (col 1 d).val < 128 := by show ¬ 128 * 1 + d.val < 128; omega
    simp only [c, if_false, z', zero_add, sum_second]
    refine congrArg₂ _ (Finset.sum_congr rfl fun j _ => ?_) (congrArg (· * _) ?_)
    · rw [← hw.inner 1 r j]
      exact congrArg (fun t => _ * w.v9 (ix2 t j) * _) (Fin.ext (by show 128 + r.val = 128 * 1 + r.val; omega))
    · rw [sum_halves]
      refine (congrArg (· + _) (Finset.sum_eq_zero fun f _ => ?_)).trans (zero_add _)
      rw [h0 0 1 (by decide), mul_zero]

theorem outL_at (y : FVec Ideal S128x256 .f32) (g : Vec Ideal S1x128x128 .bf16) (r d : Fin 128) :
    outL y g (ix3 0 r d) = Cert.RetSpec.gate (g (ix3 0 r d)) (Cert.RetSpec.norm (fun d => y (ix2 r (col 0 d))) d) := by
  have e : ∀ d : Fin 128, (⟨d.val, by have := d.isLt; omega⟩ : Fin 256) = col 0 d := fun d => Fin.ext (by show d.val = 128 * 0 + d.val; omega)
  pointwise [outL, k0_pay11, Cert.RetSpec.gate, Cert.RetSpec.norm, Cert.RetSpec.mean]
  simp only [e]

theorem outR_at (y : FVec Ideal S128x256 .f32) (g : Vec Ideal S1x128x128 .bf16) (r d : Fin 128) :
    outR y g (ix3 0 r d) = Cert.RetSpec.gate (g (ix3 0 r d)) (Cert.RetSpec.norm (fun d => y (ix2 r (col 1 d))) d) := by
  have e : ∀ d : Fin 128, (⟨128 + d.val, by have := d.isLt; omega⟩ : Fin 256) = col 1 d := fun d => Fin.ext (by show 128 + d.val = 128 * 1 + d.val; omega)
  pointwise [outR, k0_pay15, k0_pay12, k0_pay13, k0_pay14, Cert.RetSpec.gate, Cert.RetSpec.norm, Cert.RetSpec.mean]
  simp only [e]

end Cert.RetKernelIdeal.Pure
end
-- ==== Proof.RetRef.lean ====
/- The reference of the retention call: the state and the rows its loop computes, read at an index, are the retention of each
   of the four heads; its result is their normalised and gated rows. -/
module
public import proofs.«01_k».proof.Proof.RetRun
public import proofs.«01_k».proof.Proof.RetSpec
public import Idealize.ShloMosaic.Lib.WordCmp
@[expose] public section
set_option maxRecDepth 16384
noncomputable section
open Idealize.ShloMosaic Idealize.ShloMosaic.TcCoe Idealize.SL.Sem
namespace Cert.RetReferenceIdeal.Pure
open Cert.RetReferenceIdeal Cert.RetReferenceIdeal.Gen Cert.RetReferenceIdeal.Step

/-- Row `r` of chunk `n`, among the sequence's rows. -/
def seqRow (n : ℕ) (r : Fin 128) : Fin 4224 := ⟨(128 * n + r.val) % 4224, Nat.mod_lt _ (by decide)⟩
/-- Feature `f` of head `h` among the 256 query or key columns. -/
def keyCol (h : Fin 4) (f : Fin 64) : Fin 256 := ⟨64 * h.val + f.val, by have := h.isLt; have := f.isLt; omega⟩
/-- Feature `d` of head `h` among the 512 value columns. -/
def valCol (h : Fin 4) (d : Fin 128) : Fin 512 := ⟨128 * h.val + d.val, by have := h.isLt; have := d.isLt; omega⟩

theorem word_toInt : ∀ j : Fin 33, (BitVec.ofNat 32 j.val).toInt = (j.val : Int) := by decide +kernel

theorem fits64 (j : ℕ) (hj : j < 33) : S33x8x128x4x64.Slices ![j, 0, 0, 0, 0] S1x8x128x4x64 :=
  ⟨rfl, fun a => by
    fin_cases a
    · show j + 1 ≤ 33; omega
    · show 0 + 8 ≤ 8; omega
    · show 0 + 128 ≤ 128; omega
    · show 0 + 4 ≤ 4; omega
    · show 0 + 64 ≤ 64; omega⟩

theorem fits128 (j : ℕ) (hj : j < 33) : S33x8x128x4x128.Slices ![j, 0, 0, 0, 0] S1x8x128x4x128 :=
  ⟨rfl, fun a => by
    fin_cases a
    · show j + 1 ≤ 33; omega
    · show 0 + 8 ≤ 8; omega
    · show 0 + 128 ≤ 128; omega
    · show 0 + 4 ≤ 4; omega
    · show 0 + 128 ≤ 128; omega⟩

section Slices

variable (j : ℕ) (hj : j < 33) (s : State Ideal)
include hj

theorem b5_at (b : Fin 8) (r : Fin 128) (h : Fin 4) (f : Fin 64) : b5 j s (ix4 b r h f) = s.main_v57_0 (ix5 ⟨j, hj⟩ b r h f) := by
  have e : b4 j s = extractStridedSlice S1x8x128x4x64 ![j, 0, 0, 0, 0] s.main_v57_0 (fits64 j hj) :=
    WordCmp.dynamicSlice_eq_extract _ _ _ _ _ _ (fun a => by
      fin_cases a
      · exact word_toInt ⟨j, hj⟩
      all_goals rfl)
  unfold b5
  rw [e]
  pointwise

theorem b11_at (b : Fin 8) (r : Fin 128) (h : Fin 4) (f : Fin 64) : b11 j s (ix4 b r h f) = s.main_v57_1 (ix5 ⟨j, hj⟩ b r h f) := by
  have e : b10 j s = extractStridedSlice S1x8x128x4x64 ![j, 0, 0, 0, 0] s.main_v57_1 (fits64 j hj) :=
    WordCmp.dynamicSlice_eq_extract _ _ _ _ _ _ (fun a => by
      fin_cases a
      · exact word_toInt ⟨j, hj⟩
      all_goals rfl)
  unfold b11
  rw [e]
  pointwise

theorem b17_at (b : Fin 8) (r : Fin 128) (h : Fin 4) (d : Fin 128) : b17 j s (ix4 b r h d) = s.main_v57_2 (ix5 ⟨j, hj⟩ b r h d) := by
  have e : b16 j s = extractStridedSlice S1x8x128x4x128 ![j, 0, 0, 0, 0] s.main_v57_2 (fits128 j hj) :=
    WordCmp.dynamicSlice_eq_extract _ _ _ _ _ _ (fun a => by
      fin_cases a
      · exact word_toInt ⟨j, hj⟩
      all_goals rfl)
  unfold b17
  rw [e]
  pointwise

theorem b43_at (n : Fin 33) (b : Fin 8) (r : Fin 128) (h : Fin 4) (d : Fin 128) :
    b43 j s (ix5 n b r h d) = if n.val = j then b29 j s (ix4 b r h d) else s.main_v57_9 (ix5 n b r h d) := by
  have e : b43 j s = updateSlice s.main_v57_9 (b38 j s) ![j, 0, 0, 0, 0] (fits128 j hj) :=
    WordCmp.dynamicUpdateSlice_eq_update _ _ _ _ _ _ (fun a => by
      fin_cases a
      · exact word_toInt ⟨j, hj⟩
      all_goals rfl)
  rw [e]
  generalize hX : (if n.val = j then _ else _) = X
  pointwise [b38]
  rw [← hX]
  by_cases h : n.val = j
  · rw [if_pos h, dif_pos ⟨by omega, by omega⟩]
  · rw [if_neg h, dif_neg (by omega)]

end Slices

theorem b37_at (j : ℕ) (s : State Ideal) (b : Fin 8) (h : Fin 4) (f : Fin 64) (d : Fin 128) :
    b37 j s (ix4 b h f d) = s.main_v57_8 (ix4 b h f d) * K_main_v48 (F := Ideal) (ix1 h)
      + ∑ x, b11 j s (ix4 b x h f) * K_main_v45 (F := Ideal) (ix2 x h) * b17 j s (ix4 b x h d) := by
  pointwise [b37, b32, b31, b30, b36, b35, b34, b33]

theorem b29_at (j : ℕ) (s : State Ideal) (b : Fin 8) (r : Fin 128) (h : Fin 4) (d : Fin 128) :
    b29 j s (ix4 b r h d)
      = (∑ x, b17 j s (ix4 b x h d) * ((∑ f, b5 j s (ix4 b r h f) * b11 j s (ix4 b x h f)) * K_main_v29 (F := Ideal) (ix3 h r x)))
        + (∑ f, s.main_v57_8 (ix4 b h f d) * b5 j s (ix4 b r h f)) * K_main_v37 (F := Ideal) (ix2 r h) := by
  pointwise [b29, b28, b27, b26, b25, b24, b23, b22, b21, b20, b19, b18]

section Args

variable (a0 a1 : (⟨S8x4224x256, .bf16⟩ : BufTy).Contents (Elt Ideal)) (a2 : (⟨S8x4224x512, .bf16⟩ : BufTy).Contents (Elt Ideal))

theorem q_at (n : Fin 33) (b : Fin 8) (r : Fin 128) (h : Fin 4) (f : Fin 64) :
    A_main_v51 (F := Ideal) a0 a1 a2 (ix5 n b r h f) = a0 (ix3 b (seqRow n.val r) (keyCol h f)) := by
  pointwise [A_main_v51, A_main_v50, A_main_v1, A_main_v0]
  have := n.isLt; have := r.isLt
  refine congrArg a0 (congrArg₂ (ix3 b) (Fin.ext ?_) (Fin.ext ?_))
  · show n.val * 128 + r.val = (128 * n.val + r.val) % 4224; omega
  · show h.val * 64 + f.val = 64 * h.val + f.val; omega

theorem k_at (n : Fin 33) (b : Fin 8) (r : Fin 128) (h : Fin 4) (f : Fin 64) :
    A_main_v53 (F := Ideal) a0 a1 a2 (ix5 n b r h f) = a1 (ix3 b (seqRow n.val r) (keyCol h f)) := by
  pointwise [A_main_v53, A_main_v52, A_main_v3, A_main_v2]
  have := n.isLt; have := r.isLt
  refine congrArg a1 (congrArg₂ (ix3 b) (Fin.ext ?_) (Fin.ext ?_))
  · show n.val * 128 + r.val = (128 * n.val + r.val) % 4224; omega
  · show h.val * 64 + f.val = 64 * h.val + f.val; omega

theorem v_at (n : Fin 33) (b : Fin 8) (r : Fin 128) (h : Fin 4) (d : Fin 128) :
    A_main_v55 (F := Ideal) a0 a1 a2 (ix5 n b r h d) = a2 (ix3 b (seqRow n.val r) (valCol h d)) := by
  pointwise [A_main_v55, A_main_v54, A_main_v5, A_main_v4]
  have := n.isLt; have := r.isLt
  refine congrArg a2 (congrArg₂ (ix3 b) (Fin.ext ?_) (Fin.ext ?_))
  · show n.val * 128 + r.val = (128 * n.val + r.val) % 4224; omega
  · show h.val * 128 + d.val = 128 * h.val + d.val; omega

/-- A head's decays: between two rows of a chunk, of a row's queries, of a row's keys, and of a whole chunk. -/
def decayIn (h : Fin 4) (r j : Fin 128) : EReal := K_main_v29 (F := Ideal) (ix3 h r j)
def decayQ (h : Fin 4) (r : Fin 128) : EReal := K_main_v37 (F := Ideal) (ix2 r h)
def decayK (h : Fin 4) (r : Fin 128) : EReal := K_main_v45 (F := Ideal) (ix2 r h)
def decayC (h : Fin 4) : EReal := K_main_v48 (F := Ideal) (ix1 h)

/-- The state of head `h` of batch `b` before chunk `n`. -/
def headState (b : Fin 8) (h : Fin 4) (n : ℕ) : Fin 64 → Fin 128 → EReal :=
  Cert.RetSpec.state (decayC h) (decayK h) (fun n r f => a1 (ix3 b (seqRow n r) (keyCol h f))) (fun n r d => a2 (ix3 b (seqRow n r) (valCol h d))) n

/-- Row `r` of chunk `n` of head `h` of batch `b`, before normalisation. -/
def headRow (b : Fin 8) (h : Fin 4) (n : ℕ) (r d : Fin 128) : EReal :=
  Cert.RetSpec.row (decayIn h) (decayQ h) (fun r f => a0 (ix3 b (seqRow n r) (keyCol h f))) (fun r f => a1 (ix3 b (seqRow n r) (keyCol h f)))
    (fun r d => a2 (ix3 b (seqRow n r) (valCol h d))) (headState a1 a2 b h n) r d

/-- What holds of the loop's state after `n` chunks. -/
structure Inv (n : ℕ) (s : State Ideal) : Prop where
  qs : s.main_v57_0 = A_main_v51 a0 a1 a2
  ks : s.main_v57_1 = A_main_v53 a0 a1 a2
  vs : s.main_v57_2 = A_main_v55 a0 a1 a2
  state : ∀ b h f d, s.main_v57_8 (ix4 b h f d) = headState a1 a2 b h n f d
  rows : ∀ (i : Fin 33), i.val < n → ∀ b r h d, s.main_v57_9 (ix5 i b r h d) = headRow a0 a1 a2 b h i.val r d

theorem inv_start : Inv a0 a1 a2 0 (init a0 a1 a2) where
  qs := rfl
  ks := rfl
  vs := rfl
  state b h f d := by
    show K_main_v49 (F := Ideal) (ix4 b h f d) = 0
    pointwise [K_main_v49, K_main_cst_9]
  rows i hi := absurd hi (Nat.not_lt_zero _)

theorem inv_step (n : ℕ) (hn : n < 33) (s : State Ideal) (hs : Inv a0 a1 a2 n s) : Inv a0 a1 a2 (n + 1) (step n s) where
  qs := hs.qs
  ks := hs.ks
  vs := hs.vs
  state b h f d := by
    rw [step_main_v57_8, b37_at, hs.state]
    refine congrArg₂ _ rfl (Finset.sum_congr rfl fun x _ => ?_)
    rw [b11_at n hn, b17_at n hn, hs.ks, hs.vs, k_at, v_at]
    rfl
  rows i hi b r h d := by
    rw [step_main_v57_9, b43_at n hn]
    by_cases e : i.val = n
    · rw [if_pos e, b29_at, e]
      refine congrArg₂ _ (Finset.sum_congr rfl fun x _ => ?_) (congrArg (· * _) (Finset.sum_congr rfl fun f _ => ?_))
      · rw [b17_at n hn, hs.vs, v_at, mul_comm]
        refine congrArg (· * _ * _) (Finset.sum_congr rfl fun f _ => ?_)
        rw [b5_at n hn, b11_at n hn, hs.qs, hs.ks, q_at, k_at]
      · rw [hs.state, b5_at n hn, hs.qs, q_at, mul_comm]
    · rw [if_neg e]
      exact hs.rows i (by omega) b r h d

end Args

variable (m : (ℓ : Loc nD τ sig) → Buf (Elt Ideal) ℓ) (c : Dev nD)

theorem inv_after : ∀ n, n ≤ 33 → Inv (m ((c.tc : Thread nD τ).loc main_arg0)) (m ((c.tc : Thread nD τ).loc main_arg1)) (m ((c.tc : Thread nD τ).loc main_arg2))
    n (Iter.after m c n)
  | 0, _ => inv_start _ _ _
  | n + 1, h => inv_step _ _ _ n (by omega) _ (inv_after n (by omega))

/-- The reference's result at batch `b`, row `n` and column `d`. -/
def answer (a0 a1 : (⟨S8x4224x256, .bf16⟩ : BufTy).Contents (Elt Ideal)) (a2 a3 : (⟨S8x4224x512, .bf16⟩ : BufTy).Contents (Elt Ideal))
    (b : Fin 8) (n : Fin 4224) (d : Fin 512) : EReal :=
  Cert.RetSpec.gate (a3 (ix3 b n d))
    (Cert.RetSpec.norm (headRow a0 a1 a2 b ⟨d.val / 128, by have := d.isLt; omega⟩ (n.val / 128) ⟨n.val % 128, Nat.mod_lt _ (by decide)⟩)
      ⟨d.val % 128, Nat.mod_lt _ (by decide)⟩)

/-- The result in terms of the rows the loop left. -/
theorem gated_at (s : State Ideal) (g : (⟨S8x4224x512, .bf16⟩ : BufTy).Contents (Elt Ideal)) (b : Fin 8) (n : Fin 4224) (d : Fin 512) :
    R_main_v82 s g (ix3 b n d)
      = Cert.RetSpec.gate (g (ix3 b n d)) (Cert.RetSpec.norm
          (fun x => s.main_v57_9 (ix5 ⟨n.val / 128, by have := n.isLt; omega⟩ b ⟨n.val % 128, Nat.mod_lt _ (by decide)⟩ ⟨d.val / 128, by have := d.isLt; omega⟩ x))
          ⟨d.val % 128, Nat.mod_lt _ (by decide)⟩) := by
  unfold Cert.RetSpec.gate Cert.RetSpec.norm Cert.RetSpec.mean Ideal.logistic
  pointwise [R_main_v82]

theorem result_at (b : Fin 8) (n : Fin 4224) (d : Fin 512) :
    R_main_v82 (Iter.after m c 33) (m ((c.tc : Thread nD τ).loc main_arg3)) (ix3 b n d)
      = answer (m ((c.tc : Thread nD τ).loc main_arg0)) (m ((c.tc : Thread nD τ).loc main_arg1)) (m ((c.tc : Thread nD τ).loc main_arg2))
          (m ((c.tc : Thread nD τ).loc main_arg3)) b n d := by
  have hn := n.isLt
  refine (gated_at _ _ b n d).trans ?_
  unfold answer
  refine congrArg (fun y => Cert.RetSpec.gate _ (Cert.RetSpec.norm y _)) (funext fun x => ?_)
  exact (inv_after m c 33 (le_refl _)).rows ⟨n.val / 128, by omega⟩ (by show n.val / 128 < 33; omega) b _ _ x

end Cert.RetReferenceIdeal.Pure
end
-- ==== Proof.RetTable.lean ====
/- The retention call: the table of decays which the host prepares holds the reference's decays. -/
module
public import proofs.«01_k».proof.Proof.RetRef
public import proofs.«01_k».proof.Proof.Gen.RetKernelIdeal.Frame
public import Idealize.ShloMosaic.Lib.Pipeline.ValueKit
public import Idealize.ShloMosaic.Lib.Claim
@[expose] public section
set_option maxRecDepth 16384
noncomputable section
open Idealize.ShloMosaic Idealize.ShloMosaic.TcCoe Idealize.SL.Sem
namespace Cert.RetKernelIdeal.Pure
open Cert.RetKernelIdeal Cert.RetKernelIdeal.Gen
open Cert.RetReferenceIdeal.Pure (decayIn decayQ decayK decayC)
open Cert.RetReferenceIdeal.Step
variable (m : (ℓ : Loc nD τ sig) → Buf (Elt Ideal) ℓ) (c : Dev nD)

/-- The logarithms of the four bases are the same. -/
theorem log_base (h : Fin 4) : Ideal.log (Ideal.ofBits .f32 (lit0 (S4.rowMajor (ix1 h)))) = K_main_v11 (F := Ideal) (ix1 h) := by
  match h with
  | 0 => pointwise [K_main_v11, K_main_v10, K_main_v6, K_main_v7, K_main_v8, K_main_v9, K_main_cst, K_main_cst_0, K_main_cst_1, K_main_cst_2]; rfl
  | 1 => pointwise [K_main_v11, K_main_v10, K_main_v6, K_main_v7, K_main_v8, K_main_v9, K_main_cst, K_main_cst_0, K_main_cst_1, K_main_cst_2]; rfl
  | 2 => pointwise [K_main_v11, K_main_v10, K_main_v6, K_main_v7, K_main_v8, K_main_v9, K_main_cst, K_main_cst_0, K_main_cst_1, K_main_cst_2]; rfl
  | 3 => pointwise [K_main_v11, K_main_v10, K_main_v6, K_main_v7, K_main_v8, K_main_v9, K_main_cst, K_main_cst_0, K_main_cst_1, K_main_cst_2]; rfl

theorem entry_in (h : Fin 4) (r j : Fin 128) : V m c main_v48 (ix4 h 0 r j) = decayIn h r j := by
  unfold V hostOps0 hostOps0_1 hostOps0_2
  simp only [List.flatten_cons, List.flatten_nil, List.cons_append, List.nil_append, List.append_nil]
  after_results
  pointwise
  after_results_simp
  change (select (broadcastInDim S4x128x128 ![0, 1, 2] bcast_S1x128x128_S4x128x128_0_1_2
      (cmpf CmpFPredicate.oge
        (broadcastInDim S1x128x128 ![1, 2] bcast_S128x128_S1x128x128_1_2
          (subf
            (broadcastInDim S128x128 ![0, 1] bcast_S128x1_S128x128_0_1
              (broadcastInDim S128x1 ![0] bcast_S128_S128x1_0 (sitofp FTy.f32 (iotaInDim S128 32 0))))
            (broadcastInDim S128x128 ![0, 1] bcast_S1x128_S128x128_0_1
              (broadcastInDim S1x128 ![1] bcast_S128_S1x128_1 (sitofp FTy.f32 (iotaInDim S128 32 0))))))
        (broadcastInDim S1x128x128 ![] bcast_S_S1x128x128 (constant S_ FTy.f32 0#32))))
    (Host.exp
      (mulf
        (broadcastInDim S4x128x128 ![0, 1, 2] bcast_S1x128x128_S4x128x128_0_1_2
          (broadcastInDim S1x128x128 ![1, 2] bcast_S128x128_S1x128x128_1_2
            (maximumf
              (subf
                (broadcastInDim S128x128 ![0, 1] bcast_S128x1_S128x128_0_1
                  (broadcastInDim S128x1 ![0] bcast_S128_S128x1_0 (sitofp FTy.f32 (iotaInDim S128 32 0))))
                (broadcastInDim S128x128 ![0, 1] bcast_S1x128_S128x128_0_1
                  (broadcastInDim S1x128 ![1] bcast_S128_S1x128_1 (sitofp FTy.f32 (iotaInDim S128 32 0)))))
              (broadcastInDim S128x128 ![] bcast_S_S128x128 (constant S_ FTy.f32 0#32)))))
        (broadcastInDim S4x128x128 ![0, 1, 2] bcast_S4x1x1_S4x128x128_0_1_2
          (broadcastInDim S4x1x1 ![0] bcast_S4_S4x1x1_0
            (Host.log fun i => FloatOps.ofBits FTy.f32 (lit0 (S4.rowMajor i)))))))
    (broadcastInDim S4x128x128 ![] bcast_S_S4x128x128 (constant S_ FTy.f32 0#32)) : FVec Ideal S4x128x128 .f32) (ix3 h r j) = decayIn h r j
  unfold decayIn
  pointwise [K_main_v29, K_main_v28, K_main_v27, K_main_v26, K_main_v25, K_main_v24, K_main_v23, K_main_v22, K_main_v21, K_main_v20, K_main_v19, K_main_v18, K_main_v17, K_main_call0_v1,K_main_call0_v2,K_main_call0_v0, K_main_cst_5, K_main_cst_4,K_main_cst_3, K_main_v16, K_main_v15, K_main_v14, K_main_v13, K_main_v12]
  rw [log_base, id_eq]
  pointwise

theorem entry_query (h : Fin 4) (r j : Fin 128) : V m c main_v48 (ix4 h 1 r j) = decayQ h r := by
  unfold V hostOps0 hostOps0_1 hostOps0_2
  simp only [List.flatten_cons, List.flatten_nil, List.cons_append, List.nil_append, List.append_nil]
  after_results
  pointwise
  after_results_simp
  unfold decayQ
  pointwise [K_main_v37, K_main_v36, K_main_v35, K_main_v34, K_main_v33, K_main_v32, K_main_v31, K_main_v30, K_main_cst_6, K_main_v12]
  rw [log_base]

theorem entry_key (h : Fin 4) (r j : Fin 128) : V m c main_v48 (ix4 h 2 r j) = decayK h r := by
  unfold V hostOps0 hostOps0_1 hostOps0_2
  simp only [List.flatten_cons, List.flatten_nil, List.cons_append, List.nil_append, List.append_nil]
  after_results
  pointwise
  after_results_simp
  unfold decayK
  pointwise [K_main_v45, K_main_v44, K_main_v43, K_main_v42, K_main_v41, K_main_v40, K_main_v39, K_main_v38, K_main_cst_7, K_main_v12]
  rw [log_base]

theorem entry_chunk (h : Fin 4) (r j : Fin 128) : V m c main_v48 (ix4 h 3 r j) = decayC h := by
  unfold V hostOps0 hostOps0_1 hostOps0_2
  simp only [List.flatten_cons, List.flatten_nil, List.cons_append, List.nil_append, List.append_nil]
  after_results
  pointwise
  after_results_simp
  unfold decayC
  pointwise [K_main_v48, K_main_v47, K_main_v46, K_main_cst_8]
  rw [log_base]

end Cert.RetKernelIdeal.Pure
end
-- ==== Proof.RetValue.lean ====
/- The retention call's result, as one expression of its arguments: it is the reference's. -/
module
public import proofs.«01_k».proof.Proof.RetPure
public import proofs.«01_k».proof.Proof.RetTable
public import proofs.«01_k».proof.Proof.Gen.RetKernelIdeal.Frame
public import Idealize.ShloMosaic.Lib.Pipeline.ValueKit
public import Idealize.ShloMosaic.Lib.Claim
public import Idealize.ShloMosaic.Lib.WholeRead
@[expose] public section
set_option maxRecDepth 16384
noncomputable section
open Idealize.ShloMosaic Idealize.ShloMosaic.TcCoe Idealize.SL.Sem
namespace Cert.RetKernelIdeal.Pure
open Cert.RetKernelIdeal Cert.RetKernelIdeal.Gen
open Cert.RetReferenceIdeal.Pure (decayIn decayQ decayK decayC seqRow keyCol valCol headState headRow answer)

theorem idx : ∀ t : Fin cfg0.N, win0_0.index t = ![t.val / 2, 0, t.val % 2] ∧ win0_1.index t = ![t.val / 2, 0, t.val % 2]
    ∧ win0_2.index t = ![t.val / 2, 0, t.val % 2] ∧ win0_3.index t = ![t.val / 2, 0, t.val % 2]
    ∧ win0_4.index t = ![t.val % 2, 0, 0, 0] ∧ win0_5.index t = ![t.val / 2, 0, t.val % 2] := by
  decide +kernel

theorem lt_div (t : Fin cfg0.N) : t.val / 2 < 8 := by
  have := t.isLt; simp only [show cfg0.N = 16 from by decide +kernel] at this; omega

/-- A grid point's batch, and the head which is the first or second of its block. -/
def batch (t : Fin cfg0.N) : Fin 8 := ⟨t.val / 2, lt_div t⟩
def head (t : Fin cfg0.N) (h : Fin 2) : Fin 4 := ⟨2 * (t.val % 2) + h.val, by have := h.isLt; omega⟩

variable (m : (ℓ : Loc nD τ sig) → Buf (Elt Ideal) ℓ) (c : Dev nD) (t : Fin cfg0.N)

/-! The fetched blocks: queries, keys, values, gates and decays. -/

theorem blk0 (r : Fin 4224) (h : Fin 2) (f : Fin 64) :
    iblk m c 0 t (ix3 0 r (lane h f)) = m ((c.tc : Thread nD τ).loc main_arg0) (ix3 (batch t) r (keyCol (head t h) f)) := by
  have e := (idx t).1
  blk_point [iblk, V]
  · rw [e]; rfl
  · rw [e]; show 0 * 4224 + r.val = r.val; omega
  · rw [e]; show (t.val % 2) * 128 + (64 * h.val + f.val) = 64 * (2 * (t.val % 2) + h.val) + f.val; omega

theorem blk1 (r : Fin 4224) (h : Fin 2) (f : Fin 64) :
    iblk m c 1 t (ix3 0 r (lane h f)) = m ((c.tc : Thread nD τ).loc main_arg1) (ix3 (batch t) r (keyCol (head t h) f)) := by
  have e := (idx t).2.1
  blk_point [iblk, V]
  · rw [e]; rfl
  · rw [e]; show 0 * 4224 + r.val = r.val; omega
  · rw [e]; show (t.val % 2) * 128 + (64 * h.val + f.val) = 64 * (2 * (t.val % 2) + h.val) + f.val; omega

theorem blk2 (r : Fin 4224) (h : Fin 2) (d : Fin 128) :
    iblk m c 2 t (ix3 0 r (col h d)) = m ((c.tc : Thread nD τ).loc main_arg2) (ix3 (batch t) r (valCol (head t h) d)) := by
  have e := (idx t).2.2.1
  blk_point [iblk, V]
  · rw [e]; rfl
  · rw [e]; show 0 * 4224 + r.val = r.val; omega
  · rw [e]; show (t.val % 2) * 256 + (128 * h.val + d.val) = 128 * (2 * (t.val % 2) + h.val) + d.val; omega

theorem blk3 (r : Fin 4224) (h : Fin 2) (d : Fin 128) :
    iblk m c 3 t (ix3 0 r (col h d)) = m ((c.tc : Thread nD τ).loc main_arg3) (ix3 (batch t) r (valCol (head t h) d)) := by
  have e := (idx t).2.2.2.1
  blk_point [iblk, V]
  · rw [e]; rfl
  · rw [e]; show 0 * 4224 + r.val = r.val; omega
  · rw [e]; show (t.val % 2) * 256 + (128 * h.val + d.val) = 128 * (2 * (t.val % 2) + h.val) + d.val; omega

theorem rd4 (X : Buf (Elt Ideal) (((0 : Dev nD).tc : Thread nD τ).loc main_v48)) (h : Fin 2) (k : Fin 4) (r j : Fin 128) :
    View.read (Elt Ideal) (win0_4.blk t).view X (ix4 h k r j) = X (ix4 (head t h) k r j) := by
  have e := (idx t).2.2.2.2.1
  rw [View.read_apply]
  blk_ext
  · rw [e]; show (t.val % 2) * 2 + h.val = 2 * (t.val % 2) + h.val; omega
  · rw [e]; show 0 * 4 + k.val = k.val; omega
  · rw [e]; show 0 * 128 + r.val = r.val; omega
  · rw [e]; show 0 * 128 + j.val = j.val; omega

theorem blk4 (h : Fin 2) (k : Fin 4) (r j : Fin 128) :
    iblk m c 4 t (ix4 h k r j) = V m c main_v48 (ix4 (head t h) k r j) :=
  rd4 t (V m c main_v48) h k r j

/-! What is read before the loop. -/

/-- The table's tile of head `h` and kind `k`. -/
abbrev tile (h k : ℕ) (inb : ∀ a, (![h, k, 0, 0] : Fin 4 → Nat) a + S1x1x128x128.size a ≤ S2x4x128x128.size a) : Vec Ideal S1x1x128x128 .f32 :=
  View.readAt (Elt Ideal) (ms0_4 t).view (Rect.unit (s := S2x4x128x128) ![h, k, 0, 0] S1x1x128x128.size inb).toLoadRect ((hs0_4 t).unread (iblk m c 4 t))

theorem tile_at (h : Fin 2) (k : Fin 4) (inb) (r j : Fin 128) :
    tile m c t h.val k.val inb (ix4 0 0 r j) = V m c main_v48 (ix4 (head t h) k r j) := by
  refine ((hs0_4 t).readAt_unread _ _ _).trans (Eq.trans (congrArg (iblk m c 4 t) ?_) (blk4 m c t h k r j))
  funext a; apply Fin.ext; fin_cases a
  · show h.val + 1 * 0 = h.val; omega
  · show k.val + 1 * 0 = k.val; omega
  · show 0 + 1 * r.val = r.val; omega
  · show 0 + 1 * j.val = j.val; omega

/-- The values read before the loop, at a grid point. -/
def fixedAt : Fixed where
  v0 := lanes
  v1 := cols
  v2 := rows
  v3 := k0_pay112
  v4 := k0_pay113
  v9 := k0_pay114 (tile m c t 0 0 inb_S2x4x128x128_S1x1x128x128_0_0_0_0) (tile m c t 1 0 inb_S2x4x128x128_S1x1x128x128_1_0_0_0)
  v14 := k0_pay115 (tile m c t 0 1 inb_S2x4x128x128_S1x1x128x128_0_1_0_0) (tile m c t 1 1 inb_S2x4x128x128_S1x1x128x128_1_1_0_0)
  v21 := k0_pay116 (tile m c t 0 2 inb_S2x4x128x128_S1x1x128x128_0_2_0_0) (tile m c t 1 2 inb_S2x4x128x128_S1x1x128x128_1_2_0_0)
  v23 := k0_pay117 (tile m c t 0 3 inb_S2x4x128x128_S1x1x128x128_0_3_0_0)
  v24 := tile m c t 1 3 inb_S2x4x128x128_S1x1x128x128_1_3_0_0

section Payloads
variable (a b : Vec Ideal S1x1x128x128 .f32)
theorem pay114_at (r j : Fin 128) : k0_pay114 (F := Ideal) a b (ix2 (stacked 0 r) j) = a (ix4 0 0 r j) ∧ k0_pay114 (F := Ideal) a b (ix2 (stacked 1 r) j) = b (ix4 0 0 r j) := by
  constructor
  · pointwise [k0_pay114, stacked]
  · pointwise [k0_pay114, stacked]
theorem pay115_at (r j : Fin 128) : k0_pay115 (F := Ideal) a b (ix2 r (col 0 j)) = a (ix4 0 0 r j) ∧ k0_pay115 (F := Ideal) a b (ix2 r (col 1 j)) = b (ix4 0 0 r j) := by
  constructor
  · pointwise [k0_pay115, col]
  · pointwise [k0_pay115, col]
theorem pay116_at (r f : Fin 128) : k0_pay116 (F := Ideal) a b (ix2 r f) = if f.val < 64 then a (ix4 0 0 r f) else b (ix4 0 0 r f) := by
  pointwise [k0_pay116]
  rw [lane_lt]
  by_cases h : f.val < 64 <;> simp only [h, if_true, if_false] <;> rfl
theorem pay117_at (r j : Fin 128) : k0_pay117 (F := Ideal) a (ix2 r j) = a (ix4 0 0 r j) := by
  pointwise [k0_pay117]
end Payloads

/-- What a grid point leaves in its output block. -/
theorem outs_eq (y : S1x4224x256.Idx) : outsAt0 m c t y = blockOut (fixedAt m c t) (iblk m c 0 t) (iblk m c 1 t) (iblk m c 2 t) (iblk m c 3 t) y := by
  unfold outsAt0 out0_A_5 kernelRun0_A
  dsimp only
  sl_unfold_words
  rw [View.read_writes_junk_eq_canon]
  exact View.canon_apply_of_pieces (blockOut (fixedAt m c t) (iblk m c 0 t) (iblk m c 1 t) (iblk m c 2 t) (iblk m c 3 t)) _
    (loop_inv Variants.none c none (grid0.coords t) (ms0_0 t) (hs0_0 t) (ms0_1 t) (hs0_1 t) (ms0_2 t) (hs0_2 t) (ms0_3 t) (hs0_3 t) (ms0_4 t) (hs0_4 t) (ms0_5 t) (hs0_5 t)
      (fixedAt m c t) (iblk m c 0 t) (iblk m c 1 t) (iblk m c 2 t) (iblk m c 3 t) 3 (Nat.le_refl 3)).2 y
    (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t)
      (iblk m c 0 t) (iblk m c 1 t) (iblk m c 2 t) (iblk m c 3 t) (iblk m c 4 t) y)

theorem decays : Decays (fixedAt m c t) (fun h => decayIn (head t h)) (fun h => decayQ (head t h)) (fun h => decayK (head t h)) (fun h => decayC (head t h)) where
  v0 := rfl
  v1 := rfl
  v2 := rfl
  v3 := rfl
  v4 := rfl
  inner
    | 0, r, j => ((pay114_at _ _ r j).1.trans (tile_at m c t 0 0 _ r j)).trans (entry_in m c _ r j)
    | 1, r, j => ((pay114_at _ _ r j).2.trans (tile_at m c t 1 0 _ r j)).trans (entry_in m c _ r j)
  query
    | 0, r, d => ((pay115_at _ _ r d).1.trans (tile_at m c t 0 1 _ r d)).trans (entry_query m c _ r d)
    | 1, r, d => ((pay115_at _ _ r d).2.trans (tile_at m c t 1 1 _ r d)).trans (entry_query m c _ r d)
  key
    | 0, r, f => (((pay116_at _ _ r _).trans (if_pos (by show 64 * 0 + f.val < 64; omega))).trans (tile_at m c t 0 2 _ r _)).trans (entry_key m c _ r _)
    | 1, r, f => (((pay116_at _ _ r _).trans (if_neg (by show ¬ 64 * 1 + f.val < 64; omega))).trans (tile_at m c t 1 2 _ r _)).trans (entry_key m c _ r _)
  first f d := ((pay117_at _ f d).trans (tile_at m c t 0 3 _ f d)).trans (entry_chunk m c _ f d)
  second f d := (tile_at m c t 1 3 _ f d).trans (entry_chunk m c _ f d)

/-- A head's row of a chunk, at a grid point. -/
theorem rows_at (h : Fin 2) (n : ℕ) (r d : Fin 128) :
    rowsAt (fixedAt m c t) (iblk m c 0 t) (iblk m c 1 t) (iblk m c 2 t) n (ix2 r (col h d))
      = headRow (m ((c.tc : Thread nD τ).loc main_arg0)) (m ((c.tc : Thread nD τ).loc main_arg1)) (m ((c.tc : Thread nD τ).loc main_arg2))
          (batch t) (head t h) n r d := by
  have hk : (fun n r f => chunkA (iblk m c 1 t) n (ix3 0 r (lane h f)))
      = fun n r f => m ((c.tc : Thread nD τ).loc main_arg1) (ix3 (batch t) (seqRow n r) (keyCol (head t h) f)) :=
    funext fun n => funext fun r => funext fun f => blk1 m c t (seqRow n r) h f
  have hq : (fun r f => chunkA (iblk m c 0 t) n (ix3 0 r (lane h f)))
      = fun r f => m ((c.tc : Thread nD τ).loc main_arg0) (ix3 (batch t) (seqRow n r) (keyCol (head t h) f)) :=
    funext fun r => funext fun f => blk0 m c t (seqRow n r) h f
  have hv : (fun n r d => chunkB (iblk m c 2 t) n (ix3 0 r (col h d)))
      = fun n r d => m ((c.tc : Thread nD τ).loc main_arg2) (ix3 (batch t) (seqRow n r) (valCol (head t h) d)) :=
    funext fun n => funext fun r => funext fun d => blk2 m c t (seqRow n r) h d
  have hs := state_at (decays m c t) (iblk m c 1 t) (iblk m c 2 t) n
  refine (y_head (decays m c t) _ _ _ _ hs.2 h r d).trans ?_
  unfold headRow headState
  have e : (fun f d => stateAt (fixedAt m c t) (iblk m c 1 t) (iblk m c 2 t) n (ix2 (lane h f) (col h d)))
      = Cert.RetSpec.state (decayC (head t h)) (decayK (head t h))
          (fun n r f => m ((c.tc : Thread nD τ).loc main_arg1) (ix3 (batch t) (seqRow n r) (keyCol (head t h) f)))
          (fun n r d => m ((c.tc : Thread nD τ).loc main_arg2) (ix3 (batch t) (seqRow n r) (valCol (head t h) d))) n :=
    funext fun f => funext fun d => by rw [← hk, ← hv]; exact hs.1 h f d
  rw [e, hq, congrFun hk n, congrFun hv n]

/-- What a grid point leaves at row `r` and column `d` of head `h` of its output block. -/
theorem point (r : Fin 4224) (h : Fin 2) (d : Fin 128) :
    outsAt0 m c t (ix3 0 r (col h d))
      = answer (m ((c.tc : Thread nD τ).loc main_arg0)) (m ((c.tc : Thread nD τ).loc main_arg1)) (m ((c.tc : Thread nD τ).loc main_arg2))
          (m ((c.tc : Thread nD τ).loc main_arg3)) (batch t) r (valCol (head t h) d) := by
  have hr := r.isLt
  have hd := d.isLt
  have e1 : (⟨(valCol (head t h) d).val / 128, by have := (valCol (head t h) d).isLt; omega⟩ : Fin 4) = head t h :=
    Fin.ext (by show (128 * (head t h).val + d.val) / 128 = (head t h).val; omega)
  have e2 : (⟨(valCol (head t h) d).val % 128, Nat.mod_lt _ (by decide)⟩ : Fin 128) = d :=
    Fin.ext (by show (128 * (head t h).val + d.val) % 128 = d.val; omega)
  have e3 : seqRow (r.val / 128) ⟨r.val % 128, Nat.mod_lt _ (by decide)⟩ = r :=
    Fin.ext (by show (128 * (r.val / 128) + r.val % 128) % 4224 = r.val; omega)
  refine (outs_eq m c t _).trans ?_
  unfold answer
  rw [e1, e2]
  have g : m ((c.tc : Thread nD τ).loc main_arg3) (ix3 (batch t) r (valCol (head t h) d)) = iblk m c 3 t (ix3 0 r (col h d)) := (blk3 m c t r h d).symm
  have row : (headRow (m ((c.tc : Thread nD τ).loc main_arg0)) (m ((c.tc : Thread nD τ).loc main_arg1)) (m ((c.tc : Thread nD τ).loc main_arg2))
      (batch t) (head t h) (r.val / 128) ⟨r.val % 128, Nat.mod_lt _ (by decide)⟩)
    = fun d => rowsAt (fixedAt m c t) (iblk m c 0 t) (iblk m c 1 t) (iblk m c 2 t) (r.val / 128) (ix2 ⟨r.val % 128, Nat.mod_lt _ (by decide)⟩ (col h d)) :=
    funext fun x => (rows_at m c t h _ _ x).symm
  rw [g, row]
  match h with
  | 0 =>
    refine (dif_pos (show (col 0 d).val < 128 from by show 128 * 0 + d.val < 128; omega)).trans ?_
    refine Eq.trans (congrArg _ ?_) ((outL_at _ _ ⟨r.val % 128, Nat.mod_lt _ (by decide)⟩ d).trans (congrArg (fun x => Cert.RetSpec.gate x _) ?_))
    · exact congrArg (ix3 (0 : Fin 1) (⟨r.val % 128, Nat.mod_lt _ (by decide)⟩ : Fin 128)) (Fin.ext (by show 128 * 0 + d.val = d.val; omega))
    · refine congrArg (iblk m c 3 t) (congrArg₂ (ix3 (0 : Fin 1)) (Fin.ext ?_) (Fin.ext ?_))
      · exact congrArg Fin.val e3
      · show d.val = 128 * 0 + d.val; omega
  | 1 =>
    refine (dif_neg (show ¬ (col 1 d).val < 128 from by show ¬ 128 * 1 + d.val < 128; omega)).trans ?_
    refine Eq.trans (congrArg _ ?_) ((outR_at _ _ ⟨r.val % 128, Nat.mod_lt _ (by decide)⟩ d).trans (congrArg (fun x => Cert.RetSpec.gate x _) ?_))
    · exact congrArg (ix3 (0 : Fin 1) (⟨r.val % 128, Nat.mod_lt _ (by decide)⟩ : Fin 128)) (Fin.ext (by show 128 * 1 + d.val - 128 = d.val; omega))
    · refine congrArg (iblk m c 3 t) (congrArg₂ (ix3 (0 : Fin 1)) (Fin.ext ?_) (Fin.ext ?_))
      · exact congrArg Fin.val e3
      · show 128 + d.val = 128 * 1 + d.val; omega

theorem emb5 (r : Fin 4224) (h : Fin 2) (d : Fin 128) :
    (win0_5.blk t).view.emb (ix3 0 r (col h d)) = ix3 (batch t) r (valCol (head t h) d) := by
  have e := (idx t).2.2.2.2.2
  funext a
  apply Fin.ext
  fin_cases a
  · exact (win0_5.rect_emb_val_off t (ix3 0 r (col h d)) 0).trans (by rw [e]; show t.val / 2 * 1 + 0 = t.val / 2; omega)
  · exact (win0_5.rect_emb_val_off t (ix3 0 r (col h d)) 1).trans (by rw [e]; show 0 * 4224 + r.val = r.val; omega)
  · exact (win0_5.rect_emb_val_off t (ix3 0 r (col h d)) 2).trans (by rw [e]; show (t.val % 2) * 256 + (128 * h.val + d.val) = 128 * (2 * (t.val % 2) + h.val) + d.val; omega)

/-- The call's result: at every batch, position and column the gated, normalised retention. -/
def result (a0 a1 : S8x4224x256.Idx → EReal) (a2 a3 : S8x4224x512.Idx → EReal) : S8x4224x512.Idx → EReal :=
  fun i => answer a0 a1 a2 a3 (i 0 : Fin 8) (i 1 : Fin 4224) (i 2 : Fin 512)

/-- The output array after the last grid point. -/
theorem final : (dats m 0 c).arrAt 5 (cfgs 0).N
    = result (m ((c.tc : Thread nD τ).loc main_arg0)) (m ((c.tc : Thread nD τ).loc main_arg1)) (m ((c.tc : Thread nD τ).loc main_arg2))
        (m ((c.tc : Thread nD τ).loc main_arg3)) := by
  refine (dats m 0 c).arrAt_eq_of_covers 5 _ (by decide +kernel) fun t _ y => ?_
  blk_simp
  rw [after0_5]
  idx_vars y
  obtain rfl : y0 = 0 := Subsingleton.elim _ _
  obtain ⟨h, d, rfl⟩ : ∃ h d, y2 = col h d :=
    ⟨⟨y2.val / 128, by have := y2.isLt; omega⟩, ⟨y2.val % 128, Nat.mod_lt _ (by decide)⟩, Fin.ext (by show y2.val = 128 * (y2.val / 128) + y2.val % 128; omega)⟩
  refine Eq.trans ?_ (congrArg _ (emb5 t _ h d).symm)
  exact point m c t y1 h d

/-- The reference's result, from the same arguments, is the same expression. -/
theorem reference_eq (m' : (ℓ : Loc Cert.RetReferenceIdeal.nD Cert.RetReferenceIdeal.τ Cert.RetReferenceIdeal.sig) → Buf (Elt Ideal) ℓ) (c : Dev nD)
    (h : m' ((c.tc : Thread Cert.RetReferenceIdeal.nD Cert.RetReferenceIdeal.τ).loc Cert.RetReferenceIdeal.main_arg0) = m ((c.tc : Thread nD τ).loc main_arg0)
      ∧ m' ((c.tc : Thread Cert.RetReferenceIdeal.nD Cert.RetReferenceIdeal.τ).loc Cert.RetReferenceIdeal.main_arg1) = m ((c.tc : Thread nD τ).loc main_arg1)
      ∧ m' ((c.tc : Thread Cert.RetReferenceIdeal.nD Cert.RetReferenceIdeal.τ).loc Cert.RetReferenceIdeal.main_arg2) = m ((c.tc : Thread nD τ).loc main_arg2)
      ∧ m' ((c.tc : Thread Cert.RetReferenceIdeal.nD Cert.RetReferenceIdeal.τ).loc Cert.RetReferenceIdeal.main_arg3) = m ((c.tc : Thread nD τ).loc main_arg3)) :
    Cert.RetReferenceIdeal.Step.R_main_v82 (Cert.RetReferenceIdeal.Iter.after m' c 33)
        (m' ((c.tc : Thread Cert.RetReferenceIdeal.nD Cert.RetReferenceIdeal.τ).loc Cert.RetReferenceIdeal.main_arg3))
      = result (m ((c.tc : Thread nD τ).loc main_arg0)) (m ((c.tc : Thread nD τ).loc main_arg1)) (m ((c.tc : Thread nD τ).loc main_arg2))
          (m ((c.tc : Thread nD τ).loc main_arg3)) := by
  obtain ⟨h0, h1, h2, h3⟩ := h
  funext i
  idx_vars i
  refine (Cert.RetReferenceIdeal.Pure.result_at m' c i0 i1 i2).trans ?_
  rw [h0, h1, h2, h3]
  rfl

end Cert.RetKernelIdeal.Pure
end
-- ==== Proof.Spec.lean ====
/- The row functions that the kernels and the references of this certificate have in common:
   the layer normalisation of one row of 1024 features. -/
module

public import Idealize.ShloMosaic.Lib.Pointwise

@[expose] public section

set_option maxRecDepth 16384

noncomputable section

open Idealize.ShloMosaic

namespace Cert.Spec

/-- The mean of a row of 1024 numbers: their sum over the constant 1024. -/
def mean (x : Fin 1024 → EReal) : EReal := Ideal.div (∑ k, x k) (Ideal.ofBits .f32 0x44800000#32)

/-- A row, centred and scaled by the reciprocal root of its variance plus the constant 1e-5. -/
def normRow (x : Fin 1024 → EReal) (d : Fin 1024) : EReal :=
  (x d - mean x) * Ideal.rsqrt (mean (fun k => (x k - mean x) * (x k - mean x)) + Ideal.ofBits .f32 0x3727C5AC#32)

/-- Layer normalisation of a row: the normalised row times the gain plus the offset. -/
def layerNorm (x g b : Fin 1024 → EReal) (d : Fin 1024) : EReal := normRow x d * g d + b d

end Cert.Spec

end
-- ==== Proof.MlpPure.lean ====
/- What one block of the feed-forward call computes. -/
module

public import proofs.«01_k».proof.Proof.Spec
public import proofs.«01_k».proof.Proof.Gen.MlpKernelIdeal.Skeleton
public import Idealize.ShloMosaic.Lib.Pointwise

@[expose] public section

set_option maxRecDepth 16384

noncomputable section

open Idealize.ShloMosaic Idealize.ShloMosaic.TcCoe Idealize.SL.Sem

namespace Cert.MlpKernelIdeal.Pure

open Cert.MlpKernelIdeal Cert.MlpKernelIdeal.Gen

/-- One feature of the squared-ReLU product of a row through 1024 hidden units: the hidden
    pre-activations are the row times `w1`, and each unit's squared positive part is weighted by `w2`. -/
def hid (x : Fin 1024 → EReal) (w1 w2 : Fin 1024 → Fin 1024 → EReal) (e : Fin 1024) : EReal :=
  ∑ j, max (∑ i, x i * w1 i j) 0 * max (∑ i, x i * w1 i j) 0 * w2 j e

/-- The kernel's accumulator of a row: the scaled row, and then the four chunks of hidden units one after another. -/
def acc4 (x : Fin 1024 → EReal) (a0 b0 a1 b1 a2 b2 a3 b3 : Fin 1024 → Fin 1024 → EReal) (e : Fin 1024) : EReal :=
  Ideal.ofBits .f32 0x3FD744FD#32 * x e + hid x a0 b0 e + hid x a1 b1 e + hid x a2 b2 e + hid x a3 b3 e

/-- The body's normalised rows, read at row `r` and feature `d`. -/
theorem pay9_at (x : Vec Ideal S1x512x1024 .f32) (a0 b0 a1 b1 a2 b2 a3 b3 : Vec Ideal S1x1024x1024 .bf16) (r : Fin 512) (d : Fin 1024) :
    k0_pay9 (k0_pay3 x) (k0_pay4 x a0 b0 a1 b1) (k0_pay5 x a2) (k0_pay6 (F := Ideal)) b2 a3 b3 (ix2 r d)
      = Cert.Spec.normRow (acc4 (fun i => x (ix3 0 r i)) (fun i j => a0 (ix3 0 i j)) (fun i j => b0 (ix3 0 i j))
          (fun i j => a1 (ix3 0 i j)) (fun i j => b1 (ix3 0 i j)) (fun i j => a2 (ix3 0 i j)) (fun i j => b2 (ix3 0 i j))
          (fun i j => a3 (ix3 0 i j)) (fun i j => b3 (ix3 0 i j))) d := by
  pointwise [k0_pay9, k0_pay2, k0_pay3, k0_pay4, k0_pay5, k0_pay6, Cert.Spec.normRow, Cert.Spec.mean, acc4, hid]
  try rfl

/-- What the body stores at row `r` and feature `d`, from the normalised rows, the gain and the offset. -/
theorem pay1_at (g b : Vec Ideal S1x1024 .f32) (y : FVec Ideal S512x1024 .f32) (r : Fin 512) (d : Fin 1024) :
    k0_pay1 (k0_pay7 g) (k0_pay8 b) y (ix3 0 r d) = y (ix2 r d) * g (ix2 0 d) + b (ix2 0 d) := by
  pointwise [k0_pay1, k0_pay7, k0_pay8]

end Cert.MlpKernelIdeal.Pure

end
-- ==== Proof.MlpRef.lean ====
/- The feed-forward reference, read at one element of its result. -/
module

public import proofs.«01_k».proof.Proof.Spec
public import proofs.«01_k».proof.Proof.Gen.MlpReferenceIdeal.Read

@[expose] public section

set_option maxRecDepth 16384

noncomputable section

open Idealize.ShloMosaic Idealize.ShloMosaic.TcCoe Idealize.SL.Sem

namespace Cert.MlpReferenceIdeal.Pure

open Cert.MlpReferenceIdeal Cert.MlpReferenceIdeal.Gen Cert.MlpReferenceIdeal.Read

/-- The residual row before its normalisation: the scaled row plus the squared-ReLU product through all 4096 hidden units. -/
def acc (x : Fin 1024 → EReal) (w1 : Fin 1024 → Fin 4096 → EReal) (w2 : Fin 4096 → Fin 1024 → EReal) (e : Fin 1024) : EReal :=
  Ideal.ofBits .f32 0x3FD744FD#32 * x e
    + ∑ j, max (∑ i, x i * w1 i j) 0 * max (∑ i, x i * w1 i j) 0 * w2 j e

/-- The result at batch `p`, position `r` and feature `d` is the normalised residual row of position `128 + r`. -/
theorem out_at (m : (ℓ : Loc nD τ sig) → Buf (Elt Ideal) ℓ) (c : Dev nD) (p : Fin 8) (r : Fin 4096) (d : Fin 1024) :
    Value.res_main_v39 m c (ix3 p r d)
      = Cert.Spec.layerNorm
          (acc (fun i => m ((c.tc : Thread nD τ).loc main_arg0) (ix3 p ⟨128 + r.val, by omega⟩ i))
            (fun i j => m ((c.tc : Thread nD τ).loc main_arg1) (ix3 3 i j))
            (fun i j => m ((c.tc : Thread nD τ).loc main_arg2) (ix3 3 i j)))
          (fun i => m ((c.tc : Thread nD τ).loc main_arg3) (ix2 3 i))
          (fun i => m ((c.tc : Thread nD τ).loc main_arg4) (ix2 3 i)) d := by
  pointwise [Value.res_main_v39, Cert.Spec.layerNorm, Cert.Spec.normRow, Cert.Spec.mean, acc]

end Cert.MlpReferenceIdeal.Pure

end
-- ==== Proof.MlpValue.lean ====
/- The feed-forward call's result, as one expression of its arguments: it is the reference's. -/
module

public import proofs.«01_k».proof.Proof.MlpPure
public import proofs.«01_k».proof.Proof.MlpRef
public import proofs.«01_k».proof.Proof.Gen.MlpKernelIdeal.Frame
public import Idealize.ShloMosaic.Lib.Pipeline.ValueKit.Point
public import Idealize.ShloMosaic.Lib.Claim

@[expose] public section

set_option maxRecDepth 16384

noncomputable section

open Idealize.ShloMosaic Idealize.ShloMosaic.TcCoe Idealize.SL.Sem

namespace Cert.MlpKernelIdeal.Pure

open Cert.MlpKernelIdeal Cert.MlpKernelIdeal.Gen

/-- Four chunks of 1024 hidden units one after another are all 4096 of them. -/
theorem acc4_eq (x : Fin 1024 → EReal) (w1 : Fin 1024 → Fin 4096 → EReal) (w2 : Fin 4096 → Fin 1024 → EReal) :
    acc4 x (fun i j => w1 i ⟨j.val, by omega⟩) (fun j e => w2 ⟨j.val, by omega⟩ e)
        (fun i j => w1 i ⟨1024 + j.val, by omega⟩) (fun j e => w2 ⟨1024 + j.val, by omega⟩ e)
        (fun i j => w1 i ⟨2048 + j.val, by omega⟩) (fun j e => w2 ⟨2048 + j.val, by omega⟩ e)
        (fun i j => w1 i ⟨3072 + j.val, by omega⟩) (fun j e => w2 ⟨3072 + j.val, by omega⟩ e)
      = Cert.MlpReferenceIdeal.Pure.acc x w1 w2 := by
  funext e
  unfold acc4 Cert.MlpReferenceIdeal.Pure.acc hid
  rw [Fin.sum_univ_tiles 4 1024 rfl]
  simp only [Fin.sum_univ_four, ← add_assoc]
  rfl

theorem idx : ∀ t : Fin cfg0.N, win0_0.index t = ![t.val / 8, 128 + (t.val % 8) * 512, 0] ∧ win0_1.index t = ![3, 0, 0]
    ∧ win0_2.index t = ![3, 0, 0] ∧ win0_3.index t = ![0, 0] ∧ win0_4.index t = ![0, 0]
    ∧ win0_5.index t = ![t.val / 8, t.val % 8, 0] := by
  decide +kernel

/-- The call's result: the normalised residual row of position `128 + r`, of every batch and position. -/
def result (h : S8x4224x1024.Idx → EReal) (w1 : S4x1024x4096.Idx → EReal) (w2 : S4x4096x1024.Idx → EReal)
    (g b : S4x1024.Idx → EReal) : S8x4096x1024.Idx → EReal := fun i =>
  Cert.Spec.layerNorm
    (Cert.MlpReferenceIdeal.Pure.acc
      (fun k => h (ix3 (i 0 : Fin 8) ⟨128 + (i 1).val, Nat.add_lt_add_left (show (i 1).val < 4096 from (i 1).isLt) 128⟩ k))
      (fun k j => w1 (ix3 3 k j)) (fun j k => w2 (ix3 3 j k)))
    (fun k => g (ix2 3 k)) (fun k => b (ix2 3 k)) (i 2 : Fin 1024)

variable (m : (ℓ : Loc nD τ sig) → Buf (Elt Ideal) ℓ)

theorem lt_div (t : Fin cfg0.N) : t.val / 8 < 8 := by
  have := t.isLt; simp only [show cfg0.N = 64 from by decide +kernel] at this; omega

/-- The fetched blocks, read at an element: the rows, the two weight matrices, the gain and the offset. -/
theorem blk0 (c : Dev nD) (t : Fin cfg0.N) (r : Fin 512) (k : Fin 1024) :
    iblk m c 0 t (ix3 0 r k)
      = m ((c.tc : Thread nD τ).loc main_arg0) (ix3 ⟨t.val / 8, lt_div t⟩ ⟨128 + ((t.val % 8) * 512 + r.val), by omega⟩ k) := by
  have h := (idx t).1
  blk_point [iblk, V]
  · exact (win0_0.rect_emb_val_off t (ix3 0 r k) 0).trans (by rw [h]; rfl)
  · exact (win0_0.rect_emb_val_off t (ix3 0 r k) 1).trans (by rw [h]; show 128 + (t.val % 8) * 512 + r.val = _; omega)
  · exact (win0_0.rect_emb_val_off t (ix3 0 r k) 2).trans (by rw [h]; show 0 + k.val = _; omega)

theorem blk1_0 (c : Dev nD) (t : Fin cfg0.N) (k j : Fin 1024) :
    View.ld (iblk m c 1 t) r0_1 (ix3 0 k j) = m ((c.tc : Thread nD τ).loc main_arg1) (ix3 3 k ⟨j.val, by omega⟩) := by
  blk_point [iblk, V, idx t]

theorem blk2_0 (c : Dev nD) (t : Fin cfg0.N) (j k : Fin 1024) :
    View.ld (iblk m c 2 t) r0_2 (ix3 0 j k) = m ((c.tc : Thread nD τ).loc main_arg2) (ix3 3 ⟨j.val, by omega⟩ k) := by
  blk_point [iblk, V, idx t]

theorem blk1_1 (c : Dev nD) (t : Fin cfg0.N) (k j : Fin 1024) :
    View.ld (iblk m c 1 t) r0_3 (ix3 0 k j) = m ((c.tc : Thread nD τ).loc main_arg1) (ix3 3 k ⟨1024 + j.val, by omega⟩) := by
  blk_point [iblk, V, idx t]

theorem blk2_1 (c : Dev nD) (t : Fin cfg0.N) (j k : Fin 1024) :
    View.ld (iblk m c 2 t) r0_4 (ix3 0 j k) = m ((c.tc : Thread nD τ).loc main_arg2) (ix3 3 ⟨1024 + j.val, by omega⟩ k) := by
  blk_point [iblk, V, idx t]

theorem blk1_2 (c : Dev nD) (t : Fin cfg0.N) (k j : Fin 1024) :
    View.ld (iblk m c 1 t) r0_5 (ix3 0 k j) = m ((c.tc : Thread nD τ).loc main_arg1) (ix3 3 k ⟨2048 + j.val, by omega⟩) := by
  blk_point [iblk, V, idx t]

theorem blk2_2 (c : Dev nD) (t : Fin cfg0.N) (j k : Fin 1024) :
    View.ld (iblk m c 2 t) r0_6 (ix3 0 j k) = m ((c.tc : Thread nD τ).loc main_arg2) (ix3 3 ⟨2048 + j.val, by omega⟩ k) := by
  blk_point [iblk, V, idx t]

theorem blk1_3 (c : Dev nD) (t : Fin cfg0.N) (k j : Fin 1024) :
    View.ld (iblk m c 1 t) r0_7 (ix3 0 k j) = m ((c.tc : Thread nD τ).loc main_arg1) (ix3 3 k ⟨3072 + j.val, by omega⟩) := by
  blk_point [iblk, V, idx t]

theorem blk2_3 (c : Dev nD) (t : Fin cfg0.N) (j k : Fin 1024) :
    View.ld (iblk m c 2 t) r0_8 (ix3 0 j k) = m ((c.tc : Thread nD τ).loc main_arg2) (ix3 3 ⟨3072 + j.val, by omega⟩ k) := by
  blk_point [iblk, V, idx t]

theorem entry4 (c : Dev nD) (k : Fin 1024) : V m c main_v4 (ix2 0 k) = m ((c.tc : Thread nD τ).loc main_arg3) (ix2 3 k) := by
  entry_read
  pointwise

theorem entry7 (c : Dev nD) (k : Fin 1024) : V m c main_v7 (ix2 0 k) = m ((c.tc : Thread nD τ).loc main_arg4) (ix2 3 k) := by
  entry_read
  pointwise

theorem rd3 (X : Buf (Elt Ideal) (((0 : Dev nD).tc : Thread nD τ).loc main_v4)) (t : Fin cfg0.N) (k : Fin 1024) :
    View.read (Elt Ideal) (win0_3.blk t).view X (ix2 0 k) = X (ix2 0 k) := by
  rw [View.read_apply]
  blk_ext [idx t]

theorem blk3 (c : Dev nD) (t : Fin cfg0.N) (k : Fin 1024) :
    iblk m c 3 t (ix2 0 k) = m ((c.tc : Thread nD τ).loc main_arg3) (ix2 3 k) :=
  (rd3 (V m c main_v4) t k).trans (entry4 m c k)

theorem rd4 (X : Buf (Elt Ideal) (((0 : Dev nD).tc : Thread nD τ).loc main_v7)) (t : Fin cfg0.N) (k : Fin 1024) :
    View.read (Elt Ideal) (win0_4.blk t).view X (ix2 0 k) = X (ix2 0 k) := by
  rw [View.read_apply]
  blk_ext [idx t]

theorem blk4 (c : Dev nD) (t : Fin cfg0.N) (k : Fin 1024) :
    iblk m c 4 t (ix2 0 k) = m ((c.tc : Thread nD τ).loc main_arg4) (ix2 3 k) :=
  (rd4 (V m c main_v7) t k).trans (entry7 m c k)

/-- What is written at a grid point, at row `r` of its block and feature `d`. -/
theorem point (c : Dev nD) (t : Fin cfg0.N) (r : Fin 512) (d : Fin 1024) :
    k0_pay1 (k0_pay7 (iblk m c 3 t)) (k0_pay8 (iblk m c 4 t))
        (k0_pay9 (k0_pay3 (iblk m c 0 t))
          (k0_pay4 (iblk m c 0 t) (View.ld (iblk m c 1 t) r0_1) (View.ld (iblk m c 2 t) r0_2) (View.ld (iblk m c 1 t) r0_3) (View.ld (iblk m c 2 t) r0_4))
          (k0_pay5 (iblk m c 0 t) (View.ld (iblk m c 1 t) r0_5)) (k0_pay6 (F := Ideal)) (View.ld (iblk m c 2 t) r0_6) (View.ld (iblk m c 1 t) r0_7) (View.ld (iblk m c 2 t) r0_8)) (ix3 0 r d)
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
          (ix3 ⟨t.val / 8, lt_div t⟩ ⟨(t.val % 8) * 512 + r.val, by omega⟩ d) := by
  refine (pay1_at _ _ _ r d).trans ?_
  rw [blk3, blk4]
  refine Eq.trans (congrArg (fun z => z * _ + _) (pay9_at _ _ _ _ _ _ _ _ _ r d)) ?_
  simp only [blk0, blk1_0, blk1_1, blk1_2, blk1_3, blk2_0, blk2_1, blk2_2, blk2_3]
  exact congrArg (fun z => Cert.Spec.normRow z d * _ + _)
    (acc4_eq _ (fun k j => m ((c.tc : Thread nD τ).loc main_arg1) (ix3 3 k j)) (fun j k => m ((c.tc : Thread nD τ).loc main_arg2) (ix3 3 j k)))

theorem emb5 (t : Fin cfg0.N) (r : Fin 512) (d : Fin 1024) :
    (win0_5.blk t).view.emb (ix3 0 r d) = ix3 ⟨t.val / 8, lt_div t⟩ ⟨(t.val % 8) * 512 + r.val, by omega⟩ d := by
  funext a
  apply Fin.ext
  fin_cases a <;> blk_simp [idx t] <;> rfl

/-- The output array after the last grid point. -/
theorem final (c : Dev nD) : (dats m 0 c).arrAt 5 (cfgs 0).N
    = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  refine (dats m 0 c).arrAt_eq_of_covers 5 _ (by decide +kernel) fun t _ y => ?_
  blk_simp
  rw [after0_5]; frame_out
  idx_vars y
  obtain rfl : y0 = 0 := Subsingleton.elim _ _
  refine Eq.trans ?_ (congrArg _ (emb5 t _ _).symm)
  exact (point m c t y1 y2)

/-- The reference's result, from the same arguments, is the same expression. -/
theorem reference_eq (m' : (ℓ : Loc Cert.MlpReferenceIdeal.nD Cert.MlpReferenceIdeal.τ Cert.MlpReferenceIdeal.sig) → Buf (Elt Ideal) ℓ) (c : Dev nD)
    (h : m' ((c.tc : Thread Cert.MlpReferenceIdeal.nD Cert.MlpReferenceIdeal.τ).loc Cert.MlpReferenceIdeal.main_arg0) = m ((c.tc : Thread nD τ).loc main_arg0)
      ∧ m' ((c.tc : Thread Cert.MlpReferenceIdeal.nD Cert.MlpReferenceIdeal.τ).loc Cert.MlpReferenceIdeal.main_arg1) = m ((c.tc : Thread nD τ).loc main_arg1)
      ∧ m' ((c.tc : Thread Cert.MlpReferenceIdeal.nD Cert.MlpReferenceIdeal.τ).loc Cert.MlpReferenceIdeal.main_arg2) = m ((c.tc : Thread nD τ).loc main_arg2)
      ∧ m' ((c.tc : Thread Cert.MlpReferenceIdeal.nD Cert.MlpReferenceIdeal.τ).loc Cert.MlpReferenceIdeal.main_arg3) = m ((c.tc : Thread nD τ).loc main_arg3)
      ∧ m' ((c.tc : Thread Cert.MlpReferenceIdeal.nD Cert.MlpReferenceIdeal.τ).loc Cert.MlpReferenceIdeal.main_arg4) = m ((c.tc : Thread nD τ).loc main_arg4)) :
    Cert.MlpReferenceIdeal.Value.res_main_v39 m' c
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  obtain ⟨h0, h1, h2, h3, h4⟩ := h
  funext i
  idx_vars i
  refine (Cert.MlpReferenceIdeal.Pure.out_at m' c i0 i1 i2).trans ?_
  rw [h0, h1, h2, h3, h4]
  rfl

end Cert.MlpKernelIdeal.Pure

end
-- ==== Proof.OutPure.lean ====
/- What one half block of the output-projection call computes. -/
module

public import proofs.«01_k».proof.Proof.Spec
public import proofs.«01_k».proof.Proof.Gen.OutKernelIdeal.Skeleton
public import Idealize.ShloMosaic.Lib.Pointwise

@[expose] public section

set_option maxRecDepth 16384

noncomputable section

open Idealize.ShloMosaic Idealize.ShloMosaic.TcCoe Idealize.SL.Sem

namespace Cert.OutKernelIdeal.Pure

open Cert.OutKernelIdeal Cert.OutKernelIdeal.Gen

/-- The residual row before its normalisation: the scaled row plus the three mixers' rows through their parts of the weight. -/
def acc (h : Fin 1024 → EReal) (a b c : Fin 512 → EReal) (wa wb wc : Fin 512 → Fin 1024 → EReal) (e : Fin 1024) : EReal :=
  Ideal.ofBits .f32 0x3FD744FD#32 * h e + (∑ k, a k * wa k e + ∑ k, b k * wb k e + ∑ k, c k * wc k e)

/-- What is stored for the first half of the block's rows, at row `r` and feature `d`. -/
theorem pay5_at (a : Vec Ideal S1x352x512 .f32) (wa : Vec Ideal S1x512x1024 .bf16) (b : Vec Ideal S1x352x512 .bf16) (wb : Vec Ideal S1x512x1024 .bf16)
    (c : Vec Ideal S1x352x512 .bf16) (wc : Vec Ideal S1x512x1024 .bf16) (h : Vec Ideal S1x352x1024 .f32) (g o : Vec Ideal S1x1024 .f32)
    (r : Fin 352) (d : Fin 1024) :
    k0_pay5 (k0_pay1 a wa b wb c wc h) (k0_pay2 g) (k0_pay3 o) (k0_pay4 a wa b wb c wc h) (ix3 0 r d)
      = Cert.Spec.layerNorm (acc (fun k => h (ix3 0 r k)) (fun k => a (ix3 0 r k)) (fun k => b (ix3 0 r k)) (fun k => c (ix3 0 r k))
          (fun k e => wa (ix3 0 k e)) (fun k e => wb (ix3 0 k e)) (fun k e => wc (ix3 0 k e)))
          (fun k => g (ix2 0 k)) (fun k => o (ix2 0 k)) d := by
  pointwise [k0_pay5, k0_pay1, k0_pay2, k0_pay3, k0_pay4, Cert.Spec.layerNorm, Cert.Spec.normRow, Cert.Spec.mean, acc]

/-- What is stored for the second half of the block's rows, at row `r` and feature `d`. -/
theorem pay7_at (a : Vec Ideal S1x352x512 .f32) (wa : Vec Ideal S1x512x1024 .bf16) (b : Vec Ideal S1x352x512 .bf16) (wb : Vec Ideal S1x512x1024 .bf16)
    (c : Vec Ideal S1x352x512 .bf16) (wc : Vec Ideal S1x512x1024 .bf16) (h : Vec Ideal S1x352x1024 .f32) (g o : Vec Ideal S1x1024 .f32)
    (r : Fin 352) (d : Fin 1024) :
    k0_pay7 (k0_pay6 a wa b wb) c wc h g o (ix3 0 r d)
      = Cert.Spec.layerNorm (acc (fun k => h (ix3 0 r k)) (fun k => a (ix3 0 r k)) (fun k => b (ix3 0 r k)) (fun k => c (ix3 0 r k))
          (fun k e => wa (ix3 0 k e)) (fun k e => wb (ix3 0 k e)) (fun k e => wc (ix3 0 k e)))
          (fun k => g (ix2 0 k)) (fun k => o (ix2 0 k)) d := by
  pointwise [k0_pay7, k0_pay6, Cert.Spec.layerNorm, Cert.Spec.normRow, Cert.Spec.mean, acc]

end Cert.OutKernelIdeal.Pure

end
-- ==== Proof.OutRef.lean ====
/- The output-projection reference, read at one element of its result. -/
module

public import proofs.«01_k».proof.Proof.Spec
public import proofs.«01_k».proof.Proof.Gen.OutReferenceIdeal.Read
public import Idealize.ShloMosaic.Lib.Pointwise

@[expose] public section

set_option maxRecDepth 16384

noncomputable section

open Idealize.ShloMosaic Idealize.ShloMosaic.TcCoe Idealize.SL.Sem

namespace Cert.OutReferenceIdeal.Pure

open Cert.OutReferenceIdeal Cert.OutReferenceIdeal.Gen

/-- Three rows of 512 numbers, one after another. -/
def cat (a b c : Fin 512 → EReal) (k : Fin 1536) : EReal :=
  if h : k.val < 512 then a ⟨k.val, h⟩
  else if h' : k.val - 512 < 512 then b ⟨k.val - 512, h'⟩ else c ⟨k.val - 512 - 512, by omega⟩

/-- The residual row before its normalisation: the scaled row plus the three mixers' rows, one after another, through the weight. -/
def acc (h : Fin 1024 → EReal) (a b c : Fin 512 → EReal) (w : Fin 1536 → Fin 1024 → EReal) (e : Fin 1024) : EReal :=
  Ideal.ofBits .f32 0x3FD744FD#32 * h e + ∑ k, cat a b c k * w k e

theorem cat_first (a b c : Fin 512 → EReal) (k : Fin 512) (i : Fin 1536) (hi : i.val = k.val) : cat a b c i = a k :=
  (dif_pos (hi ▸ k.isLt)).trans (congrArg a (Fin.ext hi))

theorem cat_second (a b c : Fin 512 → EReal) (k : Fin 512) (i : Fin 1536) (hi : i.val = 512 + k.val) : cat a b c i = b k := by
  have hk := k.isLt
  exact (dif_neg (by omega)).trans ((dif_pos (by omega)).trans (congrArg b (Fin.ext (show i.val - 512 = k.val by omega))))

theorem cat_third (a b c : Fin 512 → EReal) (k : Fin 512) (i : Fin 1536) (hi : i.val = 1024 + k.val) : cat a b c i = c k := by
  have hk := k.isLt
  exact (dif_neg (by omega)).trans ((dif_neg (by omega)).trans (congrArg c (Fin.ext (show i.val - 512 - 512 = k.val by omega))))

/-- The product of the three rows with the weight is the sum of the three rows' products with their parts of it. -/
theorem acc_eq (h : Fin 1024 → EReal) (a b c : Fin 512 → EReal) (w : Fin 1536 → Fin 1024 → EReal) (e : Fin 1024) :
    acc h a b c w e = Ideal.ofBits .f32 0x3FD744FD#32 * h e + (∑ k : Fin 512, a k * w ⟨k.val, by omega⟩ e
      + ∑ k : Fin 512, b k * w ⟨512 + k.val, by omega⟩ e + ∑ k : Fin 512, c k * w ⟨1024 + k.val, by omega⟩ e) := by
  unfold acc
  rw [Fin.sum_univ_tiles 3 512 rfl, Fin.sum_univ_three]
  refine congrArg₂ (· + ·) rfl (congrArg₂ (· + ·) (congrArg₂ (· + ·) ?_ ?_) ?_) <;> refine Finset.sum_congr rfl fun k _ => ?_
  · exact congrArg₂ (· * ·) (cat_first a b c k _ (Nat.zero_add _)) (congrArg (fun i => w i e) (Fin.ext (Nat.zero_add _)))
  · exact congrArg (· * _) (cat_second a b c k _ rfl)
  · exact congrArg (· * _) (cat_third a b c k _ rfl)

/-- The result at batch `p`, position `r` and feature `d` is the normalised residual row of that position. -/
theorem out_at (m : (ℓ : Loc nD τ sig) → Buf (Elt Ideal) ℓ) (c : Dev nD) (p : Fin 8) (r : Fin 4224) (d : Fin 1024) :
    Value.res_main_v36 m c (ix3 p r d)
      = Cert.Spec.layerNorm
          (acc (fun k => m ((c.tc : Thread nD τ).loc main_arg3) (ix3 p r k)) (fun k => m ((c.tc : Thread nD τ).loc main_arg0) (ix3 p r k)) (fun k => m ((c.tc : Thread nD τ).loc main_arg1) (ix3 p r k)) (fun k => m ((c.tc : Thread nD τ).loc main_arg2) (ix3 p r k))
            (fun k e => m ((c.tc : Thread nD τ).loc main_arg4) (ix3 3 k e)))
          (fun i => m ((c.tc : Thread nD τ).loc main_arg5) (ix2 3 i))
          (fun i => m ((c.tc : Thread nD τ).loc main_arg6) (ix2 3 i)) d := by
  pointwise [Value.res_main_v36, Cert.Spec.layerNorm, Cert.Spec.normRow, Cert.Spec.mean, acc, cat]

end Cert.OutReferenceIdeal.Pure

end
-- ==== Proof.OutValue.lean ====
/- The output-projection call's result, as one expression of its arguments: it is the reference's. -/
module

public import proofs.«01_k».proof.Proof.OutPure
public import proofs.«01_k».proof.Proof.OutRef
public import proofs.«01_k».proof.Proof.Gen.OutKernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.OutKernelIdeal.Pure

open Cert.OutKernelIdeal Cert.OutKernelIdeal.Gen

/-- The three parts of the weight are the weight. -/
theorem acc_cat (h : Fin 1024 → EReal) (a b c : Fin 512 → EReal) (w : Fin 1536 → Fin 1024 → EReal) :
    acc h a b c (fun k e => w ⟨k.val, by omega⟩ e) (fun k e => w ⟨512 + k.val, by omega⟩ e) (fun k e => w ⟨1024 + k.val, by omega⟩ e)
      = Cert.OutReferenceIdeal.Pure.acc h a b c w :=
  funext fun e => (Cert.OutReferenceIdeal.Pure.acc_eq h a b c w e).symm

theorem idx : ∀ t : Fin cfg0.N, win0_0.index t = ![t.val / 6, t.val % 6, 0] ∧ win0_1.index t = ![t.val / 6, t.val % 6, 0]
    ∧ win0_2.index t = ![t.val / 6, t.val % 6, 0] ∧ win0_3.index t = ![t.val / 6, t.val % 6, 0]
    ∧ win0_4.index t = ![3, 0, 0] ∧ win0_5.index t = ![0, 0] ∧ win0_6.index t = ![0, 0]
    ∧ win0_7.index t = ![t.val / 6, t.val % 6, 0] := by
  decide +kernel

/-- The call's result: at every batch and position the normalised residual row. -/
def result (a : S8x4224x512.Idx → EReal) (b : S8x4224x512.Idx → EReal) (c : S8x4224x512.Idx → EReal) (h : S8x4224x1024.Idx → EReal)
    (w : S4x1536x1024.Idx → EReal) (g o : S4x1024.Idx → EReal) : S8x4224x1024.Idx → EReal := fun i =>
  Cert.Spec.layerNorm
    (Cert.OutReferenceIdeal.Pure.acc (fun k => h (ix3 (i 0 : Fin 8) (i 1 : Fin 4224) k)) (fun k => a (ix3 (i 0 : Fin 8) (i 1 : Fin 4224) k))
      (fun k => b (ix3 (i 0 : Fin 8) (i 1 : Fin 4224) k)) (fun k => c (ix3 (i 0 : Fin 8) (i 1 : Fin 4224) k))
      (fun k e => w (ix3 3 k e)))
    (fun k => g (ix2 3 k)) (fun k => o (ix2 3 k)) (i 2 : Fin 1024)

variable (m : (ℓ : Loc nD τ sig) → Buf (Elt Ideal) ℓ)

theorem lt_div (t : Fin cfg0.N) : t.val / 6 < 8 := by
  have := t.isLt; simp only [show cfg0.N = 48 from by decide +kernel] at this; omega

/-! The fetched blocks, read at an element: the mixers' and the residual rows, the weight, the gain and the offset. -/

theorem blk0_0 (c : Dev nD) (t : Fin cfg0.N) (r : Fin 352) (k : Fin 512) :
    View.ld (iblk m c 0 t) r0_0 (ix3 0 r k)
      = m ((c.tc : Thread nD τ).loc main_arg0) (ix3 ⟨t.val / 6, lt_div t⟩ ⟨(t.val % 6) * 704 + r.val, by omega⟩ k) := by
  blk_point [iblk, V, idx t]

theorem blk0_1 (c : Dev nD) (t : Fin cfg0.N) (r : Fin 352) (k : Fin 512) :
    View.ld (iblk m c 0 t) r0_6 (ix3 0 r k)
      = m ((c.tc : Thread nD τ).loc main_arg0) (ix3 ⟨t.val / 6, lt_div t⟩ ⟨(t.val % 6) * 704 + (352 + r.val), by omega⟩ k) := by
  blk_point [iblk, V, idx t]

theorem blk1_0 (c : Dev nD) (t : Fin cfg0.N) (r : Fin 352) (k : Fin 512) :
    View.ld (iblk m c 1 t) r0_0 (ix3 0 r k)
      = m ((c.tc : Thread nD τ).loc main_arg1) (ix3 ⟨t.val / 6, lt_div t⟩ ⟨(t.val % 6) * 704 + r.val, by omega⟩ k) := by
  blk_point [iblk, V, idx t]

theorem blk1_1 (c : Dev nD) (t : Fin cfg0.N) (r : Fin 352) (k : Fin 512) :
    View.ld (iblk m c 1 t) r0_6 (ix3 0 r k)
      = m ((c.tc : Thread nD τ).loc main_arg1) (ix3 ⟨t.val / 6, lt_div t⟩ ⟨(t.val % 6) * 704 + (352 + r.val), by omega⟩ k) := by
  blk_point [iblk, V, idx t]

theorem blk2_0 (c : Dev nD) (t : Fin cfg0.N) (r : Fin 352) (k : Fin 512) :
    View.ld (iblk m c 2 t) r0_0 (ix3 0 r k)
      = m ((c.tc : Thread nD τ).loc main_arg2) (ix3 ⟨t.val / 6, lt_div t⟩ ⟨(t.val % 6) * 704 + r.val, by omega⟩ k) := by
  blk_point [iblk, V, idx t]

theorem blk2_1 (c : Dev nD) (t : Fin cfg0.N) (r : Fin 352) (k : Fin 512) :
    View.ld (iblk m c 2 t) r0_6 (ix3 0 r k)
      = m ((c.tc : Thread nD τ).loc main_arg2) (ix3 ⟨t.val / 6, lt_div t⟩ ⟨(t.val % 6) * 704 + (352 + r.val), by omega⟩ k) := by
  blk_point [iblk, V, idx t]

theorem blk3_0 (c : Dev nD) (t : Fin cfg0.N) (r : Fin 352) (k : Fin 1024) :
    View.ld (iblk m c 3 t) r0_4 (ix3 0 r k)
      = m ((c.tc : Thread nD τ).loc main_arg3) (ix3 ⟨t.val / 6, lt_div t⟩ ⟨(t.val % 6) * 704 + r.val, by omega⟩ k) := by
  blk_point [iblk, V, idx t]

theorem blk3_1 (c : Dev nD) (t : Fin cfg0.N) (r : Fin 352) (k : Fin 1024) :
    View.ld (iblk m c 3 t) r0_7 (ix3 0 r k)
      = m ((c.tc : Thread nD τ).loc main_arg3) (ix3 ⟨t.val / 6, lt_div t⟩ ⟨(t.val % 6) * 704 + (352 + r.val), by omega⟩ k) := by
  blk_point [iblk, V, idx t]

theorem blk4_0 (c : Dev nD) (t : Fin cfg0.N) (k : Fin 512) (j : Fin 1024) :
    View.ld (iblk m c 4 t) r0_1 (ix3 0 k j) = m ((c.tc : Thread nD τ).loc main_arg4) (ix3 3 ⟨k.val, by omega⟩ j) := by
  blk_point [iblk, V, idx t]

theorem blk4_1 (c : Dev nD) (t : Fin cfg0.N) (k : Fin 512) (j : Fin 1024) :
    View.ld (iblk m c 4 t) r0_2 (ix3 0 k j) = m ((c.tc : Thread nD τ).loc main_arg4) (ix3 3 ⟨512 + k.val, by omega⟩ j) := by
  blk_point [iblk, V, idx t]

theorem blk4_2 (c : Dev nD) (t : Fin cfg0.N) (k : Fin 512) (j : Fin 1024) :
    View.ld (iblk m c 4 t) r0_3 (ix3 0 k j) = m ((c.tc : Thread nD τ).loc main_arg4) (ix3 3 ⟨1024 + k.val, by omega⟩ j) := by
  blk_point [iblk, V, idx t]

theorem entry3 (c : Dev nD) (k : Fin 1024) : V m c main_v3 (ix2 0 k) = m ((c.tc : Thread nD τ).loc main_arg5) (ix2 3 k) := by
  entry_read
  pointwise

theorem rd5 (X : Buf (Elt Ideal) (((0 : Dev nD).tc : Thread nD τ).loc main_v3)) (t : Fin cfg0.N) (k : Fin 1024) :
    View.ld (View.read (Elt Ideal) (win0_5.blk t).view X) r0_5 (ix2 0 k) = X (ix2 0 k) := by
  pointwise
  rw [View.read_apply]
  blk_ext [idx t]

theorem blk5 (c : Dev nD) (t : Fin cfg0.N) (k : Fin 1024) : View.ld (iblk m c 5 t) r0_5 (ix2 0 k) = m ((c.tc : Thread nD τ).loc main_arg5) (ix2 3 k) :=
  (rd5 (V m c main_v3) t k).trans (entry3 m c k)

theorem entry6 (c : Dev nD) (k : Fin 1024) : V m c main_v6 (ix2 0 k) = m ((c.tc : Thread nD τ).loc main_arg6) (ix2 3 k) := by
  entry_read
  pointwise

theorem rd6 (X : Buf (Elt Ideal) (((0 : Dev nD).tc : Thread nD τ).loc main_v6)) (t : Fin cfg0.N) (k : Fin 1024) :
    View.ld (View.read (Elt Ideal) (win0_6.blk t).view X) r0_5 (ix2 0 k) = X (ix2 0 k) := by
  pointwise
  rw [View.read_apply]
  blk_ext [idx t]

theorem blk6 (c : Dev nD) (t : Fin cfg0.N) (k : Fin 1024) : View.ld (iblk m c 6 t) r0_5 (ix2 0 k) = m ((c.tc : Thread nD τ).loc main_arg6) (ix2 3 k) :=
  (rd6 (V m c main_v6) t k).trans (entry6 m c k)

/-- What is written at a grid point into the first half of its block, at row `r` and feature `d`. -/
theorem point_0 (c : Dev nD) (t : Fin cfg0.N) (r : Fin 352) (d : Fin 1024)
    (y : Fin 704) (e : Fin 1024) (hy : y.val = r.val) (he : e.val = d.val) :
    k0_pay5 (k0_pay1 (View.ld (iblk m c 0 t) r0_0) (View.ld (iblk m c 4 t) r0_1) (View.ld (iblk m c 1 t) r0_0) (View.ld (iblk m c 4 t) r0_2) (View.ld (iblk m c 2 t) r0_0) (View.ld (iblk m c 4 t) r0_3) (View.ld (iblk m c 3 t) r0_4)) (k0_pay2 (View.ld (iblk m c 5 t) r0_5)) (k0_pay3 (View.ld (iblk m c 6 t) r0_5))
        (k0_pay4 (View.ld (iblk m c 0 t) r0_0) (View.ld (iblk m c 4 t) r0_1) (View.ld (iblk m c 1 t) r0_0) (View.ld (iblk m c 4 t) r0_2) (View.ld (iblk m c 2 t) r0_0) (View.ld (iblk m c 4 t) r0_3) (View.ld (iblk m c 3 t) r0_4)) (ix3 0 r d)
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
          (ix3 ⟨t.val / 6, lt_div t⟩ ⟨(t.val % 6) * 704 + y.val, by omega⟩ e) := by
  obtain ⟨y, hlt⟩ := y
  obtain rfl : y = r.val := hy
  obtain rfl : e = d := Fin.ext he
  refine (pay5_at _ _ _ _ _ _ _ _ _ r e).trans ?_
  simp only [blk0_0, blk1_0, blk2_0, blk3_0, blk4_0, blk4_1, blk4_2, blk5, blk6]
  exact congrArg (fun z => Cert.Spec.layerNorm z _ _ e) (acc_cat _ _ _ _ (fun k e => m ((c.tc : Thread nD τ).loc main_arg4) (ix3 3 k e)))

/-- What is written at a grid point into the second half of its block, at row `r` and feature `d`. -/
theorem point_1 (c : Dev nD) (t : Fin cfg0.N) (r : Fin 352) (d : Fin 1024)
    (y : Fin 704) (e : Fin 1024) (hy : y.val = 352 + r.val) (he : e.val = d.val) :
    k0_pay7 (k0_pay6 (View.ld (iblk m c 0 t) r0_6) (View.ld (iblk m c 4 t) r0_1) (View.ld (iblk m c 1 t) r0_6) (View.ld (iblk m c 4 t) r0_2)) (View.ld (iblk m c 2 t) r0_6) (View.ld (iblk m c 4 t) r0_3) (View.ld (iblk m c 3 t) r0_7) (View.ld (iblk m c 5 t) r0_5) (View.ld (iblk m c 6 t) r0_5) (ix3 0 r d)
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
          (ix3 ⟨t.val / 6, lt_div t⟩ ⟨(t.val % 6) * 704 + y.val, by omega⟩ e) := by
  obtain ⟨y, hlt⟩ := y
  obtain rfl : y = 352 + r.val := hy
  obtain rfl : e = d := Fin.ext he
  refine (pay7_at _ _ _ _ _ _ _ _ _ r e).trans ?_
  simp only [blk0_1, blk1_1, blk2_1, blk3_1, blk4_0, blk4_1, blk4_2, blk5, blk6]
  exact congrArg (fun z => Cert.Spec.layerNorm z _ _ e) (acc_cat _ _ _ _ (fun k e => m ((c.tc : Thread nD τ).loc main_arg4) (ix3 3 k e)))

theorem emb7 (t : Fin cfg0.N) (r : Fin 704) (d : Fin 1024) :
    (win0_7.blk t).view.emb (ix3 0 r d) = ix3 ⟨t.val / 6, lt_div t⟩ ⟨(t.val % 6) * 704 + r.val, by omega⟩ d := by
  funext a
  apply Fin.ext
  fin_cases a <;> blk_simp [idx t] <;> rfl

/-- The output array after the last grid point. -/
theorem final (c : Dev nD) : (dats m 0 c).arrAt 7 (cfgs 0).N
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 7 _ (by decide +kernel) fun t _ y => ?_
  blk_simp
  rw [after0_7]
  idx_vars y
  obtain rfl : y0 = 0 := Subsingleton.elim _ _
  refine Eq.trans ?_ (congrArg _ (emb7 t _ _).symm)
  canon_tiles x h
  · idx_vars x
    obtain rfl : x0 = 0 := Subsingleton.elim _ _
    exact point_1 m c t x1 x2 y1 y2 h1 h2
  · idx_vars x
    obtain rfl : x0 = 0 := Subsingleton.elim _ _
    exact point_0 m c t x1 x2 y1 y2 h1 h2

/-- The reference's result, from the same arguments, is the same expression. -/
theorem reference_eq (m' : (ℓ : Loc Cert.OutReferenceIdeal.nD Cert.OutReferenceIdeal.τ Cert.OutReferenceIdeal.sig) → Buf (Elt Ideal) ℓ) (c : Dev nD)
    (h : m' ((c.tc : Thread Cert.OutReferenceIdeal.nD Cert.OutReferenceIdeal.τ).loc Cert.OutReferenceIdeal.main_arg0) = m ((c.tc : Thread nD τ).loc main_arg0)
      ∧ m' ((c.tc : Thread Cert.OutReferenceIdeal.nD Cert.OutReferenceIdeal.τ).loc Cert.OutReferenceIdeal.main_arg1) = m ((c.tc : Thread nD τ).loc main_arg1)
      ∧ m' ((c.tc : Thread Cert.OutReferenceIdeal.nD Cert.OutReferenceIdeal.τ).loc Cert.OutReferenceIdeal.main_arg2) = m ((c.tc : Thread nD τ).loc main_arg2)
      ∧ m' ((c.tc : Thread Cert.OutReferenceIdeal.nD Cert.OutReferenceIdeal.τ).loc Cert.OutReferenceIdeal.main_arg3) = m ((c.tc : Thread nD τ).loc main_arg3)
      ∧ m' ((c.tc : Thread Cert.OutReferenceIdeal.nD Cert.OutReferenceIdeal.τ).loc Cert.OutReferenceIdeal.main_arg4) = m ((c.tc : Thread nD τ).loc main_arg4)
      ∧ m' ((c.tc : Thread Cert.OutReferenceIdeal.nD Cert.OutReferenceIdeal.τ).loc Cert.OutReferenceIdeal.main_arg5) = m ((c.tc : Thread nD τ).loc main_arg5)
      ∧ m' ((c.tc : Thread Cert.OutReferenceIdeal.nD Cert.OutReferenceIdeal.τ).loc Cert.OutReferenceIdeal.main_arg6) = m ((c.tc : Thread nD τ).loc main_arg6)) :
    Cert.OutReferenceIdeal.Value.res_main_v36 m' c
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  obtain ⟨h0, h1, h2, h3, h4, h5, h6⟩ := h
  funext i
  idx_vars i
  refine (Cert.OutReferenceIdeal.Pure.out_at m' c i0 i1 i2).trans ?_
  rw [h0, h1, h2, h3, h4, h5, h6]
  rfl

end Cert.OutKernelIdeal.Pure

end
-- ==== Proof.ProjSpec.lean ====
/- The row functions of the projection call: one position's hidden row through the combined weight, the normalised latents
   through theirs, and the rotary embedding of a row of a head. -/
module

public import Idealize.ShloMosaic.Lib.Pointwise

@[expose] public section

set_option maxRecDepth 16384

noncomputable section

open Idealize.ShloMosaic

namespace Cert.ProjSpec

/-- A row through a weight. -/
def dot {n k : ℕ} (x : Fin n → EReal) (w : Fin n → Fin k → EReal) (j : Fin k) : EReal := ∑ i, x i * w i j

/-- A row over the root of its mean square plus the constant 1e-5, times the gain. -/
def rms {n : ℕ} (size : BitVec 32) (x g : Fin n → EReal) (k : Fin n) : EReal :=
  x k * Ideal.rsqrt (Ideal.div (∑ j, x j * x j) (Ideal.ofBits .f32 size) + Ideal.ofBits .f32 0x3727C5AC#32) * g k

/-- The queries' latent through its weight, from the columns of the combined projection. -/
def query (y : Fin 3744 → EReal) (g : Fin 384 → EReal) (u : Fin 384 → Fin 768 → EReal) : Fin 768 → EReal :=
  dot (rms 0x43C00000#32 (fun k => y ⟨1536 + k.val, by omega⟩) g) u

/-- The keys' and values' latent through its weight, from the columns of the combined projection. -/
def keyval (y : Fin 3744 → EReal) (g : Fin 256 → EReal) (u : Fin 256 → Fin 1024 → EReal) : Fin 1024 → EReal :=
  dot (rms 0x43800000#32 (fun k => y ⟨1920 + k.val, by omega⟩) g) u

/-- The angle of position `r` at frequency `i`, for half of a head's `half` pairs: the position counted from the 112 pad
    positions on, times the power of the base. -/
def angle {n : ℕ} (half : BitVec 32) (r : Fin 4224) (i : Fin n) : EReal :=
  FloatOps.sitofp (F := Ideal) FTy.f32 (IntOp.subi (BitVec.ofNat 32 r.val) 112#32)
    * Ideal.pow (Ideal.ofBits FTy.f32 0x461C4000#32)
        (Ideal.div (-FloatOps.sitofp (F := Ideal) FTy.f32 (BitVec.ofNat 32 i.val)) (Ideal.ofBits FTy.f32 half))

/-- The rotary embedding of a row of 32. -/
def turn32 (x : Fin 32 → EReal) (a : Fin 16 → EReal) (j : Fin 32) : EReal :=
  if h : j.val < 16 then x ⟨j.val, by omega⟩ * Ideal.cos (a ⟨j.val, h⟩) - x ⟨16 + j.val, by omega⟩ * Ideal.sin (a ⟨j.val, h⟩)
  else x ⟨j.val - 16, by omega⟩ * Ideal.sin (a ⟨j.val - 16, by omega⟩) + x ⟨16 + (j.val - 16), by omega⟩ * Ideal.cos (a ⟨j.val - 16, by omega⟩)

/-- The rotary embedding of a row of 64. -/
def turn64 (x : Fin 64 → EReal) (a : Fin 32 → EReal) (j : Fin 64) : EReal :=
  if h : j.val < 32 then x ⟨j.val, by omega⟩ * Ideal.cos (a ⟨j.val, h⟩) - x ⟨32 + j.val, by omega⟩ * Ideal.sin (a ⟨j.val, h⟩)
  else x ⟨j.val - 32, by omega⟩ * Ideal.sin (a ⟨j.val - 32, by omega⟩) + x ⟨32 + (j.val - 32), by omega⟩ * Ideal.cos (a ⟨j.val - 32, by omega⟩)

/-- One head of 128 lanes: 64 plain ones, 32 rotated ones, 32 zeros. -/
def lanes (plain : Fin 64 → EReal) (rot : Fin 32 → EReal) (a : Fin 16 → EReal) (l : Fin 128) : EReal :=
  if h : l.val < 64 then plain ⟨l.val, h⟩
  else if h' : l.val - 64 < 32 then turn32 rot a ⟨l.val - 64, h'⟩ else Ideal.ofBits .f32 0x00000000#32

/-- Two heads of 128 lanes: the first head's 64 values, 128 ones, the second head's 64 values. -/
def beside (v : Fin 64 → EReal) (v' : Fin 64 → EReal) (l : Fin 256) : EReal :=
  if h : l.val < 64 then v ⟨l.val, h⟩
  else if h1 : l.val - 64 < 64 then Ideal.ofBits .f32 0x3F800000#32
  else if h2 : l.val - 64 - 64 < 64 then Ideal.ofBits .f32 0x3F800000#32 else v' ⟨l.val - 64 - 64 - 64, by omega⟩

/-- The three planes of the table of 16 frequencies: the factor of a lane itself, of the lane 16 further, of the lane 16 before. -/
def mtab0 (a : Fin 16 → EReal) (l : Fin 128) : EReal :=
  if h0 : l.val < 64 then 1
  else if h1 : l.val - 64 < 16 then Ideal.cos (a ⟨l.val - 64, by omega⟩)
  else if h2 : l.val - 64 - 16 < 16 then Ideal.cos (a ⟨l.val - 64 - 16, by omega⟩)
  else 0

def mtab1 (a : Fin 16 → EReal) (l : Fin 128) : EReal :=
  if h0 : l.val < 64 then 0
  else if h1 : l.val - 64 < 16 then -Ideal.sin (a ⟨l.val - 64, by omega⟩)
  else if h2 : l.val - 64 - 16 < 16 then 0
  else 0

def mtab2 (a : Fin 16 → EReal) (l : Fin 128) : EReal :=
  if h0 : l.val < 64 then 0
  else if h1 : l.val - 64 < 16 then 0
  else if h2 : l.val - 64 - 16 < 16 then Ideal.sin (a ⟨l.val - 64 - 16, by omega⟩)
  else 0

/-- The three planes of the table of 32 frequencies, for two heads side by side. -/
def rtab0 (a : Fin 32 → EReal) (l : Fin 128) : EReal :=
  if h0 : l.val < 32 then Ideal.cos (a ⟨l.val, by omega⟩)
  else if h1 : l.val - 32 < 32 then Ideal.cos (a ⟨l.val - 32, by omega⟩)
  else if h2 : l.val - 32 - 32 < 32 then Ideal.cos (a ⟨l.val - 32 - 32, by omega⟩)
  else Ideal.cos (a ⟨l.val - 32 - 32 - 32, by omega⟩)

def rtab1 (a : Fin 32 → EReal) (l : Fin 128) : EReal :=
  if h0 : l.val < 32 then -Ideal.sin (a ⟨l.val, by omega⟩)
  else if h1 : l.val - 32 < 32 then 0
  else if h2 : l.val - 32 - 32 < 32 then -Ideal.sin (a ⟨l.val - 32 - 32, by omega⟩)
  else 0

def rtab2 (a : Fin 32 → EReal) (l : Fin 128) : EReal :=
  if h0 : l.val < 32 then 0
  else if h1 : l.val - 32 < 32 then Ideal.sin (a ⟨l.val - 32, by omega⟩)
  else if h2 : l.val - 32 - 32 < 32 then 0
  else Ideal.sin (a ⟨l.val - 32 - 32 - 32, by omega⟩)

/-! The kernel's forms: the padded weights' columns and the rotation by two rolled copies. -/

/-- The columns of the combined weight with two gaps of zeros. -/
def winPad (w : Fin 3744 → EReal) (j : Fin 3840) : EReal :=
  if h : j.val < 2176 then w ⟨j.val, by omega⟩
  else if h1 : j.val - 2176 < 64 then 0
  else if h2 : j.val - 2176 - 64 < 32 then w ⟨2176 + (j.val - 2176 - 64), by omega⟩
  else if h3 : j.val - 2176 - 64 - 32 < 32 then 0
  else w ⟨2208 + (j.val - 2176 - 64 - 32 - 32), by omega⟩

/-- The columns of the queries' weight, 32 zeros after each head's 96. -/
def uqPad (u : Fin 768 → EReal) (j : Fin 1024) : EReal :=
  if h : j.val % 128 < 96 then u ⟨j.val / 128 * 96 + j.val % 128, by omega⟩ else 0

/-- The columns of the keys' weight, zeros in the place of each head's values. -/
def ukPad (u : Fin 1024 → EReal) (j : Fin 1024) : EReal := if h : j.val % 128 < 64 then u j else 0

theorem dot_winPad {n : ℕ} (x : Fin n → EReal) (w : Fin n → Fin 3744 → EReal) (j : Fin 3840) :
    ∑ k, x k * winPad (w k) j = winPad (dot x w) j := by
  unfold winPad dot
  split_ifs <;> simp only [mul_zero, Finset.sum_const_zero]

theorem dot_uqPad {n : ℕ} (x : Fin n → EReal) (w : Fin n → Fin 768 → EReal) (j : Fin 1024) :
    ∑ k, x k * uqPad (w k) j = uqPad (dot x w) j := by
  unfold uqPad dot
  split_ifs <;> simp only [mul_zero, Finset.sum_const_zero]

theorem dot_ukPad {n : ℕ} (x : Fin n → EReal) (w : Fin n → Fin 1024 → EReal) (j : Fin 1024) :
    ∑ k, x k * ukPad (w k) j = ukPad (dot x w) j := by
  unfold ukPad dot
  split_ifs <;> simp only [mul_zero, Finset.sum_const_zero]

theorem winPad_lo (w : Fin 3744 → EReal) (j : Fin 3840) (i : Fin 3744) (h : j.val < 2176) (e : i.val = j.val) : winPad w j = w i := by
  unfold winPad
  rw [dif_pos h]
  exact congrArg w (Fin.ext e.symm)

theorem winPad_gap (w : Fin 3744 → EReal) (j : Fin 3840) (h : 2176 ≤ j.val) (h' : j.val < 2240) : winPad w j = 0 := by
  unfold winPad
  rw [dif_neg (by omega), dif_pos (by omega)]

theorem winPad_mid (w : Fin 3744 → EReal) (j : Fin 3840) (i : Fin 3744) (h : 2240 ≤ j.val) (h' : j.val < 2272) (e : i.val + 64 = j.val) :
    winPad w j = w i := by
  unfold winPad
  rw [dif_neg (by omega), dif_neg (by omega), dif_pos (by omega)]
  exact congrArg w (Fin.ext (show 2176 + (j.val - 2176 - 64) = i.val by omega))

theorem winPad_hi (w : Fin 3744 → EReal) (j : Fin 3840) (i : Fin 3744) (h : 2304 ≤ j.val) (e : i.val + 96 = j.val) : winPad w j = w i := by
  unfold winPad
  rw [dif_neg (by omega), dif_neg (by omega), dif_neg (by omega), dif_neg (by omega)]
  exact congrArg w (Fin.ext (show 2208 + (j.val - 2176 - 64 - 32 - 32) = i.val by omega))

/-- A row of 128 lanes times a table's first plane, the row rolled 16 lanes on times the second, 16 back times the third. -/
def tile16 (f t0 t1 t2 : Fin 128 → EReal) (l : Fin 128) : EReal :=
  f l * t0 l + f ⟨(l.val + 128 - 112) % 128, Nat.mod_lt _ (by decide)⟩ * t1 l + f ⟨(l.val + 128 - 16) % 128, Nat.mod_lt _ (by decide)⟩ * t2 l

/-- The same with rolls by 32 lanes. -/
def tile32 (f t0 t1 t2 : Fin 128 → EReal) (l : Fin 128) : EReal :=
  f l * t0 l + f ⟨(l.val + 128 - 96) % 128, Nat.mod_lt _ (by decide)⟩ * t1 l + f ⟨(l.val + 128 - 32) % 128, Nat.mod_lt _ (by decide)⟩ * t2 l

/-- With the table of 16 frequencies this leaves 64 lanes, rotates 32 and clears 32. -/
theorem tile16_lanes (f : Fin 128 → EReal) (a : Fin 16 → EReal) (l : Fin 128) :
    tile16 f (mtab0 a) (mtab1 a) (mtab2 a) l = lanes (fun j => f ⟨j.val, by omega⟩) (fun j => f ⟨64 + j.val, by omega⟩) a l := by
  have z : Ideal.ofBits .f32 0x00000000#32 = (0 : EReal) := by pointwise
  unfold tile16 mtab0 mtab1 mtab2 lanes turn32
  by_cases h0 : l.val < 64
  · simp only [dif_pos h0, mul_one, mul_zero, add_zero]
  · by_cases h1 : l.val - 64 < 16
    · simp only [dif_neg h0, dif_pos h1, dif_pos (show l.val - 64 < 32 by omega), mul_zero, add_zero, mul_neg, ← sub_eq_add_neg]
      exact congrArg₂ (· - ·) (congrArg (f · * _) (Fin.ext (show l.val = 64 + (l.val - 64) by omega)))
        (congrArg (f · * _) (Fin.ext (show (l.val + 128 - 112) % 128 = 64 + (16 + (l.val - 64)) by omega)))
    · by_cases h2 : l.val - 64 - 16 < 16
      · simp only [dif_neg h0, dif_neg h1, dif_pos h2, dif_pos (show l.val - 64 < 32 by omega), mul_zero, add_zero]
        rw [add_comm]
        exact congrArg₂ (· + ·) (congrArg (f · * _) (Fin.ext (show (l.val + 128 - 16) % 128 = 64 + (l.val - 64 - 16) by omega)))
          (congrArg (f · * _) (Fin.ext (show l.val = 64 + (16 + (l.val - 64 - 16)) by omega)))
      · simp only [dif_neg h0, dif_neg h1, dif_neg h2, dif_neg (show ¬ l.val - 64 < 32 by omega), mul_zero, add_zero, z]

/-- With the table of 32 frequencies it rotates two heads of 64. -/
theorem tile32_turn (f : Fin 128 → EReal) (a : Fin 32 → EReal) (l : Fin 128) :
    tile32 f (rtab0 a) (rtab1 a) (rtab2 a) l
      = turn64 (fun j => f ⟨l.val / 64 * 64 + j.val, by omega⟩) a ⟨l.val % 64, Nat.mod_lt _ (by decide)⟩ := by
  unfold tile32 rtab0 rtab1 rtab2 turn64
  by_cases h0 : l.val < 32
  · simp only [dif_pos h0, dif_pos (show l.val % 64 < 32 by omega), mul_zero, add_zero, mul_neg, ← sub_eq_add_neg]
    refine congrArg₂ (· - ·) (congrArg₂ (f · * ·) (Fin.ext (show l.val = l.val / 64 * 64 + l.val % 64 by omega)) (congrArg (fun z => Ideal.cos (a z)) (Fin.ext (show l.val = l.val % 64 by omega))))
      (congrArg₂ (f · * ·) (Fin.ext (show (l.val + 128 - 96) % 128 = l.val / 64 * 64 + (32 + l.val % 64) by omega)) (congrArg (fun z => Ideal.sin (a z)) (Fin.ext (show l.val = l.val % 64 by omega))))
  · by_cases h1 : l.val - 32 < 32
    · simp only [dif_neg h0, dif_pos h1, dif_neg (show ¬ l.val % 64 < 32 by omega), mul_zero, add_zero]
      rw [add_comm]
      refine congrArg₂ (· + ·) (congrArg₂ (f · * ·) (Fin.ext (show (l.val + 128 - 32) % 128 = l.val / 64 * 64 + (l.val % 64 - 32) by omega)) (congrArg (fun z => Ideal.sin (a z)) (Fin.ext (show l.val - 32 = l.val % 64 - 32 by omega))))
        (congrArg₂ (f · * ·) (Fin.ext (show l.val = l.val / 64 * 64 + (32 + (l.val % 64 - 32)) by omega)) (congrArg (fun z => Ideal.cos (a z)) (Fin.ext (show l.val - 32 = l.val % 64 - 32 by omega))))
    · by_cases h2 : l.val - 32 - 32 < 32
      · simp only [dif_neg h0, dif_neg h1, dif_pos h2, dif_pos (show l.val % 64 < 32 by omega), mul_zero, add_zero, mul_neg, ← sub_eq_add_neg]
        refine congrArg₂ (· - ·) (congrArg₂ (f · * ·) (Fin.ext (show l.val = l.val / 64 * 64 + l.val % 64 by omega)) (congrArg (fun z => Ideal.cos (a z)) (Fin.ext (show l.val - 32 - 32 = l.val % 64 by omega))))
          (congrArg₂ (f · * ·) (Fin.ext (show (l.val + 128 - 96) % 128 = l.val / 64 * 64 + (32 + l.val % 64) by omega)) (congrArg (fun z => Ideal.sin (a z)) (Fin.ext (show l.val - 32 - 32 = l.val % 64 by omega))))
      · simp only [dif_neg h0, dif_neg h1, dif_neg h2, dif_neg (show ¬ l.val % 64 < 32 by omega), mul_zero, add_zero]
        rw [add_comm]
        refine congrArg₂ (· + ·) (congrArg₂ (f · * ·) (Fin.ext (show (l.val + 128 - 32) % 128 = l.val / 64 * 64 + (l.val % 64 - 32) by omega)) (congrArg (fun z => Ideal.sin (a z)) (Fin.ext (show l.val - 32 - 32 - 32 = l.val % 64 - 32 by omega))))
          (congrArg₂ (f · * ·) (Fin.ext (show l.val = l.val / 64 * 64 + (32 + (l.val % 64 - 32)) by omega)) (congrArg (fun z => Ideal.cos (a z)) (Fin.ext (show l.val - 32 - 32 - 32 = l.val % 64 - 32 by omega))))

/-- Lanes which are zero past 64, plus a tile which is zero up to there. -/
theorem add_lanes (f : Fin 128 → EReal) (rot : Fin 32 → EReal) (a : Fin 16 → EReal) (hf : ∀ l : Fin 128, 64 ≤ l.val → f l = 0) (l : Fin 128) :
    f l + lanes (fun _ => 0) rot a l = lanes (fun j => f ⟨j.val, by omega⟩) rot a l := by
  unfold lanes
  by_cases h0 : l.val < 64
  · simp only [dif_pos h0, add_zero]
  · simp only [dif_neg h0, hf l (by omega), zero_add]

end Cert.ProjSpec

end
-- ==== Proof.ProjPure.lean ====
/- The projection call: each value the kernel computes in a block, read at an element. -/
module

public import proofs.«01_k».proof.Proof.ProjSpec
public import proofs.«01_k».proof.Proof.Gen.ProjKernelIdeal.Frame
public import Idealize.ShloMosaic.Lib.Pointwise

@[expose] public section

set_option maxRecDepth 16384

noncomputable section

open Idealize.ShloMosaic Idealize.ShloMosaic.TcCoe Idealize.SL.Sem

namespace Cert.ProjKernelIdeal.Pure

open Cert.ProjKernelIdeal Cert.ProjKernelIdeal.Gen
open Cert.ProjSpec

/-! The projections of the hidden rows. -/

theorem pay6_at (v0 : Vec Ideal S1x704x1024 .f32) (v3 : Vec Ideal S1x1024x1536 .bf16) (r : Fin 704) (d : Fin 512) :
    k0_pay6 v0 v3 (ix3 0 r d)
      = (∑ k, v0 (ix3 0 r k) * v3 (ix3 0 k ⟨d.val, by omega⟩)) * Ideal.ofBits .f32 0x3E38AA3B#32 := by
  pointwise [k0_pay6, k0_pay5, k0_pay4]

theorem pay7_at (v0 : Vec Ideal S1x704x1024 .f32) (v3 : Vec Ideal S1x1024x1536 .bf16) (r : Fin 704) (d : Fin 512) :
    k0_pay7 v0 v3 (ix3 0 r d)
      = ∑ k, v0 (ix3 0 r k) * v3 (ix3 0 k ⟨512 + d.val, by omega⟩) := by
  pointwise [k0_pay7, k0_pay5, k0_pay4]

theorem pay8_at (v0 : Vec Ideal S1x704x1024 .f32) (v3 : Vec Ideal S1x1024x1536 .bf16) (r : Fin 704) (d : Fin 512) :
    k0_pay8 v0 v3 (ix3 0 r d)
      = ∑ k, v0 (ix3 0 r k) * v3 (ix3 0 k ⟨1024 + d.val, by omega⟩) := by
  pointwise [k0_pay8, k0_pay5, k0_pay4]

theorem pay2_at (v0 : Vec Ideal S1x704x1024 .f32) (v3 : Vec Ideal S1x1024x1536 .bf16) (r : Fin 704) (d : Fin 512) :
    k0_pay2 (k0_pay56 (k0_pay4 v0) v3) (ix3 0 r d)
      = ∑ k, v0 (ix3 0 r k) * v3 (ix3 0 k ⟨512 + d.val, by omega⟩) := by
  pointwise [k0_pay2, k0_pay56, k0_pay4]

theorem pay3_at (v0 : Vec Ideal S1x704x1024 .f32) (v3 : Vec Ideal S1x1024x1536 .bf16) (r : Fin 704) (d : Fin 512) :
    k0_pay3 (k0_pay56 (k0_pay4 v0) v3) (ix3 0 r d)
      = ∑ k, v0 (ix3 0 r k) * v3 (ix3 0 k ⟨1024 + d.val, by omega⟩) := by
  pointwise [k0_pay3, k0_pay56, k0_pay4]

theorem pay57_at (v0 : Vec Ideal S1x704x1024 .f32) (v3 : Vec Ideal S1x1024x1536 .bf16) (r : Fin 704) (d : Fin 256) :
    k0_pay57 (k0_pay4 v0) v3 (ix2 r d)
      = ∑ k, v0 (ix3 0 r k) * v3 (ix3 0 k ⟨d.val, by omega⟩) := by
  pointwise [k0_pay57, k0_pay56, k0_pay4]

theorem pay58_at (v0 : Vec Ideal S1x704x1024 .f32) (v3 : Vec Ideal S1x1024x1536 .bf16) (r : Fin 704) (d : Fin 256) :
    k0_pay58 (k0_pay4 v0) v3 (ix2 r d)
      = ∑ k, v0 (ix3 0 r k) * v3 (ix3 0 k ⟨256 + d.val, by omega⟩) := by
  pointwise [k0_pay58, k0_pay56, k0_pay4]

theorem pay9_at (v0 : Vec Ideal S1x704x1024 .f32) (v3 : Vec Ideal S1x1024x768 .bf16) (r : Fin 704) (d : Fin 768) :
    k0_pay9 v0 v3 (ix2 r d)
      = ∑ k, v0 (ix3 0 r k) * v3 (ix3 0 k d) := by
  pointwise [k0_pay9, k0_pay4]

theorem pay10_at (v0 : Vec Ideal S1x704x1024 .f32) (v3 : Vec Ideal S1x1024x768 .bf16) (r : Fin 704) (d : Fin 384) :
    k0_pay10 v0 v3 (ix2 r d)
      = ∑ k, v0 (ix3 0 r k) * v3 (ix3 0 k ⟨d.val, by omega⟩) := by
  pointwise [k0_pay10, k0_pay9, k0_pay4]

/-! The queries' and the keys' latents, normalised, through their weights. -/

theorem pay12_at (v0 : Vec Ideal S1x704x1024 .f32) (v3 : Vec Ideal S1x1024x768 .bf16) (r : Fin 704) :
    k0_pay12 v0 v3 (ix1 r) = ∑ k, k0_pay10 v0 v3 (ix2 r k) * k0_pay10 v0 v3 (ix2 r k) := by
  pointwise [k0_pay12]

theorem pay13_row (v26 : FVec Ideal S704x384 .f32) (v28 : FVec Ideal S1x384 .f32) (v30 : FVec Ideal S704 .f32) (v42 : Vec Ideal S1x384x1024 .bf16) (r : Fin 704) (j : Fin 1024)
    (h : v30 (ix1 r) = ∑ k, v26 (ix2 r k) * v26 (ix2 r k)) :
    k0_pay13 v26 v28 v30 v42 (ix2 r j) = dot (rms 0x43C00000#32 (fun k => v26 (ix2 r k)) (fun k => v28 (ix2 0 k))) (fun k j => v42 (ix3 0 k j)) j := by
  unfold dot rms
  rw [← h]
  pointwise [k0_pay13]

theorem pay11_at (v27 : Vec Ideal S1x384 .f32) (k : Fin 384) : k0_pay11 v27 (ix2 0 k) = v27 (ix2 0 k) := by
  pointwise [k0_pay11]

theorem pay13_at (v0 : Vec Ideal S1x704x1024 .f32) (v3 : Vec Ideal S1x1024x768 .bf16) (v27 : Vec Ideal S1x384 .f32) (v42 : Vec Ideal S1x384x1024 .bf16) (r : Fin 704) (j : Fin 1024) :
    k0_pay13 (k0_pay10 v0 v3) (k0_pay11 v27) (k0_pay12 v0 v3) v42 (ix2 r j)
      = dot (rms 0x43C00000#32 (fun k : Fin 384 => ∑ i, v0 (ix3 0 r i) * v3 (ix3 0 i ⟨k.val, by omega⟩)) (fun k => v27 (ix2 0 k))) (fun k j => v42 (ix3 0 k j)) j := by
  rw [pay13_row _ _ _ _ r j (pay12_at v0 v3 r)]
  simp only [pay10_at, pay11_at]

theorem pay30_at (v25 : FVec Ideal S704x768 .f32) (v206 : Vec Ideal S1x256 .f32) (r : Fin 704) (k : Fin 256) :
    k0_pay30 v25 v206 (ix2 r k) = rms 0x43800000#32 (fun k : Fin 256 => v25 (ix2 r ⟨384 + k.val, by omega⟩)) (fun k => v206 (ix2 0 k)) k := by
  pointwise [k0_pay30, rms]

theorem pay31_at (v25 : FVec Ideal S704x768 .f32) (v206 : Vec Ideal S1x256 .f32) (v221 : Vec Ideal S1x256x1024 .bf16) (r : Fin 704) (j : Fin 1024) :
    k0_pay31 v25 v206 v221 (ix2 r j) = dot (fun k => k0_pay30 v25 v206 (ix2 r k)) (fun k j => v221 (ix3 0 k j)) j := by
  pointwise [k0_pay31, dot]

theorem pay44_at (v220 : FVec Ideal S704x256 .bf16) (v286 : Vec Ideal S1x256x512 .bf16) (r : Fin 704) (j : Fin 512) :
    k0_pay44 v220 v286 (ix2 r j) = dot (fun k => v220 (ix2 r k)) (fun k j => v286 (ix3 0 k j)) j := by
  pointwise [k0_pay44, dot]

/-! The queries' heads with their rotary lanes. -/

theorem mq0_at (v26 : FVec Ideal S704x384 .f32) (v28 : FVec Ideal S1x384 .f32) (v30 : FVec Ideal S704 .f32) (v42 : Vec Ideal S1x384x1024 .bf16) (t0 t1 t2 : Vec Ideal S1x704x128 .f32) (r : Fin 704) (l : Fin 128) :
    k0_pay14 v26 v28 v30 v42 t0 t1 t2 (ix3 0 r l)
      = tile16 (fun l => k0_pay13 v26 v28 v30 v42 (ix2 r ⟨l.val, by omega⟩)) (fun l => t0 (ix3 0 r l)) (fun l => t1 (ix3 0 r l)) (fun l => t2 (ix3 0 r l)) l * Ideal.ofBits .f32 0x3E16C740#32 := by
  pointwise [k0_pay14, tile16]

theorem mq1_at (v26 : FVec Ideal S704x384 .f32) (v28 : FVec Ideal S1x384 .f32) (v30 : FVec Ideal S704 .f32) (v42 : Vec Ideal S1x384x1024 .bf16) (t0 t1 t2 : Vec Ideal S1x704x128 .f32) (r : Fin 704) (l : Fin 128) :
    k0_pay16 (k0_pay15 v26 v28 v30 v42) t0 t1 t2 (ix3 0 r l)
      = tile16 (fun l => k0_pay13 v26 v28 v30 v42 (ix2 r ⟨128 + l.val, by omega⟩)) (fun l => t0 (ix3 0 r l)) (fun l => t1 (ix3 0 r l)) (fun l => t2 (ix3 0 r l)) l * Ideal.ofBits .f32 0x3E16C740#32 := by
  pointwise [k0_pay16, k0_pay15, tile16]

theorem mq2_at (v : FVec Ideal S704x1024 .f32) (t0 t1 t2 : Vec Ideal S1x704x128 .f32) (r : Fin 704) (l : Fin 128) :
    k0_pay18 (k0_pay17 v t0 t1 t2) (ix3 0 r l)
      = tile16 (fun l => v (ix2 r ⟨256 + l.val, by omega⟩)) (fun l => t0 (ix3 0 r l)) (fun l => t1 (ix3 0 r l)) (fun l => t2 (ix3 0 r l)) l * Ideal.ofBits .f32 0x3E16C740#32 := by
  pointwise [k0_pay18, k0_pay17, tile16]

theorem mq3_at (v : FVec Ideal S704x1024 .f32) (t0 t1 t2 : Vec Ideal S1x704x128 .f32) (r : Fin 704) (l : Fin 128) :
    k0_pay19 v t0 t1 t2 (ix3 0 r l)
      = tile16 (fun l => v (ix2 r ⟨384 + l.val, by omega⟩)) (fun l => t0 (ix3 0 r l)) (fun l => t1 (ix3 0 r l)) (fun l => t2 (ix3 0 r l)) l * Ideal.ofBits .f32 0x3E16C740#32 := by
  pointwise [k0_pay19, tile16]

theorem mq4_at (v : FVec Ideal S704x1024 .f32) (t0 t1 t2 : Vec Ideal S1x704x128 .f32) (r : Fin 704) (l : Fin 128) :
    k0_pay24 (k0_pay20 v) (k0_pay21 t0) (k0_pay22 t1) (k0_pay23 t2) (ix3 0 r l)
      = tile16 (fun l => v (ix2 r ⟨512 + l.val, by omega⟩)) (fun l => t0 (ix3 0 r l)) (fun l => t1 (ix3 0 r l)) (fun l => t2 (ix3 0 r l)) l * Ideal.ofBits .f32 0x3E16C740#32 := by
  pointwise [k0_pay24, k0_pay20, k0_pay21, k0_pay22, k0_pay23, tile16]

theorem mq5_at (v : FVec Ideal S704x1024 .f32) (t0 t1 t2 : Vec Ideal S1x704x128 .f32) (r : Fin 704) (l : Fin 128) :
    k0_pay25 v t0 t1 t2 (ix3 0 r l)
      = tile16 (fun l => v (ix2 r ⟨640 + l.val, by omega⟩)) (fun l => t0 (ix3 0 r l)) (fun l => t1 (ix3 0 r l)) (fun l => t2 (ix3 0 r l)) l * Ideal.ofBits .f32 0x3E16C740#32 := by
  pointwise [k0_pay25, tile16]

theorem mq6_at (v : FVec Ideal S704x1024 .f32) (t0 t1 t2 : Vec Ideal S1x704x128 .f32) (r : Fin 704) (l : Fin 128) :
    k0_pay27 (k0_pay26 v) t0 t1 t2 (ix3 0 r l)
      = tile16 (fun l => v (ix2 r ⟨768 + l.val, by omega⟩)) (fun l => t0 (ix3 0 r l)) (fun l => t1 (ix3 0 r l)) (fun l => t2 (ix3 0 r l)) l * Ideal.ofBits .f32 0x3E16C740#32 := by
  pointwise [k0_pay27, k0_pay26, tile16]

theorem mq7_at (v : FVec Ideal S704x1024 .f32) (t0 t1 t2 : Vec Ideal S1x704x128 .f32) (r : Fin 704) (l : Fin 128) :
    k0_pay29 (k0_pay28 v t0 t1 t2) (ix3 0 r l)
      = tile16 (fun l => v (ix2 r ⟨896 + l.val, by omega⟩)) (fun l => t0 (ix3 0 r l)) (fun l => t1 (ix3 0 r l)) (fun l => t2 (ix3 0 r l)) l * Ideal.ofBits .f32 0x3E16C740#32 := by
  pointwise [k0_pay29, k0_pay28, tile16]

/-! The keys' heads: the plain lanes plus the shared rotary lanes. -/

theorem rot_at (v25 : FVec Ideal S704x768 .f32) (t0 t1 t2 : Vec Ideal S1x704x128 .f32) (r : Fin 704) (l : Fin 128) :
    k0_pay35 (k0_pay33 v25 t0 t1) (k0_pay34 v25 t2) (ix2 r l)
      = tile16 (fun l => v25 (ix2 r ⟨640 + l.val, by omega⟩)) (fun l => t0 (ix3 0 r l)) (fun l => t1 (ix3 0 r l)) (fun l => t2 (ix3 0 r l)) l := by
  pointwise [k0_pay35, k0_pay33, k0_pay34, k0_pay32, tile16]

theorem mk0_at (v : FVec Ideal S704x1024 .f32) (x y : FVec Ideal S704x128 .f32) (r : Fin 704) (l : Fin 128) :
    k0_pay36 v x y (ix3 0 r l)
      = v (ix2 r ⟨l.val, by omega⟩) + k0_pay35 x y (ix2 r l) := by
  pointwise [k0_pay36]

theorem mk1_at (v : FVec Ideal S704x1024 .f32) (x y : FVec Ideal S704x128 .f32) (r : Fin 704) (l : Fin 128) :
    k0_pay37 v x y (ix3 0 r l)
      = v (ix2 r ⟨128 + l.val, by omega⟩) + k0_pay35 x y (ix2 r l) := by
  pointwise [k0_pay37]

theorem mk2_at (v : FVec Ideal S704x1024 .f32) (x y : FVec Ideal S704x128 .f32) (r : Fin 704) (l : Fin 128) :
    k0_pay38 v x y (ix3 0 r l)
      = v (ix2 r ⟨256 + l.val, by omega⟩) + k0_pay35 x y (ix2 r l) := by
  pointwise [k0_pay38]

theorem mk3_at (v : FVec Ideal S704x1024 .f32) (x y : FVec Ideal S704x128 .f32) (r : Fin 704) (l : Fin 128) :
    k0_pay39 v x y (ix3 0 r l)
      = v (ix2 r ⟨384 + l.val, by omega⟩) + k0_pay35 x y (ix2 r l) := by
  pointwise [k0_pay39]

theorem mk4_at (v : FVec Ideal S704x1024 .f32) (x y : FVec Ideal S704x128 .f32) (r : Fin 704) (l : Fin 128) :
    k0_pay40 v x y (ix3 0 r l)
      = v (ix2 r ⟨512 + l.val, by omega⟩) + k0_pay35 x y (ix2 r l) := by
  pointwise [k0_pay40]

theorem mk5_at (v : FVec Ideal S704x1024 .f32) (x y : FVec Ideal S704x128 .f32) (r : Fin 704) (l : Fin 128) :
    k0_pay41 v x y (ix3 0 r l)
      = v (ix2 r ⟨640 + l.val, by omega⟩) + k0_pay35 x y (ix2 r l) := by
  pointwise [k0_pay41]

theorem mk6_at (v : FVec Ideal S704x1024 .f32) (x : FVec Ideal S704x128 .f32) (r : Fin 704) (l : Fin 128) :
    k0_pay42 v x (ix3 0 r l)
      = v (ix2 r ⟨768 + l.val, by omega⟩) + x (ix2 r l) := by
  pointwise [k0_pay42]

theorem mk7_at (v : FVec Ideal S704x1024 .f32) (x : FVec Ideal S704x128 .f32) (r : Fin 704) (l : Fin 128) :
    k0_pay43 v x (ix3 0 r l)
      = v (ix2 r ⟨896 + l.val, by omega⟩) + x (ix2 r l) := by
  pointwise [k0_pay43]

/-! The values' heads beside their ones. -/

theorem lane_at (r : Fin 704) (l : Fin 128) : (iota .tc S704x128 32 [1] iota_S704x128_d1_w32 : IVec S704x128 32) (ix2 r l) = BitVec.ofNat 32 l.val := by
  pointwise

theorem lane_lt : ∀ l : Fin 128, IntOp.cmpi .slt (BitVec.ofNat 32 l.val) 64#32 = if l.val < 64 then 1#1 else 0#1 := by
  decide +kernel

theorem lane_ge : ∀ l : Fin 128, IntOp.cmpi .sge (BitVec.ofNat 32 l.val) 64#32 = if l.val < 64 then 0#1 else 1#1 := by
  decide +kernel

theorem mv0_at (v : FVec Ideal S704x256 .bf16) (w : Vec Ideal S1x256x512 .bf16) (r : Fin 704) (l : Fin 128) :
    k0_pay45 v w (ix3 0 r l)
      = if l.val < 64 then k0_pay44 v w (ix2 r ⟨l.val, by omega⟩) else 1 := by
  refine Eq.trans (b := Scalar.select (IntOp.cmpi .slt (BitVec.ofNat 32 l.val) 64#32) (k0_pay44 v w (ix2 r ⟨l.val, by omega⟩)) 1) (by pointwise [k0_pay45]) ?_
  rw [lane_lt l]
  by_cases h : l.val < 64
  · rw [if_pos h, if_pos h]; rfl
  · rw [if_neg h, if_neg h]; rfl

theorem mv1_at (v : FVec Ideal S704x256 .bf16) (w : Vec Ideal S1x256x512 .bf16) (r : Fin 704) (l : Fin 128) :
    k0_pay46 v w (ix3 0 r l)
      = if l.val < 64 then 1 else k0_pay44 v w (ix2 r ⟨l.val, by omega⟩) := by
  refine Eq.trans (b := Scalar.select (IntOp.cmpi .sge (BitVec.ofNat 32 l.val) 64#32) (k0_pay44 v w (ix2 r ⟨l.val, by omega⟩)) 1) (by pointwise [k0_pay46]) ?_
  rw [lane_ge l]
  by_cases h : l.val < 64
  · rw [if_pos h, if_pos h]; rfl
  · rw [if_neg h, if_neg h]; rfl

theorem mv2_at (v : FVec Ideal S704x256 .bf16) (w : Vec Ideal S1x256x512 .bf16) (r : Fin 704) (l : Fin 128) :
    k0_pay48 (iota .tc S704x128 32 [1] iota_S704x128_d1_w32) (k0_pay47 v w) (ix3 0 r l)
      = if l.val < 64 then k0_pay44 v w (ix2 r ⟨128 + l.val, by omega⟩) else 1 := by
  refine Eq.trans (b := Scalar.select (IntOp.cmpi .slt (BitVec.ofNat 32 l.val) 64#32) (k0_pay44 v w (ix2 r ⟨128 + l.val, by omega⟩)) 1) (by pointwise [k0_pay48, k0_pay47]) ?_
  rw [lane_lt l]
  by_cases h : l.val < 64
  · rw [if_pos h, if_pos h]; rfl
  · rw [if_neg h, if_neg h]; rfl

theorem mv3_at (v : FVec Ideal S704x256 .bf16) (w : Vec Ideal S1x256x512 .bf16) (r : Fin 704) (l : Fin 128) :
    k0_pay49 (k0_pay44 v w) (iota .tc S704x128 32 [1] iota_S704x128_d1_w32) (ix3 0 r l)
      = if l.val < 64 then 1 else k0_pay44 v w (ix2 r ⟨128 + l.val, by omega⟩) := by
  refine Eq.trans (b := Scalar.select (IntOp.cmpi .sge (BitVec.ofNat 32 l.val) 64#32) (k0_pay44 v w (ix2 r ⟨128 + l.val, by omega⟩)) 1) (by pointwise [k0_pay49]) ?_
  rw [lane_ge l]
  by_cases h : l.val < 64
  · rw [if_pos h, if_pos h]; rfl
  · rw [if_neg h, if_neg h]; rfl

theorem mv4_at (v : FVec Ideal S704x256 .bf16) (w : Vec Ideal S1x256x512 .bf16) (r : Fin 704) (l : Fin 128) :
    k0_pay50 (k0_pay44 v w) (iota .tc S704x128 32 [1] iota_S704x128_d1_w32) (ix3 0 r l)
      = if l.val < 64 then k0_pay44 v w (ix2 r ⟨256 + l.val, by omega⟩) else 1 := by
  refine Eq.trans (b := Scalar.select (IntOp.cmpi .slt (BitVec.ofNat 32 l.val) 64#32) (k0_pay44 v w (ix2 r ⟨256 + l.val, by omega⟩)) 1) (by pointwise [k0_pay50]) ?_
  rw [lane_lt l]
  by_cases h : l.val < 64
  · rw [if_pos h, if_pos h]; rfl
  · rw [if_neg h, if_neg h]; rfl

theorem mv5_at (v : FVec Ideal S704x256 .bf16) (w : Vec Ideal S1x256x512 .bf16) (r : Fin 704) (l : Fin 128) :
    k0_pay51 (k0_pay44 v w) (iota .tc S704x128 32 [1] iota_S704x128_d1_w32) (ix3 0 r l)
      = if l.val < 64 then 1 else k0_pay44 v w (ix2 r ⟨256 + l.val, by omega⟩) := by
  refine Eq.trans (b := Scalar.select (IntOp.cmpi .sge (BitVec.ofNat 32 l.val) 64#32) (k0_pay44 v w (ix2 r ⟨256 + l.val, by omega⟩)) 1) (by pointwise [k0_pay51]) ?_
  rw [lane_ge l]
  by_cases h : l.val < 64
  · rw [if_pos h, if_pos h]; rfl
  · rw [if_neg h, if_neg h]; rfl

theorem mv6_at (v : FVec Ideal S704x256 .bf16) (w : Vec Ideal S1x256x512 .bf16) (r : Fin 704) (l : Fin 128) :
    k0_pay53 (iota .tc S704x128 32 [1] iota_S704x128_d1_w32) (k0_pay52 (k0_pay44 v w)) (ix3 0 r l)
      = if l.val < 64 then k0_pay44 v w (ix2 r ⟨384 + l.val, by omega⟩) else 1 := by
  refine Eq.trans (b := Scalar.select (IntOp.cmpi .slt (BitVec.ofNat 32 l.val) 64#32) (k0_pay44 v w (ix2 r ⟨384 + l.val, by omega⟩)) 1) (by pointwise [k0_pay53, k0_pay52]) ?_
  rw [lane_lt l]
  by_cases h : l.val < 64
  · rw [if_pos h, if_pos h]; rfl
  · rw [if_neg h, if_neg h]; rfl

theorem mv7_at (v : FVec Ideal S704x256 .bf16) (w : Vec Ideal S1x256x512 .bf16) (r : Fin 704) (l : Fin 128) :
    k0_pay54 (k0_pay44 v w) (iota .tc S704x128 32 [1] iota_S704x128_d1_w32) (ix3 0 r l)
      = if l.val < 64 then 1 else k0_pay44 v w (ix2 r ⟨384 + l.val, by omega⟩) := by
  refine Eq.trans (b := Scalar.select (IntOp.cmpi .sge (BitVec.ofNat 32 l.val) 64#32) (k0_pay44 v w (ix2 r ⟨384 + l.val, by omega⟩)) 1) (by pointwise [k0_pay54]) ?_
  rw [lane_ge l]
  by_cases h : l.val < 64
  · rw [if_pos h, if_pos h]; rfl
  · rw [if_neg h, if_neg h]; rfl

/-! The retention's queries and keys with their rotary lanes. -/

theorem rq0_at (x : FVec Ideal S704x1024 .bf16) (w : Vec Ideal S1x1024x1536 .bf16) (t0 t1 t2 : Vec Ideal S1x704x128 .f32) (r : Fin 704) (l : Fin 128) :
    k0_pay61 (k0_pay59 x w) (k0_pay60 t0) t1 t2 (ix3 0 r l)
      = tile32 (fun l => k0_pay57 x w (ix2 r ⟨l.val, by omega⟩)) (fun l => t0 (ix3 0 r l)) (fun l => t1 (ix3 0 r l)) (fun l => t2 (ix3 0 r l)) l := by
  pointwise [k0_pay61, k0_pay59, k0_pay60, tile32]

theorem rq1_at (x : FVec Ideal S704x1024 .bf16) (w : Vec Ideal S1x1024x1536 .bf16) (t0 t1 t2 : Vec Ideal S1x704x128 .f32) (r : Fin 704) (l : Fin 128) :
    k0_pay64 (k0_pay63 (k0_pay57 x w)) t0 t1 t2 (ix3 0 r l)
      = tile32 (fun l => k0_pay57 x w (ix2 r ⟨128 + l.val, by omega⟩)) (fun l => t0 (ix3 0 r l)) (fun l => t1 (ix3 0 r l)) (fun l => t2 (ix3 0 r l)) l := by
  pointwise [k0_pay64, k0_pay63, tile32]

theorem rk0_at (s : FVec Ideal S704x128 .f32) (v : FVec Ideal S704x256 .f32) (t0 t1 t2 : Vec Ideal S1x704x128 .f32) (r : Fin 704) (l : Fin 128) :
    k0_pay62 s v t0 t1 t2 (ix3 0 r l)
      = tile32 (fun l => v (ix2 r ⟨l.val, by omega⟩)) (fun l => t0 (ix3 0 r l)) (fun l => t1 (ix3 0 r l)) (fun l => t2 (ix3 0 r l)) l * s (ix2 r l) := by
  pointwise [k0_pay62, tile32]

theorem rk1_at (s : FVec Ideal S704x128 .f32) (v : FVec Ideal S704x256 .f32) (t0 t1 t2 : Vec Ideal S1x704x128 .f32) (r : Fin 704) (l : Fin 128) :
    k0_pay1 (k0_pay65 s v t0 t1 t2) (ix3 0 r l)
      = tile32 (fun l => v (ix2 r ⟨128 + l.val, by omega⟩)) (fun l => t0 (ix3 0 r l)) (fun l => t1 (ix3 0 r l)) (fun l => t2 (ix3 0 r l)) l * s (ix2 r l) := by
  pointwise [k0_pay1, k0_pay65, tile32]

theorem scale_at (b : BitVec 32) (r : Fin 704) (l : Fin 128) :
    k0_pay55 (F := Ideal) b (ix2 r l)
      = Scalar.select (IntOp.cmpi .sge (IntOp.addi (BitVec.ofNat 32 r.val) (Scalar.muli b 704#32)) 112#32) (Ideal.ofBits .f32 0x3E000000#32) 0 := by
  pointwise [k0_pay55]

end Cert.ProjKernelIdeal.Pure

end
-- ==== Proof.ProjHost.lean ====
/- The projection call: what the host prepares, read at an element: the padded weights, the gains and the rotary tables. -/
module

public import proofs.«01_k».proof.Proof.ProjSpec
public import proofs.«01_k».proof.Proof.Gen.ProjKernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.ProjKernelIdeal.Pure

open Cert.ProjKernelIdeal Cert.ProjKernelIdeal.Gen
open Cert.ProjSpec

variable (m : (ℓ : Loc nD τ sig) → Buf (Elt Ideal) ℓ) (c : Dev nD)

/-- The padding value, the whole number 0. -/
theorem pad_value : FloatOps.sitofp (F := Ideal) FTy.f32 0#32 = (0 : EReal) := by
  show (((0#32 : BitVec 32).toInt : ℝ) : EReal) = 0
  norm_num

theorem entry_gain (k : Fin 384) : V m c main_v77 (ix2 0 k) = m ((c.tc : Thread nD τ).loc main_arg2) (ix2 3 k) := by
  unfold V hostOps0 hostOps0_1 hostOps0_2 hostOps0_3 hostOps0_4
  simp only [List.flatten_cons, List.flatten_nil, List.cons_append, List.nil_append, List.append_nil]
  after_results
  pointwise

theorem entry_gain' (k : Fin 256) : V m c main_v80 (ix2 0 k) = m ((c.tc : Thread nD τ).loc main_arg3) (ix2 3 k) := by
  unfold V hostOps0 hostOps0_1 hostOps0_2 hostOps0_3 hostOps0_4
  simp only [List.flatten_cons, List.flatten_nil, List.cons_append, List.nil_append, List.append_nil]
  after_results
  pointwise

/-- The combined weight with its two gaps of zeros. -/
theorem entry_win (k : Fin 1024) (j : Fin 3840) : V m c main_v6 (ix3 3 k j)
    = winPad (fun j => m ((c.tc : Thread nD τ).loc main_arg1) (ix3 3 k j)) j := by
  unfold V hostOps0 hostOps0_1 hostOps0_2 hostOps0_3 hostOps0_4
  simp only [List.flatten_cons, List.flatten_nil, List.cons_append, List.nil_append, List.append_nil]
  after_results
  pointwise
  after_results_simp
  pointwise [winPad]

theorem entry_uv (k : Fin 256) (j : Fin 512) : V m c main_v18 (ix3 3 k j)
    = m ((c.tc : Thread nD τ).loc main_arg5) (ix3 3 k ⟨j.val / 64 * 128 + (64 + j.val % 64), by omega⟩) := by
  unfold V hostOps0 hostOps0_1 hostOps0_2 hostOps0_3 hostOps0_4
  simp only [List.flatten_cons, List.flatten_nil, List.cons_append, List.nil_append, List.append_nil]
  after_results
  pointwise

theorem entry_uq (k : Fin 384) (j : Fin 1024) : V m c main_v10 (ix3 3 k j)
    = uqPad (fun j => m ((c.tc : Thread nD τ).loc main_arg4) (ix3 3 k j)) j := by
  unfold V hostOps0 hostOps0_1 hostOps0_2 hostOps0_3 hostOps0_4
  simp only [List.flatten_cons, List.flatten_nil, List.cons_append, List.nil_append, List.append_nil]
  after_results
  change (truncf FTy.bf16 (shapeCast S4x384x1024 (pad S4x384x8x128 ![0, 0, 0, 0] ![0, 0, 0, 32] ![0, 0, 0, 0]
    (shapeCast S4x384x8x96 (m (c, Proc.tc.devRef main_arg4)) shapeCasts_S4x384x768_S4x384x8x96)
    (sitofp FTy.f32 (constantI S_ 32 0#32)) pads_S4x384x8x96_S4x384x8x128_000_000_000_0320 h_S_)
    shapeCasts_S4x384x8x128_S4x384x1024) bitsLt_bf16_f32 : FVec Ideal S4x384x1024 .bf16) (ix3 3 k j) = _
  have hd : j.val / 128 < 8 := by omega
  pointwise [hd, true_and, uqPad, pad_value]

theorem entry_uk (k : Fin 256) (j : Fin 1024) : V m c main_v15 (ix3 3 k j)
    = ukPad (fun j => m ((c.tc : Thread nD τ).loc main_arg5) (ix3 3 k j)) j := by
  unfold V hostOps0 hostOps0_1 hostOps0_2 hostOps0_3 hostOps0_4
  simp only [List.flatten_cons, List.flatten_nil, List.cons_append, List.nil_append, List.append_nil]
  after_results
  change (truncf FTy.bf16 (shapeCast S4x256x1024 (pad S4x256x8x128 ![0, 0, 0, 0] ![0, 0, 0, 64] ![0, 0, 0, 0]
    (extractStridedSlice S4x256x8x64 ![0, 0, 0, 0] (shapeCast S4x256x8x128 (m (c, Proc.tc.devRef main_arg5)) shapeCasts_S4x256x1024_S4x256x8x128)
      slices_S4x256x8x128_S4x256x8x64_0_0_0_0)
    (sitofp FTy.f32 (constantI S_ 32 0#32)) pads_S4x256x8x64_S4x256x8x128_000_000_000_0640 h_S_)
    shapeCasts_S4x256x8x128_S4x256x1024) bitsLt_bf16_f32 : FVec Ideal S4x256x1024 .bf16) (ix3 3 k j) = _
  have hd : j.val / 128 < 8 := by omega
  pointwise [hd, true_and, ukPad, pad_value]

theorem entry_mtab0 (r : Fin 4224) (l : Fin 128) : V m c main_v51 (ix3 0 r l) = mtab0 (angle 0x41800000#32 r) l := by
  unfold V hostOps0 hostOps0_1 hostOps0_2 hostOps0_3 hostOps0_4
  simp only [List.flatten_cons, List.flatten_nil, List.cons_append, List.nil_append, List.append_nil]
  after_results
  pointwise
  after_results_simp
  pointwise
  after_results_simp
  pointwise [mtab0, angle]

theorem entry_mtab1 (r : Fin 4224) (l : Fin 128) : V m c main_v51 (ix3 1 r l) = mtab1 (angle 0x41800000#32 r) l := by
  unfold V hostOps0 hostOps0_1 hostOps0_2 hostOps0_3 hostOps0_4
  simp only [List.flatten_cons, List.flatten_nil, List.cons_append, List.nil_append, List.append_nil]
  after_results
  pointwise
  after_results_simp
  pointwise
  after_results_simp
  pointwise [mtab1, angle]

theorem entry_mtab2 (r : Fin 4224) (l : Fin 128) : V m c main_v51 (ix3 2 r l) = mtab2 (angle 0x41800000#32 r) l := by
  unfold V hostOps0 hostOps0_1 hostOps0_2 hostOps0_3 hostOps0_4
  simp only [List.flatten_cons, List.flatten_nil, List.cons_append, List.nil_append, List.append_nil]
  after_results
  pointwise
  after_results_simp
  pointwise
  after_results_simp
  pointwise [mtab2, angle]

theorem entry_rtab0 (r : Fin 4224) (l : Fin 128) : V m c main_v74 (ix3 0 r l) = rtab0 (angle 0x42000000#32 r) l := by
  unfold V hostOps0 hostOps0_1 hostOps0_2 hostOps0_3 hostOps0_4
  simp only [List.flatten_cons, List.flatten_nil, List.cons_append, List.nil_append, List.append_nil]
  after_results
  pointwise
  after_results_simp
  pointwise
  after_results_simp
  pointwise [rtab0, angle]

theorem entry_rtab1 (r : Fin 4224) (l : Fin 128) : V m c main_v74 (ix3 1 r l) = rtab1 (angle 0x42000000#32 r) l := by
  unfold V hostOps0 hostOps0_1 hostOps0_2 hostOps0_3 hostOps0_4
  simp only [List.flatten_cons, List.flatten_nil, List.cons_append, List.nil_append, List.append_nil]
  after_results
  pointwise
  after_results_simp
  pointwise
  after_results_simp
  pointwise [rtab1, angle]

theorem entry_rtab2 (r : Fin 4224) (l : Fin 128) : V m c main_v74 (ix3 2 r l) = rtab2 (angle 0x42000000#32 r) l := by
  unfold V hostOps0 hostOps0_1 hostOps0_2 hostOps0_3 hostOps0_4
  simp only [List.flatten_cons, List.flatten_nil, List.cons_append, List.nil_append, List.append_nil]
  after_results
  pointwise
  after_results_simp
  pointwise
  after_results_simp
  pointwise [rtab2, angle]

end Cert.ProjKernelIdeal.Pure

end
-- ==== Proof.ProjBlock.lean ====
/- The projection call: the fetched blocks read at an element, as the arguments, the padded weights and the rotary tables. -/
module

public import proofs.«01_k».proof.Proof.ProjHost

@[expose] public section

set_option maxRecDepth 16384

noncomputable section

open Idealize.ShloMosaic Idealize.ShloMosaic.TcCoe Idealize.SL.Sem

namespace Cert.ProjKernelIdeal.Pure

open Cert.ProjKernelIdeal Cert.ProjKernelIdeal.Gen
open Cert.ProjSpec

theorem idx : ∀ t : Fin cfg0.N, win0_0.index t = ![t.val / 6, t.val % 6, 0] ∧ win0_1.index t = ![3, 0, 0]
    ∧ win0_2.index t = ![0, 0] ∧ win0_3.index t = ![0, 0] ∧ win0_4.index t = ![3, 0, 0] ∧ win0_5.index t = ![3, 0, 0] ∧ win0_6.index t = ![3, 0, 0]
    ∧ win0_7.index t = ![0, t.val % 6, 0] ∧ win0_8.index t = ![0, t.val % 6, 0] := by
  decide +kernel

theorem idx_out : ∀ t : Fin cfg0.N, win0_9.index t = ![t.val / 6, t.val % 6, 0] ∧ win0_10.index t = ![t.val / 6, t.val % 6, 0]
    ∧ win0_11.index t = ![t.val / 6, t.val % 6, 0] ∧ win0_12.index t = ![t.val / 6, t.val % 6, 0] ∧ win0_13.index t = ![t.val / 6, t.val % 6, 0]
    ∧ win0_14.index t = ![t.val / 6, t.val % 6, 0] ∧ win0_15.index t = ![t.val / 6, t.val % 6, 0] ∧ win0_16.index t = ![t.val / 6, t.val % 6, 0]
    ∧ win0_17.index t = ![t.val / 6, t.val % 6, 0] ∧ win0_18.index t = ![t.val / 6, t.val % 6, 0] := by
  decide +kernel

theorem coord : ∀ t : Fin cfg0.N, (grid0.coords t 1).val = t.val % 6 := by
  decide +kernel

theorem lt_div (t : Fin cfg0.N) : t.val / 6 < 8 := by
  have := t.isLt; simp only [show cfg0.N = 48 from by decide +kernel] at this; omega

variable (m : (ℓ : Loc nD τ sig) → Buf (Elt Ideal) ℓ) (c : Dev nD)

theorem entry_hidden : V m c main_arg0 = m ((c.tc : Thread nD τ).loc main_arg0) := by
  unfold V hostOps0 hostOps0_1 hostOps0_2 hostOps0_3 hostOps0_4
  simp only [List.flatten_cons, List.flatten_nil, List.cons_append, List.nil_append, List.append_nil]
  after_results

theorem rd0 (X : Buf (Elt Ideal) (((0 : Dev nD).tc : Thread nD τ).loc main_arg0)) (t : Fin cfg0.N) (r : Fin 704) (k : Fin 1024) :
    View.ld (View.read (Elt Ideal) (win0_0.blk t).view X) r0_0 (ix3 0 r k) = X (ix3 ⟨t.val / 6, lt_div t⟩ ⟨(t.val % 6) * 704 + r.val, by omega⟩ k) := by
  pointwise
  rw [View.read_apply]
  blk_ext [idx t]

theorem blk0 (t : Fin cfg0.N) (r : Fin 704) (k : Fin 1024) :
    View.ld (iblk m c 0 t) r0_0 (ix3 0 r k)
      = m ((c.tc : Thread nD τ).loc main_arg0) (ix3 ⟨t.val / 6, lt_div t⟩ ⟨(t.val % 6) * 704 + r.val, by omega⟩ k) :=
  (rd0 (V m c main_arg0) t r k).trans (congrFun (entry_hidden m c) _)

theorem rd1_0 (X : Buf (Elt Ideal) (((0 : Dev nD).tc : Thread nD τ).loc main_v6)) (t : Fin cfg0.N) (k : Fin 1024) (j : Fin 1536) :
    View.ld (View.read (Elt Ideal) (win0_1.blk t).view X) r0_1 (ix3 0 k j) = X (ix3 3 k ⟨j.val, by omega⟩) := by
  pointwise
  rw [View.read_apply]
  blk_ext [idx t]

theorem blk1_0 (t : Fin cfg0.N) (k : Fin 1024) (j : Fin 1536) :
    View.ld (iblk m c 1 t) r0_1 (ix3 0 k j) = winPad (fun j => m ((c.tc : Thread nD τ).loc main_arg1) (ix3 3 k j)) ⟨j.val, by omega⟩ :=
  (rd1_0 (V m c main_v6) t k j).trans (entry_win m c k ⟨j.val, by omega⟩)

theorem rd1_1 (X : Buf (Elt Ideal) (((0 : Dev nD).tc : Thread nD τ).loc main_v6)) (t : Fin cfg0.N) (k : Fin 1024) (j : Fin 768) :
    View.ld (View.read (Elt Ideal) (win0_1.blk t).view X) r0_3 (ix3 0 k j) = X (ix3 3 k ⟨1536 + j.val, by omega⟩) := by
  pointwise
  rw [View.read_apply]
  blk_ext [idx t]

theorem blk1_1 (t : Fin cfg0.N) (k : Fin 1024) (j : Fin 768) :
    View.ld (iblk m c 1 t) r0_3 (ix3 0 k j) = winPad (fun j => m ((c.tc : Thread nD τ).loc main_arg1) (ix3 3 k j)) ⟨1536 + j.val, by omega⟩ :=
  (rd1_1 (V m c main_v6) t k j).trans (entry_win m c k ⟨1536 + j.val, by omega⟩)

theorem rd1_2 (X : Buf (Elt Ideal) (((0 : Dev nD).tc : Thread nD τ).loc main_v6)) (t : Fin cfg0.N) (k : Fin 1024) (j : Fin 1536) :
    View.ld (View.read (Elt Ideal) (win0_1.blk t).view X) r0_20 (ix3 0 k j) = X (ix3 3 k ⟨2304 + j.val, by omega⟩) := by
  pointwise
  rw [View.read_apply]
  blk_ext [idx t]

theorem blk1_2 (t : Fin cfg0.N) (k : Fin 1024) (j : Fin 1536) :
    View.ld (iblk m c 1 t) r0_20 (ix3 0 k j) = winPad (fun j => m ((c.tc : Thread nD τ).loc main_arg1) (ix3 3 k j)) ⟨2304 + j.val, by omega⟩ :=
  (rd1_2 (V m c main_v6) t k j).trans (entry_win m c k ⟨2304 + j.val, by omega⟩)

theorem rd2 (X : Buf (Elt Ideal) (((0 : Dev nD).tc : Thread nD τ).loc main_v77)) (t : Fin cfg0.N) (k : Fin 384) :
    View.ld (View.read (Elt Ideal) (win0_2.blk t).view X) r0_4 (ix2 0 k) = X (ix2 0 k) := by
  pointwise
  rw [View.read_apply]
  blk_ext [idx t]

theorem blk2 (t : Fin cfg0.N) (k : Fin 384) :
    View.ld (iblk m c 2 t) r0_4 (ix2 0 k) = m ((c.tc : Thread nD τ).loc main_arg2) (ix2 3 k) :=
  (rd2 (V m c main_v77) t k).trans (entry_gain m c k)

theorem rd3 (X : Buf (Elt Ideal) (((0 : Dev nD).tc : Thread nD τ).loc main_v80)) (t : Fin cfg0.N) (k : Fin 256) :
    View.ld (View.read (Elt Ideal) (win0_3.blk t).view X) r0_17 (ix2 0 k) = X (ix2 0 k) := by
  pointwise
  rw [View.read_apply]
  blk_ext [idx t]

theorem blk3 (t : Fin cfg0.N) (k : Fin 256) :
    View.ld (iblk m c 3 t) r0_17 (ix2 0 k) = m ((c.tc : Thread nD τ).loc main_arg3) (ix2 3 k) :=
  (rd3 (V m c main_v80) t k).trans (entry_gain' m c k)

theorem rd4 (X : Buf (Elt Ideal) (((0 : Dev nD).tc : Thread nD τ).loc main_v10)) (t : Fin cfg0.N) (k : Fin 384) (j : Fin 1024) :
    View.ld (View.read (Elt Ideal) (win0_4.blk t).view X) r0_5 (ix3 0 k j) = X (ix3 3 k j) := by
  pointwise
  rw [View.read_apply]
  blk_ext [idx t]

theorem blk4 (t : Fin cfg0.N) (k : Fin 384) (j : Fin 1024) :
    View.ld (iblk m c 4 t) r0_5 (ix3 0 k j) = uqPad (fun j => m ((c.tc : Thread nD τ).loc main_arg4) (ix3 3 k j)) j :=
  (rd4 (V m c main_v10) t k j).trans (entry_uq m c k j)

theorem rd5 (X : Buf (Elt Ideal) (((0 : Dev nD).tc : Thread nD τ).loc main_v15)) (t : Fin cfg0.N) (k : Fin 256) (j : Fin 1024) :
    View.ld (View.read (Elt Ideal) (win0_5.blk t).view X) r0_18 (ix3 0 k j) = X (ix3 3 k j) := by
  pointwise
  rw [View.read_apply]
  blk_ext [idx t]

theorem blk5 (t : Fin cfg0.N) (k : Fin 256) (j : Fin 1024) :
    View.ld (iblk m c 5 t) r0_18 (ix3 0 k j) = ukPad (fun j => m ((c.tc : Thread nD τ).loc main_arg5) (ix3 3 k j)) j :=
  (rd5 (V m c main_v15) t k j).trans (entry_uk m c k j)

theorem rd6 (X : Buf (Elt Ideal) (((0 : Dev nD).tc : Thread nD τ).loc main_v18)) (t : Fin cfg0.N) (k : Fin 256) (j : Fin 512) :
    View.ld (View.read (Elt Ideal) (win0_6.blk t).view X) r0_19 (ix3 0 k j) = X (ix3 3 k j) := by
  pointwise
  rw [View.read_apply]
  blk_ext [idx t]

theorem blk6 (t : Fin cfg0.N) (k : Fin 256) (j : Fin 512) :
    View.ld (iblk m c 6 t) r0_19 (ix3 0 k j) = m ((c.tc : Thread nD τ).loc main_arg5) (ix3 3 k ⟨j.val / 64 * 128 + (64 + j.val % 64), by omega⟩) :=
  (rd6 (V m c main_v18) t k j).trans (entry_uv m c k j)

theorem rd7_0 (X : Buf (Elt Ideal) (((0 : Dev nD).tc : Thread nD τ).loc main_v51)) (t : Fin cfg0.N) (r : Fin 704) (l : Fin 128) :
    View.ld (View.read (Elt Ideal) (win0_7.blk t).view X) r0_6 (ix3 0 r l) = X (ix3 0 ⟨(t.val % 6) * 704 + r.val, by omega⟩ l) := by
  pointwise
  rw [View.read_apply]
  blk_ext [idx t]

theorem blk7_0 (t : Fin cfg0.N) (r : Fin 704) (l : Fin 128) :
    View.ld (iblk m c 7 t) r0_6 (ix3 0 r l) = mtab0 (angle 0x41800000#32 ⟨(t.val % 6) * 704 + r.val, by omega⟩) l :=
  (rd7_0 (V m c main_v51) t r l).trans (entry_mtab0 m c ⟨(t.val % 6) * 704 + r.val, by omega⟩ l)

theorem rd7_1 (X : Buf (Elt Ideal) (((0 : Dev nD).tc : Thread nD τ).loc main_v51)) (t : Fin cfg0.N) (r : Fin 704) (l : Fin 128) :
    View.ld (View.read (Elt Ideal) (win0_7.blk t).view X) r0_7 (ix3 0 r l) = X (ix3 1 ⟨(t.val % 6) * 704 + r.val, by omega⟩ l) := by
  pointwise
  rw [View.read_apply]
  blk_ext [idx t]

theorem blk7_1 (t : Fin cfg0.N) (r : Fin 704) (l : Fin 128) :
    View.ld (iblk m c 7 t) r0_7 (ix3 0 r l) = mtab1 (angle 0x41800000#32 ⟨(t.val % 6) * 704 + r.val, by omega⟩) l :=
  (rd7_1 (V m c main_v51) t r l).trans (entry_mtab1 m c ⟨(t.val % 6) * 704 + r.val, by omega⟩ l)

theorem rd7_2 (X : Buf (Elt Ideal) (((0 : Dev nD).tc : Thread nD τ).loc main_v51)) (t : Fin cfg0.N) (r : Fin 704) (l : Fin 128) :
    View.ld (View.read (Elt Ideal) (win0_7.blk t).view X) r0_8 (ix3 0 r l) = X (ix3 2 ⟨(t.val % 6) * 704 + r.val, by omega⟩ l) := by
  pointwise
  rw [View.read_apply]
  blk_ext [idx t]

theorem blk7_2 (t : Fin cfg0.N) (r : Fin 704) (l : Fin 128) :
    View.ld (iblk m c 7 t) r0_8 (ix3 0 r l) = mtab2 (angle 0x41800000#32 ⟨(t.val % 6) * 704 + r.val, by omega⟩) l :=
  (rd7_2 (V m c main_v51) t r l).trans (entry_mtab2 m c ⟨(t.val % 6) * 704 + r.val, by omega⟩ l)

theorem rd8_0 (X : Buf (Elt Ideal) (((0 : Dev nD).tc : Thread nD τ).loc main_v74)) (t : Fin cfg0.N) (r : Fin 704) (l : Fin 128) :
    View.ld (View.read (Elt Ideal) (win0_8.blk t).view X) r0_6 (ix3 0 r l) = X (ix3 0 ⟨(t.val % 6) * 704 + r.val, by omega⟩ l) := by
  pointwise
  rw [View.read_apply]
  blk_ext [idx t]

theorem blk8_0 (t : Fin cfg0.N) (r : Fin 704) (l : Fin 128) :
    View.ld (iblk m c 8 t) r0_6 (ix3 0 r l) = rtab0 (angle 0x42000000#32 ⟨(t.val % 6) * 704 + r.val, by omega⟩) l :=
  (rd8_0 (V m c main_v74) t r l).trans (entry_rtab0 m c ⟨(t.val % 6) * 704 + r.val, by omega⟩ l)

theorem rd8_1 (X : Buf (Elt Ideal) (((0 : Dev nD).tc : Thread nD τ).loc main_v74)) (t : Fin cfg0.N) (r : Fin 704) (l : Fin 128) :
    View.ld (View.read (Elt Ideal) (win0_8.blk t).view X) r0_7 (ix3 0 r l) = X (ix3 1 ⟨(t.val % 6) * 704 + r.val, by omega⟩ l) := by
  pointwise
  rw [View.read_apply]
  blk_ext [idx t]

theorem blk8_1 (t : Fin cfg0.N) (r : Fin 704) (l : Fin 128) :
    View.ld (iblk m c 8 t) r0_7 (ix3 0 r l) = rtab1 (angle 0x42000000#32 ⟨(t.val % 6) * 704 + r.val, by omega⟩) l :=
  (rd8_1 (V m c main_v74) t r l).trans (entry_rtab1 m c ⟨(t.val % 6) * 704 + r.val, by omega⟩ l)

theorem rd8_2 (X : Buf (Elt Ideal) (((0 : Dev nD).tc : Thread nD τ).loc main_v74)) (t : Fin cfg0.N) (r : Fin 704) (l : Fin 128) :
    View.ld (View.read (Elt Ideal) (win0_8.blk t).view X) r0_8 (ix3 0 r l) = X (ix3 2 ⟨(t.val % 6) * 704 + r.val, by omega⟩ l) := by
  pointwise
  rw [View.read_apply]
  blk_ext [idx t]

theorem blk8_2 (t : Fin cfg0.N) (r : Fin 704) (l : Fin 128) :
    View.ld (iblk m c 8 t) r0_8 (ix3 0 r l) = rtab2 (angle 0x42000000#32 ⟨(t.val % 6) * 704 + r.val, by omega⟩) l :=
  (rd8_2 (V m c main_v74) t r l).trans (entry_rtab2 m c ⟨(t.val % 6) * 704 + r.val, by omega⟩ l)

end Cert.ProjKernelIdeal.Pure

end
-- ==== Proof.ProjRef.lean ====
/- The projection reference, read at one element of each of its results. -/
module

public import proofs.«01_k».proof.Proof.ProjSpec
public import proofs.«01_k».proof.Proof.Gen.ProjReferenceIdeal.Read
public import Idealize.ShloMosaic.Lib.Pointwise

@[expose] public section

set_option maxRecDepth 16384

noncomputable section

open Idealize.ShloMosaic Idealize.ShloMosaic.TcCoe Idealize.SL.Sem

namespace Cert.ProjReferenceIdeal.Pure

open Cert.ProjReferenceIdeal Cert.ProjReferenceIdeal.Gen Cert.ProjReferenceIdeal.Value
open Cert.ProjSpec

variable (V0 : Valuation τ sig (Elt Ideal))

/-- The columns of the combined projection at a batch and a position. -/
def cols (x : S8x4224x1024.Idx → EReal) (w : S4x1024x3744.Idx → EReal) (p : Fin 8) (r : Fin 4224) : Fin 3744 → EReal :=
  dot (fun k => x (ix3 p r k)) (fun k j => w (ix3 3 k j))

theorem proj_at (p : Fin 8) (r : Fin 4224) (j : Fin 3744) :
    res_main_v8 V0 (ix3 p r j) = cols (V0 (Proc.devRef .tc main_arg0)) (V0 (Proc.devRef .tc main_arg1)) p r j := by
  pointwise [res_main_v8, cols, dot]

theorem query_at (p : Fin 8) (r : Fin 4224) (h : Fin 8) (j : Fin 96) :
    res_main_v37 V0 (ix4 p r h j)
      = query (cols (V0 (Proc.devRef .tc main_arg0)) (V0 (Proc.devRef .tc main_arg1)) p r) (fun k => V0 (Proc.devRef .tc main_arg2) (ix2 3 k))
          (fun k j => V0 (Proc.devRef .tc main_arg4) (ix3 3 k j)) ⟨h.val * 96 + j.val, by omega⟩ := by
  pointwise [res_main_v37, res_main_v12, proj_at, query, dot, rms]

theorem keyval_at (p : Fin 8) (r : Fin 4224) (h : Fin 8) (j : Fin 128) :
    res_main_v90 V0 (ix4 p r h j)
      = keyval (cols (V0 (Proc.devRef .tc main_arg0)) (V0 (Proc.devRef .tc main_arg1)) p r) (fun k => V0 (Proc.devRef .tc main_arg3) (ix2 3 k))
          (fun k j => V0 (Proc.devRef .tc main_arg5) (ix3 3 k j)) ⟨h.val * 128 + j.val, by omega⟩ := by
  pointwise [res_main_v90, res_main_v13, proj_at, keyval, dot, rms]

theorem cos16 (r : Fin 4224) (i : Fin 16) : res_main_v52 V0 (ix3 r 0 i) = Ideal.cos (angle 0x41800000#32 r i) := by
  pointwise [res_main_v52, res_main_v50, res_main_v5, res_main_v2, angle]

theorem sin16 (r : Fin 4224) (i : Fin 16) : res_main_v54 V0 (ix3 r 0 i) = Ideal.sin (angle 0x41800000#32 r i) := by
  pointwise [res_main_v54, res_main_v50, res_main_v5, res_main_v2, angle]

theorem cos16' (r : Fin 4224) (i : Fin 16) : res_main_v106 V0 (ix3 r 0 i) = Ideal.cos (angle 0x41800000#32 r i) := by
  pointwise [res_main_v106, res_main_v104, res_main_v5, res_main_v2, angle]

theorem sin16' (r : Fin 4224) (i : Fin 16) : res_main_v108 V0 (ix3 r 0 i) = Ideal.sin (angle 0x41800000#32 r i) := by
  pointwise [res_main_v108, res_main_v104, res_main_v5, res_main_v2, angle]

theorem cos32 (r : Fin 4224) (i : Fin 32) : res_main_v139 V0 (ix3 r 0 i) = Ideal.cos (angle 0x42000000#32 r i) := by
  pointwise [res_main_v139, res_main_v137, res_main_v5, res_main_v2, angle]

theorem sin32 (r : Fin 4224) (i : Fin 32) : res_main_v141 V0 (ix3 r 0 i) = Ideal.sin (angle 0x42000000#32 r i) := by
  pointwise [res_main_v141, res_main_v137, res_main_v5, res_main_v2, angle]

theorem cos32' (r : Fin 4224) (i : Fin 32) : res_main_v172 V0 (ix3 r 0 i) = Ideal.cos (angle 0x42000000#32 r i) := by
  pointwise [res_main_v172, res_main_v170, res_main_v5, res_main_v2, angle]

theorem sin32' (r : Fin 4224) (i : Fin 32) : res_main_v174 V0 (ix3 r 0 i) = Ideal.sin (angle 0x42000000#32 r i) := by
  pointwise [res_main_v174, res_main_v170, res_main_v5, res_main_v2, angle]

theorem sbq_at (p : Fin 8) (r : Fin 4224) (d : Fin 512) :
    Read.val_main_v212 (V0 (Proc.devRef .tc main_arg0)) (V0 (Proc.devRef .tc main_arg1)) (ix3 p r d)
      = cols (V0 (Proc.devRef .tc main_arg0)) (V0 (Proc.devRef .tc main_arg1)) p r ⟨d.val, by omega⟩ * Ideal.ofBits .f32 0x3E38AA3B#32 := by
  rw [← Read.val_main_v212_eq]
  pointwise [proj_at]

theorem sbk_at (p : Fin 8) (r : Fin 4224) (d : Fin 512) :
    Read.val_main_v213 (V0 (Proc.devRef .tc main_arg0)) (V0 (Proc.devRef .tc main_arg1)) (ix3 p r d)
      = cols (V0 (Proc.devRef .tc main_arg0)) (V0 (Proc.devRef .tc main_arg1)) p r ⟨512 + d.val, by omega⟩ := by
  rw [← Read.val_main_v213_eq]
  pointwise [proj_at]

theorem sbv_at (p : Fin 8) (r : Fin 4224) (d : Fin 512) :
    Read.val_main_v214 (V0 (Proc.devRef .tc main_arg0)) (V0 (Proc.devRef .tc main_arg1)) (ix3 p r d)
      = cols (V0 (Proc.devRef .tc main_arg0)) (V0 (Proc.devRef .tc main_arg1)) p r ⟨1024 + d.val, by omega⟩ := by
  rw [← Read.val_main_v214_eq]
  pointwise [proj_at]

theorem rv_at (p : Fin 8) (r : Fin 4224) (d : Fin 512) :
    Read.val_main_v225 (V0 (Proc.devRef .tc main_arg0)) (V0 (Proc.devRef .tc main_arg1)) (ix3 p r d)
      = cols (V0 (Proc.devRef .tc main_arg0)) (V0 (Proc.devRef .tc main_arg1)) p r ⟨2720 + d.val, by omega⟩ := by
  rw [← Read.val_main_v225_eq]
  pointwise [proj_at]

theorem rg_at (p : Fin 8) (r : Fin 4224) (d : Fin 512) :
    Read.val_main_v226 (V0 (Proc.devRef .tc main_arg0)) (V0 (Proc.devRef .tc main_arg1)) (ix3 p r d)
      = cols (V0 (Proc.devRef .tc main_arg0)) (V0 (Proc.devRef .tc main_arg1)) p r ⟨3232 + d.val, by omega⟩ := by
  rw [← Read.val_main_v226_eq]
  pointwise [proj_at]

/-- A row of four heads of 64, cut at a head. -/
theorem heads4 (x : FVec Ideal S8x4224x4x64 .f32) (p : Fin 8) (r : Fin 4224) (d : Fin 256) :
    truncf .bf16 (shapeCast S8x4224x256 x shapeCasts_S8x4224x4x64_S8x4224x256) bitsLt_bf16_f32 (ix3 p r d)
      = x (ix4 p r ⟨d.val / 64, by omega⟩ ⟨d.val % 64, Nat.mod_lt _ (by decide)⟩) := by
  pointwise

/-- A row of eight heads of 128, cut at a head. -/
theorem heads8 (x : FVec Ideal S8x4224x8x128 .f32) (p : Fin 8) (r : Fin 4224) (d : Fin 1024) :
    truncf .bf16 (shapeCast S8x4224x1024 x shapeCasts_S8x4224x8x128_S8x4224x1024) bitsLt_bf16_f32 (ix3 p r d)
      = x (ix4 p r ⟨d.val / 128, by omega⟩ ⟨d.val % 128, Nat.mod_lt _ (by decide)⟩) := by
  pointwise

/-- A row of four pairs of heads, cut at a pair. -/
theorem pairs (x : FVec Ideal S8x4224x4x256 .f32) (p : Fin 8) (r : Fin 4224) (d : Fin 1024) :
    truncf .bf16 (shapeCast S8x4224x1024 x shapeCasts_S8x4224x4x256_S8x4224x1024) bitsLt_bf16_f32 (ix3 p r d)
      = x (ix4 p r ⟨d.val / 256, by omega⟩ ⟨d.val % 256, Nat.mod_lt _ (by decide)⟩) := by
  pointwise

theorem mq_at (p : Fin 8) (r : Fin 4224) (d : Fin 1024) :
    Read.val_main_v216 (V0 (Proc.devRef .tc main_arg0)) (V0 (Proc.devRef .tc main_arg1)) (V0 (Proc.devRef .tc main_arg2)) (V0 (Proc.devRef .tc main_arg4)) (ix3 p r d)
      = lanes (fun j => query (cols (V0 (Proc.devRef .tc main_arg0)) (V0 (Proc.devRef .tc main_arg1)) p r) (fun k => V0 (Proc.devRef .tc main_arg2) (ix2 3 k))
            (fun k j => V0 (Proc.devRef .tc main_arg4) (ix3 3 k j)) ⟨d.val / 128 * 96 + j.val, by omega⟩)
          (fun j => query (cols (V0 (Proc.devRef .tc main_arg0)) (V0 (Proc.devRef .tc main_arg1)) p r) (fun k => V0 (Proc.devRef .tc main_arg2) (ix2 3 k))
            (fun k j => V0 (Proc.devRef .tc main_arg4) (ix3 3 k j)) ⟨d.val / 128 * 96 + (64 + j.val), by omega⟩)
          (angle 0x41800000#32 r) ⟨d.val % 128, Nat.mod_lt _ (by decide)⟩ * Ideal.ofBits .f32 0x3E16C740#32 := by
  rw [← Read.val_main_v216_eq]
  pointwise [query_at, res_main_v55, res_main_v56, res_main_v39, cos16, sin16, res_main_v197, lanes, turn32]

theorem mk_at (p : Fin 8) (r : Fin 4224) (d : Fin 1024) :
    Read.val_main_v218 (V0 (Proc.devRef .tc main_arg0)) (V0 (Proc.devRef .tc main_arg1)) (V0 (Proc.devRef .tc main_arg3)) (V0 (Proc.devRef .tc main_arg5)) (ix3 p r d)
      = lanes (fun j => keyval (cols (V0 (Proc.devRef .tc main_arg0)) (V0 (Proc.devRef .tc main_arg1)) p r) (fun k => V0 (Proc.devRef .tc main_arg3) (ix2 3 k))
            (fun k j => V0 (Proc.devRef .tc main_arg5) (ix3 3 k j)) ⟨d.val / 128 * 128 + j.val, by omega⟩)
          (fun j => cols (V0 (Proc.devRef .tc main_arg0)) (V0 (Proc.devRef .tc main_arg1)) p r ⟨2176 + j.val, by omega⟩)
          (angle 0x41800000#32 r) ⟨d.val % 128, Nat.mod_lt _ (by decide)⟩ := by
  refine (congrFun (Read.val_main_v218_eq V0) (ix3 p r d)).symm.trans (((heads8 _ p r d)).trans ?_)
  have e : d.val / 128 * 128 + d.val % 128 = d.val := by omega
  pointwise [keyval_at, res_main_v109, res_main_v110, res_main_v93, proj_at, cos16', sin16', res_main_v197, lanes, turn32, e]

theorem mv_at (p : Fin 8) (r : Fin 4224) (d : Fin 1024) :
    Read.val_main_v220 (V0 (Proc.devRef .tc main_arg0)) (V0 (Proc.devRef .tc main_arg1)) (V0 (Proc.devRef .tc main_arg3)) (V0 (Proc.devRef .tc main_arg5)) (ix3 p r d)
      = beside (fun j => keyval (cols (V0 (Proc.devRef .tc main_arg0)) (V0 (Proc.devRef .tc main_arg1)) p r) (fun k => V0 (Proc.devRef .tc main_arg3) (ix2 3 k))
            (fun k j => V0 (Proc.devRef .tc main_arg5) (ix3 3 k j)) ⟨(d.val / 256 * 2) * 128 + (64 + j.val), by omega⟩)
          (fun j => keyval (cols (V0 (Proc.devRef .tc main_arg0)) (V0 (Proc.devRef .tc main_arg1)) p r) (fun k => V0 (Proc.devRef .tc main_arg3) (ix2 3 k))
            (fun k j => V0 (Proc.devRef .tc main_arg5) (ix3 3 k j)) ⟨(d.val / 256 * 2 + 1) * 128 + (64 + j.val), by omega⟩)
          ⟨d.val % 256, Nat.mod_lt _ (by decide)⟩ := by
  refine (congrFun (Read.val_main_v220_eq V0) (ix3 p r d)).symm.trans (((pairs _ p r d)).trans ?_)
  have e : d.val / 128 * 128 + d.val % 128 = d.val := by omega
  pointwise [keyval_at, res_main_v203, res_main_v204, beside, e]

theorem rq_at (p : Fin 8) (r : Fin 4224) (d : Fin 256) :
    Read.val_main_v222 (V0 (Proc.devRef .tc main_arg0)) (V0 (Proc.devRef .tc main_arg1)) (ix3 p r d)
      = turn64 (fun j => cols (V0 (Proc.devRef .tc main_arg0)) (V0 (Proc.devRef .tc main_arg1)) p r ⟨2208 + (d.val / 64 * 64 + j.val), by omega⟩)
          (angle 0x42000000#32 r) ⟨d.val % 64, Nat.mod_lt _ (by decide)⟩ := by
  refine (congrFun (Read.val_main_v222_eq V0) (ix3 p r d)).symm.trans (((heads4 _ p r d)).trans ?_)
  have e : d.val / 64 * 64 + d.val % 64 = d.val := by omega
  pointwise [res_main_v142, res_main_v143, res_main_v126, proj_at, cos32, sin32, turn64, e]

theorem rk_at (p : Fin 8) (r : Fin 4224) (d : Fin 256) :
    Read.val_main_v224 (V0 (Proc.devRef .tc main_arg0)) (V0 (Proc.devRef .tc main_arg1)) (ix3 p r d)
      = Scalar.select (IntOp.cmpi .sge (IntOp.subi (BitVec.ofNat 32 r.val) 112#32) 0#32)
          (turn64 (fun j => cols (V0 (Proc.devRef .tc main_arg0)) (V0 (Proc.devRef .tc main_arg1)) p r ⟨2464 + (d.val / 64 * 64 + j.val), by omega⟩)
            (angle 0x42000000#32 r) ⟨d.val % 64, Nat.mod_lt _ (by decide)⟩ * Ideal.ofBits .f32 0x3E000000#32) 0 := by
  rw [← Read.val_main_v224_eq]
  have e : d.val / 64 * 64 + d.val % 64 = d.val := by omega
  pointwise [res_main_v175, res_main_v176, res_main_v159, res_main_v2, proj_at, cos32', sin32', turn64, e]

/-! The ten results as expressions of the arguments. -/

def sbqRow (a0 : S8x4224x1024.Idx → EReal) (a1 : S4x1024x3744.Idx → EReal) (p : Fin 8) (r : Fin 4224) (d : Fin 512) : EReal := cols a0 a1 p r ⟨d.val, by omega⟩ * Ideal.ofBits .f32 0x3E38AA3B#32

def sbq (a0 : S8x4224x1024.Idx → EReal) (a1 : S4x1024x3744.Idx → EReal) : S8x4224x512.Idx → EReal := fun i =>
  sbqRow a0 a1 (i 0 : Fin 8) (i 1 : Fin 4224) (i 2 : Fin 512)

def sbkRow (a0 : S8x4224x1024.Idx → EReal) (a1 : S4x1024x3744.Idx → EReal) (p : Fin 8) (r : Fin 4224) (d : Fin 512) : EReal := cols a0 a1 p r ⟨512 + d.val, by omega⟩

def sbk (a0 : S8x4224x1024.Idx → EReal) (a1 : S4x1024x3744.Idx → EReal) : S8x4224x512.Idx → EReal := fun i =>
  sbkRow a0 a1 (i 0 : Fin 8) (i 1 : Fin 4224) (i 2 : Fin 512)

def sbvRow (a0 : S8x4224x1024.Idx → EReal) (a1 : S4x1024x3744.Idx → EReal) (p : Fin 8) (r : Fin 4224) (d : Fin 512) : EReal := cols a0 a1 p r ⟨1024 + d.val, by omega⟩

def sbv (a0 : S8x4224x1024.Idx → EReal) (a1 : S4x1024x3744.Idx → EReal) : S8x4224x512.Idx → EReal := fun i =>
  sbvRow a0 a1 (i 0 : Fin 8) (i 1 : Fin 4224) (i 2 : Fin 512)

def rvRow (a0 : S8x4224x1024.Idx → EReal) (a1 : S4x1024x3744.Idx → EReal) (p : Fin 8) (r : Fin 4224) (d : Fin 512) : EReal := cols a0 a1 p r ⟨2720 + d.val, by omega⟩

def rv (a0 : S8x4224x1024.Idx → EReal) (a1 : S4x1024x3744.Idx → EReal) : S8x4224x512.Idx → EReal := fun i =>
  rvRow a0 a1 (i 0 : Fin 8) (i 1 : Fin 4224) (i 2 : Fin 512)

def rgRow (a0 : S8x4224x1024.Idx → EReal) (a1 : S4x1024x3744.Idx → EReal) (p : Fin 8) (r : Fin 4224) (d : Fin 512) : EReal := cols a0 a1 p r ⟨3232 + d.val, by omega⟩

def rg (a0 : S8x4224x1024.Idx → EReal) (a1 : S4x1024x3744.Idx → EReal) : S8x4224x512.Idx → EReal := fun i =>
  rgRow a0 a1 (i 0 : Fin 8) (i 1 : Fin 4224) (i 2 : Fin 512)

/-- The queries' latent of a position through its weight. -/
def queries (a0 : S8x4224x1024.Idx → EReal) (a1 : S4x1024x3744.Idx → EReal) (a2 : S4x384.Idx → EReal) (a4 : S4x384x768.Idx → EReal) (p : Fin 8) (r : Fin 4224) : Fin 768 → EReal :=
  query (cols a0 a1 p r) (fun k => a2 (ix2 3 k)) (fun k j => a4 (ix3 3 k j))

/-- The keys' and values' latent of a position through its weight. -/
def keyvals (a0 : S8x4224x1024.Idx → EReal) (a1 : S4x1024x3744.Idx → EReal) (a3 : S4x256.Idx → EReal) (a5 : S4x256x1024.Idx → EReal) (p : Fin 8) (r : Fin 4224) : Fin 1024 → EReal :=
  keyval (cols a0 a1 p r) (fun k => a3 (ix2 3 k)) (fun k j => a5 (ix3 3 k j))

def mqRow (a0 : S8x4224x1024.Idx → EReal) (a1 : S4x1024x3744.Idx → EReal) (a2 : S4x384.Idx → EReal) (a4 : S4x384x768.Idx → EReal) (p : Fin 8) (r : Fin 4224) (d : Fin 1024) : EReal :=
  lanes (fun j => queries a0 a1 a2 a4 p r ⟨d.val / 128 * 96 + j.val, by omega⟩) (fun j => queries a0 a1 a2 a4 p r ⟨d.val / 128 * 96 + (64 + j.val), by omega⟩)
    (angle 0x41800000#32 r) ⟨d.val % 128, Nat.mod_lt _ (by decide)⟩ * Ideal.ofBits .f32 0x3E16C740#32

def mkRow (a0 : S8x4224x1024.Idx → EReal) (a1 : S4x1024x3744.Idx → EReal) (a3 : S4x256.Idx → EReal) (a5 : S4x256x1024.Idx → EReal) (p : Fin 8) (r : Fin 4224) (d : Fin 1024) : EReal :=
  lanes (fun j => keyvals a0 a1 a3 a5 p r ⟨d.val / 128 * 128 + j.val, by omega⟩) (fun j => cols a0 a1 p r ⟨2176 + j.val, by omega⟩)
    (angle 0x41800000#32 r) ⟨d.val % 128, Nat.mod_lt _ (by decide)⟩

def mvRow (a0 : S8x4224x1024.Idx → EReal) (a1 : S4x1024x3744.Idx → EReal) (a3 : S4x256.Idx → EReal) (a5 : S4x256x1024.Idx → EReal) (p : Fin 8) (r : Fin 4224) (d : Fin 1024) : EReal :=
  beside (fun j => keyvals a0 a1 a3 a5 p r ⟨(d.val / 256 * 2) * 128 + (64 + j.val), by omega⟩)
    (fun j => keyvals a0 a1 a3 a5 p r ⟨(d.val / 256 * 2 + 1) * 128 + (64 + j.val), by omega⟩) ⟨d.val % 256, Nat.mod_lt _ (by decide)⟩

def rqRow (a0 : S8x4224x1024.Idx → EReal) (a1 : S4x1024x3744.Idx → EReal) (p : Fin 8) (r : Fin 4224) (d : Fin 256) : EReal :=
  turn64 (fun j => cols a0 a1 p r ⟨2208 + (d.val / 64 * 64 + j.val), by omega⟩) (angle 0x42000000#32 r) ⟨d.val % 64, Nat.mod_lt _ (by decide)⟩

def rkRow (a0 : S8x4224x1024.Idx → EReal) (a1 : S4x1024x3744.Idx → EReal) (p : Fin 8) (r : Fin 4224) (d : Fin 256) : EReal :=
  Scalar.select (IntOp.cmpi .sge (IntOp.subi (BitVec.ofNat 32 r.val) 112#32) 0#32)
    (turn64 (fun j => cols a0 a1 p r ⟨2464 + (d.val / 64 * 64 + j.val), by omega⟩) (angle 0x42000000#32 r) ⟨d.val % 64, Nat.mod_lt _ (by decide)⟩
      * Ideal.ofBits .f32 0x3E000000#32) 0

def mq (a0 : S8x4224x1024.Idx → EReal) (a1 : S4x1024x3744.Idx → EReal) (a2 : S4x384.Idx → EReal) (a4 : S4x384x768.Idx → EReal) : S8x4224x1024.Idx → EReal := fun i =>
  mqRow a0 a1 a2 a4 (i 0 : Fin 8) (i 1 : Fin 4224) (i 2 : Fin 1024)

def mk (a0 : S8x4224x1024.Idx → EReal) (a1 : S4x1024x3744.Idx → EReal) (a3 : S4x256.Idx → EReal) (a5 : S4x256x1024.Idx → EReal) : S8x4224x1024.Idx → EReal := fun i =>
  mkRow a0 a1 a3 a5 (i 0 : Fin 8) (i 1 : Fin 4224) (i 2 : Fin 1024)

def mv (a0 : S8x4224x1024.Idx → EReal) (a1 : S4x1024x3744.Idx → EReal) (a3 : S4x256.Idx → EReal) (a5 : S4x256x1024.Idx → EReal) : S8x4224x1024.Idx → EReal := fun i =>
  mvRow a0 a1 a3 a5 (i 0 : Fin 8) (i 1 : Fin 4224) (i 2 : Fin 1024)

def rq (a0 : S8x4224x1024.Idx → EReal) (a1 : S4x1024x3744.Idx → EReal) : S8x4224x256.Idx → EReal := fun i =>
  rqRow a0 a1 (i 0 : Fin 8) (i 1 : Fin 4224) (i 2 : Fin 256)

def rk (a0 : S8x4224x1024.Idx → EReal) (a1 : S4x1024x3744.Idx → EReal) : S8x4224x256.Idx → EReal := fun i =>
  rkRow a0 a1 (i 0 : Fin 8) (i 1 : Fin 4224) (i 2 : Fin 256)

theorem sbq_eq : Read.val_main_v212 (V0 (Proc.devRef .tc main_arg0)) (V0 (Proc.devRef .tc main_arg1)) = sbq (V0 (Proc.devRef .tc main_arg0)) (V0 (Proc.devRef .tc main_arg1)) := by
  funext i
  idx_vars i
  exact sbq_at V0 i0 i1 i2

theorem sbk_eq : Read.val_main_v213 (V0 (Proc.devRef .tc main_arg0)) (V0 (Proc.devRef .tc main_arg1)) = sbk (V0 (Proc.devRef .tc main_arg0)) (V0 (Proc.devRef .tc main_arg1)) := by
  funext i
  idx_vars i
  exact sbk_at V0 i0 i1 i2

theorem sbv_eq : Read.val_main_v214 (V0 (Proc.devRef .tc main_arg0)) (V0 (Proc.devRef .tc main_arg1)) = sbv (V0 (Proc.devRef .tc main_arg0)) (V0 (Proc.devRef .tc main_arg1)) := by
  funext i
  idx_vars i
  exact sbv_at V0 i0 i1 i2

theorem mq_eq : Read.val_main_v216 (V0 (Proc.devRef .tc main_arg0)) (V0 (Proc.devRef .tc main_arg1)) (V0 (Proc.devRef .tc main_arg2)) (V0 (Proc.devRef .tc main_arg4)) = mq (V0 (Proc.devRef .tc main_arg0)) (V0 (Proc.devRef .tc main_arg1)) (V0 (Proc.devRef .tc main_arg2)) (V0 (Proc.devRef .tc main_arg4)) := by
  funext i
  idx_vars i
  exact mq_at V0 i0 i1 i2

theorem mk_eq : Read.val_main_v218 (V0 (Proc.devRef .tc main_arg0)) (V0 (Proc.devRef .tc main_arg1)) (V0 (Proc.devRef .tc main_arg3)) (V0 (Proc.devRef .tc main_arg5)) = mk (V0 (Proc.devRef .tc main_arg0)) (V0 (Proc.devRef .tc main_arg1)) (V0 (Proc.devRef .tc main_arg3)) (V0 (Proc.devRef .tc main_arg5)) := by
  funext i
  idx_vars i
  exact mk_at V0 i0 i1 i2

theorem mv_eq : Read.val_main_v220 (V0 (Proc.devRef .tc main_arg0)) (V0 (Proc.devRef .tc main_arg1)) (V0 (Proc.devRef .tc main_arg3)) (V0 (Proc.devRef .tc main_arg5)) = mv (V0 (Proc.devRef .tc main_arg0)) (V0 (Proc.devRef .tc main_arg1)) (V0 (Proc.devRef .tc main_arg3)) (V0 (Proc.devRef .tc main_arg5)) := by
  funext i
  idx_vars i
  exact mv_at V0 i0 i1 i2

theorem rq_eq : Read.val_main_v222 (V0 (Proc.devRef .tc main_arg0)) (V0 (Proc.devRef .tc main_arg1)) = rq (V0 (Proc.devRef .tc main_arg0)) (V0 (Proc.devRef .tc main_arg1)) := by
  funext i
  idx_vars i
  exact rq_at V0 i0 i1 i2

theorem rk_eq : Read.val_main_v224 (V0 (Proc.devRef .tc main_arg0)) (V0 (Proc.devRef .tc main_arg1)) = rk (V0 (Proc.devRef .tc main_arg0)) (V0 (Proc.devRef .tc main_arg1)) := by
  funext i
  idx_vars i
  exact rk_at V0 i0 i1 i2

theorem rv_eq : Read.val_main_v225 (V0 (Proc.devRef .tc main_arg0)) (V0 (Proc.devRef .tc main_arg1)) = rv (V0 (Proc.devRef .tc main_arg0)) (V0 (Proc.devRef .tc main_arg1)) := by
  funext i
  idx_vars i
  exact rv_at V0 i0 i1 i2

theorem rg_eq : Read.val_main_v226 (V0 (Proc.devRef .tc main_arg0)) (V0 (Proc.devRef .tc main_arg1)) = rg (V0 (Proc.devRef .tc main_arg0)) (V0 (Proc.devRef .tc main_arg1)) := by
  funext i
  idx_vars i
  exact rg_at V0 i0 i1 i2

end Cert.ProjReferenceIdeal.Pure

end
-- ==== Proof.ProjPoint.lean ====
/- The projection call: the kernel's values in a block are the reference's rows, head by head. -/
module

public import proofs.«01_k».proof.Proof.ProjPure
public import proofs.«01_k».proof.Proof.ProjBlock
public import proofs.«01_k».proof.Proof.ProjRef

@[expose] public section

set_option maxRecDepth 16384

noncomputable section

open Idealize.ShloMosaic Idealize.ShloMosaic.TcCoe Idealize.SL.Sem

namespace Cert.ProjKernelIdeal.Pure

open Cert.ProjKernelIdeal Cert.ProjKernelIdeal.Gen
open Cert.ProjSpec
open Cert.ProjReferenceIdeal.Pure (cols queries keyvals sbqRow sbkRow sbvRow rvRow rgRow mqRow mkRow mvRow rqRow rkRow)

theorem uqPad_at (u : Fin 768 → EReal) (j : Fin 1024) (i : Fin 768) (h : j.val % 128 < 96) (e : i.val = j.val / 128 * 96 + j.val % 128) :
    uqPad u j = u i := by
  unfold uqPad
  rw [dif_pos h]
  exact congrArg u (Fin.ext e.symm)

theorem ukPad_at (u : Fin 1024 → EReal) (j i : Fin 1024) (h : j.val % 128 < 64) (e : i.val = j.val) : ukPad u j = u i := by
  unfold ukPad
  rw [dif_pos h]
  exact congrArg u (Fin.ext e.symm)

theorem ukPad_gap (u : Fin 1024 → EReal) (j : Fin 1024) (h : 64 ≤ j.val % 128) : ukPad u j = 0 := by
  unfold ukPad
  rw [dif_neg (by omega)]

/-- A head of the queries from its lanes. -/
theorem mq_gen (Q : Fin 768 → EReal) (a : Fin 16 → EReal) (o n : ℕ) (ho : o = n * 128) (hn : n < 8) (f : Fin 128 → EReal)
    (hf : ∀ (l : Fin 128) (j : Fin 1024), j.val = o + l.val → f l = uqPad Q j) (l : Fin 128) (d : Fin 1024) (hd : d.val = o + l.val) :
    tile16 f (mtab0 a) (mtab1 a) (mtab2 a) l
      = lanes (fun j => Q ⟨d.val / 128 * 96 + j.val, by omega⟩) (fun j => Q ⟨d.val / 128 * 96 + (64 + j.val), by omega⟩) a ⟨d.val % 128, Nat.mod_lt _ (by decide)⟩ := by
  rw [tile16_lanes]
  have e1 : (fun j : Fin 64 => f ⟨j.val, by omega⟩) = fun j => Q ⟨d.val / 128 * 96 + j.val, by omega⟩ := funext fun j =>
    (hf _ ⟨o + j.val, by omega⟩ rfl).trans (uqPad_at Q _ _ (show (o + j.val) % 128 < 96 by omega)
      (show d.val / 128 * 96 + j.val = (o + j.val) / 128 * 96 + (o + j.val) % 128 by omega))
  have e2 : (fun j : Fin 32 => f ⟨64 + j.val, by omega⟩) = fun j => Q ⟨d.val / 128 * 96 + (64 + j.val), by omega⟩ := funext fun j =>
    (hf _ ⟨o + (64 + j.val), by omega⟩ rfl).trans (uqPad_at Q _ _ (show (o + (64 + j.val)) % 128 < 96 by omega)
      (show d.val / 128 * 96 + (64 + j.val) = (o + (64 + j.val)) / 128 * 96 + (o + (64 + j.val)) % 128 by omega))
  rw [e1, e2]
  exact congrArg _ (Fin.ext (show l.val = d.val % 128 by omega))

/-- A head of the keys from its lanes and the shared rotary lanes. -/
theorem mk_gen (K : Fin 1024 → EReal) (rot : Fin 32 → EReal) (a : Fin 16 → EReal) (o n : ℕ) (ho : o = n * 128) (hn : n < 8) (l : Fin 128) (d : Fin 1024)
    (hd : d.val = o + l.val) :
    ukPad K d + lanes (fun _ => 0) rot a l
      = lanes (fun j => K ⟨d.val / 128 * 128 + j.val, by omega⟩) rot a ⟨d.val % 128, Nat.mod_lt _ (by decide)⟩ := by
  have e : ∀ j : Fin 64, ukPad K ⟨o + j.val, by omega⟩ = K ⟨d.val / 128 * 128 + j.val, by omega⟩ := fun j =>
    ukPad_at K _ _ (show (o + j.val) % 128 < 64 by omega) (show d.val / 128 * 128 + j.val = o + j.val by omega)
  have hl : l = ⟨d.val % 128, Nat.mod_lt _ (by decide)⟩ := Fin.ext (show l.val = d.val % 128 by omega)
  have := add_lanes (fun l => ukPad K ⟨o + l.val, by omega⟩) rot a
    (fun l h => ukPad_gap K _ (show 64 ≤ (o + l.val) % 128 by omega)) l
  simp only [e] at this
  rw [← hl, ← this]
  exact congrArg (fun z => ukPad K z + _) (Fin.ext hd)

/-- An even head of the values. -/
theorem mv_even (K : Fin 1024 → EReal) (o n : ℕ) (ho : o = n * 256) (hn : n < 4) (x : Fin 128 → EReal)
    (hx : ∀ l : Fin 128, (h : l.val < 64) → x l = K ⟨o + (64 + l.val), by omega⟩) (l : Fin 128) (d : Fin 1024) (hd : d.val = o + l.val) :
    (if l.val < 64 then x l else 1)
      = beside (fun j => K ⟨(d.val / 256 * 2) * 128 + (64 + j.val), by omega⟩) (fun j => K ⟨(d.val / 256 * 2 + 1) * 128 + (64 + j.val), by omega⟩)
          ⟨d.val % 256, Nat.mod_lt _ (by decide)⟩ := by
  have one : Ideal.ofBits .f32 0x3F800000#32 = (1 : EReal) := by pointwise
  unfold beside
  by_cases h : l.val < 64
  · rw [if_pos h, dif_pos (show d.val % 256 < 64 by omega), hx l h]
    exact congrArg K (Fin.ext (show o + (64 + l.val) = (d.val / 256 * 2) * 128 + (64 + d.val % 256) by omega))
  · rw [if_neg h, dif_neg (show ¬ d.val % 256 < 64 by omega), dif_pos (show d.val % 256 - 64 < 64 by omega), one]

/-- An odd head of the values. -/
theorem mv_odd (K : Fin 1024 → EReal) (o n : ℕ) (ho : o = n * 256 + 128) (hn : n < 4) (x : Fin 128 → EReal)
    (hx : ∀ l : Fin 128, (h : 64 ≤ l.val) → x l = K ⟨o + l.val, by omega⟩) (l : Fin 128) (d : Fin 1024) (hd : d.val = o + l.val) :
    (if l.val < 64 then 1 else x l)
      = beside (fun j => K ⟨(d.val / 256 * 2) * 128 + (64 + j.val), by omega⟩) (fun j => K ⟨(d.val / 256 * 2 + 1) * 128 + (64 + j.val), by omega⟩)
          ⟨d.val % 256, Nat.mod_lt _ (by decide)⟩ := by
  have one : Ideal.ofBits .f32 0x3F800000#32 = (1 : EReal) := by pointwise
  unfold beside
  by_cases h : l.val < 64
  · rw [if_pos h, dif_neg (show ¬ d.val % 256 < 64 by omega), dif_neg (show ¬ d.val % 256 - 64 < 64 by omega), dif_pos (show d.val % 256 - 64 - 64 < 64 by omega), one]
  · rw [if_neg h, dif_neg (show ¬ d.val % 256 < 64 by omega), dif_neg (show ¬ d.val % 256 - 64 < 64 by omega), dif_neg (show ¬ d.val % 256 - 64 - 64 < 64 by omega),
      hx l (by omega)]
    exact congrArg K (Fin.ext (show o + l.val = (d.val / 256 * 2 + 1) * 128 + (64 + (d.val % 256 - 64 - 64 - 64)) by omega))

/-- Two heads of the retention's queries or keys, from 128 lanes. -/
theorem turn_gen (Y : Fin 3744 → EReal) (a : Fin 32 → EReal) (b o : ℕ) (ho : o = 0 ∨ o = 128) (hb : b + 256 ≤ 3744) (f : Fin 128 → EReal)
    (hf : ∀ (l : Fin 128), f l = Y ⟨b + (o + l.val), by omega⟩) (l : Fin 128) (d : Fin 256) (hd : d.val = o + l.val) :
    tile32 f (rtab0 a) (rtab1 a) (rtab2 a) l
      = turn64 (fun j => Y ⟨b + (d.val / 64 * 64 + j.val), by omega⟩) a ⟨d.val % 64, Nat.mod_lt _ (by decide)⟩ := by
  rw [tile32_turn]
  have e1 : (fun j : Fin 64 => f ⟨l.val / 64 * 64 + j.val, by omega⟩) = fun j => Y ⟨b + (d.val / 64 * 64 + j.val), by omega⟩ := funext fun j =>
    (hf _).trans (congrArg Y (Fin.ext (show b + (o + (l.val / 64 * 64 + j.val)) = b + (d.val / 64 * 64 + j.val) by omega)))
  rw [e1]
  exact congrArg _ (Fin.ext (show l.val % 64 = d.val % 64 by omega))

/-- The kernel's mask of the pad positions is the reference's. -/
theorem mask_eq : ∀ (q : Fin 6) (r : Fin 704), IntOp.cmpi .sge (IntOp.addi (BitVec.ofNat 32 r.val) (Scalar.muli (BitVec.ofNat 32 q.val) 704#32)) 112#32
    = IntOp.cmpi .sge (IntOp.subi (BitVec.ofNat 32 (q.val * 704 + r.val)) 112#32) 0#32 := by
  decide +kernel

theorem mul_select (b : BitVec 1) (x y : EReal) : x * Scalar.select b y 0 = Scalar.select b (x * y) 0 := by
  unfold Scalar.select
  split_ifs
  · rfl
  · exact mul_zero x

theorem proj_lo (v0 : Vec Ideal S1x704x1024 .f32) (v3 : Vec Ideal S1x1024x1536 .bf16) (r : Fin 704) (x : Fin 1024 → EReal) (w : Fin 1024 → Fin 3744 → EReal)
    (h0 : ∀ k, v0 (ix3 0 r k) = x k) (h1 : ∀ k (j : Fin 1536), v3 (ix3 0 k j) = winPad (w k) ⟨j.val, by omega⟩) (j : Fin 1536) :
    ∑ k, v0 (ix3 0 r k) * v3 (ix3 0 k j) = winPad (dot x w) ⟨j.val, by omega⟩ := by
  simp only [h0, h1]
  exact dot_winPad x w _

theorem proj_mid (v0 : Vec Ideal S1x704x1024 .f32) (v3 : Vec Ideal S1x1024x768 .bf16) (r : Fin 704) (x : Fin 1024 → EReal) (w : Fin 1024 → Fin 3744 → EReal)
    (h0 : ∀ k, v0 (ix3 0 r k) = x k) (h1 : ∀ k (j : Fin 768), v3 (ix3 0 k j) = winPad (w k) ⟨1536 + j.val, by omega⟩) (j : Fin 768) :
    ∑ k, v0 (ix3 0 r k) * v3 (ix3 0 k j) = winPad (dot x w) ⟨1536 + j.val, by omega⟩ := by
  simp only [h0, h1]
  exact dot_winPad x w _

theorem proj_hi (v0 : Vec Ideal S1x704x1024 .f32) (v3 : Vec Ideal S1x1024x1536 .bf16) (r : Fin 704) (x : Fin 1024 → EReal) (w : Fin 1024 → Fin 3744 → EReal)
    (h0 : ∀ k, v0 (ix3 0 r k) = x k) (h1 : ∀ k (j : Fin 1536), v3 (ix3 0 k j) = winPad (w k) ⟨2304 + j.val, by omega⟩) (j : Fin 1536) :
    ∑ k, v0 (ix3 0 r k) * v3 (ix3 0 k j) = winPad (dot x w) ⟨2304 + j.val, by omega⟩ := by
  simp only [h0, h1]
  exact dot_winPad x w _

variable (m : (ℓ : Loc nD τ sig) → Buf (Elt Ideal) ℓ) (c : Dev nD)

theorem queries_at (t : Fin cfg0.N) (r : Fin 704) (j : Fin 1024) :
    (k0_pay13 (k0_pay10 (View.ld (iblk m c 0 t) r0_0) (View.ld (iblk m c 1 t) r0_3)) (k0_pay11 (View.ld (iblk m c 2 t) r0_4)) (k0_pay12 (View.ld (iblk m c 0 t) r0_0) (View.ld (iblk m c 1 t) r0_3)) (View.ld (iblk m c 4 t) r0_5)) (ix2 r j) = uqPad (queries (m ((c.tc : Thread nD τ).loc main_arg0)) (m ((c.tc : Thread nD τ).loc main_arg1)) (m ((c.tc : Thread nD τ).loc main_arg2)) (m ((c.tc : Thread nD τ).loc main_arg4)) ⟨t.val / 6, lt_div t⟩ ⟨(t.val % 6) * 704 + r.val, by omega⟩) j := by
  have hp := proj_mid (View.ld (iblk m c 0 t) r0_0) (View.ld (iblk m c 1 t) r0_3) r _ (fun k j => m ((c.tc : Thread nD τ).loc main_arg1) (ix3 3 k j)) (blk0 m c t r) (blk1_1 m c t)
  change ∀ j, _ = winPad (cols (m ((c.tc : Thread nD τ).loc main_arg0)) (m ((c.tc : Thread nD τ).loc main_arg1)) ⟨t.val / 6, lt_div t⟩ ⟨(t.val % 6) * 704 + r.val, by omega⟩) _ at hp
  rw [pay13_at]
  simp only [hp, blk2, blk4]
  refine (dot_uqPad _ (fun k j => (m ((c.tc : Thread nD τ).loc main_arg4)) (ix3 3 k j)) j).trans ?_
  have e : (fun k : Fin 384 => winPad (cols (m ((c.tc : Thread nD τ).loc main_arg0)) (m ((c.tc : Thread nD τ).loc main_arg1)) ⟨t.val / 6, lt_div t⟩ ⟨(t.val % 6) * 704 + r.val, by omega⟩) ⟨1536 + k.val, by omega⟩) = fun k : Fin 384 => (cols (m ((c.tc : Thread nD τ).loc main_arg0)) (m ((c.tc : Thread nD τ).loc main_arg1)) ⟨t.val / 6, lt_div t⟩ ⟨(t.val % 6) * 704 + r.val, by omega⟩) ⟨1536 + k.val, by omega⟩ :=
    funext fun k => winPad_lo _ _ _ (show 1536 + k.val < 2176 by omega) rfl
  rw [e]
  rfl

theorem latent_at (t : Fin cfg0.N) (r : Fin 704) (k : Fin 256) :
    (k0_pay30 (k0_pay9 (View.ld (iblk m c 0 t) r0_0) (View.ld (iblk m c 1 t) r0_3)) (View.ld (iblk m c 3 t) r0_17)) (ix2 r k) = rms 0x43800000#32 (fun k : Fin 256 => (cols (m ((c.tc : Thread nD τ).loc main_arg0)) (m ((c.tc : Thread nD τ).loc main_arg1)) ⟨t.val / 6, lt_div t⟩ ⟨(t.val % 6) * 704 + r.val, by omega⟩) ⟨1920 + k.val, by omega⟩) (fun k => (m ((c.tc : Thread nD τ).loc main_arg3)) (ix2 3 k)) k := by
  have hp := proj_mid (View.ld (iblk m c 0 t) r0_0) (View.ld (iblk m c 1 t) r0_3) r _ (fun k j => m ((c.tc : Thread nD τ).loc main_arg1) (ix3 3 k j)) (blk0 m c t r) (blk1_1 m c t)
  change ∀ j, _ = winPad (cols (m ((c.tc : Thread nD τ).loc main_arg0)) (m ((c.tc : Thread nD τ).loc main_arg1)) ⟨t.val / 6, lt_div t⟩ ⟨(t.val % 6) * 704 + r.val, by omega⟩) _ at hp
  rw [pay30_at]
  simp only [pay9_at, hp, blk3]
  have e : (fun k : Fin 256 => winPad (cols (m ((c.tc : Thread nD τ).loc main_arg0)) (m ((c.tc : Thread nD τ).loc main_arg1)) ⟨t.val / 6, lt_div t⟩ ⟨(t.val % 6) * 704 + r.val, by omega⟩) ⟨1536 + (384 + k.val), by omega⟩) = fun k : Fin 256 => (cols (m ((c.tc : Thread nD τ).loc main_arg0)) (m ((c.tc : Thread nD τ).loc main_arg1)) ⟨t.val / 6, lt_div t⟩ ⟨(t.val % 6) * 704 + r.val, by omega⟩) ⟨1920 + k.val, by omega⟩ :=
    funext fun k => winPad_lo _ _ _ (show 1536 + (384 + k.val) < 2176 by omega) (show 1920 + k.val = 1536 + (384 + k.val) by omega)
  rw [e]

theorem keys_at (t : Fin cfg0.N) (r : Fin 704) (j : Fin 1024) :
    (k0_pay31 (k0_pay9 (View.ld (iblk m c 0 t) r0_0) (View.ld (iblk m c 1 t) r0_3)) (View.ld (iblk m c 3 t) r0_17) (View.ld (iblk m c 5 t) r0_18)) (ix2 r j) = ukPad (keyvals (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + r.val, by omega⟩) j := by
  rw [pay31_at]
  simp only [latent_at, blk5]
  exact dot_ukPad _ (fun k j => (m ((c.tc : Thread nD τ).loc main_arg5)) (ix3 3 k j)) j

theorem values_at (t : Fin cfg0.N) (r : Fin 704) (j : Fin 512) :
    (k0_pay44 (k0_pay30 (k0_pay9 (View.ld (iblk m c 0 t) r0_0) (View.ld (iblk m c 1 t) r0_3)) (View.ld (iblk m c 3 t) r0_17)) (View.ld (iblk m c 6 t) r0_19)) (ix2 r j) = (keyvals (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + r.val, by omega⟩) ⟨j.val / 64 * 128 + (64 + j.val % 64), by omega⟩ := by
  rw [pay44_at]
  simp only [latent_at, blk6]
  rfl

theorem rotkey_at (t : Fin cfg0.N) (r : Fin 704) (l : Fin 128) :
    (k0_pay35 (k0_pay33 (k0_pay9 (View.ld (iblk m c 0 t) r0_0) (View.ld (iblk m c 1 t) r0_3)) (View.ld (iblk m c 7 t) r0_6) (View.ld (iblk m c 7 t) r0_7)) (k0_pay34 (k0_pay9 (View.ld (iblk m c 0 t) r0_0) (View.ld (iblk m c 1 t) r0_3)) (View.ld (iblk m c 7 t) r0_8))) (ix2 r l) = lanes (fun _ => 0) (fun j => (cols (m ((c.tc : Thread nD τ).loc main_arg0)) (m ((c.tc : Thread nD τ).loc main_arg1)) ⟨t.val / 6, lt_div t⟩ ⟨(t.val % 6) * 704 + r.val, by omega⟩) ⟨2176 + j.val, by omega⟩) (angle 0x41800000#32 ⟨(t.val % 6) * 704 + r.val, by omega⟩) l := by
  have hp := proj_mid (View.ld (iblk m c 0 t) r0_0) (View.ld (iblk m c 1 t) r0_3) r _ (fun k j => m ((c.tc : Thread nD τ).loc main_arg1) (ix3 3 k j)) (blk0 m c t r) (blk1_1 m c t)
  change ∀ j, _ = winPad (cols (m ((c.tc : Thread nD τ).loc main_arg0)) (m ((c.tc : Thread nD τ).loc main_arg1)) ⟨t.val / 6, lt_div t⟩ ⟨(t.val % 6) * 704 + r.val, by omega⟩) _ at hp
  rw [rot_at]
  simp only [blk7_0, blk7_1, blk7_2]
  refine (tile16_lanes _ (angle 0x41800000#32 ⟨(t.val % 6) * 704 + r.val, by omega⟩) l).trans ?_
  simp only [pay9_at, hp]
  have e1 : (fun j : Fin 64 => winPad (cols (m ((c.tc : Thread nD τ).loc main_arg0)) (m ((c.tc : Thread nD τ).loc main_arg1)) ⟨t.val / 6, lt_div t⟩ ⟨(t.val % 6) * 704 + r.val, by omega⟩) ⟨1536 + (640 + j.val), by omega⟩) = fun _ => 0 :=
    funext fun j => winPad_gap _ _ (show 2176 ≤ 1536 + (640 + j.val) by omega) (show 1536 + (640 + j.val) < 2240 by omega)
  have e2 : (fun j : Fin 32 => winPad (cols (m ((c.tc : Thread nD τ).loc main_arg0)) (m ((c.tc : Thread nD τ).loc main_arg1)) ⟨t.val / 6, lt_div t⟩ ⟨(t.val % 6) * 704 + r.val, by omega⟩) ⟨1536 + (640 + (64 + j.val)), by omega⟩) = fun j : Fin 32 => (cols (m ((c.tc : Thread nD τ).loc main_arg0)) (m ((c.tc : Thread nD τ).loc main_arg1)) ⟨t.val / 6, lt_div t⟩ ⟨(t.val % 6) * 704 + r.val, by omega⟩) ⟨2176 + j.val, by omega⟩ :=
    funext fun j => winPad_mid _ _ _ (show 2240 ≤ 1536 + (640 + (64 + j.val)) by omega) (show 1536 + (640 + (64 + j.val)) < 2272 by omega)
      (show 2176 + j.val + 64 = 1536 + (640 + (64 + j.val)) by omega)
  rw [e1, e2]

theorem sbq_point (t : Fin cfg0.N) (r : Fin 704) (l : Fin 512) (y : Fin 704) (e : Fin 512) (hy : y.val = r.val) (he : e.val = l.val) :
    k0_pay6 (View.ld (iblk m c 0 t) r0_0) (View.ld (iblk m c 1 t) r0_1) (ix3 0 r l) = sbqRow (m ((c.tc : Thread nD τ).loc main_arg0)) (m ((c.tc : Thread nD τ).loc main_arg1)) ⟨t.val / 6, lt_div t⟩ ⟨(t.val % 6) * 704 + y.val, by omega⟩ e := by
  obtain rfl : y = r := Fin.ext hy
  have hp := proj_lo (View.ld (iblk m c 0 t) r0_0) (View.ld (iblk m c 1 t) r0_1) y _ (fun k j => m ((c.tc : Thread nD τ).loc main_arg1) (ix3 3 k j)) (blk0 m c t y) (blk1_0 m c t)
  change ∀ j, _ = winPad (cols (m ((c.tc : Thread nD τ).loc main_arg0)) (m ((c.tc : Thread nD τ).loc main_arg1)) ⟨t.val / 6, lt_div t⟩ ⟨(t.val % 6) * 704 + y.val, by omega⟩) _ at hp
  obtain rfl : e = l := Fin.ext he
  rw [pay6_at, hp]
  exact congrArg (· * Ideal.ofBits .f32 0x3E38AA3B#32) (winPad_lo _ _ _ (show e.val < 2176 by omega) rfl)

theorem sbk_point (t : Fin cfg0.N) (r : Fin 704) (l : Fin 512) (y : Fin 704) (e : Fin 512) (hy : y.val = r.val) (he : e.val = l.val) :
    k0_pay7 (View.ld (iblk m c 0 t) r0_0) (View.ld (iblk m c 1 t) r0_1) (ix3 0 r l) = sbkRow (m ((c.tc : Thread nD τ).loc main_arg0)) (m ((c.tc : Thread nD τ).loc main_arg1)) ⟨t.val / 6, lt_div t⟩ ⟨(t.val % 6) * 704 + y.val, by omega⟩ e := by
  obtain rfl : y = r := Fin.ext hy
  have hp := proj_lo (View.ld (iblk m c 0 t) r0_0) (View.ld (iblk m c 1 t) r0_1) y _ (fun k j => m ((c.tc : Thread nD τ).loc main_arg1) (ix3 3 k j)) (blk0 m c t y) (blk1_0 m c t)
  change ∀ j, _ = winPad (cols (m ((c.tc : Thread nD τ).loc main_arg0)) (m ((c.tc : Thread nD τ).loc main_arg1)) ⟨t.val / 6, lt_div t⟩ ⟨(t.val % 6) * 704 + y.val, by omega⟩) _ at hp
  obtain rfl : e = l := Fin.ext he
  rw [pay7_at, hp]
  exact winPad_lo _ _ _ (show 512 + e.val < 2176 by omega) rfl

theorem sbv_point (t : Fin cfg0.N) (r : Fin 704) (l : Fin 512) (y : Fin 704) (e : Fin 512) (hy : y.val = r.val) (he : e.val = l.val) :
    k0_pay8 (View.ld (iblk m c 0 t) r0_0) (View.ld (iblk m c 1 t) r0_1) (ix3 0 r l) = sbvRow (m ((c.tc : Thread nD τ).loc main_arg0)) (m ((c.tc : Thread nD τ).loc main_arg1)) ⟨t.val / 6, lt_div t⟩ ⟨(t.val % 6) * 704 + y.val, by omega⟩ e := by
  obtain rfl : y = r := Fin.ext hy
  have hp := proj_lo (View.ld (iblk m c 0 t) r0_0) (View.ld (iblk m c 1 t) r0_1) y _ (fun k j => m ((c.tc : Thread nD τ).loc main_arg1) (ix3 3 k j)) (blk0 m c t y) (blk1_0 m c t)
  change ∀ j, _ = winPad (cols (m ((c.tc : Thread nD τ).loc main_arg0)) (m ((c.tc : Thread nD τ).loc main_arg1)) ⟨t.val / 6, lt_div t⟩ ⟨(t.val % 6) * 704 + y.val, by omega⟩) _ at hp
  obtain rfl : e = l := Fin.ext he
  rw [pay8_at, hp]
  exact winPad_lo _ _ _ (show 1024 + e.val < 2176 by omega) rfl

theorem rv_point (t : Fin cfg0.N) (r : Fin 704) (l : Fin 512) (y : Fin 704) (e : Fin 512) (hy : y.val = r.val) (he : e.val = l.val) :
    k0_pay2 (k0_pay56 (k0_pay4 (View.ld (iblk m c 0 t) r0_0)) (View.ld (iblk m c 1 t) r0_20)) (ix3 0 r l) = rvRow (m ((c.tc : Thread nD τ).loc main_arg0)) (m ((c.tc : Thread nD τ).loc main_arg1)) ⟨t.val / 6, lt_div t⟩ ⟨(t.val % 6) * 704 + y.val, by omega⟩ e := by
  obtain rfl : y = r := Fin.ext hy
  have hp := proj_hi (View.ld (iblk m c 0 t) r0_0) (View.ld (iblk m c 1 t) r0_20) y _ (fun k j => m ((c.tc : Thread nD τ).loc main_arg1) (ix3 3 k j)) (blk0 m c t y) (blk1_2 m c t)
  change ∀ j, _ = winPad (cols (m ((c.tc : Thread nD τ).loc main_arg0)) (m ((c.tc : Thread nD τ).loc main_arg1)) ⟨t.val / 6, lt_div t⟩ ⟨(t.val % 6) * 704 + y.val, by omega⟩) _ at hp
  obtain rfl : e = l := Fin.ext he
  rw [pay2_at, hp]
  exact winPad_hi _ _ _ (show 2304 ≤ 2304 + (512 + e.val) by omega) (show 2720 + e.val + 96 = 2304 + (512 + e.val) by omega)

theorem rg_point (t : Fin cfg0.N) (r : Fin 704) (l : Fin 512) (y : Fin 704) (e : Fin 512) (hy : y.val = r.val) (he : e.val = l.val) :
    k0_pay3 (k0_pay56 (k0_pay4 (View.ld (iblk m c 0 t) r0_0)) (View.ld (iblk m c 1 t) r0_20)) (ix3 0 r l) = rgRow (m ((c.tc : Thread nD τ).loc main_arg0)) (m ((c.tc : Thread nD τ).loc main_arg1)) ⟨t.val / 6, lt_div t⟩ ⟨(t.val % 6) * 704 + y.val, by omega⟩ e := by
  obtain rfl : y = r := Fin.ext hy
  have hp := proj_hi (View.ld (iblk m c 0 t) r0_0) (View.ld (iblk m c 1 t) r0_20) y _ (fun k j => m ((c.tc : Thread nD τ).loc main_arg1) (ix3 3 k j)) (blk0 m c t y) (blk1_2 m c t)
  change ∀ j, _ = winPad (cols (m ((c.tc : Thread nD τ).loc main_arg0)) (m ((c.tc : Thread nD τ).loc main_arg1)) ⟨t.val / 6, lt_div t⟩ ⟨(t.val % 6) * 704 + y.val, by omega⟩) _ at hp
  obtain rfl : e = l := Fin.ext he
  rw [pay3_at, hp]
  exact winPad_hi _ _ _ (show 2304 ≤ 2304 + (1024 + e.val) by omega) (show 3232 + e.val + 96 = 2304 + (1024 + e.val) by omega)

theorem mq0_point (t : Fin cfg0.N) (r : Fin 704) (l : Fin 128) (y : Fin 704) (e : Fin 1024) (hy : y.val = r.val) (he : e.val = l.val) :
    k0_pay14 (k0_pay10 (View.ld (iblk m c 0 t) r0_0) (View.ld (iblk m c 1 t) r0_3)) (k0_pay11 (View.ld (iblk m c 2 t) r0_4)) (k0_pay12 (View.ld (iblk m c 0 t) r0_0) (View.ld (iblk m c 1 t) r0_3)) (View.ld (iblk m c 4 t) r0_5) (View.ld (iblk m c 7 t) r0_6) (View.ld (iblk m c 7 t) r0_7) (View.ld (iblk m c 7 t) r0_8) (ix3 0 r l) = mqRow (m ((c.tc : Thread nD τ).loc main_arg0)) (m ((c.tc : Thread nD τ).loc main_arg1)) (m ((c.tc : Thread nD τ).loc main_arg2)) (m ((c.tc : Thread nD τ).loc main_arg4)) ⟨t.val / 6, lt_div t⟩ ⟨(t.val % 6) * 704 + y.val, by omega⟩ e := by
  obtain rfl : y = r := Fin.ext hy
  rw [mq0_at]
  simp only [blk7_0, blk7_1, blk7_2]
  exact congrArg (· * Ideal.ofBits .f32 0x3E16C740#32) (mq_gen (queries (m ((c.tc : Thread nD τ).loc main_arg0)) (m ((c.tc : Thread nD τ).loc main_arg1)) (m ((c.tc : Thread nD τ).loc main_arg2)) (m ((c.tc : Thread nD τ).loc main_arg4)) ⟨t.val / 6, lt_div t⟩ ⟨(t.val % 6) * 704 + y.val, by omega⟩) (angle 0x41800000#32 ⟨(t.val % 6) * 704 + y.val, by omega⟩) 0 0 rfl (by decide) _
    (fun l j hj => (queries_at m c t y _).trans (congrArg (uqPad _) (Fin.ext (show l.val = j.val by omega)))) l e (by omega))

theorem mq1_point (t : Fin cfg0.N) (r : Fin 704) (l : Fin 128) (y : Fin 704) (e : Fin 1024) (hy : y.val = r.val) (he : e.val = 128 + l.val) :
    k0_pay16 (k0_pay15 (k0_pay10 (View.ld (iblk m c 0 t) r0_0) (View.ld (iblk m c 1 t) r0_3)) (k0_pay11 (View.ld (iblk m c 2 t) r0_4)) (k0_pay12 (View.ld (iblk m c 0 t) r0_0) (View.ld (iblk m c 1 t) r0_3)) (View.ld (iblk m c 4 t) r0_5)) (View.ld (iblk m c 7 t) r0_6) (View.ld (iblk m c 7 t) r0_7) (View.ld (iblk m c 7 t) r0_8) (ix3 0 r l) = mqRow (m ((c.tc : Thread nD τ).loc main_arg0)) (m ((c.tc : Thread nD τ).loc main_arg1)) (m ((c.tc : Thread nD τ).loc main_arg2)) (m ((c.tc : Thread nD τ).loc main_arg4)) ⟨t.val / 6, lt_div t⟩ ⟨(t.val % 6) * 704 + y.val, by omega⟩ e := by
  obtain rfl : y = r := Fin.ext hy
  rw [mq1_at]
  simp only [blk7_0, blk7_1, blk7_2]
  exact congrArg (· * Ideal.ofBits .f32 0x3E16C740#32) (mq_gen (queries (m ((c.tc : Thread nD τ).loc main_arg0)) (m ((c.tc : Thread nD τ).loc main_arg1)) (m ((c.tc : Thread nD τ).loc main_arg2)) (m ((c.tc : Thread nD τ).loc main_arg4)) ⟨t.val / 6, lt_div t⟩ ⟨(t.val % 6) * 704 + y.val, by omega⟩) (angle 0x41800000#32 ⟨(t.val % 6) * 704 + y.val, by omega⟩) 128 1 rfl (by decide) _
    (fun l j hj => (queries_at m c t y _).trans (congrArg (uqPad _) (Fin.ext (show 128 + l.val = j.val by omega)))) l e (by omega))

theorem mq2_point (t : Fin cfg0.N) (r : Fin 704) (l : Fin 128) (y : Fin 704) (e : Fin 1024) (hy : y.val = r.val) (he : e.val = 256 + l.val) :
    k0_pay18 (k0_pay17 (k0_pay13 (k0_pay10 (View.ld (iblk m c 0 t) r0_0) (View.ld (iblk m c 1 t) r0_3)) (k0_pay11 (View.ld (iblk m c 2 t) r0_4)) (k0_pay12 (View.ld (iblk m c 0 t) r0_0) (View.ld (iblk m c 1 t) r0_3)) (View.ld (iblk m c 4 t) r0_5)) (View.ld (iblk m c 7 t) r0_6) (View.ld (iblk m c 7 t) r0_7) (View.ld (iblk m c 7 t) r0_8)) (ix3 0 r l) = mqRow (m ((c.tc : Thread nD τ).loc main_arg0)) (m ((c.tc : Thread nD τ).loc main_arg1)) (m ((c.tc : Thread nD τ).loc main_arg2)) (m ((c.tc : Thread nD τ).loc main_arg4)) ⟨t.val / 6, lt_div t⟩ ⟨(t.val % 6) * 704 + y.val, by omega⟩ e := by
  obtain rfl : y = r := Fin.ext hy
  rw [mq2_at]
  simp only [blk7_0, blk7_1, blk7_2]
  exact congrArg (· * Ideal.ofBits .f32 0x3E16C740#32) (mq_gen (queries (m ((c.tc : Thread nD τ).loc main_arg0)) (m ((c.tc : Thread nD τ).loc main_arg1)) (m ((c.tc : Thread nD τ).loc main_arg2)) (m ((c.tc : Thread nD τ).loc main_arg4)) ⟨t.val / 6, lt_div t⟩ ⟨(t.val % 6) * 704 + y.val, by omega⟩) (angle 0x41800000#32 ⟨(t.val % 6) * 704 + y.val, by omega⟩) 256 2 rfl (by decide) _
    (fun l j hj => (queries_at m c t y _).trans (congrArg (uqPad _) (Fin.ext (show 256 + l.val = j.val by omega)))) l e (by omega))

theorem mq3_point (t : Fin cfg0.N) (r : Fin 704) (l : Fin 128) (y : Fin 704) (e : Fin 1024) (hy : y.val = r.val) (he : e.val = 384 + l.val) :
    k0_pay19 (k0_pay13 (k0_pay10 (View.ld (iblk m c 0 t) r0_0) (View.ld (iblk m c 1 t) r0_3)) (k0_pay11 (View.ld (iblk m c 2 t) r0_4)) (k0_pay12 (View.ld (iblk m c 0 t) r0_0) (View.ld (iblk m c 1 t) r0_3)) (View.ld (iblk m c 4 t) r0_5)) (View.ld (iblk m c 7 t) r0_6) (View.ld (iblk m c 7 t) r0_7) (View.ld (iblk m c 7 t) r0_8) (ix3 0 r l) = mqRow (m ((c.tc : Thread nD τ).loc main_arg0)) (m ((c.tc : Thread nD τ).loc main_arg1)) (m ((c.tc : Thread nD τ).loc main_arg2)) (m ((c.tc : Thread nD τ).loc main_arg4)) ⟨t.val / 6, lt_div t⟩ ⟨(t.val % 6) * 704 + y.val, by omega⟩ e := by
  obtain rfl : y = r := Fin.ext hy
  rw [mq3_at]
  simp only [blk7_0, blk7_1, blk7_2]
  exact congrArg (· * Ideal.ofBits .f32 0x3E16C740#32) (mq_gen (queries (m ((c.tc : Thread nD τ).loc main_arg0)) (m ((c.tc : Thread nD τ).loc main_arg1)) (m ((c.tc : Thread nD τ).loc main_arg2)) (m ((c.tc : Thread nD τ).loc main_arg4)) ⟨t.val / 6, lt_div t⟩ ⟨(t.val % 6) * 704 + y.val, by omega⟩) (angle 0x41800000#32 ⟨(t.val % 6) * 704 + y.val, by omega⟩) 384 3 rfl (by decide) _
    (fun l j hj => (queries_at m c t y _).trans (congrArg (uqPad _) (Fin.ext (show 384 + l.val = j.val by omega)))) l e (by omega))

theorem mq4_point (t : Fin cfg0.N) (r : Fin 704) (l : Fin 128) (y : Fin 704) (e : Fin 1024) (hy : y.val = r.val) (he : e.val = 512 + l.val) :
    k0_pay24 (k0_pay20 (k0_pay13 (k0_pay10 (View.ld (iblk m c 0 t) r0_0) (View.ld (iblk m c 1 t) r0_3)) (k0_pay11 (View.ld (iblk m c 2 t) r0_4)) (k0_pay12 (View.ld (iblk m c 0 t) r0_0) (View.ld (iblk m c 1 t) r0_3)) (View.ld (iblk m c 4 t) r0_5))) (k0_pay21 (View.ld (iblk m c 7 t) r0_6)) (k0_pay22 (View.ld (iblk m c 7 t) r0_7)) (k0_pay23 (View.ld (iblk m c 7 t) r0_8)) (ix3 0 r l) = mqRow (m ((c.tc : Thread nD τ).loc main_arg0)) (m ((c.tc : Thread nD τ).loc main_arg1)) (m ((c.tc : Thread nD τ).loc main_arg2)) (m ((c.tc : Thread nD τ).loc main_arg4)) ⟨t.val / 6, lt_div t⟩ ⟨(t.val % 6) * 704 + y.val, by omega⟩ e := by
  obtain rfl : y = r := Fin.ext hy
  rw [mq4_at]
  simp only [blk7_0, blk7_1, blk7_2]
  exact congrArg (· * Ideal.ofBits .f32 0x3E16C740#32) (mq_gen (queries (m ((c.tc : Thread nD τ).loc main_arg0)) (m ((c.tc : Thread nD τ).loc main_arg1)) (m ((c.tc : Thread nD τ).loc main_arg2)) (m ((c.tc : Thread nD τ).loc main_arg4)) ⟨t.val / 6, lt_div t⟩ ⟨(t.val % 6) * 704 + y.val, by omega⟩) (angle 0x41800000#32 ⟨(t.val % 6) * 704 + y.val, by omega⟩) 512 4 rfl (by decide) _
    (fun l j hj => (queries_at m c t y _).trans (congrArg (uqPad _) (Fin.ext (show 512 + l.val = j.val by omega)))) l e (by omega))

theorem mq5_point (t : Fin cfg0.N) (r : Fin 704) (l : Fin 128) (y : Fin 704) (e : Fin 1024) (hy : y.val = r.val) (he : e.val = 640 + l.val) :
    k0_pay25 (k0_pay13 (k0_pay10 (View.ld (iblk m c 0 t) r0_0) (View.ld (iblk m c 1 t) r0_3)) (k0_pay11 (View.ld (iblk m c 2 t) r0_4)) (k0_pay12 (View.ld (iblk m c 0 t) r0_0) (View.ld (iblk m c 1 t) r0_3)) (View.ld (iblk m c 4 t) r0_5)) (View.ld (iblk m c 7 t) r0_6) (View.ld (iblk m c 7 t) r0_7) (View.ld (iblk m c 7 t) r0_8) (ix3 0 r l) = mqRow (m ((c.tc : Thread nD τ).loc main_arg0)) (m ((c.tc : Thread nD τ).loc main_arg1)) (m ((c.tc : Thread nD τ).loc main_arg2)) (m ((c.tc : Thread nD τ).loc main_arg4)) ⟨t.val / 6, lt_div t⟩ ⟨(t.val % 6) * 704 + y.val, by omega⟩ e := by
  obtain rfl : y = r := Fin.ext hy
  rw [mq5_at]
  simp only [blk7_0, blk7_1, blk7_2]
  exact congrArg (· * Ideal.ofBits .f32 0x3E16C740#32) (mq_gen (queries (m ((c.tc : Thread nD τ).loc main_arg0)) (m ((c.tc : Thread nD τ).loc main_arg1)) (m ((c.tc : Thread nD τ).loc main_arg2)) (m ((c.tc : Thread nD τ).loc main_arg4)) ⟨t.val / 6, lt_div t⟩ ⟨(t.val % 6) * 704 + y.val, by omega⟩) (angle 0x41800000#32 ⟨(t.val % 6) * 704 + y.val, by omega⟩) 640 5 rfl (by decide) _
    (fun l j hj => (queries_at m c t y _).trans (congrArg (uqPad _) (Fin.ext (show 640 + l.val = j.val by omega)))) l e (by omega))

theorem mq6_point (t : Fin cfg0.N) (r : Fin 704) (l : Fin 128) (y : Fin 704) (e : Fin 1024) (hy : y.val = r.val) (he : e.val = 768 + l.val) :
    k0_pay27 (k0_pay26 (k0_pay13 (k0_pay10 (View.ld (iblk m c 0 t) r0_0) (View.ld (iblk m c 1 t) r0_3)) (k0_pay11 (View.ld (iblk m c 2 t) r0_4)) (k0_pay12 (View.ld (iblk m c 0 t) r0_0) (View.ld (iblk m c 1 t) r0_3)) (View.ld (iblk m c 4 t) r0_5))) (View.ld (iblk m c 7 t) r0_6) (View.ld (iblk m c 7 t) r0_7) (View.ld (iblk m c 7 t) r0_8) (ix3 0 r l) = mqRow (m ((c.tc : Thread nD τ).loc main_arg0)) (m ((c.tc : Thread nD τ).loc main_arg1)) (m ((c.tc : Thread nD τ).loc main_arg2)) (m ((c.tc : Thread nD τ).loc main_arg4)) ⟨t.val / 6, lt_div t⟩ ⟨(t.val % 6) * 704 + y.val, by omega⟩ e := by
  obtain rfl : y = r := Fin.ext hy
  rw [mq6_at]
  simp only [blk7_0, blk7_1, blk7_2]
  exact congrArg (· * Ideal.ofBits .f32 0x3E16C740#32) (mq_gen (queries (m ((c.tc : Thread nD τ).loc main_arg0)) (m ((c.tc : Thread nD τ).loc main_arg1)) (m ((c.tc : Thread nD τ).loc main_arg2)) (m ((c.tc : Thread nD τ).loc main_arg4)) ⟨t.val / 6, lt_div t⟩ ⟨(t.val % 6) * 704 + y.val, by omega⟩) (angle 0x41800000#32 ⟨(t.val % 6) * 704 + y.val, by omega⟩) 768 6 rfl (by decide) _
    (fun l j hj => (queries_at m c t y _).trans (congrArg (uqPad _) (Fin.ext (show 768 + l.val = j.val by omega)))) l e (by omega))

theorem mq7_point (t : Fin cfg0.N) (r : Fin 704) (l : Fin 128) (y : Fin 704) (e : Fin 1024) (hy : y.val = r.val) (he : e.val = 896 + l.val) :
    k0_pay29 (k0_pay28 (k0_pay13 (k0_pay10 (View.ld (iblk m c 0 t) r0_0) (View.ld (iblk m c 1 t) r0_3)) (k0_pay11 (View.ld (iblk m c 2 t) r0_4)) (k0_pay12 (View.ld (iblk m c 0 t) r0_0) (View.ld (iblk m c 1 t) r0_3)) (View.ld (iblk m c 4 t) r0_5)) (View.ld (iblk m c 7 t) r0_6) (View.ld (iblk m c 7 t) r0_7) (View.ld (iblk m c 7 t) r0_8)) (ix3 0 r l) = mqRow (m ((c.tc : Thread nD τ).loc main_arg0)) (m ((c.tc : Thread nD τ).loc main_arg1)) (m ((c.tc : Thread nD τ).loc main_arg2)) (m ((c.tc : Thread nD τ).loc main_arg4)) ⟨t.val / 6, lt_div t⟩ ⟨(t.val % 6) * 704 + y.val, by omega⟩ e := by
  obtain rfl : y = r := Fin.ext hy
  rw [mq7_at]
  simp only [blk7_0, blk7_1, blk7_2]
  exact congrArg (· * Ideal.ofBits .f32 0x3E16C740#32) (mq_gen (queries (m ((c.tc : Thread nD τ).loc main_arg0)) (m ((c.tc : Thread nD τ).loc main_arg1)) (m ((c.tc : Thread nD τ).loc main_arg2)) (m ((c.tc : Thread nD τ).loc main_arg4)) ⟨t.val / 6, lt_div t⟩ ⟨(t.val % 6) * 704 + y.val, by omega⟩) (angle 0x41800000#32 ⟨(t.val % 6) * 704 + y.val, by omega⟩) 896 7 rfl (by decide) _
    (fun l j hj => (queries_at m c t y _).trans (congrArg (uqPad _) (Fin.ext (show 896 + l.val = j.val by omega)))) l e (by omega))

theorem mk0_point (t : Fin cfg0.N) (r : Fin 704) (l : Fin 128) (y : Fin 704) (e : Fin 1024) (hy : y.val = r.val) (he : e.val = l.val) :
    k0_pay36 (k0_pay31 (k0_pay9 (View.ld (iblk m c 0 t) r0_0) (View.ld (iblk m c 1 t) r0_3)) (View.ld (iblk m c 3 t) r0_17) (View.ld (iblk m c 5 t) r0_18)) (k0_pay33 (k0_pay9 (View.ld (iblk m c 0 t) r0_0) (View.ld (iblk m c 1 t) r0_3)) (View.ld (iblk m c 7 t) r0_6) (View.ld (iblk m c 7 t) r0_7)) (k0_pay34 (k0_pay9 (View.ld (iblk m c 0 t) r0_0) (View.ld (iblk m c 1 t) r0_3)) (View.ld (iblk m c 7 t) r0_8)) (ix3 0 r l) = mkRow (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩ e := by
  obtain rfl : y = r := Fin.ext hy
  rw [mk0_at, keys_at, rotkey_at]
  refine Eq.trans ?_ (mk_gen (keyvals (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩) _ (angle 0x41800000#32 ⟨(t.val % 6) * 704 + y.val, by omega⟩) 0 0 rfl (by decide) l e (by omega))
  exact congrArg (fun z => ukPad _ z + _) (Fin.ext he.symm)

theorem mk1_point (t : Fin cfg0.N) (r : Fin 704) (l : Fin 128) (y : Fin 704) (e : Fin 1024) (hy : y.val = r.val) (he : e.val = 128 + l.val) :
    k0_pay37 (k0_pay31 (k0_pay9 (View.ld (iblk m c 0 t) r0_0) (View.ld (iblk m c 1 t) r0_3)) (View.ld (iblk m c 3 t) r0_17) (View.ld (iblk m c 5 t) r0_18)) (k0_pay33 (k0_pay9 (View.ld (iblk m c 0 t) r0_0) (View.ld (iblk m c 1 t) r0_3)) (View.ld (iblk m c 7 t) r0_6) (View.ld (iblk m c 7 t) r0_7)) (k0_pay34 (k0_pay9 (View.ld (iblk m c 0 t) r0_0) (View.ld (iblk m c 1 t) r0_3)) (View.ld (iblk m c 7 t) r0_8)) (ix3 0 r l) = mkRow (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩ e := by
  obtain rfl : y = r := Fin.ext hy
  rw [mk1_at, keys_at, rotkey_at]
  refine Eq.trans ?_ (mk_gen (keyvals (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩) _ (angle 0x41800000#32 ⟨(t.val % 6) * 704 + y.val, by omega⟩) 128 1 rfl (by decide) l e (by omega))
  exact congrArg (fun z => ukPad _ z + _) (Fin.ext he.symm)

theorem mk2_point (t : Fin cfg0.N) (r : Fin 704) (l : Fin 128) (y : Fin 704) (e : Fin 1024) (hy : y.val = r.val) (he : e.val = 256 + l.val) :
    k0_pay38 (k0_pay31 (k0_pay9 (View.ld (iblk m c 0 t) r0_0) (View.ld (iblk m c 1 t) r0_3)) (View.ld (iblk m c 3 t) r0_17) (View.ld (iblk m c 5 t) r0_18)) (k0_pay33 (k0_pay9 (View.ld (iblk m c 0 t) r0_0) (View.ld (iblk m c 1 t) r0_3)) (View.ld (iblk m c 7 t) r0_6) (View.ld (iblk m c 7 t) r0_7)) (k0_pay34 (k0_pay9 (View.ld (iblk m c 0 t) r0_0) (View.ld (iblk m c 1 t) r0_3)) (View.ld (iblk m c 7 t) r0_8)) (ix3 0 r l) = mkRow (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩ e := by
  obtain rfl : y = r := Fin.ext hy
  rw [mk2_at, keys_at, rotkey_at]
  refine Eq.trans ?_ (mk_gen (keyvals (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩) _ (angle 0x41800000#32 ⟨(t.val % 6) * 704 + y.val, by omega⟩) 256 2 rfl (by decide) l e (by omega))
  exact congrArg (fun z => ukPad _ z + _) (Fin.ext he.symm)

theorem mk3_point (t : Fin cfg0.N) (r : Fin 704) (l : Fin 128) (y : Fin 704) (e : Fin 1024) (hy : y.val = r.val) (he : e.val = 384 + l.val) :
    k0_pay39 (k0_pay31 (k0_pay9 (View.ld (iblk m c 0 t) r0_0) (View.ld (iblk m c 1 t) r0_3)) (View.ld (iblk m c 3 t) r0_17) (View.ld (iblk m c 5 t) r0_18)) (k0_pay33 (k0_pay9 (View.ld (iblk m c 0 t) r0_0) (View.ld (iblk m c 1 t) r0_3)) (View.ld (iblk m c 7 t) r0_6) (View.ld (iblk m c 7 t) r0_7)) (k0_pay34 (k0_pay9 (View.ld (iblk m c 0 t) r0_0) (View.ld (iblk m c 1 t) r0_3)) (View.ld (iblk m c 7 t) r0_8)) (ix3 0 r l) = mkRow (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩ e := by
  obtain rfl : y = r := Fin.ext hy
  rw [mk3_at, keys_at, rotkey_at]
  refine Eq.trans ?_ (mk_gen (keyvals (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩) _ (angle 0x41800000#32 ⟨(t.val % 6) * 704 + y.val, by omega⟩) 384 3 rfl (by decide) l e (by omega))
  exact congrArg (fun z => ukPad _ z + _) (Fin.ext he.symm)

theorem mk4_point (t : Fin cfg0.N) (r : Fin 704) (l : Fin 128) (y : Fin 704) (e : Fin 1024) (hy : y.val = r.val) (he : e.val = 512 + l.val) :
    k0_pay40 (k0_pay31 (k0_pay9 (View.ld (iblk m c 0 t) r0_0) (View.ld (iblk m c 1 t) r0_3)) (View.ld (iblk m c 3 t) r0_17) (View.ld (iblk m c 5 t) r0_18)) (k0_pay33 (k0_pay9 (View.ld (iblk m c 0 t) r0_0) (View.ld (iblk m c 1 t) r0_3)) (View.ld (iblk m c 7 t) r0_6) (View.ld (iblk m c 7 t) r0_7)) (k0_pay34 (k0_pay9 (View.ld (iblk m c 0 t) r0_0) (View.ld (iblk m c 1 t) r0_3)) (View.ld (iblk m c 7 t) r0_8)) (ix3 0 r l) = mkRow (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩ e := by
  obtain rfl : y = r := Fin.ext hy
  rw [mk4_at, keys_at, rotkey_at]
  refine Eq.trans ?_ (mk_gen (keyvals (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩) _ (angle 0x41800000#32 ⟨(t.val % 6) * 704 + y.val, by omega⟩) 512 4 rfl (by decide) l e (by omega))
  exact congrArg (fun z => ukPad _ z + _) (Fin.ext he.symm)

theorem mk5_point (t : Fin cfg0.N) (r : Fin 704) (l : Fin 128) (y : Fin 704) (e : Fin 1024) (hy : y.val = r.val) (he : e.val = 640 + l.val) :
    k0_pay41 (k0_pay31 (k0_pay9 (View.ld (iblk m c 0 t) r0_0) (View.ld (iblk m c 1 t) r0_3)) (View.ld (iblk m c 3 t) r0_17) (View.ld (iblk m c 5 t) r0_18)) (k0_pay33 (k0_pay9 (View.ld (iblk m c 0 t) r0_0) (View.ld (iblk m c 1 t) r0_3)) (View.ld (iblk m c 7 t) r0_6) (View.ld (iblk m c 7 t) r0_7)) (k0_pay34 (k0_pay9 (View.ld (iblk m c 0 t) r0_0) (View.ld (iblk m c 1 t) r0_3)) (View.ld (iblk m c 7 t) r0_8)) (ix3 0 r l) = mkRow (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩ e := by
  obtain rfl : y = r := Fin.ext hy
  rw [mk5_at, keys_at, rotkey_at]
  refine Eq.trans ?_ (mk_gen (keyvals (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩) _ (angle 0x41800000#32 ⟨(t.val % 6) * 704 + y.val, by omega⟩) 640 5 rfl (by decide) l e (by omega))
  exact congrArg (fun z => ukPad _ z + _) (Fin.ext he.symm)

theorem mk6_point (t : Fin cfg0.N) (r : Fin 704) (l : Fin 128) (y : Fin 704) (e : Fin 1024) (hy : y.val = r.val) (he : e.val = 768 + l.val) :
    k0_pay42 (k0_pay31 (k0_pay9 (View.ld (iblk m c 0 t) r0_0) (View.ld (iblk m c 1 t) r0_3)) (View.ld (iblk m c 3 t) r0_17) (View.ld (iblk m c 5 t) r0_18)) (k0_pay35 (k0_pay33 (k0_pay9 (View.ld (iblk m c 0 t) r0_0) (View.ld (iblk m c 1 t) r0_3)) (View.ld (iblk m c 7 t) r0_6) (View.ld (iblk m c 7 t) r0_7)) (k0_pay34 (k0_pay9 (View.ld (iblk m c 0 t) r0_0) (View.ld (iblk m c 1 t) r0_3)) (View.ld (iblk m c 7 t) r0_8))) (ix3 0 r l) = mkRow (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩ e := by
  obtain rfl : y = r := Fin.ext hy
  rw [mk6_at, keys_at, rotkey_at]
  refine Eq.trans ?_ (mk_gen (keyvals (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩) _ (angle 0x41800000#32 ⟨(t.val % 6) * 704 + y.val, by omega⟩) 768 6 rfl (by decide) l e (by omega))
  exact congrArg (fun z => ukPad _ z + _) (Fin.ext he.symm)

theorem mk7_point (t : Fin cfg0.N) (r : Fin 704) (l : Fin 128) (y : Fin 704) (e : Fin 1024) (hy : y.val = r.val) (he : e.val = 896 + l.val) :
    k0_pay43 (k0_pay31 (k0_pay9 (View.ld (iblk m c 0 t) r0_0) (View.ld (iblk m c 1 t) r0_3)) (View.ld (iblk m c 3 t) r0_17) (View.ld (iblk m c 5 t) r0_18)) (k0_pay35 (k0_pay33 (k0_pay9 (View.ld (iblk m c 0 t) r0_0) (View.ld (iblk m c 1 t) r0_3)) (View.ld (iblk m c 7 t) r0_6) (View.ld (iblk m c 7 t) r0_7)) (k0_pay34 (k0_pay9 (View.ld (iblk m c 0 t) r0_0) (View.ld (iblk m c 1 t) r0_3)) (View.ld (iblk m c 7 t) r0_8))) (ix3 0 r l) = mkRow (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩ e := by
  obtain rfl : y = r := Fin.ext hy
  rw [mk7_at, keys_at, rotkey_at]
  refine Eq.trans ?_ (mk_gen (keyvals (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩) _ (angle 0x41800000#32 ⟨(t.val % 6) * 704 + y.val, by omega⟩) 896 7 rfl (by decide) l e (by omega))
  exact congrArg (fun z => ukPad _ z + _) (Fin.ext he.symm)

theorem mv0_point (t : Fin cfg0.N) (r : Fin 704) (l : Fin 128) (y : Fin 704) (e : Fin 1024) (hy : y.val = r.val) (he : e.val = l.val) :
    k0_pay45 (k0_pay30 (k0_pay9 (View.ld (iblk m c 0 t) r0_0) (View.ld (iblk m c 1 t) r0_3)) (View.ld (iblk m c 3 t) r0_17)) (View.ld (iblk m c 6 t) r0_19) (ix3 0 r l) = mvRow (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩ e := by
  obtain rfl : y = r := Fin.ext hy
  rw [mv0_at]
  exact mv_even (keyvals (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩) 0 0 rfl (by decide) (fun l => (k0_pay44 (k0_pay30 (k0_pay9 (View.ld (iblk m c 0 t) r0_0) (View.ld (iblk m c 1 t) r0_3)) (View.ld (iblk m c 3 t) r0_17)) (View.ld (iblk m c 6 t) r0_19)) (ix2 y ⟨l.val, by omega⟩))
    (fun l h => (values_at m c t y _).trans (congrArg _ (Fin.ext (show (l.val) / 64 * 128 + (64 + (l.val) % 64) = 0 + (64 + l.val) by omega)))) l e (by omega)

theorem mv1_point (t : Fin cfg0.N) (r : Fin 704) (l : Fin 128) (y : Fin 704) (e : Fin 1024) (hy : y.val = r.val) (he : e.val = 128 + l.val) :
    k0_pay46 (k0_pay30 (k0_pay9 (View.ld (iblk m c 0 t) r0_0) (View.ld (iblk m c 1 t) r0_3)) (View.ld (iblk m c 3 t) r0_17)) (View.ld (iblk m c 6 t) r0_19) (ix3 0 r l) = mvRow (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩ e := by
  obtain rfl : y = r := Fin.ext hy
  rw [mv1_at]
  exact mv_odd (keyvals (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩) 128 0 rfl (by decide) (fun l => (k0_pay44 (k0_pay30 (k0_pay9 (View.ld (iblk m c 0 t) r0_0) (View.ld (iblk m c 1 t) r0_3)) (View.ld (iblk m c 3 t) r0_17)) (View.ld (iblk m c 6 t) r0_19)) (ix2 y ⟨l.val, by omega⟩))
    (fun l h => (values_at m c t y _).trans (congrArg _ (Fin.ext (show (l.val) / 64 * 128 + (64 + (l.val) % 64) = 128 + l.val by omega)))) l e (by omega)

theorem mv2_point (t : Fin cfg0.N) (r : Fin 704) (l : Fin 128) (y : Fin 704) (e : Fin 1024) (hy : y.val = r.val) (he : e.val = 256 + l.val) :
    k0_pay48 (iota .tc S704x128 32 [1] iota_S704x128_d1_w32) (k0_pay47 (k0_pay30 (k0_pay9 (View.ld (iblk m c 0 t) r0_0) (View.ld (iblk m c 1 t) r0_3)) (View.ld (iblk m c 3 t) r0_17)) (View.ld (iblk m c 6 t) r0_19)) (ix3 0 r l) = mvRow (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩ e := by
  obtain rfl : y = r := Fin.ext hy
  rw [mv2_at]
  exact mv_even (keyvals (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩) 256 1 rfl (by decide) (fun l => (k0_pay44 (k0_pay30 (k0_pay9 (View.ld (iblk m c 0 t) r0_0) (View.ld (iblk m c 1 t) r0_3)) (View.ld (iblk m c 3 t) r0_17)) (View.ld (iblk m c 6 t) r0_19)) (ix2 y ⟨128 + l.val, by omega⟩))
    (fun l h => (values_at m c t y _).trans (congrArg _ (Fin.ext (show (128 + l.val) / 64 * 128 + (64 + (128 + l.val) % 64) = 256 + (64 + l.val) by omega)))) l e (by omega)

theorem mv3_point (t : Fin cfg0.N) (r : Fin 704) (l : Fin 128) (y : Fin 704) (e : Fin 1024) (hy : y.val = r.val) (he : e.val = 384 + l.val) :
    k0_pay49 (k0_pay44 (k0_pay30 (k0_pay9 (View.ld (iblk m c 0 t) r0_0) (View.ld (iblk m c 1 t) r0_3)) (View.ld (iblk m c 3 t) r0_17)) (View.ld (iblk m c 6 t) r0_19)) (iota .tc S704x128 32 [1] iota_S704x128_d1_w32) (ix3 0 r l) = mvRow (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩ e := by
  obtain rfl : y = r := Fin.ext hy
  rw [mv3_at]
  exact mv_odd (keyvals (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩) 384 1 rfl (by decide) (fun l => (k0_pay44 (k0_pay30 (k0_pay9 (View.ld (iblk m c 0 t) r0_0) (View.ld (iblk m c 1 t) r0_3)) (View.ld (iblk m c 3 t) r0_17)) (View.ld (iblk m c 6 t) r0_19)) (ix2 y ⟨128 + l.val, by omega⟩))
    (fun l h => (values_at m c t y _).trans (congrArg _ (Fin.ext (show (128 + l.val) / 64 * 128 + (64 + (128 + l.val) % 64) = 384 + l.val by omega)))) l e (by omega)

theorem mv4_point (t : Fin cfg0.N) (r : Fin 704) (l : Fin 128) (y : Fin 704) (e : Fin 1024) (hy : y.val = r.val) (he : e.val = 512 + l.val) :
    k0_pay50 (k0_pay44 (k0_pay30 (k0_pay9 (View.ld (iblk m c 0 t) r0_0) (View.ld (iblk m c 1 t) r0_3)) (View.ld (iblk m c 3 t) r0_17)) (View.ld (iblk m c 6 t) r0_19)) (iota .tc S704x128 32 [1] iota_S704x128_d1_w32) (ix3 0 r l) = mvRow (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩ e := by
  obtain rfl : y = r := Fin.ext hy
  rw [mv4_at]
  exact mv_even (keyvals (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩) 512 2 rfl (by decide) (fun l => (k0_pay44 (k0_pay30 (k0_pay9 (View.ld (iblk m c 0 t) r0_0) (View.ld (iblk m c 1 t) r0_3)) (View.ld (iblk m c 3 t) r0_17)) (View.ld (iblk m c 6 t) r0_19)) (ix2 y ⟨256 + l.val, by omega⟩))
    (fun l h => (values_at m c t y _).trans (congrArg _ (Fin.ext (show (256 + l.val) / 64 * 128 + (64 + (256 + l.val) % 64) = 512 + (64 + l.val) by omega)))) l e (by omega)

theorem mv5_point (t : Fin cfg0.N) (r : Fin 704) (l : Fin 128) (y : Fin 704) (e : Fin 1024) (hy : y.val = r.val) (he : e.val = 640 + l.val) :
    k0_pay51 (k0_pay44 (k0_pay30 (k0_pay9 (View.ld (iblk m c 0 t) r0_0) (View.ld (iblk m c 1 t) r0_3)) (View.ld (iblk m c 3 t) r0_17)) (View.ld (iblk m c 6 t) r0_19)) (iota .tc S704x128 32 [1] iota_S704x128_d1_w32) (ix3 0 r l) = mvRow (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩ e := by
  obtain rfl : y = r := Fin.ext hy
  rw [mv5_at]
  exact mv_odd (keyvals (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩) 640 2 rfl (by decide) (fun l => (k0_pay44 (k0_pay30 (k0_pay9 (View.ld (iblk m c 0 t) r0_0) (View.ld (iblk m c 1 t) r0_3)) (View.ld (iblk m c 3 t) r0_17)) (View.ld (iblk m c 6 t) r0_19)) (ix2 y ⟨256 + l.val, by omega⟩))
    (fun l h => (values_at m c t y _).trans (congrArg _ (Fin.ext (show (256 + l.val) / 64 * 128 + (64 + (256 + l.val) % 64) = 640 + l.val by omega)))) l e (by omega)

theorem mv6_point (t : Fin cfg0.N) (r : Fin 704) (l : Fin 128) (y : Fin 704) (e : Fin 1024) (hy : y.val = r.val) (he : e.val = 768 + l.val) :
    k0_pay53 (iota .tc S704x128 32 [1] iota_S704x128_d1_w32) (k0_pay52 (k0_pay44 (k0_pay30 (k0_pay9 (View.ld (iblk m c 0 t) r0_0) (View.ld (iblk m c 1 t) r0_3)) (View.ld (iblk m c 3 t) r0_17)) (View.ld (iblk m c 6 t) r0_19))) (ix3 0 r l) = mvRow (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩ e := by
  obtain rfl : y = r := Fin.ext hy
  rw [mv6_at]
  exact mv_even (keyvals (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩) 768 3 rfl (by decide) (fun l => (k0_pay44 (k0_pay30 (k0_pay9 (View.ld (iblk m c 0 t) r0_0) (View.ld (iblk m c 1 t) r0_3)) (View.ld (iblk m c 3 t) r0_17)) (View.ld (iblk m c 6 t) r0_19)) (ix2 y ⟨384 + l.val, by omega⟩))
    (fun l h => (values_at m c t y _).trans (congrArg _ (Fin.ext (show (384 + l.val) / 64 * 128 + (64 + (384 + l.val) % 64) = 768 + (64 + l.val) by omega)))) l e (by omega)

theorem mv7_point (t : Fin cfg0.N) (r : Fin 704) (l : Fin 128) (y : Fin 704) (e : Fin 1024) (hy : y.val = r.val) (he : e.val = 896 + l.val) :
    k0_pay54 (k0_pay44 (k0_pay30 (k0_pay9 (View.ld (iblk m c 0 t) r0_0) (View.ld (iblk m c 1 t) r0_3)) (View.ld (iblk m c 3 t) r0_17)) (View.ld (iblk m c 6 t) r0_19)) (iota .tc S704x128 32 [1] iota_S704x128_d1_w32) (ix3 0 r l) = mvRow (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩ e := by
  obtain rfl : y = r := Fin.ext hy
  rw [mv7_at]
  exact mv_odd (keyvals (m ((c.tc : Thread nD τ).loc main_arg0)) (m ((c.tc : Thread nD τ).loc main_arg1)) (m ((c.tc : Thread nD τ).loc main_arg3)) (m ((c.tc : Thread nD τ).loc main_arg5)) ⟨t.val / 6, lt_div t⟩ ⟨(t.val % 6) * 704 + y.val, by omega⟩) 896 3 rfl (by decide) (fun l => (k0_pay44 (k0_pay30 (k0_pay9 (View.ld (iblk m c 0 t) r0_0) (View.ld (iblk m c 1 t) r0_3)) (View.ld (iblk m c 3 t) r0_17)) (View.ld (iblk m c 6 t) r0_19)) (ix2 y ⟨384 + l.val, by omega⟩))
    (fun l h => (values_at m c t y _).trans (congrArg _ (Fin.ext (show (384 + l.val) / 64 * 128 + (64 + (384 + l.val) % 64) = 896 + l.val by omega)))) l e (by omega)

theorem rq0_point (t : Fin cfg0.N) (r : Fin 704) (l : Fin 128) (y : Fin 704) (e : Fin 256) (hy : y.val = r.val) (he : e.val = l.val) :
    k0_pay61 (k0_pay59 (k0_pay4 (View.ld (iblk m c 0 t) r0_0)) (View.ld (iblk m c 1 t) r0_20)) (k0_pay60 (View.ld (iblk m c 8 t) r0_6)) (View.ld (iblk m c 8 t) r0_7) (View.ld (iblk m c 8 t) r0_8) (ix3 0 r l) = rqRow (m ((c.tc : Thread nD τ).loc main_arg0)) (m ((c.tc : Thread nD τ).loc main_arg1)) ⟨t.val / 6, lt_div t⟩ ⟨(t.val % 6) * 704 + y.val, by omega⟩ e := by
  obtain rfl : y = r := Fin.ext hy
  have hp := proj_hi (View.ld (iblk m c 0 t) r0_0) (View.ld (iblk m c 1 t) r0_20) y _ (fun k j => m ((c.tc : Thread nD τ).loc main_arg1) (ix3 3 k j)) (blk0 m c t y) (blk1_2 m c t)
  change ∀ j, _ = winPad (cols (m ((c.tc : Thread nD τ).loc main_arg0)) (m ((c.tc : Thread nD τ).loc main_arg1)) ⟨t.val / 6, lt_div t⟩ ⟨(t.val % 6) * 704 + y.val, by omega⟩) _ at hp
  rw [rq0_at]
  simp only [blk8_0, blk8_1, blk8_2, pay57_at, hp]
  exact turn_gen (cols (m ((c.tc : Thread nD τ).loc main_arg0)) (m ((c.tc : Thread nD τ).loc main_arg1)) ⟨t.val / 6, lt_div t⟩ ⟨(t.val % 6) * 704 + y.val, by omega⟩) (angle 0x42000000#32 ⟨(t.val % 6) * 704 + y.val, by omega⟩) 2208 0 (by decide) (by decide) _
    (fun l => winPad_hi _ _ _ (show 2304 ≤ 2304 + (l.val) by omega) (show 2208 + (0 + l.val) + 96 = 2304 + (l.val) by omega)) l e (by omega)

theorem rq1_point (t : Fin cfg0.N) (r : Fin 704) (l : Fin 128) (y : Fin 704) (e : Fin 256) (hy : y.val = r.val) (he : e.val = 128 + l.val) :
    k0_pay64 (k0_pay63 (k0_pay57 (k0_pay4 (View.ld (iblk m c 0 t) r0_0)) (View.ld (iblk m c 1 t) r0_20))) (View.ld (iblk m c 8 t) r0_6) (View.ld (iblk m c 8 t) r0_7) (View.ld (iblk m c 8 t) r0_8) (ix3 0 r l) = rqRow (m ((c.tc : Thread nD τ).loc main_arg0)) (m ((c.tc : Thread nD τ).loc main_arg1)) ⟨t.val / 6, lt_div t⟩ ⟨(t.val % 6) * 704 + y.val, by omega⟩ e := by
  obtain rfl : y = r := Fin.ext hy
  have hp := proj_hi (View.ld (iblk m c 0 t) r0_0) (View.ld (iblk m c 1 t) r0_20) y _ (fun k j => m ((c.tc : Thread nD τ).loc main_arg1) (ix3 3 k j)) (blk0 m c t y) (blk1_2 m c t)
  change ∀ j, _ = winPad (cols (m ((c.tc : Thread nD τ).loc main_arg0)) (m ((c.tc : Thread nD τ).loc main_arg1)) ⟨t.val / 6, lt_div t⟩ ⟨(t.val % 6) * 704 + y.val, by omega⟩) _ at hp
  rw [rq1_at]
  simp only [blk8_0, blk8_1, blk8_2, pay57_at, hp]
  exact turn_gen (cols (m ((c.tc : Thread nD τ).loc main_arg0)) (m ((c.tc : Thread nD τ).loc main_arg1)) ⟨t.val / 6, lt_div t⟩ ⟨(t.val % 6) * 704 + y.val, by omega⟩) (angle 0x42000000#32 ⟨(t.val % 6) * 704 + y.val, by omega⟩) 2208 128 (by decide) (by decide) _
    (fun l => winPad_hi _ _ _ (show 2304 ≤ 2304 + (128 + l.val) by omega) (show 2208 + (128 + l.val) + 96 = 2304 + (128 + l.val) by omega)) l e (by omega)

theorem rk0_point (t : Fin cfg0.N) (r : Fin 704) (l : Fin 128) (y : Fin 704) (e : Fin 256) (hy : y.val = r.val) (he : e.val = l.val) :
    k0_pay62 (k0_pay55 (BitVec.ofNat 32 (grid0.coords t 1).val)) (k0_pay58 (k0_pay4 (View.ld (iblk m c 0 t) r0_0)) (View.ld (iblk m c 1 t) r0_20)) (View.ld (iblk m c 8 t) r0_6) (View.ld (iblk m c 8 t) r0_7) (View.ld (iblk m c 8 t) r0_8) (ix3 0 r l) = rkRow (m ((c.tc : Thread nD τ).loc main_arg0)) (m ((c.tc : Thread nD τ).loc main_arg1)) ⟨t.val / 6, lt_div t⟩ ⟨(t.val % 6) * 704 + y.val, by omega⟩ e := by
  obtain rfl : y = r := Fin.ext hy
  have hp := proj_hi (View.ld (iblk m c 0 t) r0_0) (View.ld (iblk m c 1 t) r0_20) y _ (fun k j => m ((c.tc : Thread nD τ).loc main_arg1) (ix3 3 k j)) (blk0 m c t y) (blk1_2 m c t)
  change ∀ j, _ = winPad (cols (m ((c.tc : Thread nD τ).loc main_arg0)) (m ((c.tc : Thread nD τ).loc main_arg1)) ⟨t.val / 6, lt_div t⟩ ⟨(t.val % 6) * 704 + y.val, by omega⟩) _ at hp
  rw [rk0_at, scale_at, coord, mul_select, mask_eq ⟨t.val % 6, Nat.mod_lt _ (by decide)⟩ y]
  simp only [blk8_0, blk8_1, blk8_2, pay58_at, hp]
  exact congrArg (fun z => Scalar.select _ (z * Ideal.ofBits .f32 0x3E000000#32) 0) (turn_gen (cols (m ((c.tc : Thread nD τ).loc main_arg0)) (m ((c.tc : Thread nD τ).loc main_arg1)) ⟨t.val / 6, lt_div t⟩ ⟨(t.val % 6) * 704 + y.val, by omega⟩) (angle 0x42000000#32 ⟨(t.val % 6) * 704 + y.val, by omega⟩) 2464 0 (by decide) (by decide) _
    (fun l => winPad_hi _ _ _ (show 2304 ≤ 2304 + (256 + (l.val)) by omega) (show 2464 + (0 + l.val) + 96 = 2304 + (256 + (l.val)) by omega)) l e (by omega))

theorem rk1_point (t : Fin cfg0.N) (r : Fin 704) (l : Fin 128) (y : Fin 704) (e : Fin 256) (hy : y.val = r.val) (he : e.val = 128 + l.val) :
    k0_pay1 (k0_pay65 (k0_pay55 (BitVec.ofNat 32 (grid0.coords t 1).val)) (k0_pay58 (k0_pay4 (View.ld (iblk m c 0 t) r0_0)) (View.ld (iblk m c 1 t) r0_20)) (View.ld (iblk m c 8 t) r0_6) (View.ld (iblk m c 8 t) r0_7) (View.ld (iblk m c 8 t) r0_8)) (ix3 0 r l) = rkRow (m ((c.tc : Thread nD τ).loc main_arg0)) (m ((c.tc : Thread nD τ).loc main_arg1)) ⟨t.val / 6, lt_div t⟩ ⟨(t.val % 6) * 704 + y.val, by omega⟩ e := by
  obtain rfl : y = r := Fin.ext hy
  have hp := proj_hi (View.ld (iblk m c 0 t) r0_0) (View.ld (iblk m c 1 t) r0_20) y _ (fun k j => m ((c.tc : Thread nD τ).loc main_arg1) (ix3 3 k j)) (blk0 m c t y) (blk1_2 m c t)
  change ∀ j, _ = winPad (cols (m ((c.tc : Thread nD τ).loc main_arg0)) (m ((c.tc : Thread nD τ).loc main_arg1)) ⟨t.val / 6, lt_div t⟩ ⟨(t.val % 6) * 704 + y.val, by omega⟩) _ at hp
  rw [rk1_at, scale_at, coord, mul_select, mask_eq ⟨t.val % 6, Nat.mod_lt _ (by decide)⟩ y]
  simp only [blk8_0, blk8_1, blk8_2, pay58_at, hp]
  exact congrArg (fun z => Scalar.select _ (z * Ideal.ofBits .f32 0x3E000000#32) 0) (turn_gen (cols (m ((c.tc : Thread nD τ).loc main_arg0)) (m ((c.tc : Thread nD τ).loc main_arg1)) ⟨t.val / 6, lt_div t⟩ ⟨(t.val % 6) * 704 + y.val, by omega⟩) (angle 0x42000000#32 ⟨(t.val % 6) * 704 + y.val, by omega⟩) 2464 128 (by decide) (by decide) _
    (fun l => winPad_hi _ _ _ (show 2304 ≤ 2304 + (256 + (128 + l.val)) by omega) (show 2464 + (128 + l.val) + 96 = 2304 + (256 + (128 + l.val)) by omega)) l e (by omega))

end Cert.ProjKernelIdeal.Pure

end
-- ==== Proof.ProjValue.lean ====
/- The projection call: the ten arrays after the run are the reference's results. -/
module

public import proofs.«01_k».proof.Proof.ProjPoint
public import proofs.«01_k».proof.Proof.Gen.ProjReferenceIdeal.Run
public import Idealize.ShloMosaic.Lib.Claim

@[expose] public section

set_option maxRecDepth 16384

noncomputable section

open Idealize.ShloMosaic Idealize.ShloMosaic.TcCoe Idealize.SL.Sem

namespace Cert.ProjKernelIdeal.Pure

open Cert.ProjKernelIdeal Cert.ProjKernelIdeal.Gen
open Cert.ProjReferenceIdeal.Pure (sbq sbk sbv mq mk mv rq rk rv rg)

theorem emb9 (t : Fin cfg0.N) (r : Fin 704) (d : Fin 512) :
    (win0_9.blk t).view.emb (ix3 0 r d) = ix3 ⟨t.val / 6, lt_div t⟩ ⟨(t.val % 6) * 704 + r.val, by omega⟩ d := by
  have h := (idx_out t).1
  funext a
  apply Fin.ext
  fin_cases a <;> blk_simp [h] <;> rfl

theorem emb10 (t : Fin cfg0.N) (r : Fin 704) (d : Fin 512) :
    (win0_10.blk t).view.emb (ix3 0 r d) = ix3 ⟨t.val / 6, lt_div t⟩ ⟨(t.val % 6) * 704 + r.val, by omega⟩ d := by
  have h := (idx_out t).2.1
  funext a
  apply Fin.ext
  fin_cases a <;> blk_simp [h] <;> rfl

theorem emb11 (t : Fin cfg0.N) (r : Fin 704) (d : Fin 512) :
    (win0_11.blk t).view.emb (ix3 0 r d) = ix3 ⟨t.val / 6, lt_div t⟩ ⟨(t.val % 6) * 704 + r.val, by omega⟩ d := by
  have h := (idx_out t).2.2.1
  funext a
  apply Fin.ext
  fin_cases a <;> blk_simp [h] <;> rfl

theorem emb12 (t : Fin cfg0.N) (r : Fin 704) (d : Fin 1024) :
    (win0_12.blk t).view.emb (ix3 0 r d) = ix3 ⟨t.val / 6, lt_div t⟩ ⟨(t.val % 6) * 704 + r.val, by omega⟩ d := by
  have h := (idx_out t).2.2.2.1
  funext a
  apply Fin.ext
  fin_cases a <;> blk_simp [h] <;> rfl

theorem emb13 (t : Fin cfg0.N) (r : Fin 704) (d : Fin 1024) :
    (win0_13.blk t).view.emb (ix3 0 r d) = ix3 ⟨t.val / 6, lt_div t⟩ ⟨(t.val % 6) * 704 + r.val, by omega⟩ d := by
  have h := (idx_out t).2.2.2.2.1
  funext a
  apply Fin.ext
  fin_cases a <;> blk_simp [h] <;> rfl

theorem emb14 (t : Fin cfg0.N) (r : Fin 704) (d : Fin 1024) :
    (win0_14.blk t).view.emb (ix3 0 r d) = ix3 ⟨t.val / 6, lt_div t⟩ ⟨(t.val % 6) * 704 + r.val, by omega⟩ d := by
  have h := (idx_out t).2.2.2.2.2.1
  funext a
  apply Fin.ext
  fin_cases a <;> blk_simp [h] <;> rfl

theorem emb15 (t : Fin cfg0.N) (r : Fin 704) (d : Fin 256) :
    (win0_15.blk t).view.emb (ix3 0 r d) = ix3 ⟨t.val / 6, lt_div t⟩ ⟨(t.val % 6) * 704 + r.val, by omega⟩ d := by
  have h := (idx_out t).2.2.2.2.2.2.1
  funext a
  apply Fin.ext
  fin_cases a <;> blk_simp [h] <;> rfl

theorem emb16 (t : Fin cfg0.N) (r : Fin 704) (d : Fin 256) :
    (win0_16.blk t).view.emb (ix3 0 r d) = ix3 ⟨t.val / 6, lt_div t⟩ ⟨(t.val % 6) * 704 + r.val, by omega⟩ d := by
  have h := (idx_out t).2.2.2.2.2.2.2.1
  funext a
  apply Fin.ext
  fin_cases a <;> blk_simp [h] <;> rfl

theorem emb17 (t : Fin cfg0.N) (r : Fin 704) (d : Fin 512) :
    (win0_17.blk t).view.emb (ix3 0 r d) = ix3 ⟨t.val / 6, lt_div t⟩ ⟨(t.val % 6) * 704 + r.val, by omega⟩ d := by
  have h := (idx_out t).2.2.2.2.2.2.2.2.1
  funext a
  apply Fin.ext
  fin_cases a <;> blk_simp [h] <;> rfl

theorem emb18 (t : Fin cfg0.N) (r : Fin 704) (d : Fin 512) :
    (win0_18.blk t).view.emb (ix3 0 r d) = ix3 ⟨t.val / 6, lt_div t⟩ ⟨(t.val % 6) * 704 + r.val, by omega⟩ d := by
  have h := (idx_out t).2.2.2.2.2.2.2.2.2
  funext a
  apply Fin.ext
  fin_cases a <;> blk_simp [h] <;> rfl

variable (m : (ℓ : Loc nD τ sig) → Buf (Elt Ideal) ℓ)

theorem final_sbq (c : Dev nD) : (dats m 0 c).arrAt 9 (cfgs 0).N = sbq (m ((c.tc : Thread nD τ).loc main_arg0)) (m ((c.tc : Thread nD τ).loc main_arg1)) := by
  refine (dats m 0 c).arrAt_eq_of_covers 9 _ (by decide +kernel) fun t _ y => ?_
  blk_simp
  rw [after0_9]
  idx_vars y
  obtain rfl : y0 = 0 := Subsingleton.elim _ _
  refine Eq.trans ?_ (congrArg _ (emb9 t _ _).symm)
  canon_tiles x h
  · idx_vars x
    obtain rfl : x0 = 0 := Subsingleton.elim _ _
    exact sbq_point m c t x1 x2 y1 y2 h1 h2

theorem final_sbk (c : Dev nD) : (dats m 0 c).arrAt 10 (cfgs 0).N = sbk (m ((c.tc : Thread nD τ).loc main_arg0)) (m ((c.tc : Thread nD τ).loc main_arg1)) := by
  refine (dats m 0 c).arrAt_eq_of_covers 10 _ (by decide +kernel) fun t _ y => ?_
  blk_simp
  rw [after0_10]
  idx_vars y
  obtain rfl : y0 = 0 := Subsingleton.elim _ _
  refine Eq.trans ?_ (congrArg _ (emb10 t _ _).symm)
  canon_tiles x h
  · idx_vars x
    obtain rfl : x0 = 0 := Subsingleton.elim _ _
    exact sbk_point m c t x1 x2 y1 y2 h1 h2

theorem final_sbv (c : Dev nD) : (dats m 0 c).arrAt 11 (cfgs 0).N = sbv (m ((c.tc : Thread nD τ).loc main_arg0)) (m ((c.tc : Thread nD τ).loc main_arg1)) := by
  refine (dats m 0 c).arrAt_eq_of_covers 11 _ (by decide +kernel) fun t _ y => ?_
  blk_simp
  rw [after0_11]
  idx_vars y
  obtain rfl : y0 = 0 := Subsingleton.elim _ _
  refine Eq.trans ?_ (congrArg _ (emb11 t _ _).symm)
  canon_tiles x h
  · idx_vars x
    obtain rfl : x0 = 0 := Subsingleton.elim _ _
    exact sbv_point m c t x1 x2 y1 y2 h1 h2

theorem final_mq (c : Dev nD) : (dats m 0 c).arrAt 12 (cfgs 0).N = mq (m ((c.tc : Thread nD τ).loc main_arg0)) (m ((c.tc : Thread nD τ).loc main_arg1)) (m ((c.tc : Thread nD τ).loc main_arg2)) (m ((c.tc : Thread nD τ).loc main_arg4)) := by
  refine (dats m 0 c).arrAt_eq_of_covers 12 _ (by decide +kernel) fun t _ y => ?_
  blk_simp
  rw [after0_12]
  idx_vars y
  obtain rfl : y0 = 0 := Subsingleton.elim _ _
  refine Eq.trans ?_ (congrArg _ (emb12 t _ _).symm)
  canon_tiles x h
  · idx_vars x
    obtain rfl : x0 = 0 := Subsingleton.elim _ _
    exact mq7_point m c t x1 x2 y1 y2 h1 h2
  · idx_vars x
    obtain rfl : x0 = 0 := Subsingleton.elim _ _
    exact mq6_point m c t x1 x2 y1 y2 h1 h2
  · idx_vars x
    obtain rfl : x0 = 0 := Subsingleton.elim _ _
    exact mq5_point m c t x1 x2 y1 y2 h1 h2
  · idx_vars x
    obtain rfl : x0 = 0 := Subsingleton.elim _ _
    exact mq4_point m c t x1 x2 y1 y2 h1 h2
  · idx_vars x
    obtain rfl : x0 = 0 := Subsingleton.elim _ _
    exact mq3_point m c t x1 x2 y1 y2 h1 h2
  · idx_vars x
    obtain rfl : x0 = 0 := Subsingleton.elim _ _
    exact mq2_point m c t x1 x2 y1 y2 h1 h2
  · idx_vars x
    obtain rfl : x0 = 0 := Subsingleton.elim _ _
    exact mq1_point m c t x1 x2 y1 y2 h1 h2
  · idx_vars x
    obtain rfl : x0 = 0 := Subsingleton.elim _ _
    exact mq0_point m c t x1 x2 y1 y2 h1 h2

theorem final_mk (c : Dev nD) : (dats m 0 c).arrAt 13 (cfgs 0).N = mk (m ((c.tc : Thread nD τ).loc main_arg0)) (m ((c.tc : Thread nD τ).loc main_arg1)) (m ((c.tc : Thread nD τ).loc main_arg3)) (m ((c.tc : Thread nD τ).loc main_arg5)) := by
  refine (dats m 0 c).arrAt_eq_of_covers 13 _ (by decide +kernel) fun t _ y => ?_
  blk_simp
  rw [after0_13]
  idx_vars y
  obtain rfl : y0 = 0 := Subsingleton.elim _ _
  refine Eq.trans ?_ (congrArg _ (emb13 t _ _).symm)
  canon_tiles x h
  · idx_vars x
    obtain rfl : x0 = 0 := Subsingleton.elim _ _
    exact mk7_point m c t x1 x2 y1 y2 h1 h2
  · idx_vars x
    obtain rfl : x0 = 0 := Subsingleton.elim _ _
    exact mk6_point m c t x1 x2 y1 y2 h1 h2
  · idx_vars x
    obtain rfl : x0 = 0 := Subsingleton.elim _ _
    exact mk5_point m c t x1 x2 y1 y2 h1 h2
  · idx_vars x
    obtain rfl : x0 = 0 := Subsingleton.elim _ _
    exact mk4_point m c t x1 x2 y1 y2 h1 h2
  · idx_vars x
    obtain rfl : x0 = 0 := Subsingleton.elim _ _
    exact mk3_point m c t x1 x2 y1 y2 h1 h2
  · idx_vars x
    obtain rfl : x0 = 0 := Subsingleton.elim _ _
    exact mk2_point m c t x1 x2 y1 y2 h1 h2
  · idx_vars x
    obtain rfl : x0 = 0 := Subsingleton.elim _ _
    exact mk1_point m c t x1 x2 y1 y2 h1 h2
  · idx_vars x
    obtain rfl : x0 = 0 := Subsingleton.elim _ _
    exact mk0_point m c t x1 x2 y1 y2 h1 h2

theorem final_mv (c : Dev nD) : (dats m 0 c).arrAt 14 (cfgs 0).N = mv (m ((c.tc : Thread nD τ).loc main_arg0)) (m ((c.tc : Thread nD τ).loc main_arg1)) (m ((c.tc : Thread nD τ).loc main_arg3)) (m ((c.tc : Thread nD τ).loc main_arg5)) := by
  refine (dats m 0 c).arrAt_eq_of_covers 14 _ (by decide +kernel) fun t _ y => ?_
  blk_simp
  rw [after0_14]
  idx_vars y
  obtain rfl : y0 = 0 := Subsingleton.elim _ _
  refine Eq.trans ?_ (congrArg _ (emb14 t _ _).symm)
  canon_tiles x h
  · idx_vars x
    obtain rfl : x0 = 0 := Subsingleton.elim _ _
    exact mv7_point m c t x1 x2 y1 y2 h1 h2
  · idx_vars x
    obtain rfl : x0 = 0 := Subsingleton.elim _ _
    exact mv6_point m c t x1 x2 y1 y2 h1 h2
  · idx_vars x
    obtain rfl : x0 = 0 := Subsingleton.elim _ _
    exact mv5_point m c t x1 x2 y1 y2 h1 h2
  · idx_vars x
    obtain rfl : x0 = 0 := Subsingleton.elim _ _
    exact mv4_point m c t x1 x2 y1 y2 h1 h2
  · idx_vars x
    obtain rfl : x0 = 0 := Subsingleton.elim _ _
    exact mv3_point m c t x1 x2 y1 y2 h1 h2
  · idx_vars x
    obtain rfl : x0 = 0 := Subsingleton.elim _ _
    exact mv2_point m c t x1 x2 y1 y2 h1 h2
  · idx_vars x
    obtain rfl : x0 = 0 := Subsingleton.elim _ _
    exact mv1_point m c t x1 x2 y1 y2 h1 h2
  · idx_vars x
    obtain rfl : x0 = 0 := Subsingleton.elim _ _
    exact mv0_point m c t x1 x2 y1 y2 h1 h2

theorem final_rq (c : Dev nD) : (dats m 0 c).arrAt 15 (cfgs 0).N = rq (m ((c.tc : Thread nD τ).loc main_arg0)) (m ((c.tc : Thread nD τ).loc main_arg1)) := by
  refine (dats m 0 c).arrAt_eq_of_covers 15 _ (by decide +kernel) fun t _ y => ?_
  blk_simp
  rw [after0_15]
  idx_vars y
  obtain rfl : y0 = 0 := Subsingleton.elim _ _
  refine Eq.trans ?_ (congrArg _ (emb15 t _ _).symm)
  canon_tiles x h
  · idx_vars x
    obtain rfl : x0 = 0 := Subsingleton.elim _ _
    exact rq1_point m c t x1 x2 y1 y2 h1 h2
  · idx_vars x
    obtain rfl : x0 = 0 := Subsingleton.elim _ _
    exact rq0_point m c t x1 x2 y1 y2 h1 h2

theorem final_rk (c : Dev nD) : (dats m 0 c).arrAt 16 (cfgs 0).N = rk (m ((c.tc : Thread nD τ).loc main_arg0)) (m ((c.tc : Thread nD τ).loc main_arg1)) := by
  refine (dats m 0 c).arrAt_eq_of_covers 16 _ (by decide +kernel) fun t _ y => ?_
  blk_simp
  rw [after0_16]
  idx_vars y
  obtain rfl : y0 = 0 := Subsingleton.elim _ _
  refine Eq.trans ?_ (congrArg _ (emb16 t _ _).symm)
  canon_tiles x h
  · idx_vars x
    obtain rfl : x0 = 0 := Subsingleton.elim _ _
    exact rk1_point m c t x1 x2 y1 y2 h1 h2
  · idx_vars x
    obtain rfl : x0 = 0 := Subsingleton.elim _ _
    exact rk0_point m c t x1 x2 y1 y2 h1 h2

theorem final_rv (c : Dev nD) : (dats m 0 c).arrAt 17 (cfgs 0).N = rv (m ((c.tc : Thread nD τ).loc main_arg0)) (m ((c.tc : Thread nD τ).loc main_arg1)) := by
  refine (dats m 0 c).arrAt_eq_of_covers 17 _ (by decide +kernel) fun t _ y => ?_
  blk_simp
  rw [after0_17]
  idx_vars y
  obtain rfl : y0 = 0 := Subsingleton.elim _ _
  refine Eq.trans ?_ (congrArg _ (emb17 t _ _).symm)
  canon_tiles x h
  · idx_vars x
    obtain rfl : x0 = 0 := Subsingleton.elim _ _
    exact rv_point m c t x1 x2 y1 y2 h1 h2

theorem final_rg (c : Dev nD) : (dats m 0 c).arrAt 18 (cfgs 0).N = rg (m ((c.tc : Thread nD τ).loc main_arg0)) (m ((c.tc : Thread nD τ).loc main_arg1)) := by
  refine (dats m 0 c).arrAt_eq_of_covers 18 _ (by decide +kernel) fun t _ y => ?_
  blk_simp
  rw [after0_18]
  idx_vars y
  obtain rfl : y0 = 0 := Subsingleton.elim _ _
  refine Eq.trans ?_ (congrArg _ (emb18 t _ _).symm)
  canon_tiles x h
  · idx_vars x
    obtain rfl : x0 = 0 := Subsingleton.elim _ _
    exact rg_point m c t x1 x2 y1 y2 h1 h2

variable (m' : (ℓ : Loc Cert.ProjReferenceIdeal.nD Cert.ProjReferenceIdeal.τ Cert.ProjReferenceIdeal.sig) → Buf (Elt Ideal) ℓ)

theorem reference_sbq (c : Dev nD) (h0 : m' ((c.tc : Thread Cert.ProjReferenceIdeal.nD Cert.ProjReferenceIdeal.τ).loc Cert.ProjReferenceIdeal.main_arg0) = m ((c.tc : Thread nD τ).loc main_arg0)) (h1 : m' ((c.tc : Thread Cert.ProjReferenceIdeal.nD Cert.ProjReferenceIdeal.τ).loc Cert.ProjReferenceIdeal.main_arg1) = m ((c.tc : Thread nD τ).loc main_arg1)) :
    Cert.ProjReferenceIdeal.Read.val_main_v212 (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) = sbq (m ((c.tc : Thread nD τ).loc main_arg0)) (m ((c.tc : Thread nD τ).loc main_arg1)) := by
  refine (Cert.ProjReferenceIdeal.Pure.sbq_eq (Idealize.ShloMosaic.StableHlo.launchContents m' c)).trans ?_
  change sbq (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) = _
  rw [h0, h1]

theorem reference_sbk (c : Dev nD) (h0 : m' ((c.tc : Thread Cert.ProjReferenceIdeal.nD Cert.ProjReferenceIdeal.τ).loc Cert.ProjReferenceIdeal.main_arg0) = m ((c.tc : Thread nD τ).loc main_arg0)) (h1 : m' ((c.tc : Thread Cert.ProjReferenceIdeal.nD Cert.ProjReferenceIdeal.τ).loc Cert.ProjReferenceIdeal.main_arg1) = m ((c.tc : Thread nD τ).loc main_arg1)) :
    Cert.ProjReferenceIdeal.Read.val_main_v213 (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) = sbk (m ((c.tc : Thread nD τ).loc main_arg0)) (m ((c.tc : Thread nD τ).loc main_arg1)) := by
  refine (Cert.ProjReferenceIdeal.Pure.sbk_eq (Idealize.ShloMosaic.StableHlo.launchContents m' c)).trans ?_
  change sbk (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) = _
  rw [h0, h1]

theorem reference_sbv (c : Dev nD) (h0 : m' ((c.tc : Thread Cert.ProjReferenceIdeal.nD Cert.ProjReferenceIdeal.τ).loc Cert.ProjReferenceIdeal.main_arg0) = m ((c.tc : Thread nD τ).loc main_arg0)) (h1 : m' ((c.tc : Thread Cert.ProjReferenceIdeal.nD Cert.ProjReferenceIdeal.τ).loc Cert.ProjReferenceIdeal.main_arg1) = m ((c.tc : Thread nD τ).loc main_arg1)) :
    Cert.ProjReferenceIdeal.Read.val_main_v214 (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) = sbv (m ((c.tc : Thread nD τ).loc main_arg0)) (m ((c.tc : Thread nD τ).loc main_arg1)) := by
  refine (Cert.ProjReferenceIdeal.Pure.sbv_eq (Idealize.ShloMosaic.StableHlo.launchContents m' c)).trans ?_
  change sbv (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) = _
  rw [h0, h1]

theorem reference_mq (c : Dev nD) (h0 : m' ((c.tc : Thread Cert.ProjReferenceIdeal.nD Cert.ProjReferenceIdeal.τ).loc Cert.ProjReferenceIdeal.main_arg0) = m ((c.tc : Thread nD τ).loc main_arg0)) (h1 : m' ((c.tc : Thread Cert.ProjReferenceIdeal.nD Cert.ProjReferenceIdeal.τ).loc Cert.ProjReferenceIdeal.main_arg1) = m ((c.tc : Thread nD τ).loc main_arg1)) (h2 : m' ((c.tc : Thread Cert.ProjReferenceIdeal.nD Cert.ProjReferenceIdeal.τ).loc Cert.ProjReferenceIdeal.main_arg2) = m ((c.tc : Thread nD τ).loc main_arg2)) (h4 : m' ((c.tc : Thread Cert.ProjReferenceIdeal.nD Cert.ProjReferenceIdeal.τ).loc Cert.ProjReferenceIdeal.main_arg4) = m ((c.tc : Thread nD τ).loc main_arg4)) :
    Cert.ProjReferenceIdeal.Read.val_main_v216 (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2)) (m' ((c.tc : Thread Cert.ProjReferenceIdeal.nD Cert.ProjReferenceIdeal.τ).loc Cert.ProjReferenceIdeal.main_arg4)) = mq (m ((c.tc : Thread nD τ).loc main_arg0)) (m ((c.tc : Thread nD τ).loc main_arg1)) (m ((c.tc : Thread nD τ).loc main_arg2)) (m ((c.tc : Thread nD τ).loc main_arg4)) := by
  refine (Cert.ProjReferenceIdeal.Pure.mq_eq (Idealize.ShloMosaic.StableHlo.launchContents m' c)).trans ?_
  change mq (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2)) (m' ((c.tc : Thread Cert.ProjReferenceIdeal.nD Cert.ProjReferenceIdeal.τ).loc Cert.ProjReferenceIdeal.main_arg4)) = _
  rw [h0, h1, h2, h4]

theorem reference_mk (c : Dev nD) (h0 : m' ((c.tc : Thread Cert.ProjReferenceIdeal.nD Cert.ProjReferenceIdeal.τ).loc Cert.ProjReferenceIdeal.main_arg0) = m ((c.tc : Thread nD τ).loc main_arg0)) (h1 : m' ((c.tc : Thread Cert.ProjReferenceIdeal.nD Cert.ProjReferenceIdeal.τ).loc Cert.ProjReferenceIdeal.main_arg1) = m ((c.tc : Thread nD τ).loc main_arg1)) (h3 : m' ((c.tc : Thread Cert.ProjReferenceIdeal.nD Cert.ProjReferenceIdeal.τ).loc Cert.ProjReferenceIdeal.main_arg3) = m ((c.tc : Thread nD τ).loc main_arg3)) (h5 : m' ((c.tc : Thread Cert.ProjReferenceIdeal.nD Cert.ProjReferenceIdeal.τ).loc Cert.ProjReferenceIdeal.main_arg5) = m ((c.tc : Thread nD τ).loc main_arg5)) :
    Cert.ProjReferenceIdeal.Read.val_main_v218 (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg3)) (m' ((c.tc : Thread Cert.ProjReferenceIdeal.nD Cert.ProjReferenceIdeal.τ).loc Cert.ProjReferenceIdeal.main_arg5)) = mk (m ((c.tc : Thread nD τ).loc main_arg0)) (m ((c.tc : Thread nD τ).loc main_arg1)) (m ((c.tc : Thread nD τ).loc main_arg3)) (m ((c.tc : Thread nD τ).loc main_arg5)) := by
  refine (Cert.ProjReferenceIdeal.Pure.mk_eq (Idealize.ShloMosaic.StableHlo.launchContents m' c)).trans ?_
  change mk (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg3)) (m' ((c.tc : Thread Cert.ProjReferenceIdeal.nD Cert.ProjReferenceIdeal.τ).loc Cert.ProjReferenceIdeal.main_arg5)) = _
  rw [h0, h1, h3, h5]

theorem reference_mv (c : Dev nD) (h0 : m' ((c.tc : Thread Cert.ProjReferenceIdeal.nD Cert.ProjReferenceIdeal.τ).loc Cert.ProjReferenceIdeal.main_arg0) = m ((c.tc : Thread nD τ).loc main_arg0)) (h1 : m' ((c.tc : Thread Cert.ProjReferenceIdeal.nD Cert.ProjReferenceIdeal.τ).loc Cert.ProjReferenceIdeal.main_arg1) = m ((c.tc : Thread nD τ).loc main_arg1)) (h3 : m' ((c.tc : Thread Cert.ProjReferenceIdeal.nD Cert.ProjReferenceIdeal.τ).loc Cert.ProjReferenceIdeal.main_arg3) = m ((c.tc : Thread nD τ).loc main_arg3)) (h5 : m' ((c.tc : Thread Cert.ProjReferenceIdeal.nD Cert.ProjReferenceIdeal.τ).loc Cert.ProjReferenceIdeal.main_arg5) = m ((c.tc : Thread nD τ).loc main_arg5)) :
    Cert.ProjReferenceIdeal.Read.val_main_v220 (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg3)) (m' ((c.tc : Thread Cert.ProjReferenceIdeal.nD Cert.ProjReferenceIdeal.τ).loc Cert.ProjReferenceIdeal.main_arg5)) = mv (m ((c.tc : Thread nD τ).loc main_arg0)) (m ((c.tc : Thread nD τ).loc main_arg1)) (m ((c.tc : Thread nD τ).loc main_arg3)) (m ((c.tc : Thread nD τ).loc main_arg5)) := by
  refine (Cert.ProjReferenceIdeal.Pure.mv_eq (Idealize.ShloMosaic.StableHlo.launchContents m' c)).trans ?_
  change mv (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg3)) (m' ((c.tc : Thread Cert.ProjReferenceIdeal.nD Cert.ProjReferenceIdeal.τ).loc Cert.ProjReferenceIdeal.main_arg5)) = _
  rw [h0, h1, h3, h5]

theorem reference_rq (c : Dev nD) (h0 : m' ((c.tc : Thread Cert.ProjReferenceIdeal.nD Cert.ProjReferenceIdeal.τ).loc Cert.ProjReferenceIdeal.main_arg0) = m ((c.tc : Thread nD τ).loc main_arg0)) (h1 : m' ((c.tc : Thread Cert.ProjReferenceIdeal.nD Cert.ProjReferenceIdeal.τ).loc Cert.ProjReferenceIdeal.main_arg1) = m ((c.tc : Thread nD τ).loc main_arg1)) :
    Cert.ProjReferenceIdeal.Read.val_main_v222 (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) = rq (m ((c.tc : Thread nD τ).loc main_arg0)) (m ((c.tc : Thread nD τ).loc main_arg1)) := by
  refine (Cert.ProjReferenceIdeal.Pure.rq_eq (Idealize.ShloMosaic.StableHlo.launchContents m' c)).trans ?_
  change rq (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) = _
  rw [h0, h1]

theorem reference_rk (c : Dev nD) (h0 : m' ((c.tc : Thread Cert.ProjReferenceIdeal.nD Cert.ProjReferenceIdeal.τ).loc Cert.ProjReferenceIdeal.main_arg0) = m ((c.tc : Thread nD τ).loc main_arg0)) (h1 : m' ((c.tc : Thread Cert.ProjReferenceIdeal.nD Cert.ProjReferenceIdeal.τ).loc Cert.ProjReferenceIdeal.main_arg1) = m ((c.tc : Thread nD τ).loc main_arg1)) :
    Cert.ProjReferenceIdeal.Read.val_main_v224 (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) = rk (m ((c.tc : Thread nD τ).loc main_arg0)) (m ((c.tc : Thread nD τ).loc main_arg1)) := by
  refine (Cert.ProjReferenceIdeal.Pure.rk_eq (Idealize.ShloMosaic.StableHlo.launchContents m' c)).trans ?_
  change rk (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) = _
  rw [h0, h1]

theorem reference_rv (c : Dev nD) (h0 : m' ((c.tc : Thread Cert.ProjReferenceIdeal.nD Cert.ProjReferenceIdeal.τ).loc Cert.ProjReferenceIdeal.main_arg0) = m ((c.tc : Thread nD τ).loc main_arg0)) (h1 : m' ((c.tc : Thread Cert.ProjReferenceIdeal.nD Cert.ProjReferenceIdeal.τ).loc Cert.ProjReferenceIdeal.main_arg1) = m ((c.tc : Thread nD τ).loc main_arg1)) :
    Cert.ProjReferenceIdeal.Read.val_main_v225 (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) = rv (m ((c.tc : Thread nD τ).loc main_arg0)) (m ((c.tc : Thread nD τ).loc main_arg1)) := by
  refine (Cert.ProjReferenceIdeal.Pure.rv_eq (Idealize.ShloMosaic.StableHlo.launchContents m' c)).trans ?_
  change rv (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) = _
  rw [h0, h1]

theorem reference_rg (c : Dev nD) (h0 : m' ((c.tc : Thread Cert.ProjReferenceIdeal.nD Cert.ProjReferenceIdeal.τ).loc Cert.ProjReferenceIdeal.main_arg0) = m ((c.tc : Thread nD τ).loc main_arg0)) (h1 : m' ((c.tc : Thread Cert.ProjReferenceIdeal.nD Cert.ProjReferenceIdeal.τ).loc Cert.ProjReferenceIdeal.main_arg1) = m ((c.tc : Thread nD τ).loc main_arg1)) :
    Cert.ProjReferenceIdeal.Read.val_main_v226 (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) = rg (m ((c.tc : Thread nD τ).loc main_arg0)) (m ((c.tc : Thread nD τ).loc main_arg1)) := by
  refine (Cert.ProjReferenceIdeal.Pure.rg_eq (Idealize.ShloMosaic.StableHlo.launchContents m' c)).trans ?_
  change rg (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) = _
  rw [h0, h1]

end Cert.ProjKernelIdeal.Pure

end
-- ==== Proof.EmbPure.lean ====
/- What one block of the embedding call computes. -/
module

public import proofs.«01_k».proof.Proof.Spec
public import proofs.«01_k».proof.Proof.Gen.EmbKernelIdeal.Skeleton
public import Idealize.ShloMosaic.Lib.Pointwise

@[expose] public section

set_option maxRecDepth 16384

noncomputable section

open Idealize.ShloMosaic Idealize.ShloMosaic.TcCoe Idealize.SL.Sem

namespace Cert.EmbKernelIdeal.Pure

open Cert.EmbKernelIdeal Cert.EmbKernelIdeal.Gen

/-- A row of a sequence's first block: zeros, then the meta tokens, then the first tokens' rows. -/
def lead (u : Fin 16 → Fin 1024 → EReal) (x : Fin 1280 → Fin 1024 → EReal) (r : Fin 1408) (k : Fin 1024) : EReal :=
  if h : r.val < 128 then
    if h' : r.val < 112 then Ideal.ofBits .f32 0x00000000#32 else u ⟨r.val - 112, by omega⟩ k
  else x ⟨r.val - 128, by omega⟩ k

/-- What is stored for a sequence's first block, at row `r` and feature `d`. -/
theorem pay1_at (u : Vec Ideal S16x1024 .f32) (x : Vec Ideal S1x1280x1024 .f32) (g o : Vec Ideal S1x1024 .f32) (r : Fin 1408) (d : Fin 1024) :
    k0_pay1 u x g o (ix3 0 r d)
      = Cert.Spec.layerNorm (lead (fun j k => u (ix2 j k)) (fun j k => x (ix3 0 j k)) r) (fun k => g (ix2 0 k)) (fun k => o (ix2 0 k)) d := by
  pointwise [k0_pay1, Cert.Spec.layerNorm, Cert.Spec.normRow, Cert.Spec.mean, lead]

/-- What is stored for a later block, at row `r` and feature `d`. -/
theorem pay2_at (x : Vec Ideal S1x1408x1024 .f32) (g o : Vec Ideal S1x1024 .f32) (r : Fin 1408) (d : Fin 1024) :
    k0_pay2 x g o (ix3 0 r d)
      = Cert.Spec.layerNorm (fun k => x (ix3 0 r k)) (fun k => g (ix2 0 k)) (fun k => o (ix2 0 k)) d := by
  pointwise [k0_pay2, Cert.Spec.layerNorm, Cert.Spec.normRow, Cert.Spec.mean]

end Cert.EmbKernelIdeal.Pure

end
-- ==== Proof.EmbRef.lean ====
/- The embedding reference, read at one element of its result. -/
module

public import proofs.«01_k».proof.Proof.Spec
public import proofs.«01_k».proof.Proof.Gen.EmbReferenceIdeal.Read
public import Idealize.ShloMosaic.Lib.Pointwise

@[expose] public section

set_option maxRecDepth 16384

noncomputable section

open Idealize.ShloMosaic Idealize.ShloMosaic.TcCoe Idealize.SL.Sem

namespace Cert.EmbReferenceIdeal.Pure

open Cert.EmbReferenceIdeal Cert.EmbReferenceIdeal.Gen

/-- The row at a position of the sequence: a row of zeros at the first 112, a meta token at the next 16, a token's row after them. -/
def row (x : Fin 4096 → Fin 1024 → EReal) (u : Fin 16 → Fin 1024 → EReal) (p : Fin 4224) (k : Fin 1024) : EReal :=
  if h : p.val < 112 then Ideal.ofBits .f32 0x00000000#32
  else if h' : p.val - 112 < 16 then u ⟨p.val - 112, h'⟩ k else x ⟨p.val - 112 - 16, by omega⟩ k

theorem row_zero (x : Fin 4096 → Fin 1024 → EReal) (u : Fin 16 → Fin 1024 → EReal) (p : Fin 4224) (k : Fin 1024) (h : p.val < 112) :
    row x u p k = Ideal.ofBits .f32 0x00000000#32 := dif_pos h

theorem row_meta (x : Fin 4096 → Fin 1024 → EReal) (u : Fin 16 → Fin 1024 → EReal) (p : Fin 4224) (k : Fin 1024) (j : Fin 16) (h : p.val = 112 + j.val) :
    row x u p k = u j k := by
  have hj := j.isLt
  exact (dif_neg (by omega)).trans ((dif_pos (by omega)).trans (congrArg (u · k) (Fin.ext (show p.val - 112 = j.val by omega))))

theorem row_token (x : Fin 4096 → Fin 1024 → EReal) (u : Fin 16 → Fin 1024 → EReal) (p : Fin 4224) (k : Fin 1024) (j : Fin 4096) (h : p.val = 128 + j.val) :
    row x u p k = x j k :=
  (dif_neg (by omega)).trans ((dif_neg (by omega)).trans (congrArg (x · k) (Fin.ext (show p.val - 112 - 16 = j.val by omega))))

/-- The result at batch `p`, position `r` and feature `d` is the normalised row of that position. -/
theorem out_at (m : (ℓ : Loc nD τ sig) → Buf (Elt Ideal) ℓ) (c : Dev nD) (p : Fin 8) (r : Fin 4224) (d : Fin 1024) :
    Value.res_main_v27 m c (ix3 p r d)
      = Cert.Spec.layerNorm
          (row (fun j k => m ((c.tc : Thread nD τ).loc main_arg0) (ix3 p j k)) (fun j k => m ((c.tc : Thread nD τ).loc main_arg1) (ix2 j k)) r)
          (fun i => m ((c.tc : Thread nD τ).loc main_arg2) (ix1 i))
          (fun i => m ((c.tc : Thread nD τ).loc main_arg3) (ix1 i)) d := by
  pointwise [Value.res_main_v27, Cert.Spec.layerNorm, Cert.Spec.normRow, Cert.Spec.mean, row]

end Cert.EmbReferenceIdeal.Pure

end
-- ==== Proof.EmbValue.lean ====
/- The embedding call's result, as one expression of its arguments: it is the reference's. -/
module

public import proofs.«01_k».proof.Proof.EmbPure
public import proofs.«01_k».proof.Proof.EmbRef
public import proofs.«01_k».proof.Proof.Gen.EmbKernelIdeal.Frame
public import Idealize.ShloMosaic.Lib.Pipeline.ValueKit
public import Idealize.ShloMosaic.Lib.Claim
public import Idealize.ShloMosaic.Lib.WholeRead

@[expose] public section

set_option maxRecDepth 16384

noncomputable section

open Idealize.ShloMosaic Idealize.ShloMosaic.TcCoe Idealize.SL.Sem

namespace Cert.EmbKernelIdeal.Pure

open Cert.EmbKernelIdeal Cert.EmbKernelIdeal.Gen

theorem idx : ∀ t : Fin cfg0.N, win0_0.index t = ![t.val / 3, (t.val % 3) * 1408 - 128, 0] ∧ win0_1.index t = ![0, 0]
    ∧ win0_2.index t = ![0, 0] ∧ win0_3.index t = ![0, 0] ∧ win0_4.index t = ![t.val / 3, t.val % 3, 0] := by
  decide +kernel

/-- The call's result: at every batch and position the normalised row. -/
def result (x : S8x4096x1024.Idx → EReal) (u : S16x1024.Idx → EReal) (g o : S1024.Idx → EReal) : S8x4224x1024.Idx → EReal := fun i =>
  Cert.Spec.layerNorm
    (Cert.EmbReferenceIdeal.Pure.row (fun j k => x (ix3 (i 0 : Fin 8) j k)) (fun j k => u (ix2 j k)) (i 1 : Fin 4224))
    (fun k => g (ix1 k)) (fun k => o (ix1 k)) (i 2 : Fin 1024)

variable (m : (ℓ : Loc nD τ sig) → Buf (Elt Ideal) ℓ)

theorem lt_div (t : Fin cfg0.N) : t.val / 3 < 8 := by
  have := t.isLt; simp only [show cfg0.N = 24 from by decide +kernel] at this; omega

/-! The fetched blocks, read at an element. -/

theorem embx (t : Fin cfg0.N) (r : Fin 1408) (k : Fin 1024) :
    (win0_0.rect t).emb (ix3 0 r k) = ix3 ⟨t.val / 3, lt_div t⟩ ⟨(t.val % 3) * 1408 - 128 + r.val, by omega⟩ k := by
  funext a
  apply Fin.ext
  fin_cases a
  · exact (win0_0.rect_emb_val_off t _ 0).trans (by rw [idx t |>.1]; rfl)
  · exact (win0_0.rect_emb_val_off t _ 1).trans (by rw [idx t |>.1]; rfl)
  · exact (win0_0.rect_emb_val_off t _ 2).trans (by rw [idx t |>.1]; exact Nat.zero_add _)

/-- An element of the first window's block, in the rows. -/
theorem rd0 (X : Buf (Elt Ideal) (((0 : Dev nD).tc : Thread nD τ).loc main_arg0)) (t : Fin cfg0.N) (r : Fin 1408) (k : Fin 1024) :
    View.read (Elt Ideal) (win0_0.blk t).view X (ix3 0 r k)
      = X (ix3 ⟨t.val / 3, lt_div t⟩ ⟨(t.val % 3) * 1408 - 128 + r.val, by omega⟩ k) := by
  rw [View.read_apply]
  exact congrArg X (embx t r k)

theorem blk0 (c : Dev nD) (t : Fin cfg0.N) (r : Fin 1408) (k : Fin 1024) :
    iblk m c 0 t (ix3 0 r k) = m ((c.tc : Thread nD τ).loc main_arg0) (ix3 ⟨t.val / 3, lt_div t⟩ ⟨(t.val % 3) * 1408 - 128 + r.val, by omega⟩ k) :=
  rd0 (m ((c.tc : Thread nD τ).loc main_arg0)) t r k

theorem blk1 (c : Dev nD) (t : Fin cfg0.N) (r : Fin 16) (k : Fin 1024) :
    iblk m c 1 t (ix2 r k) = m ((c.tc : Thread nD τ).loc main_arg1) (ix2 r k) := by
  blk_point [iblk, V, idx t]

theorem blk2 (c : Dev nD) (t : Fin cfg0.N) (k : Fin 1024) :
    iblk m c 2 t (ix2 0 k) = m ((c.tc : Thread nD τ).loc main_arg2) (ix1 k) := by
  blk_point [iblk, V, idx t]

theorem blk3 (c : Dev nD) (t : Fin cfg0.N) (k : Fin 1024) :
    iblk m c 3 t (ix2 0 k) = m ((c.tc : Thread nD τ).loc main_arg3) (ix1 k) := by
  blk_point [iblk, V, idx t]

theorem emb4 (t : Fin cfg0.N) (r : Fin 1408) (d : Fin 1024) :
    (win0_4.blk t).view.emb (ix3 0 r d) = ix3 ⟨t.val / 3, lt_div t⟩ ⟨(t.val % 3) * 1408 + r.val, by omega⟩ d := by
  funext a
  apply Fin.ext
  fin_cases a <;> blk_simp [idx t] <;> rfl

/-! What the body loads from the blocks, read at an element. -/

theorem ld1 {arg : Memref sig .tc .vmem S16x1024 .f32} (h : arg.IsWhole) (x : Vec Ideal S16x1024 .f32) (j : Fin 16) (k : Fin 1024) :
    View.readAt (Elt Ideal) arg.view (Rect.unit (s := S16x1024) ![0, 0] S16x1024.size inb_S16x1024_S16x1024_0_0).toLoadRect (h.unread x) (ix2 j k) = x (ix2 j k) := by
  refine (h.readAt_unread x _ _).trans (congrArg x (funext fun a => Fin.ext ?_))
  fin_cases a
  · show 0 + 1 * j.val = j.val; omega
  · show 0 + 1 * k.val = k.val; omega

theorem ldg {arg : Memref sig .tc .vmem S1x1024 .f32} (h : arg.IsWhole) (x : Vec Ideal S1x1024 .f32) (k : Fin 1024) :
    View.readAt (Elt Ideal) arg.view (Rect.unit (s := S1x1024) ![0, 0] S1x1024.size inb_S1x1024_S1x1024_0_0).toLoadRect (h.unread x) (ix2 0 k) = x (ix2 0 k) := by
  refine (h.readAt_unread x _ _).trans (congrArg x (funext fun a => Fin.ext ?_))
  fin_cases a
  · rfl
  · show 0 + 1 * k.val = k.val; omega

theorem ldx {arg : Memref sig .tc .vmem S1x1408x1024 .f32} (h : arg.IsWhole) (x : Vec Ideal S1x1408x1024 .f32) (j : Fin 1280) (k : Fin 1024) :
    View.readAt (Elt Ideal) arg.view (Rect.unit (s := S1x1408x1024) ![0, 0, 0] S1x1280x1024.size inb_S1x1408x1024_S1x1280x1024_0_0_0).toLoadRect (h.unread x) (ix3 0 j k)
      = x (ix3 0 ⟨j.val, by omega⟩ k) := by
  refine (h.readAt_unread x _ _).trans (congrArg x (funext fun a => Fin.ext ?_))
  fin_cases a
  · rfl
  · show 0 + 1 * j.val = j.val; omega
  · show 0 + 1 * k.val = k.val; omega

theorem ldy {arg : Memref sig .tc .vmem S1x1408x1024 .f32} (h : arg.IsWhole) (x : Vec Ideal S1x1408x1024 .f32) (j : Fin 1408) (k : Fin 1024) :
    View.readAt (Elt Ideal) arg.view (Rect.unit (s := S1x1408x1024) ![0, 0, 0] S1x1408x1024.size inb_S1x1408x1024_S1x1408x1024_0_0_0).toLoadRect (h.unread x) (ix3 0 j k)
      = x (ix3 0 j k) := by
  refine (h.readAt_unread x _ _).trans (congrArg x (funext fun a => Fin.ext ?_))
  fin_cases a
  · rfl
  · show 0 + 1 * j.val = j.val; omega
  · show 0 + 1 * k.val = k.val; omega

/-- The rows of a sequence's first block are the first rows of the sequence. -/
theorem lead_eq (u : Fin 16 → Fin 1024 → EReal) (x : Fin 4096 → Fin 1024 → EReal) (r : Fin 1408) (p : Fin 4224) (hp : p.val = r.val) :
    lead u (fun j k => x ⟨j.val, by omega⟩ k) r = Cert.EmbReferenceIdeal.Pure.row x u p := by
  funext k
  unfold lead
  by_cases h : r.val < 128
  · rw [dif_pos h]
    by_cases h' : r.val < 112
    · rw [dif_pos h']
      exact (Cert.EmbReferenceIdeal.Pure.row_zero x u p k (hp ▸ h')).symm
    · rw [dif_neg h']
      exact (Cert.EmbReferenceIdeal.Pure.row_meta x u p k ⟨r.val - 112, by omega⟩ (by show p.val = 112 + (r.val - 112); omega)).symm
  · rw [dif_neg h]
    exact (Cert.EmbReferenceIdeal.Pure.row_token x u p k ⟨r.val - 128, by omega⟩ (by show p.val = 128 + (r.val - 128); omega)).symm

/-- Normalised rows are equal where the rows, the gains and the offsets are. -/
theorem layerNorm_congr {x y g g' b b' : Fin 1024 → EReal} (hx : x = y) (hg : g = g') (hb : b = b') (d : Fin 1024) :
    Cert.Spec.layerNorm x g b d = Cert.Spec.layerNorm y g' b' d := by rw [hx, hg, hb]

/-- What a sequence's first grid point leaves in its block. -/
theorem outs_A (c : Dev nD) (t : Fin cfg0.N) (h0 : t.val % 3 = 0) (h1 : ¬1 ≤ t.val % 3) (r : Fin 1408) (d : Fin 1024) :
    outsAt0 m c t.val t.isLt (ix3 0 r d)
      = result (m ((c.tc : Thread nD τ).loc main_arg0)) (m ((c.tc : Thread nD τ).loc main_arg1)) (m ((c.tc : Thread nD τ).loc main_arg2)) (m ((c.tc : Thread nD τ).loc main_arg3))
          (ix3 ⟨t.val / 3, lt_div t⟩ ⟨(t.val % 3) * 1408 + r.val, by omega⟩ d) := by
  rw [outsAt0_A m c t h0 h1]
  unfold out0_A_4 kernelRun0_A
  dsimp only
  sl_unfold_words
  rw [View.read_writes_junk_eq_canon]
  canon_tiles x h
  idx_vars x
  obtain rfl : x0 = 0 := Subsingleton.elim _ _
  obtain rfl : r = x1 := Fin.ext h1
  obtain rfl : d = x2 := Fin.ext h2
  refine (pay1_at _ _ _ _ r d).trans (layerNorm_congr ?_ ?_ ?_ d)
  · refine Eq.trans ?_ (lead_eq (fun j k => m ((c.tc : Thread nD τ).loc main_arg1) (ix2 j k)) (fun j k => m ((c.tc : Thread nD τ).loc main_arg0) (ix3 ⟨t.val / 3, lt_div t⟩ j k)) r _ (by show (t.val % 3) * 1408 + r.val = r.val; omega))
    refine congrArg₂ (fun a b => lead a b r) (funext fun j => funext fun k => ?_) (funext fun j => funext fun k => ?_)
    · exact (ld1 (hs0_1 t) (iblk m c 1 t) j k).trans (blk1 m c t j k)
    · refine ((ldx (hs0_0 t) (iblk m c 0 t) j k).trans (blk0 m c t _ k)).trans ?_
      exact congrArg (fun p => m ((c.tc : Thread nD τ).loc main_arg0) (ix3 ⟨t.val / 3, lt_div t⟩ p k)) (Fin.ext (by show (t.val % 3) * 1408 - 128 + j.val = j.val; omega))
  · exact funext fun k => (ldg (hs0_2 t) (iblk m c 2 t) k).trans (blk2 m c t k)
  · exact funext fun k => (ldg (hs0_3 t) (iblk m c 3 t) k).trans (blk3 m c t k)

/-- What a later grid point leaves in its block. -/
theorem outs_B (c : Dev nD) (t : Fin cfg0.N) (h0 : ¬t.val % 3 = 0) (h1 : 1 ≤ t.val % 3) (r : Fin 1408) (d : Fin 1024) :
    outsAt0 m c t.val t.isLt (ix3 0 r d)
      = result (m ((c.tc : Thread nD τ).loc main_arg0)) (m ((c.tc : Thread nD τ).loc main_arg1)) (m ((c.tc : Thread nD τ).loc main_arg2)) (m ((c.tc : Thread nD τ).loc main_arg3))
          (ix3 ⟨t.val / 3, lt_div t⟩ ⟨(t.val % 3) * 1408 + r.val, by omega⟩ d) := by
  rw [outsAt0_B m c t h0 h1]
  have hlt : 1 ≤ t.val % 3 := h1
  unfold out0_B_4 kernelRun0_B
  dsimp only
  sl_unfold_words
  rw [View.read_writes_junk_eq_canon]
  canon_tiles x h
  idx_vars x
  obtain rfl : x0 = 0 := Subsingleton.elim _ _
  obtain rfl : r = x1 := Fin.ext h1
  obtain rfl : d = x2 := Fin.ext h2
  refine (pay2_at _ _ _ r d).trans (layerNorm_congr ?_ ?_ ?_ d)
  · refine funext fun k => ((ldy (hs0_0 t) (iblk m c 0 t) r k).trans (blk0 m c t r k)).trans ?_
    exact (Cert.EmbReferenceIdeal.Pure.row_token (fun j k => m ((c.tc : Thread nD τ).loc main_arg0) (ix3 ⟨t.val / 3, lt_div t⟩ j k)) (fun j k => m ((c.tc : Thread nD τ).loc main_arg1) (ix2 j k))
      ⟨(t.val % 3) * 1408 + r.val, by omega⟩ k ⟨(t.val % 3) * 1408 - 128 + r.val, by omega⟩
      (by show (t.val % 3) * 1408 + r.val = 128 + ((t.val % 3) * 1408 - 128 + r.val); omega)).symm
  · exact funext fun k => (ldg (hs0_2 t) (iblk m c 2 t) k).trans (blk2 m c t k)
  · exact funext fun k => (ldg (hs0_3 t) (iblk m c 3 t) k).trans (blk3 m c t k)

/-- What any grid point leaves in its block. -/
theorem outs (c : Dev nD) (t : Fin cfg0.N) (r : Fin 1408) (d : Fin 1024) :
    outsAt0 m c t.val t.isLt (ix3 0 r d)
      = result (m ((c.tc : Thread nD τ).loc main_arg0)) (m ((c.tc : Thread nD τ).loc main_arg1)) (m ((c.tc : Thread nD τ).loc main_arg2)) (m ((c.tc : Thread nD τ).loc main_arg3))
          (ix3 ⟨t.val / 3, lt_div t⟩ ⟨(t.val % 3) * 1408 + r.val, by omega⟩ d) := by
  by_cases h0 : t.val % 3 = 0
  · exact outs_A m c t h0 (by omega) r d
  · exact outs_B m c t h0 (by omega) r d

/-- The output array after the last grid point. -/
theorem final (c : Dev nD) : (dats m 0 c).arrAt 4 (cfgs 0).N
    = result (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t _ y => ?_
  blk_simp
  rw [after0_4]
  idx_vars y
  obtain rfl : y0 = 0 := Subsingleton.elim _ _
  exact (outs m c t y1 y2).trans (congrArg _ (emb4 t _ _).symm)

/-- The reference's result, from the same arguments, is the same expression. -/
theorem reference_eq (m' : (ℓ : Loc Cert.EmbReferenceIdeal.nD Cert.EmbReferenceIdeal.τ Cert.EmbReferenceIdeal.sig) → Buf (Elt Ideal) ℓ) (c : Dev nD)
    (h : m' ((c.tc : Thread Cert.EmbReferenceIdeal.nD Cert.EmbReferenceIdeal.τ).loc Cert.EmbReferenceIdeal.main_arg0) = m ((c.tc : Thread nD τ).loc main_arg0)
      ∧ m' ((c.tc : Thread Cert.EmbReferenceIdeal.nD Cert.EmbReferenceIdeal.τ).loc Cert.EmbReferenceIdeal.main_arg1) = m ((c.tc : Thread nD τ).loc main_arg1)
      ∧ m' ((c.tc : Thread Cert.EmbReferenceIdeal.nD Cert.EmbReferenceIdeal.τ).loc Cert.EmbReferenceIdeal.main_arg2) = m ((c.tc : Thread nD τ).loc main_arg2)
      ∧ m' ((c.tc : Thread Cert.EmbReferenceIdeal.nD Cert.EmbReferenceIdeal.τ).loc Cert.EmbReferenceIdeal.main_arg3) = m ((c.tc : Thread nD τ).loc main_arg3)) :
    Cert.EmbReferenceIdeal.Value.res_main_v27 m' c
      = result (m ((c.tc : Thread nD τ).loc main_arg0)) (m ((c.tc : Thread nD τ).loc main_arg1)) (m ((c.tc : Thread nD τ).loc main_arg2)) (m ((c.tc : Thread nD τ).loc main_arg3)) := by
  obtain ⟨h0, h1, h2, h3⟩ := h
  funext i
  idx_vars i
  refine (Cert.EmbReferenceIdeal.Pure.out_at m' c i0 i1 i2).trans ?_
  rw [h0, h1, h2, h3]
  rfl

end Cert.EmbKernelIdeal.Pure

end
-- ==== Proof.MidPure.lean ====
/- What one block of the feed-forward call of the first three layers computes. -/
module

public import proofs.«01_k».proof.Proof.Spec
public import proofs.«01_k».proof.Proof.Gen.MidKernelIdeal.Skeleton
public import Idealize.ShloMosaic.Lib.Pointwise

@[expose] public section

set_option maxRecDepth 16384

noncomputable section

open Idealize.ShloMosaic Idealize.ShloMosaic.TcCoe Idealize.SL.Sem

namespace Cert.MidKernelIdeal.Pure

open Cert.MidKernelIdeal Cert.MidKernelIdeal.Gen

/-- One feature of the squared-ReLU product of a row through 1024 hidden units: the hidden
    pre-activations are the row times `w1`, and each unit's squared positive part is weighted by `w2`. -/
def hid (x : Fin 1024 → EReal) (w1 w2 : Fin 1024 → Fin 1024 → EReal) (e : Fin 1024) : EReal :=
  ∑ j, max (∑ i, x i * w1 i j) 0 * max (∑ i, x i * w1 i j) 0 * w2 j e

/-- The kernel's accumulator of a row: the scaled row, and then the four chunks of hidden units one after another. -/
def acc4 (x : Fin 1024 → EReal) (a0 b0 a1 b1 a2 b2 a3 b3 : Fin 1024 → Fin 1024 → EReal) (e : Fin 1024) : EReal :=
  Ideal.ofBits .f32 0x3FD744FD#32 * x e + hid x a0 b0 e + hid x a1 b1 e + hid x a2 b2 e + hid x a3 b3 e

/-- The body's normalised rows, read at row `r` and feature `d`. -/
theorem pay9_at (x : Vec Ideal S1x704x1024 .f32) (a0 b0 a1 b1 a2 b2 a3 b3 : Vec Ideal S1x1024x1024 .bf16) (r : Fin 704) (d : Fin 1024) :
    k0_pay9 (k0_pay3 x) (k0_pay4 x a0 b0 a1 b1) (k0_pay5 x a2) (k0_pay6 (F := Ideal)) b2 a3 b3 (ix2 r d)
      = Cert.Spec.normRow (acc4 (fun i => x (ix3 0 r i)) (fun i j => a0 (ix3 0 i j)) (fun i j => b0 (ix3 0 i j))
          (fun i j => a1 (ix3 0 i j)) (fun i j => b1 (ix3 0 i j)) (fun i j => a2 (ix3 0 i j)) (fun i j => b2 (ix3 0 i j))
          (fun i j => a3 (ix3 0 i j)) (fun i j => b3 (ix3 0 i j))) d := by
  pointwise [k0_pay9, k0_pay2, k0_pay3, k0_pay4, k0_pay5, k0_pay6, Cert.Spec.normRow, Cert.Spec.mean, acc4, hid]
  try rfl

/-- What the body stores at row `r` and feature `d`, from the normalised rows, the gain and the offset. -/
theorem pay1_at (g b : Vec Ideal S1x1024 .f32) (y : FVec Ideal S704x1024 .f32) (r : Fin 704) (d : Fin 1024) :
    k0_pay1 (k0_pay7 g) (k0_pay8 b) y (ix3 0 r d) = y (ix2 r d) * g (ix2 0 d) + b (ix2 0 d) := by
  pointwise [k0_pay1, k0_pay7, k0_pay8]

end Cert.MidKernelIdeal.Pure

end
-- ==== Proof.MidRef.lean ====
/- The reference of the first three layers' feed-forward call, read at one element of its result. -/
module

public import proofs.«01_k».proof.Proof.Spec
public import proofs.«01_k».proof.Proof.Gen.MidReferenceIdeal.Read

@[expose] public section

set_option maxRecDepth 16384

noncomputable section

open Idealize.ShloMosaic Idealize.ShloMosaic.TcCoe Idealize.SL.Sem

namespace Cert.MidReferenceIdeal.Pure

open Cert.MidReferenceIdeal Cert.MidReferenceIdeal.Gen Cert.MidReferenceIdeal.Read

/-- The residual row before its normalisation: the scaled row plus the squared-ReLU product through all 4096 hidden units. -/
def acc (x : Fin 1024 → EReal) (w1 : Fin 1024 → Fin 4096 → EReal) (w2 : Fin 4096 → Fin 1024 → EReal) (e : Fin 1024) : EReal :=
  Ideal.ofBits .f32 0x3FD744FD#32 * x e
    + ∑ j, max (∑ i, x i * w1 i j) 0 * max (∑ i, x i * w1 i j) 0 * w2 j e

/-- The result at batch `p`, position `r` and feature `d` is the normalised residual row of that position. -/
theorem out_at (m : (ℓ : Loc nD τ sig) → Buf (Elt Ideal) ℓ) (c : Dev nD) (p : Fin 8) (r : Fin 4224) (d : Fin 1024) :
    Value.res_main_v38 m c (ix3 p r d)
      = Cert.Spec.layerNorm
          (acc (fun i => m ((c.tc : Thread nD τ).loc main_arg0) (ix3 p r i))
            (fun i j => m ((c.tc : Thread nD τ).loc main_arg1) (ix3 0 i j))
            (fun i j => m ((c.tc : Thread nD τ).loc main_arg2) (ix3 0 i j)))
          (fun i => m ((c.tc : Thread nD τ).loc main_arg3) (ix2 0 i))
          (fun i => m ((c.tc : Thread nD τ).loc main_arg4) (ix2 0 i)) d := by
  pointwise [Value.res_main_v38, Cert.Spec.layerNorm, Cert.Spec.normRow, Cert.Spec.mean, acc]

end Cert.MidReferenceIdeal.Pure

end
-- ==== Proof.MidValue.lean ====
/- The result of the first three layers' feed-forward call, as one expression of its arguments: it is the reference's. -/
module

public import proofs.«01_k».proof.Proof.MidPure
public import proofs.«01_k».proof.Proof.MidRef
public import proofs.«01_k».proof.Proof.Gen.MidKernelIdeal.Frame
public import Idealize.ShloMosaic.Lib.Pipeline.ValueKit.Point
public import Idealize.ShloMosaic.Lib.Claim

@[expose] public section

set_option maxRecDepth 16384

noncomputable section

open Idealize.ShloMosaic Idealize.ShloMosaic.TcCoe Idealize.SL.Sem

namespace Cert.MidKernelIdeal.Pure

open Cert.MidKernelIdeal Cert.MidKernelIdeal.Gen

/-- Four chunks of 1024 hidden units one after another are all 4096 of them. -/
theorem acc4_eq (x : Fin 1024 → EReal) (w1 : Fin 1024 → Fin 4096 → EReal) (w2 : Fin 4096 → Fin 1024 → EReal) :
    acc4 x (fun i j => w1 i ⟨j.val, by omega⟩) (fun j e => w2 ⟨j.val, by omega⟩ e)
        (fun i j => w1 i ⟨1024 + j.val, by omega⟩) (fun j e => w2 ⟨1024 + j.val, by omega⟩ e)
        (fun i j => w1 i ⟨2048 + j.val, by omega⟩) (fun j e => w2 ⟨2048 + j.val, by omega⟩ e)
        (fun i j => w1 i ⟨3072 + j.val, by omega⟩) (fun j e => w2 ⟨3072 + j.val, by omega⟩ e)
      = Cert.MidReferenceIdeal.Pure.acc x w1 w2 := by
  funext e
  unfold acc4 Cert.MidReferenceIdeal.Pure.acc hid
  rw [Fin.sum_univ_tiles 4 1024 rfl]
  simp only [Fin.sum_univ_four, ← add_assoc]
  rfl

theorem idx : ∀ t : Fin cfg0.N, win0_0.index t = ![t.val / 6, t.val % 6, 0] ∧ win0_1.index t = ![0, 0, 0]
    ∧ win0_2.index t = ![0, 0, 0] ∧ win0_3.index t = ![0, 0] ∧ win0_4.index t = ![0, 0]
    ∧ win0_5.index t = ![t.val / 6, t.val % 6, 0] := by
  decide +kernel

/-- The call's result: the normalised residual row of every batch and position. -/
def result (h : S8x4224x1024.Idx → EReal) (w1 : S4x1024x4096.Idx → EReal) (w2 : S4x4096x1024.Idx → EReal)
    (g b : S4x1024.Idx → EReal) : S8x4224x1024.Idx → EReal := fun i =>
  Cert.Spec.layerNorm
    (Cert.MidReferenceIdeal.Pure.acc
      (fun k => h (ix3 (i 0 : Fin 8) (i 1 : Fin 4224) k))
      (fun k j => w1 (ix3 0 k j)) (fun j k => w2 (ix3 0 j k)))
    (fun k => g (ix2 0 k)) (fun k => b (ix2 0 k)) (i 2 : Fin 1024)

variable (m : (ℓ : Loc nD τ sig) → Buf (Elt Ideal) ℓ)

theorem lt_div (t : Fin cfg0.N) : t.val / 6 < 8 := by
  have := t.isLt; simp only [show cfg0.N = 48 from by decide +kernel] at this; omega

/-- The fetched blocks, read at an element: the rows, the two weight matrices, the gain and the offset. -/
theorem blk0 (c : Dev nD) (t : Fin cfg0.N) (r : Fin 704) (k : Fin 1024) :
    iblk m c 0 t (ix3 0 r k)
      = m ((c.tc : Thread nD τ).loc main_arg0) (ix3 ⟨t.val / 6, lt_div t⟩ ⟨(t.val % 6) * 704 + r.val, by omega⟩ k) := by
  blk_point [iblk, V, idx t]

theorem blk1_0 (c : Dev nD) (t : Fin cfg0.N) (k j : Fin 1024) :
    View.ld (iblk m c 1 t) r0_1 (ix3 0 k j) = m ((c.tc : Thread nD τ).loc main_arg1) (ix3 0 k ⟨j.val, by omega⟩) := by
  blk_point [iblk, V, idx t]

theorem blk2_0 (c : Dev nD) (t : Fin cfg0.N) (j k : Fin 1024) :
    View.ld (iblk m c 2 t) r0_2 (ix3 0 j k) = m ((c.tc : Thread nD τ).loc main_arg2) (ix3 0 ⟨j.val, by omega⟩ k) := by
  blk_point [iblk, V, idx t]

theorem blk1_1 (c : Dev nD) (t : Fin cfg0.N) (k j : Fin 1024) :
    View.ld (iblk m c 1 t) r0_3 (ix3 0 k j) = m ((c.tc : Thread nD τ).loc main_arg1) (ix3 0 k ⟨1024 + j.val, by omega⟩) := by
  blk_point [iblk, V, idx t]

theorem blk2_1 (c : Dev nD) (t : Fin cfg0.N) (j k : Fin 1024) :
    View.ld (iblk m c 2 t) r0_4 (ix3 0 j k) = m ((c.tc : Thread nD τ).loc main_arg2) (ix3 0 ⟨1024 + j.val, by omega⟩ k) := by
  blk_point [iblk, V, idx t]

theorem blk1_2 (c : Dev nD) (t : Fin cfg0.N) (k j : Fin 1024) :
    View.ld (iblk m c 1 t) r0_5 (ix3 0 k j) = m ((c.tc : Thread nD τ).loc main_arg1) (ix3 0 k ⟨2048 + j.val, by omega⟩) := by
  blk_point [iblk, V, idx t]

theorem blk2_2 (c : Dev nD) (t : Fin cfg0.N) (j k : Fin 1024) :
    View.ld (iblk m c 2 t) r0_6 (ix3 0 j k) = m ((c.tc : Thread nD τ).loc main_arg2) (ix3 0 ⟨2048 + j.val, by omega⟩ k) := by
  blk_point [iblk, V, idx t]

theorem blk1_3 (c : Dev nD) (t : Fin cfg0.N) (k j : Fin 1024) :
    View.ld (iblk m c 1 t) r0_7 (ix3 0 k j) = m ((c.tc : Thread nD τ).loc main_arg1) (ix3 0 k ⟨3072 + j.val, by omega⟩) := by
  blk_point [iblk, V, idx t]

theorem blk2_3 (c : Dev nD) (t : Fin cfg0.N) (j k : Fin 1024) :
    View.ld (iblk m c 2 t) r0_8 (ix3 0 j k) = m ((c.tc : Thread nD τ).loc main_arg2) (ix3 0 ⟨3072 + j.val, by omega⟩ k) := by
  blk_point [iblk, V, idx t]

theorem entry4 (c : Dev nD) (k : Fin 1024) : V m c main_v4 (ix2 0 k) = m ((c.tc : Thread nD τ).loc main_arg3) (ix2 0 k) := by
  entry_read
  pointwise

theorem entry7 (c : Dev nD) (k : Fin 1024) : V m c main_v7 (ix2 0 k) = m ((c.tc : Thread nD τ).loc main_arg4) (ix2 0 k) := by
  entry_read
  pointwise

theorem rd3 (X : Buf (Elt Ideal) (((0 : Dev nD).tc : Thread nD τ).loc main_v4)) (t : Fin cfg0.N) (k : Fin 1024) :
    View.read (Elt Ideal) (win0_3.blk t).view X (ix2 0 k) = X (ix2 0 k) := by
  rw [View.read_apply]
  blk_ext [idx t]

theorem blk3 (c : Dev nD) (t : Fin cfg0.N) (k : Fin 1024) :
    iblk m c 3 t (ix2 0 k) = m ((c.tc : Thread nD τ).loc main_arg3) (ix2 0 k) :=
  (rd3 (V m c main_v4) t k).trans (entry4 m c k)

theorem rd4 (X : Buf (Elt Ideal) (((0 : Dev nD).tc : Thread nD τ).loc main_v7)) (t : Fin cfg0.N) (k : Fin 1024) :
    View.read (Elt Ideal) (win0_4.blk t).view X (ix2 0 k) = X (ix2 0 k) := by
  rw [View.read_apply]
  blk_ext [idx t]

theorem blk4 (c : Dev nD) (t : Fin cfg0.N) (k : Fin 1024) :
    iblk m c 4 t (ix2 0 k) = m ((c.tc : Thread nD τ).loc main_arg4) (ix2 0 k) :=
  (rd4 (V m c main_v7) t k).trans (entry7 m c k)

/-- What is written at a grid point, at row `r` of its block and feature `d`. -/
theorem point (c : Dev nD) (t : Fin cfg0.N) (r : Fin 704) (d : Fin 1024) :
    k0_pay1 (k0_pay7 (iblk m c 3 t)) (k0_pay8 (iblk m c 4 t))
        (k0_pay9 (k0_pay3 (iblk m c 0 t))
          (k0_pay4 (iblk m c 0 t) (View.ld (iblk m c 1 t) r0_1) (View.ld (iblk m c 2 t) r0_2) (View.ld (iblk m c 1 t) r0_3) (View.ld (iblk m c 2 t) r0_4))
          (k0_pay5 (iblk m c 0 t) (View.ld (iblk m c 1 t) r0_5)) (k0_pay6 (F := Ideal)) (View.ld (iblk m c 2 t) r0_6) (View.ld (iblk m c 1 t) r0_7) (View.ld (iblk m c 2 t) r0_8)) (ix3 0 r d)
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
          (ix3 ⟨t.val / 6, lt_div t⟩ ⟨(t.val % 6) * 704 + r.val, by omega⟩ d) := by
  refine (pay1_at _ _ _ r d).trans ?_
  rw [blk3, blk4]
  refine Eq.trans (congrArg (fun z => z * _ + _) (pay9_at _ _ _ _ _ _ _ _ _ r d)) ?_
  simp only [blk0, blk1_0, blk1_1, blk1_2, blk1_3, blk2_0, blk2_1, blk2_2, blk2_3]
  exact congrArg (fun z => Cert.Spec.normRow z d * _ + _)
    (acc4_eq _ (fun k j => m ((c.tc : Thread nD τ).loc main_arg1) (ix3 0 k j)) (fun j k => m ((c.tc : Thread nD τ).loc main_arg2) (ix3 0 j k)))

theorem emb5 (t : Fin cfg0.N) (r : Fin 704) (d : Fin 1024) :
    (win0_5.blk t).view.emb (ix3 0 r d) = ix3 ⟨t.val / 6, lt_div t⟩ ⟨(t.val % 6) * 704 + r.val, by omega⟩ d := by
  funext a
  apply Fin.ext
  fin_cases a <;> blk_simp [idx t] <;> rfl

/-- The output array after the last grid point. -/
theorem final (c : Dev nD) : (dats m 0 c).arrAt 5 (cfgs 0).N
    = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  refine (dats m 0 c).arrAt_eq_of_covers 5 _ (by decide +kernel) fun t _ y => ?_
  blk_simp
  rw [after0_5]; frame_out
  idx_vars y
  obtain rfl : y0 = 0 := Subsingleton.elim _ _
  refine Eq.trans ?_ (congrArg _ (emb5 t _ _).symm)
  exact (point m c t y1 y2)

/-- The reference's result, from the same arguments, is the same expression. -/
theorem reference_eq (m' : (ℓ : Loc Cert.MidReferenceIdeal.nD Cert.MidReferenceIdeal.τ Cert.MidReferenceIdeal.sig) → Buf (Elt Ideal) ℓ) (c : Dev nD)
    (h : m' ((c.tc : Thread Cert.MidReferenceIdeal.nD Cert.MidReferenceIdeal.τ).loc Cert.MidReferenceIdeal.main_arg0) = m ((c.tc : Thread nD τ).loc main_arg0)
      ∧ m' ((c.tc : Thread Cert.MidReferenceIdeal.nD Cert.MidReferenceIdeal.τ).loc Cert.MidReferenceIdeal.main_arg1) = m ((c.tc : Thread nD τ).loc main_arg1)
      ∧ m' ((c.tc : Thread Cert.MidReferenceIdeal.nD Cert.MidReferenceIdeal.τ).loc Cert.MidReferenceIdeal.main_arg2) = m ((c.tc : Thread nD τ).loc main_arg2)
      ∧ m' ((c.tc : Thread Cert.MidReferenceIdeal.nD Cert.MidReferenceIdeal.τ).loc Cert.MidReferenceIdeal.main_arg3) = m ((c.tc : Thread nD τ).loc main_arg3)
      ∧ m' ((c.tc : Thread Cert.MidReferenceIdeal.nD Cert.MidReferenceIdeal.τ).loc Cert.MidReferenceIdeal.main_arg4) = m ((c.tc : Thread nD τ).loc main_arg4)) :
    Cert.MidReferenceIdeal.Value.res_main_v38 m' c
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  obtain ⟨h0, h1, h2, h3, h4⟩ := h
  funext i
  idx_vars i
  refine (Cert.MidReferenceIdeal.Pure.out_at m' c i0 i1 i2).trans ?_
  rw [h0, h1, h2, h3, h4]
  rfl

end Cert.MidKernelIdeal.Pure

end
-- ==== Proof.lean ====
module

public import proofs.«01_k».proof.Defs
public import proofs.«01_k».proof.Proof.Gen.RetKernel
public import proofs.«01_k».proof.Proof.Gen.RetKernel.Frame
public import proofs.«01_k».proof.Proof.Gen.RetKernelIdeal
public import proofs.«01_k».proof.Proof.Gen.RetKernelIdeal.Frame
public import proofs.«01_k».proof.Proof.Gen.RetReferenceIdeal
public import proofs.«01_k».proof.Proof.Gen.RetReferenceIdeal.Run
public import proofs.«01_k».proof.Proof.Gen.RetReferenceIdeal.Step
public import proofs.«01_k».proof.Proof.RetRun
public import proofs.«01_k».proof.Proof.RetValue
public import proofs.«01_k».proof.Proof.Gen.MlpKernel
public import proofs.«01_k».proof.Proof.Gen.MlpKernel.Frame
public import proofs.«01_k».proof.Proof.Gen.MlpKernelIdeal
public import proofs.«01_k».proof.Proof.Gen.MlpKernelIdeal.Frame
public import proofs.«01_k».proof.Proof.Gen.MlpReferenceIdeal
public import proofs.«01_k».proof.Proof.Gen.MlpReferenceIdeal.Run
public import proofs.«01_k».proof.Proof.MlpValue
public import proofs.«01_k».proof.Proof.Gen.OutKernel
public import proofs.«01_k».proof.Proof.Gen.OutKernel.Frame
public import proofs.«01_k».proof.Proof.Gen.OutKernelIdeal
public import proofs.«01_k».proof.Proof.Gen.OutKernelIdeal.Frame
public import proofs.«01_k».proof.Proof.Gen.OutReferenceIdeal
public import proofs.«01_k».proof.Proof.Gen.OutReferenceIdeal.Run
public import proofs.«01_k».proof.Proof.OutValue
public import proofs.«01_k».proof.Proof.Gen.ProjKernel
public import proofs.«01_k».proof.Proof.Gen.ProjKernel.Frame
public import proofs.«01_k».proof.Proof.Gen.ProjKernelIdeal
public import proofs.«01_k».proof.Proof.Gen.ProjKernelIdeal.Frame
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.ProjValue
public import proofs.«01_k».proof.Proof.Gen.EmbKernel
public import proofs.«01_k».proof.Proof.Gen.EmbKernel.Frame
public import proofs.«01_k».proof.Proof.Gen.EmbKernelIdeal
public import proofs.«01_k».proof.Proof.Gen.EmbKernelIdeal.Frame
public import proofs.«01_k».proof.Proof.Gen.EmbReferenceIdeal
public import proofs.«01_k».proof.Proof.Gen.EmbReferenceIdeal.Run
public import proofs.«01_k».proof.Proof.EmbValue
public import proofs.«01_k».proof.Proof.Gen.MidKernel
public import proofs.«01_k».proof.Proof.Gen.MidKernel.Frame
public import proofs.«01_k».proof.Proof.Gen.MidKernelIdeal
public import proofs.«01_k».proof.Proof.Gen.MidKernelIdeal.Frame
public import proofs.«01_k».proof.Proof.Gen.MidReferenceIdeal
public import proofs.«01_k».proof.Proof.Gen.MidReferenceIdeal.Run
public import proofs.«01_k».proof.Proof.MidValue
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- The ret kernel terminates without a fault and leaves its arguments and the counters as they were. -/
theorem ret_kernel_frame : Cert.quiescent_RetKernel (hRetKernel := Cert.RetKernel.Gen.facts) :=
  fun m g _ => Cert.RetKernel.Gen.frame m g

theorem ret_ideal_frame : Cert.quiescent_RetKernelIdeal (hRetKernelIdeal := Cert.RetKernelIdeal.Gen.facts) :=
  fun m g _ => Cert.RetKernelIdeal.Gen.frame m g

theorem ret_reference_frame : Cert.quiescent_RetReferenceIdeal (hRetReferenceIdeal := Cert.RetReferenceIdeal.Gen.facts) :=
  fun m g _ => θ_run_mono (Cert.RetReferenceIdeal.Iter.run m g)
    fun r h => ⟨fun c => (h c).2, sem_eq_zero_of_no_sems (by decide) _⟩

/-- The idealized ret kernel and its reference, from the same arguments, end with the same result. -/
theorem ret_algebraic : Cert.algebraic_RetKernelIdeal_RetReferenceIdeal (hRetKernelIdeal := Cert.RetKernelIdeal.Gen.facts)
    (hRetReferenceIdeal := Cert.RetReferenceIdeal.Gen.facts) := by
  pair_intro
  · run_from Cert.RetKernelIdeal.Gen.run_main m g
  · run_from Cert.RetReferenceIdeal.Iter.run m' g'
    refine Eq.trans ?_ (Cert.RetKernelIdeal.Pure.final m c).symm
    refine Eq.trans ?_ (Cert.RetKernelIdeal.Pure.reference_eq m m' c (hagree c))
    exact congrArg (Cert.RetReferenceIdeal.Step.R_main_v82 _) (hagree c).2.2.2.symm

/-- The mlp kernel terminates without a fault and leaves its arguments and the counters as they were. -/
theorem mlp_kernel_frame : Cert.quiescent_MlpKernel (hMlpKernel := Cert.MlpKernel.Gen.facts) :=
  fun m g _ => Cert.MlpKernel.Gen.frame m g

theorem mlp_ideal_frame : Cert.quiescent_MlpKernelIdeal (hMlpKernelIdeal := Cert.MlpKernelIdeal.Gen.facts) :=
  fun m g _ => Cert.MlpKernelIdeal.Gen.frame m g

theorem mlp_reference_frame : Cert.quiescent_MlpReferenceIdeal (hMlpReferenceIdeal := Cert.MlpReferenceIdeal.Gen.facts) :=
  fun m g _ => θ_run_mono (Cert.MlpReferenceIdeal.Value.run m g)
    fun r h => ⟨fun c => (h c).2, sem_eq_zero_of_no_sems (by decide) _⟩

/-- The idealized mlp kernel and its reference, from the same arguments, end with the same result. -/
theorem mlp_algebraic : Cert.algebraic_MlpKernelIdeal_MlpReferenceIdeal (hMlpKernelIdeal := Cert.MlpKernelIdeal.Gen.facts)
    (hMlpReferenceIdeal := Cert.MlpReferenceIdeal.Gen.facts) := by
  pair_intro
  · run_from Cert.MlpKernelIdeal.Gen.run_main m g
  · run_from Cert.MlpReferenceIdeal.Value.run m' g'
    refine Eq.trans ?_ (Cert.MlpKernelIdeal.Pure.final m c).symm
    exact Cert.MlpKernelIdeal.Pure.reference_eq m m' c (hagree c)

/-- The out kernel terminates without a fault and leaves its arguments and the counters as they were. -/
theorem out_kernel_frame : Cert.quiescent_OutKernel (hOutKernel := Cert.OutKernel.Gen.facts) :=
  fun m g _ => Cert.OutKernel.Gen.frame m g

theorem out_ideal_frame : Cert.quiescent_OutKernelIdeal (hOutKernelIdeal := Cert.OutKernelIdeal.Gen.facts) :=
  fun m g _ => Cert.OutKernelIdeal.Gen.frame m g

theorem out_reference_frame : Cert.quiescent_OutReferenceIdeal (hOutReferenceIdeal := Cert.OutReferenceIdeal.Gen.facts) :=
  fun m g _ => θ_run_mono (Cert.OutReferenceIdeal.Value.run m g)
    fun r h => ⟨fun c => (h c).2, sem_eq_zero_of_no_sems (by decide) _⟩

/-- The idealized out kernel and its reference, from the same arguments, end with the same result. -/
theorem out_algebraic : Cert.algebraic_OutKernelIdeal_OutReferenceIdeal (hOutKernelIdeal := Cert.OutKernelIdeal.Gen.facts)
    (hOutReferenceIdeal := Cert.OutReferenceIdeal.Gen.facts) := by
  pair_intro
  · run_from Cert.OutKernelIdeal.Gen.run_main m g
  · run_from Cert.OutReferenceIdeal.Value.run m' g'
    refine Eq.trans ?_ (Cert.OutKernelIdeal.Pure.final m c).symm
    exact Cert.OutKernelIdeal.Pure.reference_eq m m' c (hagree c)

/-- The proj kernel terminates without a fault and leaves its arguments and the counters as they were. -/
theorem proj_kernel_frame : Cert.quiescent_ProjKernel (hProjKernel := Cert.ProjKernel.Gen.facts) :=
  fun m g _ => Cert.ProjKernel.Gen.frame m g

theorem proj_ideal_frame : Cert.quiescent_ProjKernelIdeal (hProjKernelIdeal := Cert.ProjKernelIdeal.Gen.facts) :=
  fun m g _ => Cert.ProjKernelIdeal.Gen.frame m g

theorem proj_reference_frame : Cert.quiescent_ProjReferenceIdeal (hProjReferenceIdeal := Cert.ProjReferenceIdeal.Gen.facts) :=
  fun m g _ => θ_run_mono (Cert.ProjReferenceIdeal.Value.run m g)
    fun r h => ⟨fun c => (h c).2.2.2.2.2.2.2.2.2.2, sem_eq_zero_of_no_sems (by decide) _⟩

set_option maxHeartbeats 4000000 in
/-- The idealized proj kernel and its reference, from the same arguments, end with the same ten results. -/
theorem proj_algebraic : Cert.algebraic_ProjKernelIdeal_ProjReferenceIdeal (hProjKernelIdeal := Cert.ProjKernelIdeal.Gen.facts)
    (hProjReferenceIdeal := Cert.ProjReferenceIdeal.Gen.facts) := by
  intro m g m' g' hpre hagree
  refine ⟨fun c => Cert.ProjReferenceIdeal.Pure.sbq (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)),
    fun c => Cert.ProjReferenceIdeal.Pure.sbk (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)),
    fun c => Cert.ProjReferenceIdeal.Pure.sbv (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)),
    fun c => Cert.ProjReferenceIdeal.Pure.mq (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg4)),
    fun c => Cert.ProjReferenceIdeal.Pure.mk (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg5)),
    fun c => Cert.ProjReferenceIdeal.Pure.mv (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg5)),
    fun c => Cert.ProjReferenceIdeal.Pure.rq (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)),
    fun c => Cert.ProjReferenceIdeal.Pure.rk (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)),
    fun c => Cert.ProjReferenceIdeal.Pure.rv (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)),
    fun c => Cert.ProjReferenceIdeal.Pure.rg (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)), ?_, ?_⟩
  · refine θ_run_mono (θ_run_and (Cert.ProjKernelIdeal.Gen.run_main m g) (Cert.ProjKernelIdeal.Gen.unchanged m g)) fun r h c => ?_
    exact ⟨((h.1 c).1 9).trans (Cert.ProjKernelIdeal.Pure.final_sbq m c),
      ((h.1 c).1 10).trans (Cert.ProjKernelIdeal.Pure.final_sbk m c),
      ((h.1 c).1 11).trans (Cert.ProjKernelIdeal.Pure.final_sbv m c),
      ((h.1 c).1 12).trans (Cert.ProjKernelIdeal.Pure.final_mq m c),
      ((h.1 c).1 13).trans (Cert.ProjKernelIdeal.Pure.final_mk m c),
      ((h.1 c).1 14).trans (Cert.ProjKernelIdeal.Pure.final_mv m c),
      ((h.1 c).1 15).trans (Cert.ProjKernelIdeal.Pure.final_rq m c),
      ((h.1 c).1 16).trans (Cert.ProjKernelIdeal.Pure.final_rk m c),
      ((h.1 c).1 17).trans (Cert.ProjKernelIdeal.Pure.final_rv m c),
      ((h.1 c).1 18).trans (Cert.ProjKernelIdeal.Pure.final_rg m c),
      h.2 c⟩
  · refine θ_run_mono (Cert.ProjReferenceIdeal.Value.run m' g') fun r h c => ?_
    obtain ⟨h0, h1, h2, h3, h4, h5⟩ := hagree c
    exact ⟨(h c).1.trans ((Cert.ProjReferenceIdeal.Read.val_main_v212_eq _).trans (Cert.ProjKernelIdeal.Pure.reference_sbq m m' c h0 h1)),
      (h c).2.1.trans ((Cert.ProjReferenceIdeal.Read.val_main_v213_eq _).trans (Cert.ProjKernelIdeal.Pure.reference_sbk m m' c h0 h1)),
      (h c).2.2.1.trans ((Cert.ProjReferenceIdeal.Read.val_main_v214_eq _).trans (Cert.ProjKernelIdeal.Pure.reference_sbv m m' c h0 h1)),
      (h c).2.2.2.1.trans ((Cert.ProjReferenceIdeal.Read.val_main_v216_eq _).trans (Cert.ProjKernelIdeal.Pure.reference_mq m m' c h0 h1 h2 h4)),
      (h c).2.2.2.2.1.trans ((Cert.ProjReferenceIdeal.Read.val_main_v218_eq _).trans (Cert.ProjKernelIdeal.Pure.reference_mk m m' c h0 h1 h3 h5)),
      (h c).2.2.2.2.2.1.trans ((Cert.ProjReferenceIdeal.Read.val_main_v220_eq _).trans (Cert.ProjKernelIdeal.Pure.reference_mv m m' c h0 h1 h3 h5)),
      (h c).2.2.2.2.2.2.1.trans ((Cert.ProjReferenceIdeal.Read.val_main_v222_eq _).trans (Cert.ProjKernelIdeal.Pure.reference_rq m m' c h0 h1)),
      (h c).2.2.2.2.2.2.2.1.trans ((Cert.ProjReferenceIdeal.Read.val_main_v224_eq _).trans (Cert.ProjKernelIdeal.Pure.reference_rk m m' c h0 h1)),
      (h c).2.2.2.2.2.2.2.2.1.trans ((Cert.ProjReferenceIdeal.Read.val_main_v225_eq _).trans (Cert.ProjKernelIdeal.Pure.reference_rv m m' c h0 h1)),
      (h c).2.2.2.2.2.2.2.2.2.1.trans ((Cert.ProjReferenceIdeal.Read.val_main_v226_eq _).trans (Cert.ProjKernelIdeal.Pure.reference_rg m m' c h0 h1)),
      (h c).2.2.2.2.2.2.2.2.2.2⟩

/-- The embedding kernel terminates without a fault and leaves its arguments and the counters as they were. -/
theorem emb_kernel_frame : Cert.quiescent_EmbKernel (hEmbKernel := Cert.EmbKernel.Gen.facts) :=
  fun m g _ => Cert.EmbKernel.Gen.frame m g

theorem emb_ideal_frame : Cert.quiescent_EmbKernelIdeal (hEmbKernelIdeal := Cert.EmbKernelIdeal.Gen.facts) :=
  fun m g _ => Cert.EmbKernelIdeal.Gen.frame m g

theorem emb_reference_frame : Cert.quiescent_EmbReferenceIdeal (hEmbReferenceIdeal := Cert.EmbReferenceIdeal.Gen.facts) :=
  fun m g _ => θ_run_mono (Cert.EmbReferenceIdeal.Value.run m g)
    fun r h => ⟨fun c => (h c).2, sem_eq_zero_of_no_sems (by decide) _⟩

/-- The idealized embedding kernel and its reference, from the same arguments, end with the same result. -/
theorem emb_algebraic : Cert.algebraic_EmbKernelIdeal_EmbReferenceIdeal (hEmbKernelIdeal := Cert.EmbKernelIdeal.Gen.facts)
    (hEmbReferenceIdeal := Cert.EmbReferenceIdeal.Gen.facts) := by
  pair_intro
  · run_from Cert.EmbKernelIdeal.Gen.run_main m g
  · run_from Cert.EmbReferenceIdeal.Value.run m' g'
    refine Eq.trans ?_ (Cert.EmbKernelIdeal.Pure.final m c).symm
    exact Cert.EmbKernelIdeal.Pure.reference_eq m m' c (hagree c)

/-- The feed-forward kernel of the first three layers terminates without a fault and leaves its arguments and the counters as they were. -/
theorem mid_kernel_frame : Cert.quiescent_MidKernel (hMidKernel := Cert.MidKernel.Gen.facts) :=
  fun m g _ => Cert.MidKernel.Gen.frame m g

theorem mid_ideal_frame : Cert.quiescent_MidKernelIdeal (hMidKernelIdeal := Cert.MidKernelIdeal.Gen.facts) :=
  fun m g _ => Cert.MidKernelIdeal.Gen.frame m g

theorem mid_reference_frame : Cert.quiescent_MidReferenceIdeal (hMidReferenceIdeal := Cert.MidReferenceIdeal.Gen.facts) :=
  fun m g _ => θ_run_mono (Cert.MidReferenceIdeal.Value.run m g)
    fun r h => ⟨fun c => (h c).2, sem_eq_zero_of_no_sems (by decide) _⟩

/-- The idealized feed-forward kernel of the first three layers and its reference, from the same arguments, end with the same result. -/
theorem mid_algebraic : Cert.algebraic_MidKernelIdeal_MidReferenceIdeal (hMidKernelIdeal := Cert.MidKernelIdeal.Gen.facts)
    (hMidReferenceIdeal := Cert.MidReferenceIdeal.Gen.facts) := by
  pair_intro
  · run_from Cert.MidKernelIdeal.Gen.run_main m g
  · run_from Cert.MidReferenceIdeal.Value.run m' g'
    refine Eq.trans ?_ (Cert.MidKernelIdeal.Pure.final m c).symm
    exact Cert.MidKernelIdeal.Pure.reference_eq m m' c (hagree c)

theorem claim : Cert.Claim :=
  ⟨Cert.RetKernel.Gen.facts, Cert.RetKernelIdeal.Gen.facts, Cert.RetReferenceIdeal.Gen.facts, Cert.MlpKernel.Gen.facts, Cert.MlpKernelIdeal.Gen.facts, Cert.MlpReferenceIdeal.Gen.facts, Cert.OutKernel.Gen.facts, Cert.OutKernelIdeal.Gen.facts, Cert.OutReferenceIdeal.Gen.facts, Cert.ProjKernel.Gen.facts, Cert.ProjKernelIdeal.Gen.facts, Cert.ProjReferenceIdeal.Gen.facts, Cert.EmbKernel.Gen.facts, Cert.EmbKernelIdeal.Gen.facts, Cert.EmbReferenceIdeal.Gen.facts, Cert.MidKernel.Gen.facts, Cert.MidKernelIdeal.Gen.facts, Cert.MidReferenceIdeal.Gen.facts,
   ret_kernel_frame, ret_ideal_frame, ret_reference_frame, mlp_kernel_frame, mlp_ideal_frame, mlp_reference_frame, out_kernel_frame, out_ideal_frame, out_reference_frame, proj_kernel_frame, proj_ideal_frame, proj_reference_frame, emb_kernel_frame, emb_ideal_frame, emb_reference_frame, mid_kernel_frame, mid_ideal_frame, mid_reference_frame,
   trivial, ret_algebraic, trivial, mlp_algebraic, trivial, out_algebraic, trivial, proj_algebraic, trivial, emb_algebraic, trivial, mid_algebraic⟩

end Cert.Proof

end
